-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite [hPre_finite : Cert.Pre_finite.Facts] (m : (ℓ : Loc Cert.MlpIdeal.nD Cert.MlpIdeal.τ Cert.MlpIdeal.sig) → Buf (Elt Ideal) ℓ) : Prop :=
  ∀ c : Dev Cert.MlpIdeal.nD,
    (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_finite [hPre_finite : Cert.Pre_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpIdeal_pre_finite [hMlpIdeal : Cert.MlpIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_MlpReferenceIdeal_pre_finite [hMlpReferenceIdeal : Cert.MlpReferenceIdeal.Facts] [hPre_finite : Cert.Pre_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mlp_MlpIdeal : Prop :=
  IdealRules.named_const.Statement Cert.MlpIdeal.κ "cubic" .f32 0x3D122279#32 ((80338380498831 / 2251799813685248 : ℝ) : EReal)

def algebraic_MlpIdeal_MlpReferenceIdeal_pre_finite [hMlpIdeal : Cert.MlpIdeal.Facts] [hMlpReferenceIdeal : Cert.MlpReferenceIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_finite m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v68) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpIdeal_pre_finite (hMlpIdeal := hMlpIdeal) (hPre_finite := hPre_finite)
    ∧ quiescent_MlpReferenceIdeal (hMlpReferenceIdeal := hMlpReferenceIdeal)
    ∧ quiescent_MlpReferenceIdeal_pre_finite (hMlpReferenceIdeal := hMlpReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal_pre_finite (hMlpIdeal := hMlpIdeal) (hMlpReferenceIdeal := hMlpReferenceIdeal) (hPre_finite := hPre_finite)
-- ==== Pre_finite.lean ====
abbrev S16x2048x1024 : Shape := ⟨3, ![16, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v13 : IVec S_ 1) (main_v16 : IVec S5632 1) : IVec S_ 1 :=
  let main_c_5 : IVec S_ 1 := constantI S_ 1 1#1
  let main_v17 : IVec S_ 1 := (fun x v => Host.reduce IntOp.andi x v reducesTo_S5632_S_d0 h_S_) main_v16 main_c_5
  let main_v18 : IVec S_ 1 := andi main_v13 main_v17
  main_v18

def fn {F : FTy → Type} [FloatOps F] (main_arg0 : FVec F S16x2048x1024 .f32) (main_arg1 : FVec F S1024x5632 .f32) (main_arg2 : FVec F S3x5632 .f32) (main_arg3 : FVec F S5632 .f32) (main_arg4 : FVec F S2816x1024 .f32) (main_arg5 : FVec F S1024 .f32) (main_arg6 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S5632 .f32 := Host.absf main_arg3
  let main_cst_4 : FVec F S_ .f32 := constant S_ .f32 0x7F800000#32
  let main_v15 : FVec F S5632 .f32 := broadcastInDim S5632 ![] bcast_S_S5632 main_cst_4
  let main_v16 : IVec S5632 1 := cmpf .olt main_v14 main_v15
  fn_part1 (F := F) main_v13 main_v16
-- ==== Kernel.lean ====
abbrev S16x2048x8x64 : Shape := ⟨4, ![16, 2048, 8, 64]⟩
abbrev S16x127x2x64 : Shape := ⟨4, ![16, 127, 2, 64]⟩
abbrev S16x2048x2x64 : Shape := ⟨4, ![16, 2048, 2, 64]⟩
abbrev S16x2048x24 : Shape := ⟨3, ![16, 2048, 24]⟩
abbrev S16x2048x512 : Shape := ⟨3, ![16, 2048, 512]⟩
abbrev S16x2048x1x64 : Shape := ⟨4, ![16, 2048, 1, 64]⟩
abbrev S16x2048x64 : Shape := ⟨3, ![16, 2048, 64]⟩
abbrev S16x127x2x128 : Shape := ⟨4, ![16, 127, 2, 128]⟩
abbrev S16x2x127x128 : Shape := ⟨4, ![16, 2, 127, 128]⟩
abbrev S_ : Shape := ⟨0, ![]⟩
abbrev S16x2x128x128 : Shape := ⟨4, ![16, 2, 128, 128]⟩
abbrev S16x2048x12 : Shape := ⟨3, ![16, 2048, 12]⟩
abbrev S16x2048x128 : Shape := ⟨3, ![16, 2048, 128]⟩
abbrev S16x2048x256 : Shape := ⟨3, ![16, 2048, 256]⟩
abbrev S128 : Shape := ⟨1, ![128]⟩
abbrev S32 : Shape := ⟨1, ![32]⟩
abbrev S1x128 : Shape := ⟨2, ![1, 128]⟩
abbrev S32x1 : Shape := ⟨2, ![32, 1]⟩
abbrev S32x128 : Shape := ⟨2, ![32, 128]⟩
abbrev S1x256x256 : Shape := ⟨3, ![1, 256, 256]⟩
abbrev S1x2048x256 : Shape := ⟨3, ![1, 2048, 256]⟩
abbrev S1x1x128x128 : Shape := ⟨4, ![1, 1, 128, 128]⟩
abbrev S1x256x128 : Shape := ⟨3, ![1, 256, 128]⟩
abbrev S2048x128 : Shape := ⟨2, ![2048, 128]⟩
abbrev S16x128x128 : Shape := ⟨3, ![16, 128, 128]⟩
abbrev S768x1024 : Shape := ⟨2, ![768, 1024]⟩
abbrev S128x1024 : Shape := ⟨2, ![128, 1024]⟩
abbrev S128x128 : Shape := ⟨2, ![128, 128]⟩
abbrev S1x2048x128 : Shape := ⟨3, ![1, 2048, 128]⟩
abbrev S1x128x128 : Shape := ⟨3, ![1, 128, 128]⟩
abbrev S256x128 : Shape := ⟨2, ![256, 128]⟩
abbrev S256x256 : Shape := ⟨2, ![256, 256]⟩
abbrev S1024x128 : Shape := ⟨2, ![1024, 128]⟩
abbrev S1x1024 : Shape := ⟨2, ![1, 1024]⟩
abbrev S1024 : Shape := ⟨1, ![1024]⟩
abbrev S128x256 : Shape := ⟨2, ![128, 256]⟩
abbrev S32x256 : Shape := ⟨2, ![32, 256]⟩
abbrev S1x256 : Shape := ⟨2, ![1, 256]⟩
abbrev S64x256 : Shape := ⟨2, ![64, 256]⟩
abbrev S256x1024 : Shape := ⟨2, ![256, 1024]⟩
abbrev S512x128 : Shape := ⟨2, ![512, 128]⟩
abbrev S512x1024 : Shape := ⟨2, ![512, 1024]⟩
abbrev S128x512 : Shape := ⟨2, ![128, 512]⟩
abbrev S64x1024 : Shape := ⟨2, ![64, 1024]⟩
abbrev S1x64x1024 : Shape := ⟨3, ![1, 64, 1024]⟩
abbrev S1 : Shape := ⟨1, ![1]⟩
abbrev S1x1x1 : Shape := ⟨3, ![1, 1, 1]⟩
abbrev S1x768x128 : Shape := ⟨3, ![1, 768, 128]⟩
abbrev S768x128 : Shape := ⟨2, ![768, 128]⟩
abbrev S128x768 : Shape := ⟨2, ![128, 768]⟩

abbrev nBuf : Space → Nat
  | .hbm => 77
  | .vmem => 16
  | .smem => 0
  | _ => 0

abbrev bufTy : (tb : Table) → Fin (tcTables nBuf tb) → BufTy
  | .hbm, ⟨0, _⟩ => ⟨S16x2048x8x64, .f32⟩
  | .hbm, ⟨1, _⟩ => ⟨S16x127x2x64, .f32⟩
  | .hbm, ⟨2, _⟩ => ⟨S16x127x2x64, .f32⟩
  | .hbm, ⟨3, _⟩ => ⟨S16x2048x2x64, .f32⟩
  | .hbm, ⟨4, _⟩ => ⟨S16x2048x2x64, .f32⟩
  | .hbm, ⟨5, _⟩ => ⟨S16x2048x2x64, .f32⟩
  | .hbm, ⟨6, _⟩ => ⟨S16x2048x2x64, .f32⟩
  | .hbm, ⟨7, _⟩ => ⟨S16x2048x24, .f32⟩
  | .hbm, ⟨8, _⟩ => ⟨S16x2048x512, .f32⟩
  | .hbm, ⟨9, _⟩ => ⟨S16x2048x512, .bf16⟩
  | .hbm, ⟨10, _⟩ => ⟨S16x2048x1x64, .f32⟩
  | .hbm, ⟨11, _⟩ => ⟨S16x2048x64, .f32⟩
  | .hbm, ⟨12, _⟩ => ⟨S16x2048x1x64, .f32⟩
  | .hbm, ⟨13, _⟩ => ⟨S16x2048x64, .f32⟩
  | .hbm, ⟨14, _⟩ => ⟨S16x2048x1x64, .f32⟩
  | .hbm, ⟨15, _⟩ => ⟨S16x2048x64, .f32⟩
  | .hbm, ⟨16, _⟩ => ⟨S16x2048x1x64, .f32⟩
  | .hbm, ⟨17, _⟩ => ⟨S16x2048x64, .f32⟩
  | .hbm, ⟨18, _⟩ => ⟨S16x2048x1x64, .f32⟩
  | .hbm, ⟨19, _⟩ => ⟨S16x2048x64, .f32⟩
  | .hbm, ⟨20, _⟩ => ⟨S16x2048x1x64, .f32⟩
  | .hbm, ⟨21, _⟩ => ⟨S16x2048x64, .f32⟩
  | .hbm, ⟨22, _⟩ => ⟨S16x2048x1x64, .f32⟩
  | .hbm, ⟨23, _⟩ => ⟨S16x2048x64, .f32⟩
  | .hbm, ⟨24, _⟩ => ⟨S16x2048x1x64, .f32⟩
  | .hbm, ⟨25, _⟩ => ⟨S16x2048x64, .f32⟩
  | .hbm, ⟨26, _⟩ => ⟨S16x2048x512, .f32⟩
  | .hbm, ⟨27, _⟩ => ⟨S16x2048x512, .bf16⟩
  | .hbm, ⟨28, _⟩ => ⟨S16x127x2x128, .f32⟩
  | .hbm, ⟨29, _⟩ => ⟨S16x2x127x128, .f32⟩
  | .hbm, ⟨30, _⟩ => ⟨S_, .i32⟩
  | .hbm, ⟨31, _⟩ => ⟨S_, .f32⟩
  | .hbm, ⟨32, _⟩ => ⟨S16x2x128x128, .f32⟩
  | .hbm, ⟨33, _⟩ => ⟨S16x2048x12, .f32⟩
  | .hbm, ⟨34, _⟩ => ⟨S_, .i32⟩
  | .hbm, ⟨35, _⟩ => ⟨S_, .f32⟩
  | .hbm, ⟨36, _⟩ => ⟨S16x2048x128, .f32⟩
  | .hbm, ⟨37, _⟩ => ⟨S16x2048x12, .f32⟩
  | .hbm, ⟨38, _⟩ => ⟨S_, .i32⟩
  | .hbm, ⟨39, _⟩ => ⟨S_, .f32⟩
  | .hbm, ⟨40, _⟩ => ⟨S16x2048x128, .f32⟩
  | .hbm, ⟨41, _⟩ => ⟨S16x2048x256, .f32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S1x128, .i32⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S32x1, .i32⟩
  | .hbm, ⟨55, _⟩ => ⟨S_, .i32⟩
  | .hbm, ⟨56, _⟩ => ⟨S32x1, .i32⟩
  | .hbm, ⟨57, _⟩ => ⟨S32x1, .i32⟩
  | .hbm, ⟨58, _⟩ => ⟨S32x128, .i32⟩
  | .hbm, ⟨59, _⟩ => ⟨S32x128, .i32⟩
  | .hbm, ⟨60, _⟩ => ⟨S32x128, .i32⟩
  | .hbm, ⟨61, _⟩ => ⟨S1x128, .i32⟩
  | .hbm, ⟨62, _⟩ => ⟨S32x1, .i32⟩
  | .hbm, ⟨63, _⟩ => ⟨S32x128, .i32⟩
  | .hbm, ⟨64, _⟩ => ⟨S32x128, .i32⟩
  | .hbm, ⟨65, _⟩ => ⟨S32x128, .i32⟩
  | .hbm, ⟨66, _⟩ => ⟨S32x128, .i32⟩
  | .hbm, ⟨67, _⟩ => ⟨S_, .i32⟩
  | .hbm, ⟨68, _⟩ => ⟨S_, .i32⟩
  | .hbm, ⟨69, _⟩ => ⟨S32x128, .i32⟩
  | .hbm, ⟨70, _⟩ => ⟨S32x128, .i32⟩
  | .hbm, ⟨71, _⟩ => ⟨S32x128, .f32⟩
  | .hbm, ⟨72, _⟩ => ⟨S_, .f32⟩
  | .hbm, ⟨73, _⟩ => ⟨S32x128, .f32⟩
  | .hbm, ⟨74, _⟩ => ⟨S32x128, .f32⟩
  | .hbm, ⟨75, _⟩ => ⟨S32x128, .bf16⟩
  | .hbm, ⟨76, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x1x128x128, .f32⟩
  | .local _ .vmem, ⟨5, _⟩ => ⟨S1x1x128x128, .f32⟩
  | .local _ .vmem, ⟨6, _⟩ => ⟨S1x256x128, .f32⟩
  | .local _ .vmem, ⟨7, _⟩ => ⟨S1x256x128, .f32⟩
  | .local _ .vmem, ⟨8, _⟩ => ⟨S32x128, .bf16⟩
  | .local _ .vmem, ⟨9, _⟩ => ⟨S1x256x256, .bf16⟩
  | .local _ .vmem, ⟨10, _⟩ => ⟨S1x256x256, .bf16⟩
  | .local _ .vmem, ⟨11, _⟩ => ⟨S2048x128, .bf16⟩
  | .local _ .vmem, ⟨12, _⟩ => ⟨S16x128x128, .bf16⟩
  | .local _ .vmem, ⟨13, _⟩ => ⟨S16x128x128, .bf16⟩
  | .local _ .vmem, ⟨14, _⟩ => ⟨S768x1024, .i32⟩
  | .local _ .vmem, ⟨15, _⟩ => ⟨S128x1024, .i32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_c_0 : Ref sig .tc := ⟨.hbm, 34, rfl⟩
abbrev main_call1_v0 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_call2_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_6 : Ref sig .tc := ⟨.hbm, 67, rfl⟩
abbrev main_call3_v0 : Ref sig .tc := ⟨.hbm, 68, rfl⟩
abbrev main_call3_v1 : Ref sig .tc := ⟨.hbm, 69, rfl⟩
abbrev main_v49 : Ref sig .tc := ⟨.hbm, 70, rfl⟩
abbrev main_v50 : Ref sig .tc := ⟨.hbm, 71, rfl⟩
abbrev main_cst : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 2, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 3 → Nat :=
  let c0_118 : Index := 0#32
  let arg2 : BitVec 32 := BitVec.ofNat 32 (i 2).val
  let c256_i32 : BitVec 32 := 256#32
  let v0 : BitVec 32 := Scalar.muli arg2 c256_i32
  let v556 : BitVec 32 := v0
  let v557 : Index := Scalar.indexCast v556
  let c128 : Index := 128#32
  ![0, v557.toNat, 128]
def k0_off2 (i : grid0.Coords) (c0_i32_120 : BitVec 32) : Fin 3 → Nat :=
  let arg2 : BitVec 32 := BitVec.ofNat 32 (i 2).val
  let c2_i32_119 : BitVec 32 := 2#32
  let v560 : BitVec 32 := Scalar.muli arg2 c2_i32_119
  let v561 : BitVec 32 := Scalar.addi v560 c0_i32_120
  let v562 : Index := Scalar.indexCast v561
  let c0_121 : Index := 0#32
  let c0_122 : Index := 0#32
  ![v562.toNat, 0, 0]
def k0_mult2 (i : grid0.Coords) : BitVec 32 :=
  let arg2 : BitVec 32 := BitVec.ofNat 32 (i 2).val
  let c256_i32 : BitVec 32 := 256#32
  let v0 : BitVec 32 := Scalar.muli arg2 c256_i32
  let c256_i32_130 : BitVec 32 := 256#32
  let v580 : BitVec 32 := Scalar.subi v0 c256_i32_130
  let c0_i32_131 : BitVec 32 := 0#32
  let v581 : BitVec 32 := Scalar.maxsi v580 c0_i32_131
  v581
def k0_off3 (i : grid0.Coords) (c256_i32_130 : BitVec 32) : Fin 3 → Nat :=
  let c0_136 : Index := 0#32
  let arg2 : BitVec 32 := BitVec.ofNat 32 (i 2).val
  let c256_i32 : BitVec 32 := 256#32
  let v0 : BitVec 32 := Scalar.muli arg2 c256_i32
  let v580 : BitVec 32 := Scalar.subi v0 c256_i32_130
  let c0_i32_131 : BitVec 32 := 0#32
  let v581 : BitVec 32 := Scalar.maxsi v580 c0_i32_131
  let v589 : BitVec 32 := v581
  let v590 : Index := Scalar.indexCast v589
  let c128_137 : Index := 128#32
  ![0, v590.toNat, 128]
def k0_off4 (i : grid0.Coords) (c256_i32_130 : BitVec 32) (c0_i32_145 : BitVec 32) : Fin 3 → Nat :=
  let arg2 : BitVec 32 := BitVec.ofNat 32 (i 2).val
  let c256_i32 : BitVec 32 := 256#32
  let v0 : BitVec 32 := Scalar.muli arg2 c256_i32
  let v580 : BitVec 32 := Scalar.subi v0 c256_i32_130
  let c0_i32_131 : BitVec 32 := 0#32
  let v581 : BitVec 32 := Scalar.maxsi v580 c0_i32_131
  let c0_i32_139 : BitVec 32 := 0#32
  let v595 : BitVec 1 := Scalar.cmpi .sgt v581 c0_i32_139
  let v596 : BitVec 32 := Scalar.extui v595
  let c0_i32_140 : BitVec 32 := 0#32
  let v597 : BitVec 1 := Scalar.cmpi .slt v581 c0_i32_140
  let v598 : BitVec 32 := Scalar.extui v597
  let v599 : BitVec 32 := Scalar.subi v596 v598
  let c128_i32 : BitVec 32 := 128#32
  let c0_i32_141 : BitVec 32 := 0#32
  let v600 : BitVec 1 := Scalar.cmpi .sgt c128_i32 c0_i32_141
  let v601 : BitVec 32 := Scalar.extui v600
  let c0_i32_142 : BitVec 32 := 0#32
  let v602 : BitVec 1 := Scalar.cmpi .slt c128_i32 c0_i32_142
  let v603 : BitVec 32 := Scalar.extui v602
  let v604 : BitVec 32 := Scalar.subi v601 v603
  let v605 : BitVec 1 := Scalar.cmpi .ne v599 v604
  let v606 : BitVec 32 := Scalar.remsi v581 c128_i32
  let c0_i32_143 : BitVec 32 := 0#32
  let v607 : BitVec 1 := Scalar.cmpi .ne v606 c0_i32_143
  let v608 : BitVec 1 := Scalar.andi v605 v607
  let v594 : BitVec 32 := Scalar.divsi v581 c128_i32
  let c1_i32_144 : BitVec 32 := 1#32
  let v609 : BitVec 32 := Scalar.subi v594 c1_i32_144
  let v610 : BitVec 32 := Scalar.select v608 v609 v594
  let v611 : BitVec 32 := Scalar.addi v610 c0_i32_145
  let v612 : Index := Scalar.indexCast v611
  let c0_146 : Index := 0#32
  let c0_147 : Index := 0#32
  ![v612.toNat, 0, 0]
def k0_mult3 (i : grid0.Coords) : BitVec 32 :=
  let arg2 : BitVec 32 := BitVec.ofNat 32 (i 2).val
  let c256_i32 : BitVec 32 := 256#32
  let v0 : BitVec 32 := Scalar.muli arg2 c256_i32
  let c512_i32_153 : BitVec 32 := 512#32
  let v628 : BitVec 32 := Scalar.subi v0 c512_i32_153
  let c0_i32_154 : BitVec 32 := 0#32
  let v629 : BitVec 32 := Scalar.maxsi v628 c0_i32_154
  v629
def k0_mult4 (i : grid0.Coords) : BitVec 32 :=
  let arg2 : BitVec 32 := BitVec.ofNat 32 (i 2).val
  let c256_i32 : BitVec 32 := 256#32
  let v0 : BitVec 32 := Scalar.muli arg2 c256_i32
  let c512_i32_200 : BitVec 32 := 512#32
  let v752 : BitVec 32 := Scalar.subi v0 c512_i32_200
  let c0_i32_201 : BitVec 32 := 0#32
  let v753 : BitVec 32 := Scalar.maxsi v752 c0_i32_201
  v753
def k0_off5 (i : grid0.Coords) : Fin 3 → Nat :=
  let c0_205 : Index := 0#32
  let arg2 : BitVec 32 := BitVec.ofNat 32 (i 2).val
  let c256_i32 : BitVec 32 := 256#32
  let v0 : BitVec 32 := Scalar.muli arg2 c256_i32
  let c512_i32_200 : BitVec 32 := 512#32
  let v752 : BitVec 32 := Scalar.subi v0 c512_i32_200
  let c0_i32_201 : BitVec 32 := 0#32
  let v753 : BitVec 32 := Scalar.maxsi v752 c0_i32_201
  let v754 : BitVec 32 := v753
  let v761 : Index := Scalar.indexCast v754
  let c128_206 : Index := 128#32
  ![0, v761.toNat, 128]
def k0_off6 (i : grid0.Coords) (c0_i32_215 : BitVec 32) : Fin 3 → Nat :=
  let arg2 : BitVec 32 := BitVec.ofNat 32 (i 2).val
  let c256_i32 : BitVec 32 := 256#32
  let v0 : BitVec 32 := Scalar.muli arg2 c256_i32
  let c512_i32_200 : BitVec 32 := 512#32
  let v752 : BitVec 32 := Scalar.subi v0 c512_i32_200
  let c0_i32_201 : BitVec 32 := 0#32
  let v753 : BitVec 32 := Scalar.maxsi v752 c0_i32_201
  let c0_i32_209 : BitVec 32 := 0#32
  let v766 : BitVec 1 := Scalar.cmpi .sgt v753 c0_i32_209
  let v767 : BitVec 32 := Scalar.extui v766
  let c0_i32_210 : BitVec 32 := 0#32
  let v768 : BitVec 1 := Scalar.cmpi .slt v753 c0_i32_210
  let v769 : BitVec 32 := Scalar.extui v768
  let v770 : BitVec 32 := Scalar.subi v767 v769
  let c128_i32_208 : BitVec 32 := 128#32
  let c0_i32_211 : BitVec 32 := 0#32
  let v771 : BitVec 1 := Scalar.cmpi .sgt c128_i32_208 c0_i32_211
  let v772 : BitVec 32 := Scalar.extui v771
  let c0_i32_212 : BitVec 32 := 0#32
  let v773 : BitVec 1 := Scalar.cmpi .slt c128_i32_208 c0_i32_212
  let v774 : BitVec 32 := Scalar.extui v773
  let v775 : BitVec 32 := Scalar.subi v772 v774
  let v776 : BitVec 1 := Scalar.cmpi .ne v770 v775
  let v777 : BitVec 32 := Scalar.remsi v753 c128_i32_208
  let c0_i32_213 : BitVec 32 := 0#32
  let v778 : BitVec 1 := Scalar.cmpi .ne v777 c0_i32_213
  let v779 : BitVec 1 := Scalar.andi v776 v778
  let v765 : BitVec 32 := Scalar.divsi v753 c128_i32_208
  let c1_i32_214 : BitVec 32 := 1#32
  let v780 : BitVec 32 := Scalar.subi v765 c1_i32_214
  let v781 : BitVec 32 := Scalar.select v779 v780 v765
  let v782 : BitVec 32 := Scalar.addi v781 c0_i32_215
  let v783 : Index := Scalar.indexCast v782
  let c0_216 : Index := 0#32
  let c0_217 : Index := 0#32
  ![v783.toNat, 0, 0]
@[reducible] def k0_t1_loop (i : grid0.Coords) : Scf.Loop 32 :=
  let c0_i32_244 : BitVec 32 := 0#32
  let arg2 : BitVec 32 := BitVec.ofNat 32 (i 2).val
  let c256_i32 : BitVec 32 := 256#32
  let v0 : BitVec 32 := Scalar.muli arg2 c256_i32
  let c0_i32_237 : BitVec 32 := 0#32
  let v823 : BitVec 1 := Scalar.cmpi .sgt v0 c0_i32_237
  let v824 : BitVec 32 := Scalar.extui v823
  let c0_i32_238 : BitVec 32 := 0#32
  let v825 : BitVec 1 := Scalar.cmpi .slt v0 c0_i32_238
  let v826 : BitVec 32 := Scalar.extui v825
  let v827 : BitVec 32 := Scalar.subi v824 v826
  let c512_i32_236 : BitVec 32 := 512#32
  let c0_i32_239 : BitVec 32 := 0#32
  let v828 : BitVec 1 := Scalar.cmpi .sgt c512_i32_236 c0_i32_239
  let v829 : BitVec 32 := Scalar.extui v828
  let c0_i32_240 : BitVec 32 := 0#32
  let v830 : BitVec 1 := Scalar.cmpi .slt c512_i32_236 c0_i32_240
  let v831 : BitVec 32 := Scalar.extui v830
  let v832 : BitVec 32 := Scalar.subi v829 v831
  let v833 : BitVec 1 := Scalar.cmpi .ne v827 v832
  let v834 : BitVec 32 := Scalar.remsi v0 c512_i32_236
  let c0_i32_241 : BitVec 32 := 0#32
  let v835 : BitVec 1 := Scalar.cmpi .ne v834 c0_i32_241
  let v836 : BitVec 1 := Scalar.andi v833 v835
  let v822 : BitVec 32 := Scalar.divsi v0 c512_i32_236
  let c1_i32_242 : BitVec 32 := 1#32
  let v837 : BitVec 32 := Scalar.subi v822 c1_i32_242
  let v838 : BitVec 32 := Scalar.select v836 v837 v822
  let c1_i32_243 : BitVec 32 := 1#32
  let v839 : BitVec 32 := Scalar.addi v838 c1_i32_243
  let v840 : BitVec 32 := Scalar.subi v839 c0_i32_244
  let c1_i32_245 : BitVec 32 := 1#32
  let v842 : BitVec 32 := Scalar.divsi v840 c1_i32_245
  let v843 : BitVec 32 := Scalar.muli v842 c1_i32_245
  let v844 : BitVec 32 := Scalar.addi c0_i32_244 v843
  let c1_i32_246 : BitVec 32 := 1#32
  ⟨c0_i32_244, v844, c1_i32_246⟩
def k0_mult5 (i : grid0.Coords) (k0_t1 : Fin (k0_t1_loop i).trips) : BitVec 32 :=
  let c0_i32_244 : BitVec 32 := 0#32
  let c1_i32_246 : BitVec 32 := 1#32
  let arg14 : BitVec 32 := Scf.iv c0_i32_244 c1_i32_246 k0_t1
  let c512_i32_248 : BitVec 32 := 512#32
  let v874 : BitVec 32 := Scalar.muli arg14 c512_i32_248
  v874
def k0_off7 (i : grid0.Coords) (k0_t1 : Fin (k0_t1_loop i).trips) : Fin 2 → Nat :=
  let c0_i32_244 : BitVec 32 := 0#32
  let c1_i32_246 : BitVec 32 := 1#32
  let arg14 : BitVec 32 := Scf.iv c0_i32_244 c1_i32_246 k0_t1
  let c512_i32_248 : BitVec 32 := 512#32
  let v874 : BitVec 32 := Scalar.muli arg14 c512_i32_248
  let v875 : BitVec 32 := v874
  let v876 : Index := Scalar.indexCast v875
  let c0_249 : Index := 0#32
  ![v876.toNat, 0]
def k0_off8 (i : grid0.Coords) (k0_t1 : Fin (k0_t1_loop i).trips) (c0_i32_252 : BitVec 32) : Fin 3 → Nat :=
  let c0_i32_244 : BitVec 32 := 0#32
  let c1_i32_246 : BitVec 32 := 1#32
  let arg14 : BitVec 32 := Scf.iv c0_i32_244 c1_i32_246 k0_t1
  let c4_i32_251 : BitVec 32 := 4#32
  let v879 : BitVec 32 := Scalar.muli arg14 c4_i32_251
  let v880 : BitVec 32 := Scalar.addi v879 c0_i32_252
  let v881 : Index := Scalar.indexCast v880
  let c0_253 : Index := 0#32
  let c0_254 : Index := 0#32
  ![v881.toNat, 0, 0]
@[reducible] def k0_t2_loop (i : grid0.Coords) : Scf.Loop 32 :=
  let c0_i32_244 : BitVec 32 := 0#32
  let arg2 : BitVec 32 := BitVec.ofNat 32 (i 2).val
  let c256_i32 : BitVec 32 := 256#32
  let v0 : BitVec 32 := Scalar.muli arg2 c256_i32
  let c0_i32_237 : BitVec 32 := 0#32
  let v823 : BitVec 1 := Scalar.cmpi .sgt v0 c0_i32_237
  let v824 : BitVec 32 := Scalar.extui v823
  let c0_i32_238 : BitVec 32 := 0#32
  let v825 : BitVec 1 := Scalar.cmpi .slt v0 c0_i32_238
  let v826 : BitVec 32 := Scalar.extui v825
  let v827 : BitVec 32 := Scalar.subi v824 v826
  let c512_i32_236 : BitVec 32 := 512#32
  let c0_i32_239 : BitVec 32 := 0#32
  let v828 : BitVec 1 := Scalar.cmpi .sgt c512_i32_236 c0_i32_239
  let v829 : BitVec 32 := Scalar.extui v828
  let c0_i32_240 : BitVec 32 := 0#32
  let v830 : BitVec 1 := Scalar.cmpi .slt c512_i32_236 c0_i32_240
  let v831 : BitVec 32 := Scalar.extui v830
  let v832 : BitVec 32 := Scalar.subi v829 v831
  let v833 : BitVec 1 := Scalar.cmpi .ne v827 v832
  let v834 : BitVec 32 := Scalar.remsi v0 c512_i32_236
  let c0_i32_241 : BitVec 32 := 0#32
  let v835 : BitVec 1 := Scalar.cmpi .ne v834 c0_i32_241
  let v836 : BitVec 1 := Scalar.andi v833 v835
  let v822 : BitVec 32 := Scalar.divsi v0 c512_i32_236
  let c1_i32_242 : BitVec 32 := 1#32
  let v837 : BitVec 32 := Scalar.subi v822 c1_i32_242
  let v838 : BitVec 32 := Scalar.select v836 v837 v822
  let c1_i32_243 : BitVec 32 := 1#32
  let v839 : BitVec 32 := Scalar.addi v838 c1_i32_243
  let v840 : BitVec 32 := Scalar.subi v839 c0_i32_244
  let c1_i32_245 : BitVec 32 := 1#32
  let v842 : BitVec 32 := Scalar.divsi v840 c1_i32_245
  let v843 : BitVec 32 := Scalar.muli v842 c1_i32_245
  let v844 : BitVec 32 := Scalar.addi c0_i32_244 v843
  let v841 : BitVec 32 := Scalar.addi c0_i32_244 v840
  let c1_i32_247 : BitVec 32 := 1#32
  ⟨v844, v841, c1_i32_247⟩
def k0_mult6 (i : grid0.Coords) (k0_t2 : Fin (k0_t2_loop i).trips) : BitVec 32 :=
  let c0_i32_244 : BitVec 32 := 0#32
  let arg2 : BitVec 32 := BitVec.ofNat 32 (i 2).val
  let c256_i32 : BitVec 32 := 256#32
  let v0 : BitVec 32 := Scalar.muli arg2 c256_i32
  let c0_i32_237 : BitVec 32 := 0#32
  let v823 : BitVec 1 := Scalar.cmpi .sgt v0 c0_i32_237
  let v824 : BitVec 32 := Scalar.extui v823
  let c0_i32_238 : BitVec 32 := 0#32
  let v825 : BitVec 1 := Scalar.cmpi .slt v0 c0_i32_238
  let v826 : BitVec 32 := Scalar.extui v825
  let v827 : BitVec 32 := Scalar.subi v824 v826
  let c512_i32_236 : BitVec 32 := 512#32
  let c0_i32_239 : BitVec 32 := 0#32
  let v828 : BitVec 1 := Scalar.cmpi .sgt c512_i32_236 c0_i32_239
  let v829 : BitVec 32 := Scalar.extui v828
  let c0_i32_240 : BitVec 32 := 0#32
  let v830 : BitVec 1 := Scalar.cmpi .slt c512_i32_236 c0_i32_240
  let v831 : BitVec 32 := Scalar.extui v830
  let v832 : BitVec 32 := Scalar.subi v829 v831
  let v833 : BitVec 1 := Scalar.cmpi .ne v827 v832
  let v834 : BitVec 32 := Scalar.remsi v0 c512_i32_236
  let c0_i32_241 : BitVec 32 := 0#32
  let v835 : BitVec 1 := Scalar.cmpi .ne v834 c0_i32_241
  let v836 : BitVec 1 := Scalar.andi v833 v835
  let v822 : BitVec 32 := Scalar.divsi v0 c512_i32_236
  let c1_i32_242 : BitVec 32 := 1#32
  let v837 : BitVec 32 := Scalar.subi v822 c1_i32_242
  let v838 : BitVec 32 := Scalar.select v836 v837 v822
  let c1_i32_243 : BitVec 32 := 1#32
  let v839 : BitVec 32 := Scalar.addi v838 c1_i32_243
  let v840 : BitVec 32 := Scalar.subi v839 c0_i32_244
  let c1_i32_245 : BitVec 32 := 1#32
  let v842 : BitVec 32 := Scalar.divsi v840 c1_i32_245
  let v843 : BitVec 32 := Scalar.muli v842 c1_i32_245
  let v844 : BitVec 32 := Scalar.addi c0_i32_244 v843
  let c1_i32_247 : BitVec 32 := 1#32
  let arg14 : BitVec 32 := Scf.iv v844 c1_i32_247 k0_t2
  let c512_i32_248 : BitVec 32 := 512#32
  let v874 : BitVec 32 := Scalar.muli arg14 c512_i32_248
  v874
def k0_off9 (i : grid0.Coords) (k0_t2 : Fin (k0_t2_loop i).trips) : Fin 2 → Nat :=
  let c0_i32_244 : BitVec 32 := 0#32
  let arg2 : BitVec 32 := BitVec.ofNat 32 (i 2).val
  let c256_i32 : BitVec 32 := 256#32
  let v0 : BitVec 32 := Scalar.muli arg2 c256_i32
  let c0_i32_237 : BitVec 32 := 0#32
  let v823 : BitVec 1 := Scalar.cmpi .sgt v0 c0_i32_237
  let v824 : BitVec 32 := Scalar.extui v823
  let c0_i32_238 : BitVec 32 := 0#32
  let v825 : BitVec 1 := Scalar.cmpi .slt v0 c0_i32_238
  let v826 : BitVec 32 := Scalar.extui v825
  let v827 : BitVec 32 := Scalar.subi v824 v826
  let c512_i32_236 : BitVec 32 := 512#32
  let c0_i32_239 : BitVec 32 := 0#32
  let v828 : BitVec 1 := Scalar.cmpi .sgt c512_i32_236 c0_i32_239
  let v829 : BitVec 32 := Scalar.extui v828
  let c0_i32_240 : BitVec 32 := 0#32
  let v830 : BitVec 1 := Scalar.cmpi .slt c512_i32_236 c0_i32_240
  let v831 : BitVec 32 := Scalar.extui v830
  let v832 : BitVec 32 := Scalar.subi v829 v831
  let v833 : BitVec 1 := Scalar.cmpi .ne v827 v832
  let v834 : BitVec 32 := Scalar.remsi v0 c512_i32_236
  let c0_i32_241 : BitVec 32 := 0#32
  let v835 : BitVec 1 := Scalar.cmpi .ne v834 c0_i32_241
  let v836 : BitVec 1 := Scalar.andi v833 v835
  let v822 : BitVec 32 := Scalar.divsi v0 c512_i32_236
  let c1_i32_242 : BitVec 32 := 1#32
  let v837 : BitVec 32 := Scalar.subi v822 c1_i32_242
  let v838 : BitVec 32 := Scalar.select v836 v837 v822
  let c1_i32_243 : BitVec 32 := 1#32
  let v839 : BitVec 32 := Scalar.addi v838 c1_i32_243
  let v840 : BitVec 32 := Scalar.subi v839 c0_i32_244
  let c1_i32_245 : BitVec 32 := 1#32
  let v842 : BitVec 32 := Scalar.divsi v840 c1_i32_245
  let v843 : BitVec 32 := Scalar.muli v842 c1_i32_245
  let v844 : BitVec 32 := Scalar.addi c0_i32_244 v843
  let c1_i32_247 : BitVec 32 := 1#32
  let arg14 : BitVec 32 := Scf.iv v844 c1_i32_247 k0_t2
  let c512_i32_248 : BitVec 32 := 512#32
  let v874 : BitVec 32 := Scalar.muli arg14 c512_i32_248
  let v875 : BitVec 32 := v874
  let v876 : Index := Scalar.indexCast v875
  let c0_249 : Index := 0#32
  ![v876.toNat, 0]
def k0_off10 (i : grid0.Coords) (k0_t2 : Fin (k0_t2_loop i).trips) (c0_i32_252 : BitVec 32) : Fin 3 → Nat :=
  let c0_i32_244 : BitVec 32 := 0#32
  let arg2 : BitVec 32 := BitVec.ofNat 32 (i 2).val
  let c256_i32 : BitVec 32 := 256#32
  let v0 : BitVec 32 := Scalar.muli arg2 c256_i32
  let c0_i32_237 : BitVec 32 := 0#32
  let v823 : BitVec 1 := Scalar.cmpi .sgt v0 c0_i32_237
  let v824 : BitVec 32 := Scalar.extui v823
  let c0_i32_238 : BitVec 32 := 0#32
  let v825 : BitVec 1 := Scalar.cmpi .slt v0 c0_i32_238
  let v826 : BitVec 32 := Scalar.extui v825
  let v827 : BitVec 32 := Scalar.subi v824 v826
  let c512_i32_236 : BitVec 32 := 512#32
  let c0_i32_239 : BitVec 32 := 0#32
  let v828 : BitVec 1 := Scalar.cmpi .sgt c512_i32_236 c0_i32_239
  let v829 : BitVec 32 := Scalar.extui v828
  let c0_i32_240 : BitVec 32 := 0#32
  let v830 : BitVec 1 := Scalar.cmpi .slt c512_i32_236 c0_i32_240
  let v831 : BitVec 32 := Scalar.extui v830
  let v832 : BitVec 32 := Scalar.subi v829 v831
  let v833 : BitVec 1 := Scalar.cmpi .ne v827 v832
  let v834 : BitVec 32 := Scalar.remsi v0 c512_i32_236
  let c0_i32_241 : BitVec 32 := 0#32
  let v835 : BitVec 1 := Scalar.cmpi .ne v834 c0_i32_241
  let v836 : BitVec 1 := Scalar.andi v833 v835
  let v822 : BitVec 32 := Scalar.divsi v0 c512_i32_236
  let c1_i32_242 : BitVec 32 := 1#32
  let v837 : BitVec 32 := Scalar.subi v822 c1_i32_242
  let v838 : BitVec 32 := Scalar.select v836 v837 v822
  let c1_i32_243 : BitVec 32 := 1#32
  let v839 : BitVec 32 := Scalar.addi v838 c1_i32_243
  let v840 : BitVec 32 := Scalar.subi v839 c0_i32_244
  let c1_i32_245 : BitVec 32 := 1#32
  let v842 : BitVec 32 := Scalar.divsi v840 c1_i32_245
  let v843 : BitVec 32 := Scalar.muli v842 c1_i32_245
  let v844 : BitVec 32 := Scalar.addi c0_i32_244 v843
  let c1_i32_247 : BitVec 32 := 1#32
  let arg14 : BitVec 32 := Scf.iv v844 c1_i32_247 k0_t2
  let c4_i32_251 : BitVec 32 := 4#32
  let v879 : BitVec 32 := Scalar.muli arg14 c4_i32_251
  let v880 : BitVec 32 := Scalar.addi v879 c0_i32_252
  let v881 : Index := Scalar.indexCast v880
  let c0_253 : Index := 0#32
  let c0_254 : Index := 0#32
  ![v881.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S16x2048x8x64 : Shape := ⟨4, ![16, 2048, 8, 64]⟩
abbrev S16x127x2x64 : Shape := ⟨4, ![16, 127, 2, 64]⟩
abbrev S16x2048x2x64 : Shape := ⟨4, ![16, 2048, 2, 64]⟩
abbrev S16x2048x24 : Shape := ⟨3, ![16, 2048, 24]⟩
abbrev S127 : Shape := ⟨1, ![127]⟩
abbrev S_ : Shape := ⟨0, ![]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S16x2048x2x4x64 : Shape := ⟨5, ![16, 2048, 2, 4, 64]⟩
abbrev S2048 : Shape := ⟨1, ![2048]⟩
abbrev S16x2x127x2048x4 : Shape := ⟨5, ![16, 2, 127, 2048, 4]⟩
abbrev S16x2x4x2048x127 : Shape := ⟨5, ![16, 2, 4, 2048, 127]⟩
abbrev S1x127 : Shape := ⟨2, ![1, 127]⟩
abbrev S2048x1 : Shape := ⟨2, ![2048, 1]⟩
abbrev S2048x127 : Shape := ⟨2, ![2048, 127]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2x2048x127 : Shape := ⟨4, ![16, 2, 2048, 127]⟩
abbrev S16x2x2048x32 : Shape := ⟨4, ![16, 2, 2048, 32]⟩
abbrev S2048x32 : Shape := ⟨2, ![2048, 32]⟩
abbrev S16x2x2048x8 : Shape := ⟨4, ![16, 2, 2048, 8]⟩
abbrev S16x32x64x2x64 : Shape := ⟨5, ![16, 32, 64, 2, 64]⟩
abbrev S16x2x32x64x64 : Shape := ⟨5, ![16, 2, 32, 64, 64]⟩
abbrev S16 : Shape := ⟨1, ![16]⟩
abbrev S16x1x1 : Shape := ⟨3, ![16, 1, 1]⟩
abbrev S2 : Shape := ⟨1, ![2]⟩
abbrev S1x2x1 : Shape := ⟨3, ![1, 2, 1]⟩
abbrev S16x2x16384 : Shape := ⟨3, ![16, 2, 16384]⟩
abbrev S16x2x16384x1 : Shape := ⟨4, ![16, 2, 16384, 1]⟩
abbrev S16x2x16384x3 : Shape := ⟨4, ![16, 2, 16384, 3]⟩
abbrev S16x2x16384x64x64 : Shape := ⟨5, ![16, 2, 16384, 64, 64]⟩
abbrev S16x2x2048x512x64 : Shape := ⟨5, ![16, 2, 2048, 512, 64]⟩
abbrev S16x2x2048x8x1 : Shape := ⟨5, ![16, 2, 2048, 8, 1]⟩
abbrev S64 : Shape := ⟨1, ![64]⟩
abbrev S1x1x1x1x64 : Shape := ⟨5, ![1, 1, 1, 1, 64]⟩
abbrev S16x2x2048x8x64 : Shape := ⟨5, ![16, 2, 2048, 8, 64]⟩
abbrev S16x2x2048x512 : Shape := ⟨4, ![16, 2, 2048, 512]⟩
abbrev S16x2x2048x512x4 : Shape := ⟨5, ![16, 2, 2048, 512, 4]⟩
abbrev S16x2x4x2048x512 : Shape := ⟨5, ![16, 2, 4, 2048, 512]⟩
abbrev S1x1x2048x1 : Shape := ⟨4, ![1, 1, 2048, 1]⟩
abbrev S16x2x1x2048x512 : Shape := ⟨5, ![16, 2, 1, 2048, 512]⟩
abbrev S1x2048 : Shape := ⟨2, ![1, 2048]⟩
abbrev S2048x2048 : Shape := ⟨2, ![2048, 2048]⟩
abbrev S16x2x2048x2048x4 : Shape := ⟨5, ![16, 2, 2048, 2048, 4]⟩
abbrev S16x2x4x2048x2048 : Shape := ⟨5, ![16, 2, 4, 2048, 2048]⟩
abbrev S16x2048x2x4x1x64 : Shape := ⟨6, ![16, 2048, 2, 4, 1, 64]⟩
abbrev S16x2048x2x4x3x64 : Shape := ⟨6, ![16, 2048, 2, 4, 3, 64]⟩
abbrev S16x2048x8x3x64 : Shape := ⟨5, ![16, 2048, 8, 3, 64]⟩
abbrev S16x2048x8x3 : Shape := ⟨4, ![16, 2048, 8, 3]⟩
abbrev S16x2048x8x3x1 : Shape := ⟨5, ![16, 2048, 8, 3, 1]⟩
abbrev S16x2048x512 : Shape := ⟨3, ![16, 2048, 512]⟩

abbrev nBuf : Space → Nat
  | .hbm => 337
  | .vmem => 0
  | .smem => 0
  | _ => 0

abbrev hbmTy0_0 (i : Nat) : BufTy := match i % 128 with
  | 0 => ⟨S16x2048x8x64, .f32⟩
  | 1 => ⟨S16x127x2x64, .f32⟩
  | 2 => ⟨S16x127x2x64, .f32⟩
  | 3 => ⟨S16x2048x2x64, .f32⟩
  | 4 => ⟨S16x2048x2x64, .f32⟩
  | 5 => ⟨S16x2048x2x64, .f32⟩
  | 6 => ⟨S16x2048x2x64, .f32⟩
  | 7 => ⟨S16x2048x24, .f32⟩
  | 8 => ⟨S127, .i32⟩
  | 9 => ⟨S_, .i32⟩
  | 10 => ⟨S127, .i32⟩
  | 11 => ⟨S127, .i32⟩
  | 12 => ⟨S_, .i32⟩
  | 13 => ⟨S127, .i32⟩
  | 14 => ⟨S127, .i32⟩
  | 15 => ⟨S32, .i32⟩
  | 16 => ⟨S_, .i32⟩
  | 17 => ⟨S32, .i32⟩
  | 18 => ⟨S32, .i32⟩
  | 19 => ⟨S127x1, .i32⟩
  | 20 => ⟨S_, .i32⟩
  | 21 => ⟨S127x1, .i32⟩
  | 22 => ⟨S127x1, .i32⟩
  | 23 => ⟨S1x32, .i32⟩
  | 24 => ⟨S_, .i32⟩
  | 25 => ⟨S1x32, .i32⟩
  | 26 => ⟨S1x32, .i32⟩
  | 27 => ⟨S127x32, .i32⟩
  | 28 => ⟨S127x32, .i32⟩
  | 29 => ⟨S127x32, .i32⟩
  | 30 => ⟨S127x1, .i32⟩
  | 31 => ⟨S1x32, .i32⟩
  | 32 => ⟨S127x32, .i32⟩
  | 33 => ⟨S127x32, .i32⟩
  | 34 => ⟨S127x32, .i32⟩
  | 35 => ⟨S127x32, .i32⟩
  | 36 => ⟨S_, .i32⟩
  | 37 => ⟨S_, .i32⟩
  | 38 => ⟨S127x32, .i32⟩
  | 39 => ⟨S127x32, .i32⟩
  | 40 => ⟨S127x32, .f32⟩
  | 41 => ⟨S_, .f32⟩
  | 42 => ⟨S127x32, .f32⟩
  | 43 => ⟨S127x32, .f32⟩
  | 44 => ⟨S16x2048x2x4x64, .f32⟩
  | 45 => ⟨S2048, .i32⟩
  | 46 => ⟨S32, .i32⟩
  | 47 => ⟨S16x2x127x2048x4, .f32⟩
  | 48 => ⟨S16x2x4x2048x127, .f32⟩
  | 49 => ⟨S_, .f32⟩
  | 50 => ⟨S16x2x4x2048x127, .f32⟩
  | 51 => ⟨S16x2x4x2048x127, .f32⟩
  | 52 => ⟨S1x127, .i32⟩
  | 53 => ⟨S2048x1, .i32⟩
  | 54 => ⟨S2048x127, .i32⟩
  | 55 => ⟨S2048x127, .i32⟩
  | 56 => ⟨S2048x127, .i1⟩
  | 57 => ⟨S_, .f32⟩
  | 58 => ⟨S_, .f32⟩
  | 59 => ⟨S16x2x4x2048x127, .i1⟩
  | 60 => ⟨S16x2x4x2048x127, .f32⟩
  | 61 => ⟨S16x2x4x2048x127, .f32⟩
  | 62 => ⟨S_, .f32⟩
  | 63 => ⟨S16x2x4x2048, .f32⟩
  | 64 => ⟨S16x2x4x2048x1, .f32⟩
  | 65 => ⟨S_, .f32⟩
  | 66 => ⟨S16x2x4x2048x1, .f32⟩
  | 67 => ⟨S16x2x4x2048x1, .i1⟩
  | 68 => ⟨S_, .f32⟩
  | 69 => ⟨S16x2x4x2048x1, .f32⟩
  | 70 => ⟨S16x2x4x2048x1, .i1⟩
  | 71 => ⟨S16x2x4x2048x1, .i1⟩
  | 72 => ⟨S_, .f32⟩
  | 73 => ⟨S_, .f32⟩
  | 74 => ⟨S16x2x4x2048x1, .f32⟩
  | 75 => ⟨S16x2x4x2048x1, .f32⟩
  | 76 => ⟨S16x2x4x2048x127, .f32⟩
  | 77 => ⟨S16x2x4x2048x127, .f32⟩
  | 78 => ⟨S16x2x4x2048x127, .f32⟩
  | 79 => ⟨S_, .f32⟩
  | 80 => ⟨S16x2x4x2048, .f32⟩
  | 81 => ⟨S16x2x4x2048x1, .f32⟩
  | 82 => ⟨S_, .f32⟩
  | 83 => ⟨S16x2x4x2048x1, .f32⟩
  | 84 => ⟨S16x2x4x2048x1, .f32⟩
  | 85 => ⟨S16x2x4x2048x127, .f32⟩
  | 86 => ⟨S16x2x4x2048x127, .f32⟩
  | 87 => ⟨S16x2x64x4x2048, .f32⟩
  | 88 => ⟨S16x2048x2x4x64, .f32⟩
  | 89 => ⟨S_, .f32⟩
  | 90 => ⟨S16x2x2048x127, .f32⟩
  | 91 => ⟨S16x2x2048x32, .f32⟩
  | 92 => ⟨S_, .i32⟩
  | 93 => ⟨S_, .i32⟩
  | 94 => ⟨S2048, .i32⟩
  | 95 => ⟨S2048, .i32⟩
  | 96 => ⟨S2048, .i32⟩
  | 97 => ⟨S_, .i32⟩
  | 98 => ⟨S2048, .i32⟩
  | 99 => ⟨S2048, .i1⟩
  | 100 => ⟨S2048, .i32⟩
  | 101 => ⟨S2048, .i32⟩
  | 102 => ⟨S_, .i32⟩
  | 103 => ⟨S2048, .i32⟩
  | 104 => ⟨S2048, .i1⟩
  | 105 => ⟨S2048, .i1⟩
  | 106 => ⟨S_, .i32⟩
  | 107 => ⟨S2048, .i32⟩
  | 108 => ⟨S2048, .i32⟩
  | 109 => ⟨S2048, .i32⟩
  | 110 => ⟨S1x32, .i32⟩
  | 111 => ⟨S_, .i32⟩
  | 112 => ⟨S1x32, .i32⟩
  | 113 => ⟨S1x32, .i1⟩
  | 114 => ⟨S1x32, .i32⟩
  | 115 => ⟨S2048x1, .i32⟩
  | 116 => ⟨S2048x32, .i32⟩
  | 117 => ⟨S2048x32, .i32⟩
  | 118 => ⟨S2048x32, .i1⟩
  | 119 => ⟨S2048x32, .i1⟩
  | 120 => ⟨S2048x32, .i1⟩
  | 121 => ⟨S1x32, .i32⟩
  | 122 => ⟨S2048x1, .i32⟩
  | 123 => ⟨S_, .i32⟩
  | 124 => ⟨S2048x1, .i32⟩
  | 125 => ⟨S2048x1, .i32⟩
  | 126 => ⟨S2048x32, .i32⟩
  | 127 => ⟨S2048x32, .i32⟩
  | _ => ⟨S16x2048x8x64, .f32⟩

abbrev hbmTy0_1 (i : Nat) : BufTy := match i % 128 with
  | 0 => ⟨S2048x32, .i1⟩
  | 1 => ⟨S2048x32, .i1⟩
  | 2 => ⟨S1x32, .i32⟩
  | 3 => ⟨S_, .i32⟩
  | 4 => ⟨S1x32, .i32⟩
  | 5 => ⟨S1x32, .i32⟩
  | 6 => ⟨S2048x1, .i32⟩
  | 7 => ⟨S2048x32, .i32⟩
  | 8 => ⟨S2048x32, .i32⟩
  | 9 => ⟨S2048x32, .i1⟩
  | 10 => ⟨S_, .f32⟩
  | 11 => ⟨S_, .f32⟩
  | 12 => ⟨S16x2x2048x32, .i1⟩
  | 13 => ⟨S16x2x2048x32, .f32⟩
  | 14 => ⟨S16x2x2048x32, .f32⟩
  | 15 => ⟨S_, .f32⟩
  | 16 => ⟨S_, .f32⟩
  | 17 => ⟨S16x2x2048x32, .i1⟩
  | 18 => ⟨S16x2x2048x32, .f32⟩
  | 19 => ⟨S16x2x2048x32, .f32⟩
  | 20 => ⟨S16x2x2048x8, .f32⟩
  | 21 => ⟨S16x2x2048x8, .i32⟩
  | 22 => ⟨S16x32x64x2x64, .f32⟩
  | 23 => ⟨S16x2x32x64x64, .f32⟩
  | 24 => ⟨S16x32x64x2x64, .f32⟩
  | 25 => ⟨S16x2x32x64x64, .f32⟩
  | 26 => ⟨S16, .i32⟩
  | 27 => ⟨S16x1x1, .i32⟩
  | 28 => ⟨S2, .i32⟩
  | 29 => ⟨S1x2x1, .i32⟩
  | 30 => ⟨S16x2x16384, .i32⟩
  | 31 => ⟨S_, .i32⟩
  | 32 => ⟨S16x1x1, .i32⟩
  | 33 => ⟨S16x1x1, .i1⟩
  | 34 => ⟨S_, .i32⟩
  | 35 => ⟨S16x1x1, .i32⟩
  | 36 => ⟨S16x1x1, .i32⟩
  | 37 => ⟨S16x1x1, .i32⟩
  | 38 => ⟨S_, .i32⟩
  | 39 => ⟨S1x2x1, .i32⟩
  | 40 => ⟨S1x2x1, .i1⟩
  | 41 => ⟨S_, .i32⟩
  | 42 => ⟨S1x2x1, .i32⟩
  | 43 => ⟨S1x2x1, .i32⟩
  | 44 => ⟨S1x2x1, .i32⟩
  | 45 => ⟨S_, .i32⟩
  | 46 => ⟨S16x2x16384, .i32⟩
  | 47 => ⟨S16x2x16384, .i1⟩
  | 48 => ⟨S_, .i32⟩
  | 49 => ⟨S16x2x16384, .i32⟩
  | 50 => ⟨S16x2x16384, .i32⟩
  | 51 => ⟨S16x2x16384, .i32⟩
  | 52 => ⟨S16x2x16384, .i32⟩
  | 53 => ⟨S16x2x16384, .i32⟩
  | 54 => ⟨S16x2x16384x1, .i32⟩
  | 55 => ⟨S16x2x16384x1, .i32⟩
  | 56 => ⟨S16x2x16384x1, .i32⟩
  | 57 => ⟨S16x2x16384x3, .i32⟩
  | 58 => ⟨S16x2x16384x64x64, .f32⟩
  | 59 => ⟨S16x2x2048x512x64, .f32⟩
  | 60 => ⟨S_, .i32⟩
  | 61 => ⟨S16x1x1, .i32⟩
  | 62 => ⟨S16x1x1, .i1⟩
  | 63 => ⟨S_, .i32⟩
  | 64 => ⟨S16x1x1, .i32⟩
  | 65 => ⟨S16x1x1, .i32⟩
  | 66 => ⟨S16x1x1, .i32⟩
  | 67 => ⟨S_, .i32⟩
  | 68 => ⟨S1x2x1, .i32⟩
  | 69 => ⟨S1x2x1, .i1⟩
  | 70 => ⟨S_, .i32⟩
  | 71 => ⟨S1x2x1, .i32⟩
  | 72 => ⟨S1x2x1, .i32⟩
  | 73 => ⟨S1x2x1, .i32⟩
  | 74 => ⟨S_, .i32⟩
  | 75 => ⟨S16x2x16384, .i32⟩
  | 76 => ⟨S16x2x16384, .i1⟩
  | 77 => ⟨S_, .i32⟩
  | 78 => ⟨S16x2x16384, .i32⟩
  | 79 => ⟨S16x2x16384, .i32⟩
  | 80 => ⟨S16x2x16384, .i32⟩
  | 81 => ⟨S16x2x16384, .i32⟩
  | 82 => ⟨S16x2x16384, .i32⟩
  | 83 => ⟨S16x2x16384x1, .i32⟩
  | 84 => ⟨S16x2x16384x1, .i32⟩
  | 85 => ⟨S16x2x16384x1, .i32⟩
  | 86 => ⟨S16x2x16384x3, .i32⟩
  | 87 => ⟨S16x2x16384x64x64, .f32⟩
  | 88 => ⟨S16x2x2048x512x64, .f32⟩
  | 89 => ⟨S16x2x2048x8x1, .i32⟩
  | 90 => ⟨S_, .i32⟩
  | 91 => ⟨S16x2x2048x8x1, .i32⟩
  | 92 => ⟨S16x2x2048x8x1, .i32⟩
  | 93 => ⟨S64, .i32⟩
  | 94 => ⟨S1x1x1x1x64, .i32⟩
  | 95 => ⟨S16x2x2048x8x64, .i32⟩
  | 96 => ⟨S16x2x2048x8x64, .i32⟩
  | 97 => ⟨S16x2x2048x8x64, .i32⟩
  | 98 => ⟨S16x2x2048x512, .i32⟩
  | 99 => ⟨S16x2x2048x512x4, .f32⟩
  | 100 => ⟨S16x2x4x2048x512, .f32⟩
  | 101 => ⟨S_, .f32⟩
  | 102 => ⟨S16x2x4x2048x512, .f32⟩
  | 103 => ⟨S16x2x4x2048x512, .f32⟩
  | 104 => ⟨S1x1x2048x1, .i32⟩
  | 105 => ⟨S16x2x2048x512, .i32⟩
  | 106 => ⟨S16x2x2048x512, .i1⟩
  | 107 => ⟨S16x2x1x2048x512, .i1⟩
  | 108 => ⟨S_, .f32⟩
  | 109 => ⟨S_, .f32⟩
  | 110 => ⟨S16x2x4x2048x512, .i1⟩
  | 111 => ⟨S16x2x4x2048x512, .f32⟩
  | 112 => ⟨S16x2x4x2048x512, .f32⟩
  | 113 => ⟨S_, .f32⟩
  | 114 => ⟨S16x2x4x2048, .f32⟩
  | 115 => ⟨S16x2x4x2048x1, .f32⟩
  | 116 => ⟨S_, .f32⟩
  | 117 => ⟨S16x2x4x2048x1, .f32⟩
  | 118 => ⟨S16x2x4x2048x1, .i1⟩
  | 119 => ⟨S_, .f32⟩
  | 120 => ⟨S16x2x4x2048x1, .f32⟩
  | 121 => ⟨S16x2x4x2048x1, .i1⟩
  | 122 => ⟨S16x2x4x2048x1, .i1⟩
  | 123 => ⟨S_, .f32⟩
  | 124 => ⟨S_, .f32⟩
  | 125 => ⟨S16x2x4x2048x1, .f32⟩
  | 126 => ⟨S16x2x4x2048x1, .f32⟩
  | 127 => ⟨S16x2x4x2048x512, .f32⟩
  | _ => ⟨S16x2048x8x64, .f32⟩

abbrev hbmTy0_2 (i : Nat) : BufTy := match i % 128 with
  | 0 => ⟨S16x2x4x2048x512, .f32⟩
  | 1 => ⟨S16x2x4x2048x512, .f32⟩
  | 2 => ⟨S_, .f32⟩
  | 3 => ⟨S16x2x4x2048, .f32⟩
  | 4 => ⟨S16x2x4x2048x1, .f32⟩
  | 5 => ⟨S_, .f32⟩
  | 6 => ⟨S16x2x4x2048x1, .f32⟩
  | 7 => ⟨S16x2x4x2048x1, .f32⟩
  | 8 => ⟨S16x2x4x2048x512, .f32⟩
  | 9 => ⟨S16x2x4x2048x512, .f32⟩
  | 10 => ⟨S16x2048x2x4x64, .f32⟩
  | 11 => ⟨S2048x1, .i32⟩
  | 12 => ⟨S1x2048, .i32⟩
  | 13 => ⟨S2048x2048, .i32⟩
  | 14 => ⟨S2048x2048, .i32⟩
  | 15 => ⟨S2048x2048, .i32⟩
  | 16 => ⟨S16x2x2048x2048x4, .f32⟩
  | 17 => ⟨S16x2x4x2048x2048, .f32⟩
  | 18 => ⟨S_, .f32⟩
  | 19 => ⟨S16x2x4x2048x2048, .f32⟩
  | 20 => ⟨S16x2x4x2048x2048, .f32⟩
  | 21 => ⟨S_, .i32⟩
  | 22 => ⟨S2048x2048, .i32⟩
  | 23 => ⟨S2048x2048, .i1⟩
  | 24 => ⟨S_, .i32⟩
  | 25 => ⟨S2048x2048, .i32⟩
  | 26 => ⟨S2048x2048, .i1⟩
  | 27 => ⟨S2048x2048, .i1⟩
  | 28 => ⟨S_, .f32⟩
  | 29 => ⟨S_, .f32⟩
  | 30 => ⟨S16x2x4x2048x2048, .i1⟩
  | 31 => ⟨S16x2x4x2048x2048, .f32⟩
  | 32 => ⟨S16x2x4x2048x2048, .f32⟩
  | 33 => ⟨S_, .f32⟩
  | 34 => ⟨S16x2x4x2048, .f32⟩
  | 35 => ⟨S16x2x4x2048x1, .f32⟩
  | 36 => ⟨S_, .f32⟩
  | 37 => ⟨S16x2x4x2048x1, .f32⟩
  | 38 => ⟨S16x2x4x2048x1, .i1⟩
  | 39 => ⟨S_, .f32⟩
  | 40 => ⟨S16x2x4x2048x1, .f32⟩
  | 41 => ⟨S16x2x4x2048x1, .i1⟩
  | 42 => ⟨S16x2x4x2048x1, .i1⟩
  | 43 => ⟨S_, .f32⟩
  | 44 => ⟨S_, .f32⟩
  | 45 => ⟨S16x2x4x2048x1, .f32⟩
  | 46 => ⟨S16x2x4x2048x1, .f32⟩
  | 47 => ⟨S16x2x4x2048x2048, .f32⟩
  | 48 => ⟨S16x2x4x2048x2048, .f32⟩
  | 49 => ⟨S16x2x4x2048x2048, .f32⟩
  | 50 => ⟨S_, .f32⟩
  | 51 => ⟨S16x2x4x2048, .f32⟩
  | 52 => ⟨S16x2x4x2048x1, .f32⟩
  | 53 => ⟨S_, .f32⟩
  | 54 => ⟨S16x2x4x2048x1, .f32⟩
  | 55 => ⟨S16x2x4x2048x1, .f32⟩
  | 56 => ⟨S16x2x4x2048x2048, .f32⟩
  | 57 => ⟨S16x2x4x2048x2048, .f32⟩
  | 58 => ⟨S16x2x64x4x2048, .f32⟩
  | 59 => ⟨S16x2048x2x4x64, .f32⟩
  | 60 => ⟨S16x2048x2x4x1x64, .f32⟩
  | 61 => ⟨S16x2048x2x4x1x64, .f32⟩
  | 62 => ⟨S16x2048x2x4x1x64, .f32⟩
  | 63 => ⟨S16x2048x2x4x3x64, .f32⟩
  | 64 => ⟨S16x2048x8x3x64, .f32⟩
  | 65 => ⟨S16x2048x8x3, .f32⟩
  | 66 => ⟨S16x2048x8x3, .f32⟩
  | 67 => ⟨S16x2048x8x3, .f32⟩
  | 68 => ⟨S_, .f32⟩
  | 69 => ⟨S16x2048x8x3, .f32⟩
  | 70 => ⟨S16x2048x8x3, .f32⟩
  | 71 => ⟨S_, .f32⟩
  | 72 => ⟨S16x2048x8x3, .f32⟩
  | 73 => ⟨S16x2048x8x3, .f32⟩
  | 74 => ⟨S16x2048x8x3x1, .f32⟩
  | 75 => ⟨S16x2048x8x3x64, .f32⟩
  | 76 => ⟨S16x2048x8x3x64, .f32⟩
  | 77 => ⟨S_, .f32⟩
  | 78 => ⟨S16x2048x8x64, .f32⟩
  | 79 => ⟨S16x2048x512, .f32⟩
  | 80 => ⟨S16x2048x512, .bf16⟩
  | _ => ⟨S16x2048x8x64, .f32⟩

abbrev hbmTy (i : Nat) : BufTy := match i / 128 with
  | 0 => hbmTy0_0 i
  | 1 => hbmTy0_1 i
  | 2 => hbmTy0_2 i
  | _ => ⟨S16x2048x8x64, .f32⟩

abbrev bufTy : (tb : Table) → Fin (tcTables nBuf tb) → BufTy
  | .hbm, ⟨i, _⟩ => hbmTy i
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_call2_v0 : Ref sig .tc := ⟨.hbm, 73, rfl⟩
abbrev main_call2_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_c : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_0 : Ref sig .tc := ⟨.hbm, 106, rfl⟩
abbrev main_call3_v12 : Ref sig .tc := ⟨.hbm, 107, rfl⟩
abbrev main_call3_v13 : Ref sig .tc := ⟨.hbm, 108, rfl⟩
abbrev main_v61 : Ref sig .tc := ⟨.hbm, 109, rfl⟩
abbrev main_v62 : Ref sig .tc := ⟨.hbm, 110, rfl⟩
abbrev main_c_15 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_16 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_17 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_18 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v87 : Ref sig .tc := ⟨.hbm, 142, rfl⟩
abbrev main_cst_19 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v88 : Ref sig .tc := ⟨.hbm, 147, rfl⟩
abbrev main_values : Ref sig .tc := ⟨.hbm, 148, rfl⟩
abbrev main_indices : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_20 : Ref sig .tc := ⟨.hbm, 159, rfl⟩
abbrev main_v98 : Ref sig .tc := ⟨.hbm, 160, rfl⟩
abbrev main_v99 : Ref sig .tc := ⟨.hbm, 161, rfl⟩
abbrev main_c_21 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_22 : Ref sig .tc := ⟨.hbm, 166, rfl⟩
abbrev main_v103 : Ref sig .tc := ⟨.hbm, 167, rfl⟩
abbrev main_v104 : Ref sig .tc := ⟨.hbm, 168, rfl⟩
abbrev main_c_23 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_c_24 : Ref sig .tc := ⟨.hbm, 173, rfl⟩
abbrev main_v108 : Ref sig .tc := ⟨.hbm, 174, rfl⟩
abbrev main_v109 : Ref sig .tc := ⟨.hbm, 175, rfl⟩
abbrev main_c_25 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_26 : Ref sig .tc := ⟨.hbm, 188, rfl⟩
abbrev main_v121 : Ref sig .tc := ⟨.hbm, 189, rfl⟩
abbrev main_v122 : Ref sig .tc := ⟨.hbm, 190, rfl⟩
abbrev main_c_27 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_c_28 : Ref sig .tc := ⟨.hbm, 195, rfl⟩
abbrev main_v126 : Ref sig .tc := ⟨.hbm, 196, rfl⟩
abbrev main_v127 : Ref sig .tc := ⟨.hbm, 197, rfl⟩
abbrev main_c_29 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_c_30 : Ref sig .tc := ⟨.hbm, 202, rfl⟩
abbrev main_v131 : Ref sig .tc := ⟨.hbm, 203, rfl⟩
abbrev main_v132 : Ref sig .tc := ⟨.hbm, 204, rfl⟩
abbrev main_c_31 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_c_32 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_cst_33 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_cst_34 : Ref sig .tc := ⟨.hbm, 236, rfl⟩
abbrev main_call6_v0 : Ref sig .tc := ⟨.hbm, 237, rfl⟩
abbrev main_call6_v1 : Ref sig .tc := ⟨.hbm, 238, rfl⟩
abbrev main_call6_v2 : Ref sig .tc := ⟨.hbm, 239, rfl⟩
abbrev main_v161 : Ref sig .tc := ⟨.hbm, 240, rfl⟩
abbrev main_cst_35 : Ref sig .tc := ⟨.hbm, 241, rfl⟩
abbrev main_v162 : Ref sig .tc := ⟨.hbm, 242, rfl⟩
abbrev main_v163 : Ref sig .tc := ⟨.hbm, 243, rfl⟩
abbrev main_cst_36 : Ref sig .tc := ⟨.hbm, 244, rfl⟩
abbrev main_v164 : Ref sig .tc := ⟨.hbm, 245, rfl⟩
abbrev main_v165 : Ref sig .tc := ⟨.hbm, 246, rfl⟩
abbrev main_cst_37 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_cst_38 : Ref sig .tc := ⟨.hbm, 251, rfl⟩
abbrev main_call7_v0 : Ref sig .tc := ⟨.hbm, 252, rfl⟩
abbrev main_call7_v1 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_cst_39 : Ref sig .tc := ⟨.hbm, 258, rfl⟩
abbrev main_v173 : Ref sig .tc := ⟨.hbm, 259, rfl⟩
abbrev main_v174 : Ref sig .tc := ⟨.hbm, 260, rfl⟩
abbrev main_cst_40 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_cst_41 : Ref sig .tc := ⟨.hbm, 274, rfl⟩
abbrev main_v187 : Ref sig .tc := ⟨.hbm, 275, rfl⟩
abbrev main_v188 : Ref sig .tc := ⟨.hbm, 276, rfl⟩
abbrev main_c_42 : Ref sig .tc := ⟨.hbm, 277, rfl⟩
abbrev main_v189 : Ref sig .tc := ⟨.hbm, 278, rfl⟩
abbrev main_v190 : Ref sig .tc := ⟨.hbm, 279, rfl⟩
abbrev main_c_43 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_cst_44 : Ref sig .tc := ⟨.hbm, 284, rfl⟩
abbrev main_call8_v0 : Ref sig .tc := ⟨.hbm, 285, rfl⟩
abbrev main_call8_v1 : Ref sig .tc := ⟨.hbm, 286, rfl⟩
abbrev main_call8_v2 : Ref sig .tc := ⟨.hbm, 287, rfl⟩
abbrev main_v194 : Ref sig .tc := ⟨.hbm, 288, rfl⟩
abbrev main_cst_45 : Ref sig .tc := ⟨.hbm, 289, rfl⟩
abbrev main_v195 : Ref sig .tc := ⟨.hbm, 290, rfl⟩
abbrev main_v196 : Ref sig .tc := ⟨.hbm, 291, rfl⟩
abbrev main_cst_46 : Ref sig .tc := ⟨.hbm, 292, rfl⟩
abbrev main_v197 : Ref sig .tc := ⟨.hbm, 293, rfl⟩
abbrev main_v198 : Ref sig .tc := ⟨.hbm, 294, rfl⟩
abbrev main_cst_47 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_cst_48 : Ref sig .tc := ⟨.hbm, 299, rfl⟩
abbrev main_call9_v0 : Ref sig .tc := ⟨.hbm, 300, rfl⟩
abbrev main_call9_v1 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_cst_49 : Ref sig .tc := ⟨.hbm, 306, rfl⟩
abbrev main_v206 : Ref sig .tc := ⟨.hbm, 307, rfl⟩
abbrev main_v207 : Ref sig .tc := ⟨.hbm, 308, rfl⟩
abbrev main_cst_50 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_cst_51 : Ref sig .tc := ⟨.hbm, 324, rfl⟩
abbrev main_v222 : Ref sig .tc := ⟨.hbm, 325, rfl⟩
abbrev main_v223 : Ref sig .tc := ⟨.hbm, 326, rfl⟩
abbrev main_cst_52 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_cst_53 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩

abbrev nD : Nat := 1
abbrev τ : Topo := Topo.v7x

variable {F : FTy → Type} [FloatOps F]
-- ==== Mlp.lean ====
abbrev S16x2048x1024 : Shape := ⟨3, ![16, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32768x1024 : Shape := ⟨2, ![32768, 1024]⟩
abbrev S1x5632 : Shape := ⟨2, ![1, 5632]⟩
abbrev S1x1024 : Shape := ⟨2, ![1, 1024]⟩
abbrev S1024x1024 : Shape := ⟨2, ![1024, 1024]⟩
abbrev S8x5632 : Shape := ⟨2, ![8, 5632]⟩
abbrev S8x256 : Shape := ⟨2, ![8, 256]⟩
abbrev S1024x256 : Shape := ⟨2, ![1024, 256]⟩
abbrev S1x256 : Shape := ⟨2, ![1, 256]⟩
abbrev S1016x256 : Shape := ⟨2, ![1016, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S3x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x5632, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpIdeal.lean ====
variable {F : FTy → Type} [FloatOps F] [Named F]
def κ : String → Option EReal := fun
  | "cubic" => some ((80338380498831 / 2251799813685248 : ℝ) : EReal)
  | _ => none
-- ==== MlpReferenceIdeal.lean ====
abbrev S16x2048x1024 : Shape := ⟨3, ![16, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16x2048x5632 : Shape := ⟨3, ![16, 2048, 5632]⟩
abbrev S_ : Shape := ⟨0, ![]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16x2048x5632, .f32⟩
  | .hbm, ⟨8, _⟩ => ⟨S_, .i32⟩
  | .hbm, ⟨9, _⟩ => ⟨S_, .f32⟩
  | .hbm, ⟨10, _⟩ => ⟨S16x2050x5632, .f32⟩
  | .hbm, ⟨11, _⟩ => ⟨S1x5632, .f32⟩
  | .hbm, ⟨12, _⟩ => ⟨S5632, .f32⟩
  | .hbm, ⟨13, _⟩ => ⟨S16x2048x5632, .f32⟩
  | .hbm, ⟨14, _⟩ => ⟨S1x1x5632, .f32⟩
  | .hbm, ⟨15, _⟩ => ⟨S16x2048x5632, .f32⟩
  | .hbm, ⟨16, _⟩ => ⟨S16x2048x5632, .f32⟩
  | .hbm, ⟨17, _⟩ => ⟨S1x5632, .f32⟩
  | .hbm, ⟨18, _⟩ => ⟨S5632, .f32⟩
  | .hbm, ⟨19, _⟩ => ⟨S16x2048x5632, .f32⟩
  | .hbm, ⟨20, _⟩ => ⟨S1x1x5632, .f32⟩
  | .hbm, ⟨21, _⟩ => ⟨S16x2048x5632, .f32⟩
  | .hbm, ⟨22, _⟩ => ⟨S16x2048x5632, .f32⟩
  | .hbm, ⟨23, _⟩ => ⟨S16x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S16x2048x5632, .f32⟩
  | .hbm, ⟨28, _⟩ => ⟨S16x2048x5632, .f32⟩
  | .hbm, ⟨29, _⟩ => ⟨S16x2048x5632, .f32⟩
  | .hbm, ⟨30, _⟩ => ⟨S1x1x5632, .f32⟩
  | .hbm, ⟨31, _⟩ => ⟨S16x2048x5632, .f32⟩
  | .hbm, ⟨32, _⟩ => ⟨S16x2048x5632, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S_, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S_, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S_, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x1024, .f32⟩
  | .hbm, ⟨54, _⟩ => ⟨S_, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1024, .f32⟩
  | .hbm, ⟨74, _⟩ => ⟨S16x2048x1024, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1, .f32⟩
  | .hbm, ⟨79, _⟩ => ⟨S16x2048x1024, .f32⟩
  | .hbm, ⟨80, _⟩ => ⟨S16x2048x1024, .f32⟩
  | .hbm, ⟨81, _⟩ => ⟨S1x1x1024, .f32⟩
  | .hbm, ⟨82, _⟩ => ⟨S16x2048x1024, .f32⟩
  | .hbm, ⟨83, _⟩ => ⟨S16x2048x1024, .f32⟩
  | .hbm, ⟨84, _⟩ => ⟨S1x1x1024, .f32⟩
  | .hbm, ⟨85, _⟩ => ⟨S16x2048x1024, .f32⟩
  | .hbm, ⟨86, _⟩ => ⟨S16x2048x1024, .f32⟩
  | .hbm, ⟨87, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Proof.FrameKernelIdeal.lean ====
module

public import proofs.«01_k».proof.Proof.Gen.KernelIdeal.Frame
public import proofs.«01_k».proof.Proof.Gen.KernelIdeal.Loops

@[expose] public section
noncomputable section
namespace Cert.KernelIdeal.Hand
open Cert.KernelIdeal Cert.KernelIdeal.Gen
open Idealize.ShloMosaic Idealize.ShloMosaic.TcCoe Idealize.ShloMosaic.Tactic
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords) (arg3 : Memref sig .tc .vmem S1x256x256 .bf16) (harg3 : arg3.IsWhole) (arg4 : Memref sig .tc .vmem S1x2048x256 .bf16) (harg4 : arg4.IsWhole) (arg5 : Memref sig .tc .vmem S1x1x128x128 .f32) (harg5 : arg5.IsWhole) (arg6 : Memref sig .tc .vmem S1x256x128 .f32) (harg6 : arg6.IsWhole) (arg7 : Memref sig .tc .vmem S32x128 .bf16) (harg7 : arg7.IsWhole) (arg8 : Memref sig .tc .vmem S1x256x256 .bf16) (harg8 : arg8.IsWhole) (arg9 : Memref sig .tc .vmem S2048x128 .bf16) (harg9 : arg9.IsWhole) (arg10 : Memref sig .tc .vmem S16x128x128 .bf16) (harg10 : arg10.IsWhole) (arg11 : Memref sig .tc .vmem S16x128x128 .bf16) (harg11 : arg11.IsWhole) (arg12 : Memref sig .tc .vmem S768x1024 .i32) (harg12 : arg12.IsWhole) (arg13 : Memref sig .tc .vmem S128x1024 .i32) (harg13 : arg13.IsWhole)
  (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13)

/-- Every switch word the kernel can meet is one of eight. -/
theorem word_cases (n : Fin 8) : (BitVec.ofNat 32 n.val = 0#32 ∨ BitVec.ofNat 32 n.val = 1#32 ∨ BitVec.ofNat 32 n.val = 2#32 ∨ BitVec.ofNat 32 n.val = 3#32 ∨
    BitVec.ofNat 32 n.val = 4#32 ∨ BitVec.ofNat 32 n.val = 5#32 ∨ BitVec.ofNat 32 n.val = 6#32 ∨ BitVec.ofNat 32 n.val = 7#32) := by
  revert n; decide

set_option maxHeartbeats 4000000 in
theorem run39 (w : BitVec 32) (hw : w = 0#32 ∨ w = 1#32 ∨ w = 2#32 ∨ w = 3#32 ∨ w = 4#32 ∨ w = 5#32 ∨ w = 6#32 ∨ w = 7#32) (v59 : FVec F S128x1024 .f32) (v552 : FVec F S1024x128 .bf16) (v555 : IVec S256x1024 1) (v675 : FVec F S128x1024 .f32) :
    iprop(pt c arg6 f6 ∗ pt c arg9 f9 ∗ pt c arg10 f10)
    ⊢ wp frame (wpE (defs₀ (F := F)) Variants.none (c : Thread nD τ) none) Set.univ
        (k0_part39 i arg3 harg3 arg4 harg4 arg5 harg5 arg6 harg6 arg7 harg7 arg8 harg8 arg9 harg9 arg10 harg10 arg11 harg11 arg12 harg12 arg13 harg13 w v59 v552 v555 v675 0#32)
        (fun _ => iprop(pt c arg6 f6 ∗ pt c arg9 f9 ∗ pt c arg10 f10)) := by
  rw [k0_part39_eq_skeleton]; unfold k0_part39_skel
  rcases hw with h | h | h | h | h | h | h | h <;> subst h <;>
  · iintro ⟨H6, H9, H10⟩
    sl_exec (disch := decide)
    sl_step
    sl_close

set_option maxHeartbeats 4000000 in
theorem run24 :
    iprop(pt c arg3 f3 ∗ pt c arg4 f4 ∗ pt c arg5 f5 ∗ pt c arg9 f9 ∗ pt c arg10 f10 ∗ pt c arg11 f11 ∗ pt c arg12 f12 ∗ pt c arg13 f13)
    ⊢ wp frame (wpE (defs₀ (F := F)) Variants.none (c : Thread nD τ) none) Set.univ
        (k0_part24 i arg3 harg3 arg4 harg4 arg5 harg5 arg6 harg6 arg7 harg7 arg8 harg8 arg9 harg9 arg10 harg10 arg11 harg11 arg12 harg12 arg13 harg13)
        (fun r => iprop(⌜r.1 = 0#32 ∨ r.1 = 1#32 ∨ r.1 = 2#32 ∨ r.1 = 3#32 ∨ r.1 = 4#32 ∨ r.1 = 5#32 ∨ r.1 = 6#32 ∨ r.1 = 7#32⌝ ∗ pt c arg3 f3 ∗ pt c arg4 f4 ∗ pt c arg5 f5 ∗ (∃ f, pt c arg9 f) ∗ (∃ f, pt c arg10 f) ∗ (∃ f, pt c arg11 f) ∗ (∃ f, pt c arg12 f) ∗ ∃ f, pt c arg13 f)) := by
  rw [k0_part24_eq_skeleton]; unfold k0_part24_skel
  have hwd := word_cases (i 2)
  by_cases h : Scalar.cmpi .ne (Scalar.extui (Scalar.cmpi .eq (BitVec.ofNat 32 (i 2).val) 0#32) : BitVec 32) 0#32 = 1#1
  · iintro ⟨H3, H4, H5, H9, H10, H11, H12, H13⟩
    sl_exec
    sl_step
    sl_close
  · iintro ⟨H3, H4, H5, H9, H10, H11, H12, H13⟩
    sl_exec
    sl_step
    sl_close

set_option maxHeartbeats 8000000 in
theorem runBody :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13)
    ⊢ wp frame (wpE (defs₀ (F := F)) Variants.none (c : Thread nD τ) none) Set.univ
        (cc0_nsa i arg3 harg3 arg4 harg4 arg5 harg5 arg6 harg6 arg7 harg7 arg8 harg8 arg9 harg9 arg10 harg10 arg11 harg11 arg12 harg12 arg13 harg13)
        (fun _ => iprop(pt c arg3 f3 ∗ pt c arg4 f4 ∗ pt c arg5 f5 ∗ pt c arg6 f6 ∗ pt c arg7 f7 ∗ (∃ f, pt c arg8 f) ∗ (∃ f, pt c arg9 f) ∗ (∃ f, pt c arg10 f) ∗ (∃ f, pt c arg11 f) ∗ (∃ f, pt c arg12 f) ∗ (∃ f, pt c arg13 f))) := by
  rw [cc0_nsa_eq_skeleton]; unfold cc0_nsa_skel
  have h24 := run24 (F := F) c i arg3 harg3 arg4 harg4 arg5 harg5 arg6 harg6 arg7 harg7 arg8 harg8 arg9 harg9 arg10 harg10 arg11 harg11 arg12 harg12 arg13 harg13 f3 f4 f5 f9 f10 f11 f12 f13
  have h39 := fun w hw f9 f10 v59 v552 v555 v675 => run39 (F := F) c i arg3 harg3 arg4 harg4 arg5 harg5 arg6 harg6 arg7 harg7 arg8 harg8 arg9 harg9 arg10 harg10 arg11 harg11 arg12 harg12 arg13 harg13 f6 f9 f10 w hw v59 v552 v555 v675
  have hwd := word_cases (i 2)
  iintro ⟨H3, H4, H5, H6, H7, H8, H9, H10, H11, H12, H13⟩
  sl_exec
  split <;>
  · sl_exec
    sl_step
    sl_close

/-- A whole buffer's contents, held through the memref of all of it. -/
theorem pt_whole (b : Ref sig .tc) (f : Buf (Elt F) ((c : Thread nD τ).loc b)) :
    pt c (Memref.whole b) f = (((c : Thread nD τ).loc b) ↦{fullShare} f : sProp 𝕄) := by
  unfold pt; simp only [Memref.view_whole, View.set_whole]

set_option maxHeartbeats 4000000 in
/-- The body at staging buffers of known contents and scratch of any: the inputs are left as they were. -/
theorem sound_body (x3 x4 x5 x6 x7) (Q : sProp 𝕄) :
    iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, owns (c : Thread nD τ) arg8 fullShare X)
      ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))
      ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, owns (c : Thread nD τ) arg8 fullShare X)
      ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))
       -∗ Q))
    ⊢ wp frame (wpE (defs₀ (F := F)) Variants.none (c : Thread nD τ) none) Set.univ (cc0_nsa i arg3 harg3 arg4 harg4 arg5 harg5 arg6 harg6 arg7 harg7 arg8 harg8  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => Q) := by
  simp only [← pt_whole]
  have hrun := fun f3 f4 f5 f6 f7 f8 f9 f10 f11 f12 f13 => runBody (F := F) c i arg3 harg3 arg4 harg4 arg5 harg5 arg6 harg6 arg7 harg7 arg8 harg8  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f3 f4 f5 f6 f7 f8 f9 f10 f11 f12 f13
  unfold owns
  iintro ⟨⟨H3, H4, H5, H6, H7, ⟨%x8, H8⟩, ⟨%g0, S0⟩, ⟨%g1, S1⟩, ⟨%g2, S2⟩, ⟨%g3, S3⟩, ⟨%g4, S4⟩⟩, HQ⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  subst e3 e4 e5 e6 e7 e8
  iapply (wp_wand_r Idealize.ShloMosaic.frame (wpE (defs₀ (F := F)) Variants.none (c : Thread nD τ) none) Set.univ)
  isplitl [H3 H4 H5 H6 H7 H8 S0 S1 S2 S3 S4]
  · iapply (hrun f3 f4 f5 f6 f7 f8 g0 g1 g2 g3 g4)
    sl_close
  · iintro %_ ⟨H3, H4, H5, H6, H7, ⟨%h8, H8⟩, ⟨%h0, S0⟩, ⟨%h1, S1⟩, ⟨%h2, S2⟩, ⟨%h3, S3⟩, ⟨%h4, S4⟩⟩
    iapply HQ
    sl_close
variable (m : (ℓ : Loc nD τ sig) → Buf (Elt F) ℓ) (ρ : Dev nD → PrngReg)

/-- What the pipeline's windows hold: the inputs their blocks, the output anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

/-- The output's contents are not tracked. -/
def fgt : Fin cfg0.W → Bool := fun w => w == 5

/-- Input window 0 holds its block when the body runs. -/
theorem before_0 (c : Dev nD) (t : Fin cfg0.N) (d) : (dats m 0 c).before 0 t d = iblk m c 0 t :=
  before0_0_of m (dats m 0 c) rfl (fun _ => rfl) t d
/-- Input window 1 holds its block when the body runs. -/
theorem before_1 (c : Dev nD) (t : Fin cfg0.N) (d) : (dats m 0 c).before 1 t d = iblk m c 1 t :=
  before0_1_of m (dats m 0 c) rfl (fun _ => rfl) t d
/-- Input window 2 holds its block when the body runs. -/
theorem before_2 (c : Dev nD) (t : Fin cfg0.N) (d) : (dats m 0 c).before 2 t d = iblk m c 2 t :=
  before0_2_of m (dats m 0 c) rfl (fun _ => rfl) t d
/-- Input window 3 holds its block when the body runs. -/
theorem before_3 (c : Dev nD) (t : Fin cfg0.N) (d) : (dats m 0 c).before 3 t d = iblk m c 3 t :=
  before0_3_of m (dats m 0 c) rfl (fun _ => rfl) t d
/-- Input window 4 holds its block when the body runs. -/
theorem before_4 (c : Dev nD) (t : Fin cfg0.N) (d) : (dats m 0 c).before 4 t d = iblk m c 4 t :=
  before0_4_of m (dats m 0 c) rfl (fun _ => rfl) t d
set_option maxHeartbeats 4000000 in
theorem body_obligation (c : Dev nD) : BodyObligationLoose (dats m 0 c) (defs₀ (F := F)) Variants.none () Set.univ fgt := fun t => by
  rw [bigSep_W0, bigSep_W0]
  simp only [show fgt 0 = false from rfl, show fgt 1 = false from rfl, show fgt 2 = false from rfl, show fgt 3 = false from rfl,
    show fgt 4 = false from rfl, show fgt 5 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨S0, S1, S2, S3, S4⟩, HR⟩, Ho, ⟨%d0, H0⟩, ⟨%d1, H1⟩, ⟨%d2, H2⟩, ⟨%d3, H3⟩, ⟨%d4, H4⟩, H5⟩
  rw [before_0, before_1, before_2, before_3, before_4]
  iapply (sound_body (F := F) c (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (stage0_5 (cfg0.slots t 5)) (hstage0_5 _) (iblk m c 0 t) (iblk m c 1 t) (iblk m c 2 t) (iblk m c 3 t) (iblk m c 4 t))
  isplitl [S0 S1 S2 S3 S4 H0 H1 H2 H3 H4 H5]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  iintro ⟨H0, H1, H2, H3, H4, H5, S0, S1, S2, S3, S4⟩
  isplitl [S0 S1 S2 S3 S4 HR]
  · isplitl [S0 S1 S2 S3 S4]
    · isplitl [S0]; · iexact S0
      isplitl [S1]; · iexact S1
      isplitl [S2]; · iexact S2
      isplitl [S3]; · iexact S3
      iexact S4
    · iexact HR
  isplitl [Ho]; · iexact Ho
  isplitl [H0]; · iexact H0
  isplitl [H1]; · iexact H1
  isplitl [H2]; · iexact H2
  isplitl [H3]; · iexact H3
  isplitl [H4]; · iexact H4
  iexact H5

/-- Every weak run of the launch ends with the arguments as they were and every semaphore back at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame_forget cfgs (dats m) 0 launch0 defs₀ Variants.none fgt m ρ main (fun c => body_obligation m c)
    (fun c => (dats m 0 c).share_full fun _ => rfl) (fun _ _ => rfl) (V m) (hmain m Variants.none) (fun _ _ => rfl) (fun _ _ => rfl) _
    (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
end Cert.KernelIdeal.Hand
end
-- ==== Proof.Claims.lean ====
/- The frames and the ledger of the idealization. -/
module

public import proofs.«01_k».proof.Defs
public import proofs.«01_k».proof.Proof.FrameKernel
public import proofs.«01_k».proof.Proof.FrameKernelIdeal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Hand.frame_run m ρ

/-- The idealized kernel's frame. -/
theorem frame_ideal : Cert.quiescent_KernelIdeal := fun m ρ _ => Cert.KernelIdeal.Hand.frame_run m ρ

/-- The reference has no semaphores and its run leaves the arguments alone. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two names the idealization gave: the folded scale is its real, the mask is minus infinity. -/
theorem ledger : Cert.preserves_Kernel_KernelIdeal :=
  ⟨IdealRules.named_const.statement Cert.KernelIdeal.κ "scale" .f32 0x3E38AA3B#32 (((8 * (Real.log 2))⁻¹ : ℝ) : EReal) rfl,
   IdealRules.named_const.statement Cert.KernelIdeal.κ "mask" .f32 0xF149F2CA#32 ⊥ rfl⟩

end Cert.Proof

end
-- ==== Proof.Acc.lean ====
module

public import proofs.«01_k».proof.Proof.Gen.KernelIdeal.Loops
public import Idealize.ShloMosaic.Lib.Pointwise

@[expose] public section
noncomputable section
namespace Cert.KernelIdeal.Exact
open Cert.KernelIdeal Cert.KernelIdeal.Gen
open Idealize.ShloMosaic Idealize.ShloMosaic.TcCoe
set_option maxRecDepth 16384

/-- A block of whole rows, read at an index. -/
theorem ld_rows {e : EltTy} {N C n o : ℕ} (X : (⟨2, ![N, C]⟩ : Shape).Idx → Elt Ideal e) (inb) (r : Fin n) (s : Fin C) (h : o + r.val < N) :
    View.ld X (Rect.unit ![o, 0] ![n, C] inb) (ix2 r s) = X (ix2 ⟨o + r.val, h⟩ s) :=
  congrArg X (funext fun a => by fin_cases a <;> exact Fin.ext (by show _ + 1 * _ = _; simp))

/-- A block of the keys' rows from row `o`. -/
def Rows {n : ℕ} (b : (⟨2, ![n, 128]⟩ : Shape).Idx → EReal) (o : ℕ) (y9 : FVec Ideal S2048x128 .bf16) : Prop :=
  ∀ r s, b (ix2 r s) = y9 (ix2 (Fin.ofNat 2048 (o + r.val)) s)
/-- Tile `j` of the transposed values. -/
def Tile (b : FVec Ideal S1x128x128 .bf16) (j : ℕ) (y10 : FVec Ideal S16x128x128 .bf16) : Prop :=
  ∀ r u, b (ix3 0 r u) = y10 (ix3 (Fin.ofNat 16 j) r u)
/-- The value that stands for a masked score. -/
abbrev NEG : EReal := (Named.named κ "mask" 4048155338#32 : Ideal .f32)
/-- Key `k`'s score for query column `s`. -/
abbrev kS (y9 : FVec Ideal S2048x128 .bf16) (q : FVec Ideal S1024x128 .bf16) (k : ℕ) (s : Fin 1024) : EReal :=
  ∑ y : Fin 128, y9 (ix2 (Fin.ofNat 2048 k) y) * q (ix2 s y)
/-- The largest score of tile `n`, the masked ones left out. -/
abbrev oM (n : ℕ) (q : FVec Ideal S1024x128 .bf16) (mk : IVec S256x1024 1) (y9 : FVec Ideal S2048x128 .bf16) (s : Fin 1024) : EReal :=
  Finset.fold max (Ideal.ofBits FTy.f32 4286578688#32) (fun x : Fin 256 => Scalar.select (mk (ix2 x s)) (kS y9 q (256 * n + x.val) s) NEG) Finset.univ
/-- Row `r` of key `k`'s transposed values. -/
abbrev vt (y10 : FVec Ideal S16x128x128 .bf16) (k : ℕ) (r : Fin 128) : EReal := y10 (ix3 (Fin.ofNat 16 (k / 128)) r (Fin.ofNat 128 (k % 128)))
/-- What the selected branch has gathered over the keys of tiles `0 … n`: tile `n` masked, the earlier ones whole. -/
def accv (n : ℕ) (q : FVec Ideal S1024x128 .bf16) (mk : IVec S256x1024 1) (y9 : FVec Ideal S2048x128 .bf16) (y10 : FVec Ideal S16x128x128 .bf16)
    (r : Fin 128) (s : Fin 1024) : EReal :=
  (∑ x : Fin 256, vt y10 (256 * n + x.val) r * FloatOps.exp2 (F := Ideal) (φ := .f32) (Scalar.select (mk (ix2 x s)) (kS y9 q (256 * n + x.val) s) NEG - oM n q mk y9 s))
    + ∑ k ∈ Finset.range (256 * n), vt y10 k r * FloatOps.exp2 (F := Ideal) (φ := .f32) (kS y9 q k s - oM n q mk y9 s)
/-- `accv` as a whole vector. -/
def ACC (n : ℕ) (q : FVec Ideal S1024x128 .bf16) (mk : IVec S256x1024 1) (y9 : FVec Ideal S2048x128 .bf16) (y10 : FVec Ideal S16x128x128 .bf16) : FVec Ideal S128x1024 .f32 :=
  fun j => accv n q mk y9 y10 (j 0) (j 1)

/-- Two tiles' sums as one sum over their keys. -/
theorem sum_two (Y : Fin 16 → Fin 128 → EReal) (E : ℕ → EReal) (o j : ℕ) (h : o = 128 * j) :
    (∑ x : Fin 128, Y (Fin.ofNat 16 j) x * E (o + x.val)) + ∑ x : Fin 128, Y (Fin.ofNat 16 (j + 1)) x * E (o + (128 + x.val))
      = ∑ x : Fin 256, Y (Fin.ofNat 16 ((o + x.val) / 128)) (Fin.ofNat 128 ((o + x.val) % 128)) * E (o + x.val) := by
  subst h
  rw [show (256 : ℕ) = 128 + 128 from rfl, Fin.sum_univ_add]
  refine congrArg₂ (· + ·) (Finset.sum_congr rfl fun x _ => ?_) (Finset.sum_congr rfl fun x _ => ?_)
  · have h1 : (128 * j + x.val) / 128 = j := by omega
    have h2 : (128 * j + x.val) % 128 = x.val := by omega
    simp only [Fin.val_castAdd, h1, h2, Fin.ofNat_val_eq_self]
  · have h1 : (128 * j + (128 + x.val)) / 128 = j + 1 := by omega
    have h2 : (128 * j + (128 + x.val)) % 128 = x.val := by omega
    simp only [Fin.val_natAdd, h1, h2, Fin.ofNat_val_eq_self]

/-- A block's sum as a sum over its keys. -/
theorem sum_block (G : ℕ → EReal) (o n : ℕ) : ∑ x : Fin n, G (o + x.val) = ∑ k ∈ Finset.Ico o (o + n), G k := by
  rw [Fin.sum_univ_eq_sum_range (fun x => G (o + x)), Finset.sum_Ico_eq_sum_range]; simp

/-- Two tiles' sums as a sum over a range of keys. -/
theorem sum_two' (Y : Fin 16 → Fin 128 → EReal) (E : ℕ → EReal) (o j : ℕ) (h : o = 128 * j) :
    (∑ x : Fin 128, Y (Fin.ofNat 16 j) x * E (o + x.val)) + ∑ x : Fin 128, Y (Fin.ofNat 16 (j + 1)) x * E (o + (128 + x.val))
      = ∑ k ∈ Finset.Ico o (o + 256), Y (Fin.ofNat 16 (k / 128)) (Fin.ofNat 128 (k % 128)) * E k :=
  (sum_two Y E o j h).trans (sum_block (fun k => Y (Fin.ofNat 16 (k / 128)) (Fin.ofNat 128 (k % 128)) * E k) o 256)

/-- Four tiles, side by side in one operand, as a sum over their keys. -/
theorem sum_four (Y : Fin 16 → Fin 128 → EReal) (E : ℕ → EReal) (o j : ℕ) (h : o = 128 * j) :
    (∑ x : Fin 512, (if h : x.val < 128 then Y (Fin.ofNat 16 j) ⟨x.val, h⟩
        else if h : x.val - 128 < 128 then Y (Fin.ofNat 16 (j + 1)) ⟨x.val - 128, h⟩
        else if h : x.val - 128 - 128 < 128 then Y (Fin.ofNat 16 (j + 2)) ⟨x.val - 128 - 128, h⟩
        else Y (Fin.ofNat 16 (j + 3)) ⟨x.val - 128 - 128 - 128, by omega⟩) * E (o + x.val))
      = ∑ k ∈ Finset.Ico o (o + 512), Y (Fin.ofNat 16 (k / 128)) (Fin.ofNat 128 (k % 128)) * E k := by
  rw [← sum_block (fun k => Y (Fin.ofNat 16 (k / 128)) (Fin.ofNat 128 (k % 128)) * E k)]
  subst h
  refine Finset.sum_congr rfl fun x _ => congrArg (· * _) ?_
  have key : ∀ (i : ℕ) (y : ℕ) (hy : y < 128), 128 * i + y = 128 * j + x.val →
      Y (Fin.ofNat 16 i) ⟨y, hy⟩ = Y (Fin.ofNat 16 ((128 * j + x.val) / 128)) (Fin.ofNat 128 ((128 * j + x.val) % 128)) := by
    intro i y hy e
    rw [← e, show (128 * i + y) / 128 = i by omega, show (128 * i + y) % 128 = y by omega]
    exact congrArg _ (Fin.ext (Nat.mod_eq_of_lt hy).symm)
  split_ifs <;> exact key _ _ _ (by omega)

/-- The masked tile's own two sums. -/
theorem own_sum (n : ℕ) (q : FVec Ideal S1024x128 .bf16) (mk : IVec S256x1024 1) (y9 : FVec Ideal S2048x128 .bf16) (y10 : FVec Ideal S16x128x128 .bf16)
    (r : Fin 128) (s : Fin 1024) :
    (∑ x : Fin 128, y10 (ix3 (Fin.ofNat 16 (2 * n)) r x) * FloatOps.exp2 (F := Ideal) (φ := .f32) (Scalar.select (mk (ix2 ⟨x.val, by omega⟩ s)) (kS y9 q (256 * n + x.val) s) NEG - oM n q mk y9 s))
      + ∑ x : Fin 128, y10 (ix3 (Fin.ofNat 16 (2 * n + 1)) r x) * FloatOps.exp2 (F := Ideal) (φ := .f32) (Scalar.select (mk (ix2 ⟨128 + x.val, by omega⟩ s)) (kS y9 q (256 * n + (128 + x.val)) s) NEG - oM n q mk y9 s)
    = ∑ x : Fin 256, vt y10 (256 * n + x.val) r * FloatOps.exp2 (F := Ideal) (φ := .f32) (Scalar.select (mk (ix2 x s)) (kS y9 q (256 * n + x.val) s) NEG - oM n q mk y9 s) := by
  have h := sum_two (fun a b => y10 (ix3 a r b)) (fun k => FloatOps.exp2 (F := Ideal) (φ := .f32) (Scalar.select (mk (ix2 (Fin.ofNat 256 (k - 256 * n)) s)) (kS y9 q k s) NEG - oM n q mk y9 s)) (256 * n) (2 * n) (by omega)
  have e1 : ∀ x : Fin 128, (Fin.ofNat 256 (256 * n + x.val - 256 * n)) = (⟨x.val, by omega⟩ : Fin 256) := fun x => Fin.ext (by show _ % _ = _; simp only []; omega)
  have e2 : ∀ x : Fin 128, (Fin.ofNat 256 (256 * n + (128 + x.val) - 256 * n)) = (⟨128 + x.val, by omega⟩ : Fin 256) := fun x => Fin.ext (by show _ % _ = _; simp only []; omega)
  have e3 : ∀ x : Fin 256, (Fin.ofNat 256 (256 * n + x.val - 256 * n)) = x := fun x => Fin.ext (by show _ % _ = _; omega)
  simp only [e1, e2, e3] at h
  exact h

theorem acc0 (v552 : FVec Ideal S1024x128 .bf16) (v555 : IVec S256x1024 1) (y9 : FVec Ideal S2048x128 .bf16) (y10 : FVec Ideal S16x128x128 .bf16)
    (a0 : FVec Ideal S256x128 .bf16) (ha0 : Rows a0 0 y9) (b0 : FVec Ideal S1x128x128 .bf16) (hb0 : Tile b0 0 y10) (b1 : FVec Ideal S1x128x128 .bf16) (hb1 : Tile b1 1 y10) :
    k0_pay158 v552 v555 a0 b0 b1 = ACC 0 v552 v555 y9 y10 := by
  funext j; idx_vars j
  pointwise [k0_pay158]
  simp only [ha0 _ _, hb0 _ _, hb1 _ _]
  show _ = accv 0 v552 v555 y9 y10 j0 j1
  have hown := own_sum 0 v552 v555 y9 y10 j0 j1
  refine Eq.trans hown ?_
  unfold accv
  rw [show (256 * 0 : ℕ) = 0 from rfl, Finset.range_zero, Finset.sum_empty, add_zero]

theorem acc1 (v552 : FVec Ideal S1024x128 .bf16) (v555 : IVec S256x1024 1) (y9 : FVec Ideal S2048x128 .bf16) (y10 : FVec Ideal S16x128x128 .bf16)
    (a0 : FVec Ideal S256x128 .bf16) (ha0 : Rows a0 256 y9) (a1 : FVec Ideal S256x128 .bf16) (ha1 : Rows a1 0 y9) (b2 : FVec Ideal S1x128x128 .bf16) (hb2 : Tile b2 2 y10) (b3 : FVec Ideal S1x128x128 .bf16) (hb3 : Tile b3 3 y10) (b0 : FVec Ideal S1x128x128 .bf16) (hb0 : Tile b0 0 y10) (b1 : FVec Ideal S1x128x128 .bf16) (hb1 : Tile b1 1 y10) :
    k0_pay157 v552 v555 a0 b2 b3 a1 b0 b1 = ACC 1 v552 v555 y9 y10 := by
  funext j; idx_vars j
  pointwise [k0_pay157]
  simp only [ha0 _ _, ha1 _ _, hb2 _ _, hb3 _ _, hb0 _ _, hb1 _ _]
  show _ = accv 1 v552 v555 y9 y10 j0 j1
  have hown := own_sum 1 v552 v555 y9 y10 j0 j1
  refine Eq.trans (congrArg₂ (· + ·) hown (sum_two' (fun a b => y10 (ix3 a j0 b)) (fun k => FloatOps.exp2 (F := Ideal) (φ := .f32) (kS y9 v552 k j1 - oM 1 v552 v555 y9 j1)) 0 0 rfl)) ?_
  unfold accv
  rw [Finset.range_eq_Ico]

theorem acc2 (v552 : FVec Ideal S1024x128 .bf16) (v555 : IVec S256x1024 1) (y9 : FVec Ideal S2048x128 .bf16) (y10 : FVec Ideal S16x128x128 .bf16)
    (a0 : FVec Ideal S256x128 .bf16) (ha0 : Rows a0 512 y9) (a1 : FVec Ideal S512x128 .bf16) (ha1 : Rows a1 0 y9) (b4 : FVec Ideal S1x128x128 .bf16) (hb4 : Tile b4 4 y10) (b5 : FVec Ideal S1x128x128 .bf16) (hb5 : Tile b5 5 y10) (b0 : FVec Ideal S1x128x128 .bf16) (hb0 : Tile b0 0 y10) (b1 : FVec Ideal S1x128x128 .bf16) (hb1 : Tile b1 1 y10) (b2 : FVec Ideal S1x128x128 .bf16) (hb2 : Tile b2 2 y10) (b3 : FVec Ideal S1x128x128 .bf16) (hb3 : Tile b3 3 y10) :
    k0_pay156 (k0_pay76 v552 v555 a0 b4 b5) (k0_pay77 v552 v555 a0 a1 b0 b1 b2 b3) = ACC 2 v552 v555 y9 y10 := by
  funext j; idx_vars j
  pointwise [k0_pay156, k0_pay76, k0_pay77, k0_pay75, k0_pay74]
  simp only [ha0 _ _, ha1 _ _, hb4 _ _, hb5 _ _, hb0 _ _, hb1 _ _, hb2 _ _, hb3 _ _]
  show _ = accv 2 v552 v555 y9 y10 j0 j1
  have hown := own_sum 2 v552 v555 y9 y10 j0 j1
  refine Eq.trans (congrArg₂ (· + ·) hown (sum_four (fun a b => y10 (ix3 a j0 b)) (fun k => FloatOps.exp2 (F := Ideal) (φ := .f32) (kS y9 v552 k j1 - oM 2 v552 v555 y9 j1)) 0 0 rfl)) ?_
  unfold accv
  rw [Finset.range_eq_Ico]

theorem acc3 (v552 : FVec Ideal S1024x128 .bf16) (v555 : IVec S256x1024 1) (y9 : FVec Ideal S2048x128 .bf16) (y10 : FVec Ideal S16x128x128 .bf16)
    (a0 : FVec Ideal S256x128 .bf16) (ha0 : Rows a0 768 y9) (a1 : FVec Ideal S512x128 .bf16) (ha1 : Rows a1 0 y9) (a2 : FVec Ideal S256x128 .bf16) (ha2 : Rows a2 512 y9) (b6 : FVec Ideal S1x128x128 .bf16) (hb6 : Tile b6 6 y10) (b7 : FVec Ideal S1x128x128 .bf16) (hb7 : Tile b7 7 y10) (b0 : FVec Ideal S1x128x128 .bf16) (hb0 : Tile b0 0 y10) (b1 : FVec Ideal S1x128x128 .bf16) (hb1 : Tile b1 1 y10) (b2 : FVec Ideal S1x128x128 .bf16) (hb2 : Tile b2 2 y10) (b3 : FVec Ideal S1x128x128 .bf16) (hb3 : Tile b3 3 y10) (b4 : FVec Ideal S1x128x128 .bf16) (hb4 : Tile b4 4 y10) (b5 : FVec Ideal S1x128x128 .bf16) (hb5 : Tile b5 5 y10) :
    k0_pay155 v552 (k0_pay71 v552 v555 a0) (k0_pay72 v552 v555 a0 b6 b7) (k0_pay73 v552 v555 a0 a1 b0 b1 b2 b3) a2 b4 b5 = ACC 3 v552 v555 y9 y10 := by
  funext j; idx_vars j
  pointwise [k0_pay155, k0_pay71, k0_pay72, k0_pay73, k0_pay70]
  simp only [ha0 _ _, ha1 _ _, ha2 _ _, hb6 _ _, hb7 _ _, hb0 _ _, hb1 _ _, hb2 _ _, hb3 _ _, hb4 _ _, hb5 _ _]
  show _ = accv 3 v552 v555 y9 y10 j0 j1
  have hown := own_sum 3 v552 v555 y9 y10 j0 j1
  refine Eq.trans (congrArg₂ (· + ·) (congrArg₂ (· + ·) hown (sum_four (fun a b => y10 (ix3 a j0 b)) (fun k => FloatOps.exp2 (F := Ideal) (φ := .f32) (kS y9 v552 k j1 - oM 3 v552 v555 y9 j1)) 0 0 rfl)) (sum_two' (fun a b => y10 (ix3 a j0 b)) (fun k => FloatOps.exp2 (F := Ideal) (φ := .f32) (kS y9 v552 k j1 - oM 3 v552 v555 y9 j1)) 512 4 rfl)) ?_
  unfold accv
  rw [Finset.range_eq_Ico]
  have hsum : ∀ G : ℕ → EReal, ∑ k ∈ Finset.Ico 0 512, G k + ∑ k ∈ Finset.Ico 512 768, G k = ∑ k ∈ Finset.Ico 0 (256 * 3), G k := fun G => by
    have h768 := Finset.sum_Ico_consecutive G (Nat.zero_le 512) (show 512 ≤ 768 by norm_num)
    show _ = ∑ k ∈ Finset.Ico 0 768, G k
    rw [← h768]
    try abel
  rw [← hsum]
  simp only [add_assoc]

theorem acc4 (v552 : FVec Ideal S1024x128 .bf16) (v555 : IVec S256x1024 1) (y9 : FVec Ideal S2048x128 .bf16) (y10 : FVec Ideal S16x128x128 .bf16)
    (a0 : FVec Ideal S256x128 .bf16) (ha0 : Rows a0 1024 y9) (a1 : FVec Ideal S512x128 .bf16) (ha1 : Rows a1 0 y9) (a2 : FVec Ideal S512x128 .bf16) (ha2 : Rows a2 512 y9) (b8 : FVec Ideal S1x128x128 .bf16) (hb8 : Tile b8 8 y10) (b9 : FVec Ideal S1x128x128 .bf16) (hb9 : Tile b9 9 y10) (b0 : FVec Ideal S1x128x128 .bf16) (hb0 : Tile b0 0 y10) (b1 : FVec Ideal S1x128x128 .bf16) (hb1 : Tile b1 1 y10) (b2 : FVec Ideal S1x128x128 .bf16) (hb2 : Tile b2 2 y10) (b3 : FVec Ideal S1x128x128 .bf16) (hb3 : Tile b3 3 y10) (b4 : FVec Ideal S1x128x128 .bf16) (hb4 : Tile b4 4 y10) (b5 : FVec Ideal S1x128x128 .bf16) (hb5 : Tile b5 5 y10) (b6 : FVec Ideal S1x128x128 .bf16) (hb6 : Tile b6 6 y10) (b7 : FVec Ideal S1x128x128 .bf16) (hb7 : Tile b7 7 y10) :
    k0_pay154 v552 (k0_pay67 v552 v555 a0) (k0_pay68 v552 v555 a0 b8 b9) (k0_pay69 v552 v555 a0 a1 b0 b1 b2 b3) a2 b4 b5 b6 b7 = ACC 4 v552 v555 y9 y10 := by
  funext j; idx_vars j
  pointwise [k0_pay154, k0_pay67, k0_pay68, k0_pay69, k0_pay66]
  simp only [ha0 _ _, ha1 _ _, ha2 _ _, hb8 _ _, hb9 _ _, hb0 _ _, hb1 _ _, hb2 _ _, hb3 _ _, hb4 _ _, hb5 _ _, hb6 _ _, hb7 _ _]
  show _ = accv 4 v552 v555 y9 y10 j0 j1
  have hown := own_sum 4 v552 v555 y9 y10 j0 j1
  refine Eq.trans (congrArg₂ (· + ·) (congrArg₂ (· + ·) hown (sum_four (fun a b => y10 (ix3 a j0 b)) (fun k => FloatOps.exp2 (F := Ideal) (φ := .f32) (kS y9 v552 k j1 - oM 4 v552 v555 y9 j1)) 0 0 rfl)) (sum_four (fun a b => y10 (ix3 a j0 b)) (fun k => FloatOps.exp2 (F := Ideal) (φ := .f32) (kS y9 v552 k j1 - oM 4 v552 v555 y9 j1)) 512 4 rfl)) ?_
  unfold accv
  rw [Finset.range_eq_Ico]
  have hsum : ∀ G : ℕ → EReal, ∑ k ∈ Finset.Ico 0 512, G k + ∑ k ∈ Finset.Ico 512 1024, G k = ∑ k ∈ Finset.Ico 0 (256 * 4), G k := fun G => by
    have h1024 := Finset.sum_Ico_consecutive G (Nat.zero_le 512) (show 512 ≤ 1024 by norm_num)
    show _ = ∑ k ∈ Finset.Ico 0 1024, G k
    rw [← h1024]
    try abel
  rw [← hsum]
  simp only [add_assoc]

theorem acc5 (v552 : FVec Ideal S1024x128 .bf16) (v555 : IVec S256x1024 1) (y9 : FVec Ideal S2048x128 .bf16) (y10 : FVec Ideal S16x128x128 .bf16)
    (a0 : FVec Ideal S256x128 .bf16) (ha0 : Rows a0 1280 y9) (a1 : FVec Ideal S512x128 .bf16) (ha1 : Rows a1 0 y9) (a2 : FVec Ideal S512x128 .bf16) (ha2 : Rows a2 512 y9) (a3 : FVec Ideal S256x128 .bf16) (ha3 : Rows a3 1024 y9) (b10 : FVec Ideal S1x128x128 .bf16) (hb10 : Tile b10 10 y10) (b11 : FVec Ideal S1x128x128 .bf16) (hb11 : Tile b11 11 y10) (b0 : FVec Ideal S1x128x128 .bf16) (hb0 : Tile b0 0 y10) (b1 : FVec Ideal S1x128x128 .bf16) (hb1 : Tile b1 1 y10) (b2 : FVec Ideal S1x128x128 .bf16) (hb2 : Tile b2 2 y10) (b3 : FVec Ideal S1x128x128 .bf16) (hb3 : Tile b3 3 y10) (b4 : FVec Ideal S1x128x128 .bf16) (hb4 : Tile b4 4 y10) (b5 : FVec Ideal S1x128x128 .bf16) (hb5 : Tile b5 5 y10) (b6 : FVec Ideal S1x128x128 .bf16) (hb6 : Tile b6 6 y10) (b7 : FVec Ideal S1x128x128 .bf16) (hb7 : Tile b7 7 y10) (b8 : FVec Ideal S1x128x128 .bf16) (hb8 : Tile b8 8 y10) (b9 : FVec Ideal S1x128x128 .bf16) (hb9 : Tile b9 9 y10) :
    k0_pay153 v552 (k0_pay63 v552 v555 a0) (k0_pay64 v552 v555 a0 b10 b11) (k0_pay65 v552 v555 a0 a1 b0 b1 b2 b3) a2 b4 b5 b6 b7 a3 b8 b9 = ACC 5 v552 v555 y9 y10 := by
  funext j; idx_vars j
  pointwise [k0_pay153, k0_pay63, k0_pay64, k0_pay65, k0_pay62]
  simp only [ha0 _ _, ha1 _ _, ha2 _ _, ha3 _ _, hb10 _ _, hb11 _ _, hb0 _ _, hb1 _ _, hb2 _ _, hb3 _ _, hb4 _ _, hb5 _ _, hb6 _ _, hb7 _ _, hb8 _ _, hb9 _ _]
  show _ = accv 5 v552 v555 y9 y10 j0 j1
  have hown := own_sum 5 v552 v555 y9 y10 j0 j1
  refine Eq.trans (congrArg₂ (· + ·) (congrArg₂ (· + ·) (congrArg₂ (· + ·) hown (sum_four (fun a b => y10 (ix3 a j0 b)) (fun k => FloatOps.exp2 (F := Ideal) (φ := .f32) (kS y9 v552 k j1 - oM 5 v552 v555 y9 j1)) 0 0 rfl)) (sum_four (fun a b => y10 (ix3 a j0 b)) (fun k => FloatOps.exp2 (F := Ideal) (φ := .f32) (kS y9 v552 k j1 - oM 5 v552 v555 y9 j1)) 512 4 rfl)) (sum_two' (fun a b => y10 (ix3 a j0 b)) (fun k => FloatOps.exp2 (F := Ideal) (φ := .f32) (kS y9 v552 k j1 - oM 5 v552 v555 y9 j1)) 1024 8 rfl)) ?_
  unfold accv
  rw [Finset.range_eq_Ico]
  have hsum : ∀ G : ℕ → EReal, ∑ k ∈ Finset.Ico 0 512, G k + ∑ k ∈ Finset.Ico 512 1024, G k + ∑ k ∈ Finset.Ico 1024 1280, G k = ∑ k ∈ Finset.Ico 0 (256 * 5), G k := fun G => by
    have h1024 := Finset.sum_Ico_consecutive G (Nat.zero_le 512) (show 512 ≤ 1024 by norm_num)
    have h1280 := Finset.sum_Ico_consecutive G (Nat.zero_le 1024) (show 1024 ≤ 1280 by norm_num)
    show _ = ∑ k ∈ Finset.Ico 0 1280, G k
    rw [← h1280, ← h1024]
    try abel
  rw [← hsum]
  simp only [add_assoc]

theorem acc6 (v552 : FVec Ideal S1024x128 .bf16) (v555 : IVec S256x1024 1) (y9 : FVec Ideal S2048x128 .bf16) (y10 : FVec Ideal S16x128x128 .bf16)
    (a0 : FVec Ideal S256x128 .bf16) (ha0 : Rows a0 1536 y9) (a1 : FVec Ideal S512x128 .bf16) (ha1 : Rows a1 0 y9) (a2 : FVec Ideal S512x128 .bf16) (ha2 : Rows a2 512 y9) (a3 : FVec Ideal S512x128 .bf16) (ha3 : Rows a3 1024 y9) (b12 : FVec Ideal S1x128x128 .bf16) (hb12 : Tile b12 12 y10) (b13 : FVec Ideal S1x128x128 .bf16) (hb13 : Tile b13 13 y10) (b0 : FVec Ideal S1x128x128 .bf16) (hb0 : Tile b0 0 y10) (b1 : FVec Ideal S1x128x128 .bf16) (hb1 : Tile b1 1 y10) (b2 : FVec Ideal S1x128x128 .bf16) (hb2 : Tile b2 2 y10) (b3 : FVec Ideal S1x128x128 .bf16) (hb3 : Tile b3 3 y10) (b4 : FVec Ideal S1x128x128 .bf16) (hb4 : Tile b4 4 y10) (b5 : FVec Ideal S1x128x128 .bf16) (hb5 : Tile b5 5 y10) (b6 : FVec Ideal S1x128x128 .bf16) (hb6 : Tile b6 6 y10) (b7 : FVec Ideal S1x128x128 .bf16) (hb7 : Tile b7 7 y10) (b8 : FVec Ideal S1x128x128 .bf16) (hb8 : Tile b8 8 y10) (b9 : FVec Ideal S1x128x128 .bf16) (hb9 : Tile b9 9 y10) (b10 : FVec Ideal S1x128x128 .bf16) (hb10 : Tile b10 10 y10) (b11 : FVec Ideal S1x128x128 .bf16) (hb11 : Tile b11 11 y10) :
    k0_pay152 (k0_pay56 v552 v555 a0) (k0_pay59 v552 (k0_pay56 v552 v555 a0) (k0_pay57 v552 v555 a0 b12 b13) (k0_pay58 v552 v555 a0 a1 b0 b1 b2 b3) a2 b4 b5 b6 b7) (k0_pay60 v552 a3) (k0_pay61 b8 b9 b10 b11) = ACC 6 v552 v555 y9 y10 := by
  funext j; idx_vars j
  pointwise [k0_pay152, k0_pay55, k0_pay56, k0_pay57, k0_pay58, k0_pay59, k0_pay60, k0_pay61]
  simp only [ha0 _ _, ha1 _ _, ha2 _ _, ha3 _ _, hb12 _ _, hb13 _ _, hb0 _ _, hb1 _ _, hb2 _ _, hb3 _ _, hb4 _ _, hb5 _ _, hb6 _ _, hb7 _ _, hb8 _ _, hb9 _ _, hb10 _ _, hb11 _ _]
  show _ = accv 6 v552 v555 y9 y10 j0 j1
  have hown := own_sum 6 v552 v555 y9 y10 j0 j1
  refine Eq.trans (congrArg₂ (· + ·) (congrArg₂ (· + ·) (congrArg₂ (· + ·) hown (sum_four (fun a b => y10 (ix3 a j0 b)) (fun k => FloatOps.exp2 (F := Ideal) (φ := .f32) (kS y9 v552 k j1 - oM 6 v552 v555 y9 j1)) 0 0 rfl)) (sum_four (fun a b => y10 (ix3 a j0 b)) (fun k => FloatOps.exp2 (F := Ideal) (φ := .f32) (kS y9 v552 k j1 - oM 6 v552 v555 y9 j1)) 512 4 rfl)) (sum_four (fun a b => y10 (ix3 a j0 b)) (fun k => FloatOps.exp2 (F := Ideal) (φ := .f32) (kS y9 v552 k j1 - oM 6 v552 v555 y9 j1)) 1024 8 rfl)) ?_
  unfold accv
  rw [Finset.range_eq_Ico]
  have hsum : ∀ G : ℕ → EReal, ∑ k ∈ Finset.Ico 0 512, G k + ∑ k ∈ Finset.Ico 512 1024, G k + ∑ k ∈ Finset.Ico 1024 1536, G k = ∑ k ∈ Finset.Ico 0 (256 * 6), G k := fun G => by
    have h1024 := Finset.sum_Ico_consecutive G (Nat.zero_le 512) (show 512 ≤ 1024 by norm_num)
    have h1536 := Finset.sum_Ico_consecutive G (Nat.zero_le 1024) (show 1024 ≤ 1536 by norm_num)
    show _ = ∑ k ∈ Finset.Ico 0 1536, G k
    rw [← h1536, ← h1024]
    try abel
  rw [← hsum]
  simp only [add_assoc]

theorem acc7 (v552 : FVec Ideal S1024x128 .bf16) (v555 : IVec S256x1024 1) (y9 : FVec Ideal S2048x128 .bf16) (y10 : FVec Ideal S16x128x128 .bf16)
    (a0 : FVec Ideal S256x128 .bf16) (ha0 : Rows a0 1792 y9) (a1 : FVec Ideal S512x128 .bf16) (ha1 : Rows a1 0 y9) (a2 : FVec Ideal S512x128 .bf16) (ha2 : Rows a2 512 y9) (a3 : FVec Ideal S512x128 .bf16) (ha3 : Rows a3 1024 y9) (a4 : FVec Ideal S256x128 .bf16) (ha4 : Rows a4 1536 y9) (b14 : FVec Ideal S1x128x128 .bf16) (hb14 : Tile b14 14 y10) (b15 : FVec Ideal S1x128x128 .bf16) (hb15 : Tile b15 15 y10) (b0 : FVec Ideal S1x128x128 .bf16) (hb0 : Tile b0 0 y10) (b1 : FVec Ideal S1x128x128 .bf16) (hb1 : Tile b1 1 y10) (b2 : FVec Ideal S1x128x128 .bf16) (hb2 : Tile b2 2 y10) (b3 : FVec Ideal S1x128x128 .bf16) (hb3 : Tile b3 3 y10) (b4 : FVec Ideal S1x128x128 .bf16) (hb4 : Tile b4 4 y10) (b5 : FVec Ideal S1x128x128 .bf16) (hb5 : Tile b5 5 y10) (b6 : FVec Ideal S1x128x128 .bf16) (hb6 : Tile b6 6 y10) (b7 : FVec Ideal S1x128x128 .bf16) (hb7 : Tile b7 7 y10) (b8 : FVec Ideal S1x128x128 .bf16) (hb8 : Tile b8 8 y10) (b9 : FVec Ideal S1x128x128 .bf16) (hb9 : Tile b9 9 y10) (b10 : FVec Ideal S1x128x128 .bf16) (hb10 : Tile b10 10 y10) (b11 : FVec Ideal S1x128x128 .bf16) (hb11 : Tile b11 11 y10) (b12 : FVec Ideal S1x128x128 .bf16) (hb12 : Tile b12 12 y10) (b13 : FVec Ideal S1x128x128 .bf16) (hb13 : Tile b13 13 y10) :
    k0_pay151 v552 (k0_pay49 v552 v555 a0) (k0_pay52 v552 (k0_pay49 v552 v555 a0) (k0_pay50 v552 v555 a0 b14 b15) (k0_pay51 v552 v555 a0 a1 b0 b1 b2 b3) a2 b4 b5 b6 b7) (k0_pay53 v552 a3) (k0_pay54 b8 b9 b10 b11) a4 b12 b13 = ACC 7 v552 v555 y9 y10 := by
  funext j; idx_vars j
  pointwise [k0_pay151, k0_pay48, k0_pay49, k0_pay50, k0_pay51, k0_pay52, k0_pay53, k0_pay54]
  simp only [ha0 _ _, ha1 _ _, ha2 _ _, ha3 _ _, ha4 _ _, hb14 _ _, hb15 _ _, hb0 _ _, hb1 _ _, hb2 _ _, hb3 _ _, hb4 _ _, hb5 _ _, hb6 _ _, hb7 _ _, hb8 _ _, hb9 _ _, hb10 _ _, hb11 _ _, hb12 _ _, hb13 _ _]
  show _ = accv 7 v552 v555 y9 y10 j0 j1
  have hown := own_sum 7 v552 v555 y9 y10 j0 j1
  refine Eq.trans (congrArg₂ (· + ·) (congrArg₂ (· + ·) (congrArg₂ (· + ·) (congrArg₂ (· + ·) hown (sum_four (fun a b => y10 (ix3 a j0 b)) (fun k => FloatOps.exp2 (F := Ideal) (φ := .f32) (kS y9 v552 k j1 - oM 7 v552 v555 y9 j1)) 0 0 rfl)) (sum_four (fun a b => y10 (ix3 a j0 b)) (fun k => FloatOps.exp2 (F := Ideal) (φ := .f32) (kS y9 v552 k j1 - oM 7 v552 v555 y9 j1)) 512 4 rfl)) (sum_four (fun a b => y10 (ix3 a j0 b)) (fun k => FloatOps.exp2 (F := Ideal) (φ := .f32) (kS y9 v552 k j1 - oM 7 v552 v555 y9 j1)) 1024 8 rfl)) (sum_two' (fun a b => y10 (ix3 a j0 b)) (fun k => FloatOps.exp2 (F := Ideal) (φ := .f32) (kS y9 v552 k j1 - oM 7 v552 v555 y9 j1)) 1536 12 rfl)) ?_
  unfold accv
  rw [Finset.range_eq_Ico]
  have hsum : ∀ G : ℕ → EReal, ∑ k ∈ Finset.Ico 0 512, G k + ∑ k ∈ Finset.Ico 512 1024, G k + ∑ k ∈ Finset.Ico 1024 1536, G k + ∑ k ∈ Finset.Ico 1536 1792, G k = ∑ k ∈ Finset.Ico 0 (256 * 7), G k := fun G => by
    have h1024 := Finset.sum_Ico_consecutive G (Nat.zero_le 512) (show 512 ≤ 1024 by norm_num)
    have h1536 := Finset.sum_Ico_consecutive G (Nat.zero_le 1024) (show 1024 ≤ 1536 by norm_num)
    have h1792 := Finset.sum_Ico_consecutive G (Nat.zero_le 1536) (show 1536 ≤ 1792 by norm_num)
    show _ = ∑ k ∈ Finset.Ico 0 1792, G k
    rw [← h1792, ← h1536, ← h1024]
    try abel
  rw [← hsum]
  simp only [add_assoc]

end Cert.KernelIdeal.Exact
end
-- ==== Proof.Loads.lean ====
module

public import proofs.«01_k».proof.Proof.Acc

@[expose] public section
noncomputable section
namespace Cert.KernelIdeal.Exact
open Cert.KernelIdeal Cert.KernelIdeal.Gen
open Idealize.ShloMosaic Idealize.ShloMosaic.TcCoe

/-- A block of whole rows of the keys, loaded. -/
theorem rows_ld {n o : ℕ} (X : FVec Ideal S2048x128 .bf16) (inb : ∀ a, (![o, 0] : Fin 2 → ℕ) a + (![n, 128] : Fin 2 → ℕ) a ≤ S2048x128.size a) :
    Rows (n := n) (View.ld (Val := Elt Ideal) (e' := .bf16) X (Rect.unit (s := S2048x128) ![o, 0] ![n, 128] inb)) o X := fun r s => by
  have h : o + n ≤ 2048 := inb 0
  exact congrArg X (funext fun a => by
    fin_cases a
    · exact Fin.ext (by show o + 1 * r.val = (o + r.val) % 2048; have := r.isLt; omega)
    · exact Fin.ext (by show 0 + 1 * s.val = s.val; omega))

/-- One tile of the transposed values, loaded. -/
theorem tile_ld {o : ℕ} (X : FVec Ideal S16x128x128 .bf16) (inb : ∀ a, (![o, 0, 0] : Fin 3 → ℕ) a + (![1, 128, 128] : Fin 3 → ℕ) a ≤ S16x128x128.size a) :
    Tile (View.ld (Val := Elt Ideal) (e' := .bf16) X (Rect.unit (s := S16x128x128) ![o, 0, 0] ![1, 128, 128] inb)) o X := fun r s => by
  have h : o + 1 ≤ 16 := inb 0
  exact congrArg X (funext fun a => by
    fin_cases a
    · exact Fin.ext (by show o + 1 * 0 = o % 16; omega)
    · exact Fin.ext (by show 0 + 1 * r.val = r.val; omega)
    · exact Fin.ext (by show 0 + 1 * s.val = s.val; omega))

end Cert.KernelIdeal.Exact
end
-- ==== Proof.Scratch.lean ====
module

public import proofs.«01_k».proof.Proof.Loads
public import Idealize.ShloMosaic.Lib.VecWindow
public import Idealize.ShloMosaic.Lib.Writes
public import Idealize.ShloMosaic.Lib.Tactic.WordOmega

@[expose] public section
noncomputable section
namespace Cert.KernelIdeal.Exact
open Cert.KernelIdeal Cert.KernelIdeal.Gen
open Idealize.ShloMosaic Idealize.ShloMosaic.TcCoe
set_option maxRecDepth 16384

/-- The keys of the selected branch, with the one-hot lanes of their block beside them. -/
def Y9 (x4 : FVec Ideal S1x2048x256 .bf16) : FVec Ideal S2048x128 .bf16 :=
  k0_pay8 (k0_pay7 (View.ld (Val := Elt Ideal) (e' := .bf16) x4 (Rect.unit (s := S1x2048x256) ![0, 0, 0] S1x2048x128.size inb_S1x2048x256_S1x2048x128_0_0_0)))
/-- The transposed values of one branch, under 64 rows of ones; its lanes in the block start at `o`. -/
def Yv (o : ℕ) (x4 : FVec Ideal S1x2048x256 .bf16) : FVec Ideal S16x128x128 .bf16 := fun y =>
  if (y 1).val < 64 then (1 : EReal) else x4 (ix3 0 (Fin.ofNat 2048 (128 * (y 0).val + (y 2).val)) (Fin.ofNat 256 (o + (y 1).val)))
/-- The compressed blocks' offsets to the query positions. -/
def Y13 : IVec S128x1024 32 := k0_pay12 k0_pay10 k0_pay11

/-- What a tile's store holds. -/
theorem tile_val (x4 : FVec Ideal S1x2048x256 .bf16) (j o p : ℕ) (hj : j < 16) (hp : p = 128 * j) (inb : ∀ a, (![0, p, o] : Fin 3 → ℕ) a + (![1, 128, 128] : Fin 3 → ℕ) a ≤ S1x2048x256.size a)
    (s u : Fin 128) :
    k0_pay13 (F := Ideal) k0_pay91 (View.ld (Val := Elt Ideal) (e' := .bf16) x4 (Rect.unit (s := S1x2048x256) ![0, p, o] ![1, 128, 128] inb)) (ix3 0 s u)
      = Yv o x4 (ix3 (⟨j, hj⟩ : Fin 16) s u) := by
  generalize hb : (View.ld (Val := Elt Ideal) (e' := .bf16) x4 (Rect.unit (s := S1x2048x256) ![0, p, o] ![1, 128, 128] inb)) = b
  have e : k0_pay13 (F := Ideal) k0_pay91 b (ix3 0 s u) = if s.val < 64 then (1 : EReal) else b (ix3 0 u s) := by
    pointwise [k0_pay13, k0_pay91]
    have h : IntOp.cmpi .slt (BitVec.ofNat 32 s.val) 64#32 = BitVec.ofBool (decide (s.val < 64)) := by word_omega
    simp only [h]
    by_cases h2 : s.val < 64 <;> simp [h2, Scalar.select]
  rw [e]
  show _ = (if s.val < 64 then (1 : EReal) else _)
  by_cases h2 : s.val < 64
  · rw [if_pos h2, if_pos h2]
  · rw [if_neg h2, if_neg h2, ← hb]
    have h0 : p + 128 ≤ 2048 := inb 1
    have h1 : o + 128 ≤ 256 := inb 2
    exact congrArg x4 (funext fun a => by
      fin_cases a
      · rfl
      · exact Fin.ext (by show p + 1 * u.val = (128 * j + u.val) % 2048; have := u.isLt; omega)
      · exact Fin.ext (by show o + 1 * s.val = (o + s.val) % 256; have := s.isLt; omega))

section tiles
variable {sig' : RefSig} {κ' : Kind} {sp' : Space} (v : View sig' κ' sp' S16x128x128 .bf16) (f : v.ty.Contents (Elt Ideal)) (G : FVec Ideal S16x128x128 .bf16)

/-- A store of tile `j` that agrees with `G` there. -/
theorem piece_ok (j : ℕ) (hj : j < 16) (inb : ∀ a, (![j, 0, 0] : Fin 3 → ℕ) a + S1x128x128.size a ≤ S16x128x128.size a) (w : FVec Ideal S1x128x128 .bf16)
    (h : ∀ s u : Fin 128, w (ix3 0 s u) = G (ix3 (⟨j, hj⟩ : Fin 16) s u)) (x : S1x128x128.Idx) :
    w x = G ((Rect.unit (s := S16x128x128) ![j, 0, 0] S1x128x128.size inb).emb x) := by
  idx_vars x
  obtain rfl : x0 = 0 := Subsingleton.elim _ _
  rw [h]
  exact congrArg G (funext fun a => by
    fin_cases a
    · exact Fin.ext (by show j = j + 1 * 0; omega)
    · exact Fin.ext (by show x1.val = 0 + 1 * x1.val; omega)
    · exact Fin.ext (by show x2.val = 0 + 1 * x2.val; omega))

/-- An index of tile `j` lies in its rectangle. -/
theorem piece_mem (j : ℕ) (inb : ∀ a, (![j, 0, 0] : Fin 3 → ℕ) a + S1x128x128.size a ≤ S16x128x128.size a) (y : S16x128x128.Idx) (h : (y 0).val = j) :
    y ∈ (Rect.unit (s := S16x128x128) ![j, 0, 0] S1x128x128.size inb).set := by
  refine (LoadRect.mem_set _).mpr fun a => ?_
  fin_cases a
  · exact ⟨0, Nat.one_pos, by show (y 0).val = j + 1 * 0; omega⟩
  · exact ⟨(y 1).val, (y 1).isLt, by show (y 1).val = 0 + 1 * (y 1).val; omega⟩
  · exact ⟨(y 2).val, (y 2).isLt, by show (y 2).val = 0 + 1 * (y 2).val; omega⟩

/-- Sixteen tile stores, each agreeing with `G`, leave `G`. -/
theorem read_tiles (w0 w1 w2 w3 w4 w5 w6 w7 w8 w9 w10 w11 w12 w13 w14 w15 : FVec Ideal S1x128x128 .bf16)
    (h0 : ∀ s u : Fin 128, w0 (ix3 0 s u) = G (ix3 (⟨0, by omega⟩ : Fin 16) s u))
    (h1 : ∀ s u : Fin 128, w1 (ix3 0 s u) = G (ix3 (⟨1, by omega⟩ : Fin 16) s u))
    (h2 : ∀ s u : Fin 128, w2 (ix3 0 s u) = G (ix3 (⟨2, by omega⟩ : Fin 16) s u))
    (h3 : ∀ s u : Fin 128, w3 (ix3 0 s u) = G (ix3 (⟨3, by omega⟩ : Fin 16) s u))
    (h4 : ∀ s u : Fin 128, w4 (ix3 0 s u) = G (ix3 (⟨4, by omega⟩ : Fin 16) s u))
    (h5 : ∀ s u : Fin 128, w5 (ix3 0 s u) = G (ix3 (⟨5, by omega⟩ : Fin 16) s u))
    (h6 : ∀ s u : Fin 128, w6 (ix3 0 s u) = G (ix3 (⟨6, by omega⟩ : Fin 16) s u))
    (h7 : ∀ s u : Fin 128, w7 (ix3 0 s u) = G (ix3 (⟨7, by omega⟩ : Fin 16) s u))
    (h8 : ∀ s u : Fin 128, w8 (ix3 0 s u) = G (ix3 (⟨8, by omega⟩ : Fin 16) s u))
    (h9 : ∀ s u : Fin 128, w9 (ix3 0 s u) = G (ix3 (⟨9, by omega⟩ : Fin 16) s u))
    (h10 : ∀ s u : Fin 128, w10 (ix3 0 s u) = G (ix3 (⟨10, by omega⟩ : Fin 16) s u))
    (h11 : ∀ s u : Fin 128, w11 (ix3 0 s u) = G (ix3 (⟨11, by omega⟩ : Fin 16) s u))
    (h12 : ∀ s u : Fin 128, w12 (ix3 0 s u) = G (ix3 (⟨12, by omega⟩ : Fin 16) s u))
    (h13 : ∀ s u : Fin 128, w13 (ix3 0 s u) = G (ix3 (⟨13, by omega⟩ : Fin 16) s u))
    (h14 : ∀ s u : Fin 128, w14 (ix3 0 s u) = G (ix3 (⟨14, by omega⟩ : Fin 16) s u))
    (h15 : ∀ s u : Fin 128, w15 (ix3 0 s u) = G (ix3 (⟨15, by omega⟩ : Fin 16) s u))
    : v.read (Elt Ideal) (v.writes (Elt Ideal) f [⟨Rect.unit (s := S16x128x128) ![15, 0, 0] S1x128x128.size inb_S16x128x128_S1x128x128_15_0_0, w15⟩,
      ⟨Rect.unit (s := S16x128x128) ![14, 0, 0] S1x128x128.size inb_S16x128x128_S1x128x128_14_0_0, w14⟩,
      ⟨Rect.unit (s := S16x128x128) ![13, 0, 0] S1x128x128.size inb_S16x128x128_S1x128x128_13_0_0, w13⟩,
      ⟨Rect.unit (s := S16x128x128) ![12, 0, 0] S1x128x128.size inb_S16x128x128_S1x128x128_12_0_0, w12⟩,
      ⟨Rect.unit (s := S16x128x128) ![11, 0, 0] S1x128x128.size inb_S16x128x128_S1x128x128_11_0_0, w11⟩,
      ⟨Rect.unit (s := S16x128x128) ![10, 0, 0] S1x128x128.size inb_S16x128x128_S1x128x128_10_0_0, w10⟩,
      ⟨Rect.unit (s := S16x128x128) ![9, 0, 0] S1x128x128.size inb_S16x128x128_S1x128x128_9_0_0, w9⟩,
      ⟨Rect.unit (s := S16x128x128) ![8, 0, 0] S1x128x128.size inb_S16x128x128_S1x128x128_8_0_0, w8⟩,
      ⟨Rect.unit (s := S16x128x128) ![7, 0, 0] S1x128x128.size inb_S16x128x128_S1x128x128_7_0_0, w7⟩,
      ⟨Rect.unit (s := S16x128x128) ![6, 0, 0] S1x128x128.size inb_S16x128x128_S1x128x128_6_0_0, w6⟩,
      ⟨Rect.unit (s := S16x128x128) ![5, 0, 0] S1x128x128.size inb_S16x128x128_S1x128x128_5_0_0, w5⟩,
      ⟨Rect.unit (s := S16x128x128) ![4, 0, 0] S1x128x128.size inb_S16x128x128_S1x128x128_4_0_0, w4⟩,
      ⟨Rect.unit (s := S16x128x128) ![3, 0, 0] S1x128x128.size inb_S16x128x128_S1x128x128_3_0_0, w3⟩,
      ⟨Rect.unit (s := S16x128x128) ![2, 0, 0] S1x128x128.size inb_S16x128x128_S1x128x128_2_0_0, w2⟩,
      ⟨Rect.unit (s := S16x128x128) ![1, 0, 0] S1x128x128.size inb_S16x128x128_S1x128x128_1_0_0, w1⟩,
      ⟨Rect.unit (s := S16x128x128) ![0, 0, 0] S1x128x128.size inb_S16x128x128_S1x128x128_0_0_0, w0⟩]) = G := by
  funext y
  refine View.read_writes_apply_of_pieces v f G _ (fun p hp => ?_) y ?_
  · simp only [List.mem_cons, List.not_mem_nil, or_false] at hp
    rcases hp with rfl | rfl | rfl | rfl | rfl | rfl | rfl | rfl | rfl | rfl | rfl | rfl | rfl | rfl | rfl | rfl
    · exact piece_ok G 15 (by omega) inb_S16x128x128_S1x128x128_15_0_0 w15 h15
    · exact piece_ok G 14 (by omega) inb_S16x128x128_S1x128x128_14_0_0 w14 h14
    · exact piece_ok G 13 (by omega) inb_S16x128x128_S1x128x128_13_0_0 w13 h13
    · exact piece_ok G 12 (by omega) inb_S16x128x128_S1x128x128_12_0_0 w12 h12
    · exact piece_ok G 11 (by omega) inb_S16x128x128_S1x128x128_11_0_0 w11 h11
    · exact piece_ok G 10 (by omega) inb_S16x128x128_S1x128x128_10_0_0 w10 h10
    · exact piece_ok G 9 (by omega) inb_S16x128x128_S1x128x128_9_0_0 w9 h9
    · exact piece_ok G 8 (by omega) inb_S16x128x128_S1x128x128_8_0_0 w8 h8
    · exact piece_ok G 7 (by omega) inb_S16x128x128_S1x128x128_7_0_0 w7 h7
    · exact piece_ok G 6 (by omega) inb_S16x128x128_S1x128x128_6_0_0 w6 h6
    · exact piece_ok G 5 (by omega) inb_S16x128x128_S1x128x128_5_0_0 w5 h5
    · exact piece_ok G 4 (by omega) inb_S16x128x128_S1x128x128_4_0_0 w4 h4
    · exact piece_ok G 3 (by omega) inb_S16x128x128_S1x128x128_3_0_0 w3 h3
    · exact piece_ok G 2 (by omega) inb_S16x128x128_S1x128x128_2_0_0 w2 h2
    · exact piece_ok G 1 (by omega) inb_S16x128x128_S1x128x128_1_0_0 w1 h1
    · exact piece_ok G 0 (by omega) inb_S16x128x128_S1x128x128_0_0_0 w0 h0
  · have hy : (y 0).val < 16 := (y 0).isLt
    have hc : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
    simp only [List.mem_cons, List.not_mem_nil, or_false, exists_eq_or_imp, exists_eq_left]
    rcases hc with h | h | h | h | h | h | h | h | h | h | h | h | h | h | h | h
    · exact Or.inr (Or.inr (Or.inr (Or.inr (Or.inr (Or.inr (Or.inr (Or.inr (Or.inr (Or.inr (Or.inr (Or.inr (Or.inr (Or.inr (Or.inr (piece_mem 0 inb_S16x128x128_S1x128x128_0_0_0 y h)))))))))))))))
    · exact Or.inr (Or.inr (Or.inr (Or.inr (Or.inr (Or.inr (Or.inr (Or.inr (Or.inr (Or.inr (Or.inr (Or.inr (Or.inr (Or.inr (Or.inl (piece_mem 1 inb_S16x128x128_S1x128x128_1_0_0 y h)))))))))))))))
    · exact Or.inr (Or.inr (Or.inr (Or.inr (Or.inr (Or.inr (Or.inr (Or.inr (Or.inr (Or.inr (Or.inr (Or.inr (Or.inr (Or.inl (piece_mem 2 inb_S16x128x128_S1x128x128_2_0_0 y h))))))))))))))
    · exact Or.inr (Or.inr (Or.inr (Or.inr (Or.inr (Or.inr (Or.inr (Or.inr (Or.inr (Or.inr (Or.inr (Or.inr (Or.inl (piece_mem 3 inb_S16x128x128_S1x128x128_3_0_0 y h)))))))))))))
    · exact Or.inr (Or.inr (Or.inr (Or.inr (Or.inr (Or.inr (Or.inr (Or.inr (Or.inr (Or.inr (Or.inr (Or.inl (piece_mem 4 inb_S16x128x128_S1x128x128_4_0_0 y h))))))))))))
    · exact Or.inr (Or.inr (Or.inr (Or.inr (Or.inr (Or.inr (Or.inr (Or.inr (Or.inr (Or.inr (Or.inl (piece_mem 5 inb_S16x128x128_S1x128x128_5_0_0 y h)))))))))))
    · exact Or.inr (Or.inr (Or.inr (Or.inr (Or.inr (Or.inr (Or.inr (Or.inr (Or.inr (Or.inl (piece_mem 6 inb_S16x128x128_S1x128x128_6_0_0 y h))))))))))
    · exact Or.inr (Or.inr (Or.inr (Or.inr (Or.inr (Or.inr (Or.inr (Or.inr (Or.inl (piece_mem 7 inb_S16x128x128_S1x128x128_7_0_0 y h)))))))))
    · exact Or.inr (Or.inr (Or.inr (Or.inr (Or.inr (Or.inr (Or.inr (Or.inl (piece_mem 8 inb_S16x128x128_S1x128x128_8_0_0 y h))))))))
    · exact Or.inr (Or.inr (Or.inr (Or.inr (Or.inr (Or.inr (Or.inl (piece_mem 9 inb_S16x128x128_S1x128x128_9_0_0 y h)))))))
    · exact Or.inr (Or.inr (Or.inr (Or.inr (Or.inr (Or.inl (piece_mem 10 inb_S16x128x128_S1x128x128_10_0_0 y h))))))
    · exact Or.inr (Or.inr (Or.inr (Or.inr (Or.inl (piece_mem 11 inb_S16x128x128_S1x128x128_11_0_0 y h)))))
    · exact Or.inr (Or.inr (Or.inr (Or.inl (piece_mem 12 inb_S16x128x128_S1x128x128_12_0_0 y h))))
    · exact Or.inr (Or.inr (Or.inl (piece_mem 13 inb_S16x128x128_S1x128x128_13_0_0 y h)))
    · exact Or.inr (Or.inl (piece_mem 14 inb_S16x128x128_S1x128x128_14_0_0 y h))
    · exact Or.inl (piece_mem 15 inb_S16x128x128_S1x128x128_15_0_0 y h)

end tiles

end Cert.KernelIdeal.Exact
end
-- ==== Proof.ExactSwitch.lean ====
module

public import proofs.«01_k».proof.Proof.Gen.KernelIdeal.Frame
public import proofs.«01_k».proof.Proof.Gen.KernelIdeal.Loops
public import proofs.«01_k».proof.Proof.Loads
public import Idealize.ShloMosaic.Lib.VecWindow
public import Idealize.ShloMosaic.Lib.Writes

@[expose] public section
noncomputable section
namespace Cert.KernelIdeal.Exact
open Cert.KernelIdeal Cert.KernelIdeal.Gen
open Idealize.ShloMosaic Idealize.ShloMosaic.TcCoe Idealize.ShloMosaic.Tactic
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384
local notation "𝕄" => MT nD τ sig Unit (Elt Ideal) ℕ (UR sig nD τ) ℕ

abbrev Bf (c : Dev nD) {sp : Space} {S : Shape} {e : EltTy} (M : Memref sig .tc sp S e) : Type := Buf (Elt Ideal) (M.view.loc (c : Thread nD τ))
abbrev pt (c : Dev nD) {sp : Space} {S : Shape} {e : EltTy} (M : Memref sig .tc sp S e) (f : Bf c M) : sProp 𝕄 :=
  M.view.loc (c : Thread nD τ) ↦[M.view.set]{fullShare} f

variable (c : Dev nD) (i : grid0.Coords) (arg3 : Memref sig .tc .vmem S1x256x256 .bf16) (harg3 : arg3.IsWhole) (arg4 : Memref sig .tc .vmem S1x2048x256 .bf16) (harg4 : arg4.IsWhole) (arg5 : Memref sig .tc .vmem S1x1x128x128 .f32) (harg5 : arg5.IsWhole) (arg6 : Memref sig .tc .vmem S1x256x128 .f32) (harg6 : arg6.IsWhole) (arg7 : Memref sig .tc .vmem S32x128 .bf16) (harg7 : arg7.IsWhole) (arg8 : Memref sig .tc .vmem S1x256x256 .bf16) (harg8 : arg8.IsWhole) (arg9 : Memref sig .tc .vmem S2048x128 .bf16) (harg9 : arg9.IsWhole) (arg10 : Memref sig .tc .vmem S16x128x128 .bf16) (harg10 : arg10.IsWhole) (arg11 : Memref sig .tc .vmem S16x128x128 .bf16) (harg11 : arg11.IsWhole) (arg12 : Memref sig .tc .vmem S768x1024 .i32) (harg12 : arg12.IsWhole) (arg13 : Memref sig .tc .vmem S128x1024 .i32) (harg13 : arg13.IsWhole)
  (f3 : Bf c arg3) (f4 : Bf c arg4) (f5 : Bf c arg5) (f6 : Bf c arg6) (f7 : Bf c arg7) (f8 : Bf c arg8) (f9 : Bf c arg9) (f10 : Bf c arg10) (f11 : Bf c arg11) (f12 : Bf c arg12) (f13 : Bf c arg13)

/-- Every switch word the kernel can meet is one of eight. -/
theorem word_cases (n : Fin 8) : (BitVec.ofNat 32 n.val = 0#32 ∨ BitVec.ofNat 32 n.val = 1#32 ∨ BitVec.ofNat 32 n.val = 2#32 ∨ BitVec.ofNat 32 n.val = 3#32 ∨
    BitVec.ofNat 32 n.val = 4#32 ∨ BitVec.ofNat 32 n.val = 5#32 ∨ BitVec.ofNat 32 n.val = 6#32 ∨ BitVec.ofNat 32 n.val = 7#32) := by
  revert n; decide

set_option maxHeartbeats 4000000 in
/-- The switch: whichever of the eight cases is taken, the selected branch has gathered the keys up to the query tile's own. -/
theorem run39 (w : BitVec 32) (hw : w = 0#32 ∨ w = 1#32 ∨ w = 2#32 ∨ w = 3#32 ∨ w = 4#32 ∨ w = 5#32 ∨ w = 6#32 ∨ w = 7#32) (v59 : FVec Ideal S128x1024 .f32) (v552 : FVec Ideal S1024x128 .bf16) (v555 : IVec S256x1024 1) (v675 : FVec Ideal S128x1024 .f32) :
    iprop(pt c arg6 f6 ∗ pt c arg9 f9 ∗ pt c arg10 f10)
    ⊢ wp frame (wpE (defs₀ (F := Ideal)) Variants.none (c : Thread nD τ) none) Set.univ
        (k0_part39 i arg3 harg3 arg4 harg4 arg5 harg5 arg6 harg6 arg7 harg7 arg8 harg8 arg9 harg9 arg10 harg10 arg11 harg11 arg12 harg12 arg13 harg13 w v59 v552 v555 v675 0#32)
        (fun r => iprop(⌜r = ⟨k0_pay159 (arg6.view.read (Elt Ideal) f6), k0_pay160 v59 v675 (ACC w.toNat v552 v555 (arg9.view.read (Elt Ideal) f9) (arg10.view.read (Elt Ideal) f10)) (arg6.view.read (Elt Ideal) f6), k0_pay161 v59 v675 (ACC w.toNat v552 v555 (arg9.view.read (Elt Ideal) f9) (arg10.view.read (Elt Ideal) f10)) (arg6.view.read (Elt Ideal) f6)⟩⌝ ∗ pt c arg6 f6 ∗ pt c arg9 f9 ∗ pt c arg10 f10)) := by
  rw [k0_part39_eq_skeleton]; unfold k0_part39_skel
  rcases hw with rfl | rfl | rfl | rfl | rfl | rfl | rfl | rfl
  · iintro ⟨H6, H9, H10⟩
    sl_exec (disch := decide)
    sl_step
    isplitr
    · ipureintro
      rw [View.readAt_full arg6.view f6 inb_S1x256x128_S1x256x128_0_0_0, show BitVec.toNat 0#32 = 0 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc0 _ _ _ _ _ (rows_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 1#32 = 1 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc1 _ _ _ _ _ (rows_ld _ _) _ (rows_ld _ _) _ (tile_ld _ _) _ (tile_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 2#32 = 2 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc2 _ _ _ _ _ (rows_ld _ _) _ (rows_ld _ _) _ (tile_ld _ _) _ (tile_ld _ _) _ (tile_ld _ _) _ (tile_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 3#32 = 3 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc3 _ _ _ _ _ (rows_ld _ _) _ (rows_ld _ _) _ (rows_ld _ _) _ (tile_ld _ _) _ (tile_ld _ _) _ (tile_ld _ _) _ (tile_ld _ _) _ (tile_ld _ _) _ (tile_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 4#32 = 4 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc4 _ _ _ _ _ (rows_ld _ _) _ (rows_ld _ _) _ (rows_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 5#32 = 5 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc5 _ _ _ _ _ (rows_ld _ _) _ (rows_ld _ _) _ (rows_ld _ _) _ (rows_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 6#32 = 6 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc6 _ _ _ _ _ (rows_ld _ _) _ (rows_ld _ _) _ (rows_ld _ _) _ (rows_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _)
    · sl_close
  · iintro ⟨H6, H9, H10⟩
    sl_exec (disch := decide)
    sl_step
    isplitr
    · ipureintro
      rw [View.readAt_full arg6.view f6 inb_S1x256x128_S1x256x128_0_0_0, show BitVec.toNat 7#32 = 7 from rfl]
      refine congrArg (fun A => (⟨k0_pay159 (arg6.view.read (Elt Ideal) f6), k0_pay160 v59 v675 A (arg6.view.read (Elt Ideal) f6), k0_pay161 v59 v675 A (arg6.view.read (Elt Ideal) f6)⟩ : Σ' (_ : FVec Ideal S128x256 .f32) (_ : FVec Ideal S128x1024 .f32), FVec Ideal S1 .f32)) ?_
      exact acc7 _ _ _ _ _ (rows_ld _ _) _ (rows_ld _ _) _ (rows_ld _ _) _ (rows_ld _ _) _ (rows_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _) _ (tile_ld _ _)
    · sl_close

end Cert.KernelIdeal.Exact
end
-- ==== Proof.ExactInit.lean ====
module

public import proofs.«01_k».proof.Proof.Gen.KernelIdeal.Frame
public import proofs.«01_k».proof.Proof.Gen.KernelIdeal.Loops
public import proofs.«01_k».proof.Proof.Scratch
public import proofs.«01_k».proof.Proof.ExactSwitch
public import Idealize.ShloMosaic.Lib.VecWindow
public import Idealize.ShloMosaic.Lib.Writes

@[expose] public section
noncomputable section
namespace Cert.KernelIdeal.Exact
open Cert.KernelIdeal Cert.KernelIdeal.Gen
open Idealize.ShloMosaic Idealize.ShloMosaic.TcCoe Idealize.ShloMosaic.Tactic
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384
local notation "𝕄" => MT nD τ sig Unit (Elt Ideal) ℕ (UR sig nD τ) ℕ

variable (c : Dev nD) (i : grid0.Coords) (arg3 : Memref sig .tc .vmem S1x256x256 .bf16) (harg3 : arg3.IsWhole) (arg4 : Memref sig .tc .vmem S1x2048x256 .bf16) (harg4 : arg4.IsWhole) (arg5 : Memref sig .tc .vmem S1x1x128x128 .f32) (harg5 : arg5.IsWhole) (arg6 : Memref sig .tc .vmem S1x256x128 .f32) (harg6 : arg6.IsWhole) (arg7 : Memref sig .tc .vmem S32x128 .bf16) (harg7 : arg7.IsWhole) (arg8 : Memref sig .tc .vmem S1x256x256 .bf16) (harg8 : arg8.IsWhole) (arg9 : Memref sig .tc .vmem S2048x128 .bf16) (harg9 : arg9.IsWhole) (arg10 : Memref sig .tc .vmem S16x128x128 .bf16) (harg10 : arg10.IsWhole) (arg11 : Memref sig .tc .vmem S16x128x128 .bf16) (harg11 : arg11.IsWhole) (arg12 : Memref sig .tc .vmem S768x1024 .i32) (harg12 : arg12.IsWhole) (arg13 : Memref sig .tc .vmem S128x1024 .i32) (harg13 : arg13.IsWhole)
  (f3 : Bf c arg3) (f4 : Bf c arg4) (f5 : Bf c arg5) (f6 : Bf c arg6) (f7 : Bf c arg7) (f8 : Bf c arg8) (f9 : Bf c arg9) (f10 : Bf c arg10) (f11 : Bf c arg11) (f12 : Bf c arg12) (f13 : Bf c arg13)

/-- What the scratch holds once a batch and group's first point has filled it. -/
def Scr (x4 : FVec Ideal S1x2048x256 .bf16) (y9 : FVec Ideal S2048x128 .bf16) (y10 y11 : FVec Ideal S16x128x128 .bf16) (y12 : IVec S768x1024 32) (y13 : IVec S128x1024 32) : Prop :=
  y9 = Y9 x4 ∧ y10 = Yv 0 x4 ∧ y11 = Yv 128 x4 ∧ y12 = k0_pay9 ∧ y13 = Y13

set_option maxHeartbeats 8000000 in
/-- The prologue: the first point of a batch and group fills the scratch, the others find it filled. -/
theorem run24 (hS : ¬ (Scalar.cmpi .ne (Scalar.extui (Scalar.cmpi .eq (BitVec.ofNat 32 (i 2).val) 0#32) : BitVec 32) 0#32 = 1#1) →
      Scr (arg4.view.read (Elt Ideal) f4) (arg9.view.read (Elt Ideal) f9) (arg10.view.read (Elt Ideal) f10) (arg11.view.read (Elt Ideal) f11) (arg12.view.read (Elt Ideal) f12) (arg13.view.read (Elt Ideal) f13)) :
    iprop(pt c arg3 f3 ∗ pt c arg4 f4 ∗ pt c arg5 f5 ∗ pt c arg9 f9 ∗ pt c arg10 f10 ∗ pt c arg11 f11 ∗ pt c arg12 f12 ∗ pt c arg13 f13)
    ⊢ wp frame (wpE (defs₀ (F := Ideal)) Variants.none (c : Thread nD τ) none) Set.univ
        (k0_part24 i arg3 harg3 arg4 harg4 arg5 harg5 arg6 harg6 arg7 harg7 arg8 harg8 arg9 harg9 arg10 harg10 arg11 harg11 arg12 harg12 arg13 harg13)
        (fun r => iprop(⌜r.1 = 0#32 ∨ r.1 = 1#32 ∨ r.1 = 2#32 ∨ r.1 = 3#32 ∨ r.1 = 4#32 ∨ r.1 = 5#32 ∨ r.1 = 6#32 ∨ r.1 = 7#32⌝ ∗ ⌜r = ⟨BitVec.ofNat 32 (i 2).val, Scalar.muli (BitVec.ofNat 32 (i 2).val) 256#32, k0_pay95, k0_pay96 (arg3.view.read (Elt Ideal) f3), k0_pay97 (arg3.view.read (Elt Ideal) f3), k0_pay98, k0_pay99, k0_pay100 (arg5.view.read (Elt Ideal) f5), k0_pay101 (arg5.view.read (Elt Ideal) f5), constant S128x1024 .f32 0x00000000#32⟩⌝ ∗ pt c arg3 f3 ∗ pt c arg4 f4 ∗ pt c arg5 f5
          ∗ (∃ f, pt c arg9 f ∗ ⌜(arg9.view.read (Elt Ideal) f) = Y9 (arg4.view.read (Elt Ideal) f4)⌝) ∗ (∃ f, pt c arg10 f ∗ ⌜(arg10.view.read (Elt Ideal) f) = Yv 0 (arg4.view.read (Elt Ideal) f4)⌝) ∗ (∃ f, pt c arg11 f ∗ ⌜(arg11.view.read (Elt Ideal) f) = Yv 128 (arg4.view.read (Elt Ideal) f4)⌝)
          ∗ (∃ f, pt c arg12 f ∗ ⌜(arg12.view.read (Elt Ideal) f) = k0_pay9⌝) ∗ ∃ f, pt c arg13 f ∗ ⌜(arg13.view.read (Elt Ideal) f) = Y13⌝)) := by
  rw [k0_part24_eq_skeleton]; unfold k0_part24_skel
  have hwd := word_cases (i 2)
  by_cases h : Scalar.cmpi .ne (Scalar.extui (Scalar.cmpi .eq (BitVec.ofNat 32 (i 2).val) 0#32) : BitVec 32) 0#32 = 1#1
  · clear hS
    iintro ⟨H3, H4, H5, H9, H10, H11, H12, H13⟩
    sl_exec
    sl_step
    isplitr
    · ipureintro; exact hwd
    isplitr
    · ipureintro
      rw [View.readAt_full arg3.view f3 inb_S1x256x256_S1x256x256_0_0_0, View.readAt_full arg5.view f5 inb_S1x1x128x128_S1x1x128x128_0_0_0_0]
      rfl
    isplitl [H3]; · iexact H3
    isplitl [H4]; · iexact H4
    isplitl [H5]; · iexact H5
    isplitl [H9]
    · iexists _
      isplitl [H9]; · iexact H9
      ipureintro
      exact View.read_writes_full arg9.view f9 inb_S2048x128_S2048x128_0_0 _ []
    isplitl [H10]
    · iexists _
      isplitl [H10]; · iexact H10
      ipureintro
      exact read_tiles arg10.view f10 (Yv 0 (arg4.view.read (Elt Ideal) f4)) _ _ _ _ _ _ _ _ _ _ _ _ _ _ _ _ (fun s u => tile_val (arg4.view.read (Elt Ideal) f4) 0 0 0 (by omega) rfl inb_S1x2048x256_S1x128x128_0_0_0 s u) (fun s u => tile_val (arg4.view.read (Elt Ideal) f4) 1 0 128 (by omega) rfl inb_S1x2048x256_S1x128x128_0_128_0 s u) (fun s u => tile_val (arg4.view.read (Elt Ideal) f4) 2 0 256 (by omega) rfl inb_S1x2048x256_S1x128x128_0_256_0 s u) (fun s u => tile_val (arg4.view.read (Elt Ideal) f4) 3 0 384 (by omega) rfl inb_S1x2048x256_S1x128x128_0_384_0 s u) (fun s u => tile_val (arg4.view.read (Elt Ideal) f4) 4 0 512 (by omega) rfl inb_S1x2048x256_S1x128x128_0_512_0 s u) (fun s u => tile_val (arg4.view.read (Elt Ideal) f4) 5 0 640 (by omega) rfl inb_S1x2048x256_S1x128x128_0_640_0 s u) (fun s u => tile_val (arg4.view.read (Elt Ideal) f4) 6 0 768 (by omega) rfl inb_S1x2048x256_S1x128x128_0_768_0 s u) (fun s u => tile_val (arg4.view.read (Elt Ideal) f4) 7 0 896 (by omega) rfl inb_S1x2048x256_S1x128x128_0_896_0 s u) (fun s u => tile_val (arg4.view.read (Elt Ideal) f4) 8 0 1024 (by omega) rfl inb_S1x2048x256_S1x128x128_0_1024_0 s u) (fun s u => tile_val (arg4.view.read (Elt Ideal) f4) 9 0 1152 (by omega) rfl inb_S1x2048x256_S1x128x128_0_1152_0 s u) (fun s u => tile_val (arg4.view.read (Elt Ideal) f4) 10 0 1280 (by omega) rfl inb_S1x2048x256_S1x128x128_0_1280_0 s u) (fun s u => tile_val (arg4.view.read (Elt Ideal) f4) 11 0 1408 (by omega) rfl inb_S1x2048x256_S1x128x128_0_1408_0 s u) (fun s u => tile_val (arg4.view.read (Elt Ideal) f4) 12 0 1536 (by omega) rfl inb_S1x2048x256_S1x128x128_0_1536_0 s u) (fun s u => tile_val (arg4.view.read (Elt Ideal) f4) 13 0 1664 (by omega) rfl inb_S1x2048x256_S1x128x128_0_1664_0 s u) (fun s u => tile_val (arg4.view.read (Elt Ideal) f4) 14 0 1792 (by omega) rfl inb_S1x2048x256_S1x128x128_0_1792_0 s u) (fun s u => tile_val (arg4.view.read (Elt Ideal) f4) 15 0 1920 (by omega) rfl inb_S1x2048x256_S1x128x128_0_1920_0 s u)
    isplitl [H11]
    · iexists _
      isplitl [H11]; · iexact H11
      ipureintro
      exact read_tiles arg11.view f11 (Yv 128 (arg4.view.read (Elt Ideal) f4)) _ _ _ _ _ _ _ _ _ _ _ _ _ _ _ _ (fun s u => tile_val (arg4.view.read (Elt Ideal) f4) 0 128 0 (by omega) rfl inb_S1x2048x256_S1x128x128_0_0_128 s u) (fun s u => tile_val (arg4.view.read (Elt Ideal) f4) 1 128 128 (by omega) rfl inb_S1x2048x256_S1x128x128_0_128_128 s u) (fun s u => tile_val (arg4.view.read (Elt Ideal) f4) 2 128 256 (by omega) rfl inb_S1x2048x256_S1x128x128_0_256_128 s u) (fun s u => tile_val (arg4.view.read (Elt Ideal) f4) 3 128 384 (by omega) rfl inb_S1x2048x256_S1x128x128_0_384_128 s u) (fun s u => tile_val (arg4.view.read (Elt Ideal) f4) 4 128 512 (by omega) rfl inb_S1x2048x256_S1x128x128_0_512_128 s u) (fun s u => tile_val (arg4.view.read (Elt Ideal) f4) 5 128 640 (by omega) rfl inb_S1x2048x256_S1x128x128_0_640_128 s u) (fun s u => tile_val (arg4.view.read (Elt Ideal) f4) 6 128 768 (by omega) rfl inb_S1x2048x256_S1x128x128_0_768_128 s u) (fun s u => tile_val (arg4.view.read (Elt Ideal) f4) 7 128 896 (by omega) rfl inb_S1x2048x256_S1x128x128_0_896_128 s u) (fun s u => tile_val (arg4.view.read (Elt Ideal) f4) 8 128 1024 (by omega) rfl inb_S1x2048x256_S1x128x128_0_1024_128 s u) (fun s u => tile_val (arg4.view.read (Elt Ideal) f4) 9 128 1152 (by omega) rfl inb_S1x2048x256_S1x128x128_0_1152_128 s u) (fun s u => tile_val (arg4.view.read (Elt Ideal) f4) 10 128 1280 (by omega) rfl inb_S1x2048x256_S1x128x128_0_1280_128 s u) (fun s u => tile_val (arg4.view.read (Elt Ideal) f4) 11 128 1408 (by omega) rfl inb_S1x2048x256_S1x128x128_0_1408_128 s u) (fun s u => tile_val (arg4.view.read (Elt Ideal) f4) 12 128 1536 (by omega) rfl inb_S1x2048x256_S1x128x128_0_1536_128 s u) (fun s u => tile_val (arg4.view.read (Elt Ideal) f4) 13 128 1664 (by omega) rfl inb_S1x2048x256_S1x128x128_0_1664_128 s u) (fun s u => tile_val (arg4.view.read (Elt Ideal) f4) 14 128 1792 (by omega) rfl inb_S1x2048x256_S1x128x128_0_1792_128 s u) (fun s u => tile_val (arg4.view.read (Elt Ideal) f4) 15 128 1920 (by omega) rfl inb_S1x2048x256_S1x128x128_0_1920_128 s u)
    isplitl [H12]
    · iexists _
      isplitl [H12]; · iexact H12
      ipureintro
      exact View.read_writes_full arg12.view f12 inb_S768x1024_S768x1024_0_0 _ []
    · iexists _
      isplitl [H13]; · iexact H13
      ipureintro
      exact (View.read_writes_full arg13.view f13 inb_S128x1024_S128x1024_0_0 _ []).trans rfl
  · obtain ⟨h9, h10, h11, h12, h13⟩ := hS h
    iintro ⟨H3, H4, H5, H9, H10, H11, H12, H13⟩
    sl_exec
    sl_step
    isplitr
    · ipureintro; exact hwd
    isplitr
    · ipureintro
      rw [View.readAt_full arg3.view f3 inb_S1x256x256_S1x256x256_0_0_0, View.readAt_full arg5.view f5 inb_S1x1x128x128_S1x1x128x128_0_0_0_0]
      rfl
    isplitl [H3]; · iexact H3
    isplitl [H4]; · iexact H4
    isplitl [H5]; · iexact H5
    isplitl [H9]
    · iexists _; isplitl [H9]; · iexact H9
      ipureintro; exact h9
    isplitl [H10]
    · iexists _; isplitl [H10]; · iexact H10
      ipureintro; exact h10
    isplitl [H11]
    · iexists _; isplitl [H11]; · iexact H11
      ipureintro; exact h11
    isplitl [H12]
    · iexists _; isplitl [H12]; · iexact H12
      ipureintro; exact h12
    · iexists _; isplitl [H13]; · iexact H13
      ipureintro; exact h13

end Cert.KernelIdeal.Exact
end
-- ==== Proof.BodyVal.lean ====
module

public import proofs.«01_k».proof.Proof.ExactInit

@[expose] public section
noncomputable section
namespace Cert.KernelIdeal.Exact
open Cert.KernelIdeal Cert.KernelIdeal.Gen
open Idealize.ShloMosaic Idealize.ShloMosaic.TcCoe
set_option maxRecDepth 16384

/-! The vectors the body computes, as functions of what it loads. -/

variable (i : grid0.Coords) (v0 : BitVec 32) (v27 : FVec Ideal S1024x128 .f32) (v28 : FVec Ideal S1024x128 .bf16) (v32 : FVec Ideal S128x128 .f32)
  (v33 : FVec Ideal S128x128 .bf16) (v29 : FVec Ideal S1x1024 .f32) (v30 : FVec Ideal S128x1024 .f32)
  (x4 : FVec Ideal S1x2048x256 .bf16) (x6 : FVec Ideal S1x256x128 .f32) (x7 : FVec Ideal S32x128 .bf16) (cst : FVec Ideal S128x1024 .f32)
  (y9 : FVec Ideal S2048x128 .bf16) (y10 y11 : FVec Ideal S16x128x128 .bf16) (y12 : IVec S768x1024 32) (y13 : IVec S128x1024 32)

/-- The compressed offsets, loaded. -/
def L35 : IVec S128x1024 32 := (View.ld (Val := Elt Ideal) (e' := .i32) y13 (Rect.unit (s := S128x1024) ![0, 0] S128x1024.size inb_S128x1024_S128x1024_0_0))
/-- The overlap matrix, loaded. -/
def L74 : FVec Ideal S32x128 .bf16 := (View.ld (Val := Elt Ideal) (e' := .bf16) x7 (Rect.unit (s := S32x128) ![0, 0] S32x128.size inb_S32x128_S32x128_0_0))
/-- The compressed branch's output. -/
def W59 : FVec Ideal S128x1024 .f32 := k0_pay103 v0 v28 v32 v33 cst (L35 y13)
/-- The row numbers of the importance. -/
def W81 : IVec S32x256 32 := iota .tc S32x256 32 [0] iota_S32x256_d0_w32
/-- The blocks' importance, masked. -/
def W123 : FVec Ideal S32x256 .f32 :=
  k0_pay111 v0 (k0_pay108 v0 v28 v33 cst (L35 y13)) (k0_pay109 (L74 x7)) (k0_pay110 v0 v28 v33 cst (L35 y13) (L74 x7)) (constant S32x256 .f32 0x00000000#32)
/-- The ranks' first part: the rows it compares with are 0 … 29. -/
def rankA (v81 : IVec S32x256 32) (v123 : FVec Ideal S32x256 .f32) (v125 : FVec Ideal S1x256 .f32) : FVec Ideal S32x256 .f32 :=
  k0_pay138 v81 v123 (k0_pay134 v81 v123 (k0_pay130 v81 v123 (k0_pay127 v81 v123 (k0_pay125 v81 v123 (k0_pay121 v81 v123
    (k0_pay117 v81 v123 (k0_pay114 v81 v123 k0_pay112 v125) (k0_pay115 v81 v123) (Scalar.ofBits .f32 0x00000000#32) k0_pay116)
    (k0_pay119 v123) (k0_pay120 v81 v123)) (k0_pay123 v123) (k0_pay124 v123)) (k0_pay126 v123))
    (k0_pay128 v81 v123) (Scalar.ofBits .f32 0x00000000#32) k0_pay129) (k0_pay132 v123) (k0_pay133 v81 v123)) (k0_pay136 v123) (k0_pay137 v123)
/-- The same of the importance. -/
def W514 : FVec Ideal S32x256 .f32 := rankA W81 (W123 v0 v28 v33 x7 cst y13)
  (k0_pay113 v0 (k0_pay108 v0 v28 v33 cst (L35 y13)) (k0_pay109 (L74 x7)) (k0_pay110 v0 v28 v33 cst (L35 y13) (L74 x7)) (constant S32x256 .f32 0x00000000#32))
/-- The selected branch's queries, the bias beside them. -/
def W552 : FVec Ideal S1024x128 .bf16 :=
  k0_pay140 v27 W81 (W123 v0 v28 v33 x7 cst y13) (W514 v0 v28 v33 x7 cst y13) (k0_pay139 (W123 v0 v28 v33 x7 cst y13))
/-- The own tile's mask. -/
def W555 : IVec S256x1024 1 := k0_pay141 (View.ld (Val := Elt Ideal) (e' := .i32) y12 (Rect.unit (s := S768x1024) ![0, 0] S256x1024.size inb_S768x1024_S256x1024_0_0))
/-- The own tile's window maximum. -/
def W574 : FVec Ideal S1x1024 .f32 := k0_pay144 v28 (W555 y12) (k0_pay142 (View.ld (Val := Elt Ideal) (e' := .bf16) x4 (Rect.unit (s := S1x2048x256) (k0_off1 i) S1x256x128.size (k0_off1_inb i))))
/-- The window's sums over the own tile. -/
def W579 : FVec Ideal S128x1024 .f32 := k0_pay145 v28 (W555 y12) (k0_pay142 (View.ld (Val := Elt Ideal) (e' := .bf16) x4 (Rect.unit (s := S1x2048x256) (k0_off1 i) S1x256x128.size (k0_off1_inb i))))
  (View.ld (Val := Elt Ideal) (e' := .bf16) y11 (Rect.unit (s := S16x128x128) (k0_off2 i 0#32) S1x128x128.size (k0_off2_inb i 0))) (View.ld (Val := Elt Ideal) (e' := .bf16) y11 (Rect.unit (s := S16x128x128) (k0_off2 i 1#32) S1x128x128.size (k0_off2_inb i 1)))
/-- The window's sums over the own tile and the one before. -/
def W627 : FVec Ideal S128x1024 .f32 := k0_pay148 (W574 i v28 x4 y12) (W579 i v28 x4 y11 y12) (k0_pay146 v0 (View.ld (Val := Elt Ideal) (e' := .i32) y12 (Rect.unit (s := S768x1024) ![0, 0] S256x1024.size inb_S768x1024_S256x1024_0_0)))
  (k0_pay147 v28 (View.ld (Val := Elt Ideal) (e' := .bf16) x4 (Rect.unit (s := S1x2048x256) (k0_off3 i 256#32) S1x256x128.size (k0_off3_inb i 0)))) (View.ld (Val := Elt Ideal) (e' := .bf16) y11 (Rect.unit (s := S16x128x128) (k0_off4 i 256#32 0#32) S1x128x128.size (k0_off4_inb i 0 0))) (View.ld (Val := Elt Ideal) (e' := .bf16) y11 (Rect.unit (s := S16x128x128) (k0_off4 i 256#32 1#32) S1x128x128.size (k0_off4_inb i 0 1)))
/-- The window's sums over its three tiles. -/
def W675 : FVec Ideal S128x1024 .f32 := k0_pay150 v28 (W574 i v28 x4 y12) (W627 i v0 v28 x4 y11 y12) (k0_pay149 v0 (View.ld (Val := Elt Ideal) (e' := .i32) y12 (Rect.unit (s := S768x1024) ![0, 0] S256x1024.size inb_S768x1024_S256x1024_0_0))) 512#32
  (View.ld (Val := Elt Ideal) (e' := .bf16) x4 (Rect.unit (s := S1x2048x256) (k0_off3 i 512#32) S1x256x128.size (k0_off3_inb i 1))) (View.ld (Val := Elt Ideal) (e' := .bf16) y11 (Rect.unit (s := S16x128x128) (k0_off4 i 512#32 0#32) S1x128x128.size (k0_off4_inb i 1 0))) (View.ld (Val := Elt Ideal) (e' := .bf16) y11 (Rect.unit (s := S16x128x128) (k0_off4 i 512#32 1#32) S1x128x128.size (k0_off4_inb i 1 1)))
/-- The window's sums, rescaled to its own maximum. -/
def W821 : FVec Ideal S128x1024 .f32 := k0_pay90 v29 v30
  (k0_pay86 v0 (View.ld (Val := Elt Ideal) (e' := .i32) y12 (Rect.unit (s := S768x1024) ![0, 0] S768x1024.size inb_S768x1024_S768x1024_0_0)))
  (k0_pay87 v28 (View.ld (Val := Elt Ideal) (e' := .bf16) x4 (Rect.unit (s := S1x2048x256) (k0_off5 i) S1x768x128.size (k0_off5_inb i))))
  (k0_pay88 (View.ld (Val := Elt Ideal) (e' := .bf16) y11 (Rect.unit (s := S16x128x128) (k0_off6 i 0#32) S1x128x128.size (k0_off6_inb i 0)))) (k0_pay89 (View.ld (Val := Elt Ideal) (e' := .bf16) y11 (Rect.unit (s := S16x128x128) (k0_off6 i 1#32) S1x128x128.size (k0_off6_inb i 1))))
  (View.ld (Val := Elt Ideal) (e' := .bf16) y11 (Rect.unit (s := S16x128x128) (k0_off6 i 2#32) S1x128x128.size (k0_off6_inb i 2))) (View.ld (Val := Elt Ideal) (e' := .bf16) y11 (Rect.unit (s := S16x128x128) (k0_off6 i 3#32) S1x128x128.size (k0_off6_inb i 3)))
  (View.ld (Val := Elt Ideal) (e' := .bf16) y11 (Rect.unit (s := S16x128x128) (k0_off6 i 4#32) S1x128x128.size (k0_off6_inb i 4))) (View.ld (Val := Elt Ideal) (e' := .bf16) y11 (Rect.unit (s := S16x128x128) (k0_off6 i 5#32) S1x128x128.size (k0_off6_inb i 5)))
/-- One step of the selected branch's running sums, over 512 keys. -/
def tripW (v552 : FVec Ideal S1024x128 .bf16) (k : Fin (k0_t1_loop i).trips) (acc : FVec Ideal S1x1024 .f32 × FVec Ideal S128x1024 .f32) :
    FVec Ideal S1x1024 .f32 × FVec Ideal S128x1024 .f32 :=
  let a := (View.ld (Val := Elt Ideal) (e' := .bf16) y9 (Rect.unit (s := S2048x128) (k0_off7 i k) S512x128.size (k0_off7_inb i k)))
  let o := (View.ld (Val := Elt Ideal) (e' := .i32) y12 (Rect.unit (s := S768x1024) ![0, 0] S512x1024.size inb_S768x1024_S512x1024_0_0))
  (k0_pay80 i v0 v552 0#32 1#32 k acc.1 a o,
    k0_pay2 acc.2 (k0_pay78 (View.ld (Val := Elt Ideal) (e' := .bf16) y10 (Rect.unit (s := S16x128x128) (k0_off8 i k 0#32) S1x128x128.size (k0_off8_inb i k 0))) (View.ld (Val := Elt Ideal) (e' := .bf16) y10 (Rect.unit (s := S16x128x128) (k0_off8 i k 1#32) S1x128x128.size (k0_off8_inb i k 1)))
      (View.ld (Val := Elt Ideal) (e' := .bf16) y10 (Rect.unit (s := S16x128x128) (k0_off8 i k 2#32) S1x128x128.size (k0_off8_inb i k 2))) (View.ld (Val := Elt Ideal) (e' := .bf16) y10 (Rect.unit (s := S16x128x128) (k0_off8 i k 3#32) S1x128x128.size (k0_off8_inb i k 3))))
      (k0_pay79 i v0 v552 0#32 1#32 k a o) (k0_pay80 i v0 v552 0#32 1#32 k acc.1 a o) (k0_pay81 i v0 v552 0#32 1#32 k acc.1 a o))
/-- The running sums after `k` steps. -/
def loopW (v552 : FVec Ideal S1024x128 .bf16) (init : FVec Ideal S1x1024 .f32 × FVec Ideal S128x1024 .f32) : ℕ → FVec Ideal S1x1024 .f32 × FVec Ideal S128x1024 .f32
  | 0 => init
  | k + 1 => if h : k < (k0_t1_loop i).trips then tripW i v0 y9 y10 y12 v552 ⟨k, h⟩ (loopW v552 init k) else loopW v552 init k
/-- Whether a score ran out of range. -/
def over (v725 : FVec Ideal S1 .f32) : Prop :=
  Scalar.cmpi .ne (Scalar.extui (Scalar.cmpf .ogt (k0_pay1 v725) (Scalar.ofBits (F := Ideal) .f32 0x00000000#32)) : BitVec 32) 0#32 = 1#1
open Classical in
/-- The branches' gated sum, columns the queries. -/
def W731 : FVec Ideal S128x1024 .f32 :=
  if over (k0_pay161 (W59 v0 v28 v32 v33 cst y13) (W675 i v0 v28 x4 y11 y12) (ACC (i 2).val (W552 v0 v27 v28 v33 x7 cst y13) (W555 y12) y9 y10) x6)
  then k0_pay4 (W59 v0 v28 v32 v33 cst y13) (k0_pay159 x6) (W821 i v0 v28 v29 v30 x4 y11 y12)
    (loopW i v0 y9 y10 y12 (W552 v0 v27 v28 v33 x7 cst y13) (v29, v30) (k0_t1_loop i).trips).2
  else k0_pay160 (W59 v0 v28 v32 v33 cst y13) (W675 i v0 v28 x4 y11 y12) (ACC (i 2).val (W552 v0 v27 v28 v33 x7 cst y13) (W555 y12) y9 y10) x6
/-- The block stored: two halves of 128 columns. -/
def OUT (v9 : IVec S256x128 1) (v731 : FVec Ideal S128x1024 .f32) : FVec Ideal S1x256x256 .bf16 := fun y =>
  if h : (y 2).val < 128 then k0_pay5 v9 v731 (ix3 0 (y 1) (⟨(y 2).val, h⟩ : Fin 128))
  else k0_pay6 v9 v731 (ix3 0 (y 1) (⟨(y 2).val - 128, by have : (y 2).val < 256 := (y 2).isLt; omega⟩ : Fin 128))
/-- The whole body's value. -/
def BODY (i : grid0.Coords) (x3 : FVec Ideal S1x256x256 .bf16) (x4 : FVec Ideal S1x2048x256 .bf16) (x5 : FVec Ideal S1x1x128x128 .f32)
    (x6 : FVec Ideal S1x256x128 .f32) (x7 : FVec Ideal S32x128 .bf16) : FVec Ideal S1x256x256 .bf16 :=
  OUT k0_pay95 (W731 i (Scalar.muli (BitVec.ofNat 32 (i 2).val) 256#32) (k0_pay96 x3) (k0_pay97 x3) (k0_pay100 x5) (k0_pay101 x5) k0_pay98 k0_pay99 x4 x6 x7
    (constant S128x1024 .f32 0x00000000#32) (Y9 x4) (Yv 0 x4) (Yv 128 x4) k0_pay9 Y13)

end Cert.KernelIdeal.Exact
end
-- ==== Proof.Softmax.lean ====
/- The mathematics the two programs share: masked softmax over the extended reals, its rescalings, and its sums. -/
module

public import Idealize.ShloMosaic.PureOps.Ideal
public import Mathlib.Analysis.SpecialFunctions.Pow.Real
public import Mathlib.Analysis.SpecialFunctions.Log.Basic
public import Mathlib.Data.EReal.Operations
public import Mathlib.Data.EReal.Inv

@[expose] public section
noncomputable section
namespace Cert.Softmax
open Idealize.ShloMosaic

/-- A nonnegative real factor goes into a sum of extended reals. -/
theorem mul_sum_real {K : Type} (c : ℝ) (hc : 0 ≤ c) (s : Finset K) (f : K → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The maximum a softmax subtracts: zero where the row has no real maximum. -/
def base (m : EReal) : EReal := if ⊥ < m ∧ m < ⊤ then m else 0

/-- The masked softmax of a row: exponentials of the distances to `base`, over their sum bounded below by `ε`. -/
def soft {K : Type} [Fintype K] (ε : EReal) (S : K → EReal) (k : K) : EReal :=
  Ideal.div (Ideal.exp (S k - base (Finset.univ.sup S))) (max (∑ x, Ideal.exp (S x - base (Finset.univ.sup S))) ε)

theorem exp_nonneg (x : EReal) : 0 ≤ Ideal.exp x := by
  induction x using EReal.rec with
  | bot => simp
  | top => simp
  | coe r => rw [Ideal.exp_coe]; exact_mod_cast (Real.exp_pos r).le

theorem exp2_nonneg (x : EReal) : 0 ≤ Ideal.exp2 x := by
  induction x using EReal.rec with
  | bot => simp
  | top => simp
  | coe r => rw [Ideal.exp2_coe]; exact_mod_cast Real.rpow_nonneg (by norm_num) r

theorem exp2_mul_inv_log (r μ : ℝ) : Real.rpow 2 ((Real.log 2)⁻¹ * r - μ) = Real.exp (r - μ * Real.log 2) := by
  have h : Real.log 2 ≠ 0 := (Real.log_pos (by norm_num)).ne'
  rw [Real.rpow_eq_pow, Real.rpow_def_of_pos (by norm_num)]
  congr 1
  field_simp

/-- The kernel's factor on the scores. -/
def c2 : ℝ := (Real.log 2)⁻¹
theorem c2_pos : 0 < c2 := inv_pos.mpr (Real.log_pos (by norm_num))

theorem c2_mul_bot : (c2 : EReal) * ⊥ = ⊥ := EReal.coe_mul_bot_of_pos c2_pos
theorem c2_mul_top : (c2 : EReal) * ⊤ = ⊤ := EReal.coe_mul_top_of_pos c2_pos

theorem c2_mul_eq_bot {x : EReal} : (c2 : EReal) * x = ⊥ ↔ x = ⊥ := by
  induction x using EReal.rec with
  | bot => simp [c2_mul_bot]
  | top => simp [c2_mul_top]
  | coe r =>
    rw [← EReal.coe_mul]
    exact ⟨fun h => absurd h (EReal.coe_ne_bot _), fun h => absurd h (EReal.coe_ne_bot _)⟩

theorem c2_mul_mono {x y : EReal} (h : x ≤ y) : (c2 : EReal) * x ≤ c2 * y :=
  mul_le_mul_of_nonneg_left h (by exact_mod_cast c2_pos.le)

theorem sup_c2 {K : Type} (s : Finset K) (S : K → EReal) : s.sup (fun k => (c2 : EReal) * S k) = c2 * s.sup S := by
  classical
  induction s using Finset.induction_on with
  | empty => simp [c2_mul_bot]
  | insert a s ha ih =>
    rw [Finset.sup_insert, Finset.sup_insert, ih]
    rcases le_total (S a) (s.sup S) with h | h
    · rw [sup_eq_right.mpr h, sup_eq_right.mpr (c2_mul_mono h)]
    · rw [sup_eq_left.mpr h, sup_eq_left.mpr (c2_mul_mono h)]

theorem sup_eq_bot_all {K : Type} [Fintype K] {S : K → EReal} (h : Finset.univ.sup S = ⊥) (k : K) : S k = ⊥ :=
  le_bot_iff.mp (h ▸ Finset.le_sup (Finset.mem_univ k))

theorem exists_of_sup {K : Type} [Fintype K] {S : K → EReal} (h : Finset.univ.sup S ≠ ⊥) : ∃ k, S k = Finset.univ.sup S := by
  have hne : (Finset.univ : Finset K).Nonempty := by
    by_contra hh
    rw [Finset.not_nonempty_iff_eq_empty] at hh
    exact h (by rw [hh]; rfl)
  obtain ⟨k, _, hk⟩ := Finset.exists_mem_eq_sup Finset.univ hne S
  exact ⟨k, hk.symm⟩

theorem sum_top {K : Type} [Fintype K] {f : K → EReal} (h0 : ∀ k, 0 ≤ f k) {k : K} (hk : f k = ⊤) : ∑ k, f k = ⊤ :=
  top_le_iff.mp (hk ▸ Finset.single_le_sum (fun i _ => h0 i) (Finset.mem_univ k))

theorem div_zero_left {y : EReal} (hy : y ≠ 0) : Ideal.div 0 y = 0 := by
  unfold Ideal.div; rw [if_neg hy, zero_mul]

theorem div_top (x : EReal) : Ideal.div x ⊤ = 0 := by
  unfold Ideal.div; rw [if_neg EReal.top_ne_zero, EReal.inv_top, mul_zero]

theorem bot_sub (x : EReal) : (⊥ : EReal) - x = ⊥ := EReal.bot_sub x

theorem div_real {y : ℝ} (h : y ≠ 0) (x : EReal) : Ideal.div x (y : EReal) = x * ((y⁻¹ : ℝ) : EReal) := by
  rw [Ideal.div_coe h, one_div]

/-- Where the row's maximum is a real, the exponentials are reals, their sum at least one. -/
theorem exp_reals {K : Type} [Fintype K] {S : K → EReal} {M : ℝ} (hM : Finset.univ.sup S = M) :
    ∃ e : K → ℝ, (∀ k, Ideal.exp (S k - M) = e k) ∧ (∀ k, 0 ≤ e k) ∧ 1 ≤ ∑ k, e k := by
  have hk : ∀ k, ∃ e : ℝ, Ideal.exp (S k - M) = e ∧ 0 ≤ e := by
    intro k
    have hle : S k ≤ M := hM ▸ Finset.le_sup (Finset.mem_univ k)
    induction hS : S k using EReal.rec with
    | bot => exact ⟨0, by rw [bot_sub]; simp, le_refl _⟩
    | top => rw [hS] at hle; simp at hle
    | coe r => exact ⟨Real.exp (r - M), by rw [← EReal.coe_sub, Ideal.exp_coe], (Real.exp_pos _).le⟩
  choose e he h0 using hk
  refine ⟨e, he, h0, ?_⟩
  obtain ⟨k, hk⟩ := exists_of_sup (S := S) (by rw [hM]; exact EReal.coe_ne_bot M)
  have h1 : e k = 1 := by
    have h2 := he k
    rw [hk, hM, ← EReal.coe_sub, sub_self, Ideal.exp_coe, Real.exp_zero] at h2
    exact_mod_cast h2.symm
  calc (1 : ℝ) = e k := h1.symm
    _ ≤ ∑ k, e k := Finset.single_le_sum (fun i _ => h0 i) (Finset.mem_univ k)

theorem base_coe (M : ℝ) : base M = M := by
  unfold base; rw [if_pos ⟨EReal.bot_lt_coe M, EReal.coe_lt_top M⟩]

theorem coe_sum {K : Type} (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The softmax at a real maximum. -/
theorem soft_real_max {K : Type} [Fintype K] {ε : EReal} (hε : ε ≤ 1) {S : K → EReal} {M : ℝ} (hM : Finset.univ.sup S = M)
    {e : K → ℝ} (he : ∀ k, Ideal.exp (S k - M) = e k) (h1 : 1 ≤ ∑ k, e k) (k : K) :
    soft ε S k = ((e k * (∑ k, e k)⁻¹ : ℝ) : EReal) := by
  unfold soft
  rw [hM, base_coe, he]
  simp only [he]
  rw [← coe_sum, max_eq_left (hε.trans (by exact_mod_cast h1)), div_real (by linarith), EReal.coe_mul]

/-- The softmax is zero where the row has no real maximum. -/
theorem soft_zero {K : Type} [Fintype K] {ε : EReal} (hε0 : 0 < ε) {S : K → EReal}
    (hM : Finset.univ.sup S = ⊥ ∨ Finset.univ.sup S = ⊤) (k : K) : soft ε S k = 0 := by
  have hb : base (Finset.univ.sup S) = 0 := by
    unfold base; rw [if_neg]; rintro ⟨h1, h2⟩; rcases hM with h | h
    · exact h1.ne' h
    · exact h2.ne h
  unfold soft
  rw [hb]
  rcases hM with h | h
  · rw [sup_eq_bot_all h k, bot_sub, Ideal.exp_bot]
    exact div_zero_left (lt_max_of_lt_right hε0).ne'
  · obtain ⟨k', hk'⟩ := exists_of_sup (S := S) (by rw [h]; exact top_ne_bot)
    have : ∑ x, Ideal.exp (S x - 0) = ⊤ := sum_top (fun _ => exp_nonneg _) (k := k') (by rw [hk', h]; simp)
    rw [this, max_eq_left le_top, div_top]

/-- A softmax entry is a nonnegative real. -/
theorem soft_coe {K : Type} [Fintype K] {ε : EReal} (hε0 : 0 < ε) (hε : ε ≤ 1) (S : K → EReal) (k : K) :
    ∃ r : ℝ, soft ε S k = r := by
  induction hM : Finset.univ.sup S using EReal.rec with
  | bot => exact ⟨0, by rw [soft_zero hε0 (Or.inl hM)]; rfl⟩
  | top => exact ⟨0, by rw [soft_zero hε0 (Or.inr hM)]; rfl⟩
  | coe M =>
    obtain ⟨e, he, _, h1⟩ := exp_reals hM
    exact ⟨_, soft_real_max hε hM he h1 k⟩

/-- A masked entry has weight zero. -/
theorem soft_bot {K : Type} [Fintype K] {ε : EReal} (hε0 : 0 < ε) (S : K → EReal) (k : K) (h : S k = ⊥) : soft ε S k = 0 := by
  unfold soft
  rw [h, bot_sub, Ideal.exp_bot]
  exact div_zero_left (lt_max_of_lt_right hε0).ne'

/-- The base-two weight of a score against a real reference. -/
theorem exp2_rescale (x : EReal) (hx : x ≠ ⊤) (μ M : ℝ) :
    Ideal.exp2 (c2 * x - μ) = ((Real.exp (M - μ * Real.log 2) : ℝ) : EReal) * Ideal.exp (x - M) := by
  induction x using EReal.rec with
  | bot => rw [c2_mul_bot, bot_sub, bot_sub]; simp
  | top => exact absurd rfl hx
  | coe r =>
    rw [← EReal.coe_mul, ← EReal.coe_sub, ← EReal.coe_sub, Ideal.exp2_coe, Ideal.exp_coe, ← EReal.coe_mul]
    unfold c2
    rw [exp2_mul_inv_log, ← Real.exp_add]
    congr 2; ring

/-- Attention by base-two weights against any reference at most the row's maximum, over a finite sum of weights, is the
    softmax-weighted sum. -/
theorem attn_eq {K : Type} [Fintype K] {ε : EReal} (hε0 : 0 < ε) (hε : ε ≤ 1) (S v : K → EReal) (mref : EReal)
    (hm : mref ≤ c2 * Finset.univ.sup S) (g : ℝ) (hg : 0 ≤ g) (hl : ∑ k, Ideal.exp2 (c2 * S k - mref) ≠ ⊤) :
    (∑ k, Ideal.exp2 (c2 * S k - mref) * v k) * Ideal.div g (∑ k, Ideal.exp2 (c2 * S k - mref))
      = g * ∑ k, soft ε S k * v k := by
  have hlt : ∀ k, Ideal.exp2 (c2 * S k - mref) ≠ ⊤ := fun k h => hl (sum_top (fun _ => exp2_nonneg _) h)
  induction mref using EReal.rec with
  | bot =>
    have hS : ∀ k, S k = ⊥ := by
      intro k
      have h := hlt k
      by_contra hb
      apply h
      have : (c2 : EReal) * S k ≠ ⊥ := fun h' => hb (c2_mul_eq_bot.mp h')
      rw [EReal.sub_bot this]; rfl
    have h0 : ∀ k, soft ε S k = 0 := fun k => soft_bot hε0 S k (hS k)
    have h1 : ∀ k, Ideal.exp2 (c2 * S k - ⊥) = 0 := fun k => by rw [hS k, c2_mul_bot, bot_sub]; simp
    simp [h0, h1]
  | top =>
    have hsup : Finset.univ.sup S = ⊤ := by
      by_contra hne
      have h := top_le_iff.mp hm
      induction hM : Finset.univ.sup S using EReal.rec with
      | bot => rw [hM, c2_mul_bot] at h; exact bot_ne_top h
      | top => exact hne hM
      | coe r => rw [hM, ← EReal.coe_mul] at h; exact EReal.coe_ne_top _ h
    have h0 : ∀ k, soft ε S k = 0 := fun k => soft_zero hε0 (Or.inr hsup) k
    have h1 : ∀ k, Ideal.exp2 (c2 * S k - ⊤) = 0 := fun k => by rw [EReal.sub_top]; simp
    simp [h0, h1]
  | coe μ =>
    have hS : ∀ k, S k ≠ ⊤ := by
      intro k h
      apply hlt k
      rw [h, c2_mul_top, EReal.top_sub_coe]; rfl
    have hbot : Finset.univ.sup S ≠ ⊥ := by
      intro h; rw [h, c2_mul_bot] at hm; exact EReal.coe_ne_bot _ (le_bot_iff.mp hm)
    obtain ⟨k0, hk0⟩ := exists_of_sup hbot
    obtain ⟨M, hM⟩ : ∃ M : ℝ, Finset.univ.sup S = M := by
      induction hM : Finset.univ.sup S using EReal.rec with
      | bot => exact absurd hM hbot
      | top => exact absurd (hk0.trans hM) (hS k0)
      | coe r => exact ⟨r, rfl⟩
    obtain ⟨e, he, h0, h1⟩ := exp_reals hM
    set lam : ℝ := Real.exp (M - μ * Real.log 2) with hlam
    have hlp : 0 < lam := Real.exp_pos _
    have hw : ∀ k, Ideal.exp2 (c2 * S k - μ) = (lam : EReal) * (e k : EReal) := fun k => by
      rw [exp2_rescale (S k) (hS k) μ M, he]
    have hsm : ∀ k, soft ε S k = ((∑ k, e k)⁻¹ : ℝ) * (e k : EReal) := fun k => by
      rw [soft_real_max hε hM he h1 k, EReal.coe_mul, mul_comm]
    simp only [hw, hsm, mul_assoc]
    rw [← mul_sum_real _ hlp.le, ← mul_sum_real _ (inv_nonneg.mpr (by linarith)), ← mul_sum_real _ hlp.le, ← coe_sum,
      ← EReal.coe_mul, div_real (by positivity), ← EReal.coe_mul]
    rw [mul_comm, ← mul_assoc, ← mul_assoc, ← EReal.coe_mul, ← EReal.coe_mul]
    congr 2
    have : (∑ k, e k) ≠ 0 := by linarith
    field_simp

/-- The compressed branch's weights: base-two exponentials against the row's maximum, zero in place of minus infinity. -/
theorem soft_exp2 {K : Type} [Fintype K] {ε : EReal} (hε0 : 0 < ε) (hε : ε ≤ 1) (S : K → EReal) (m : EReal)
    (hm : m = if (c2 : EReal) * Finset.univ.sup S = ⊥ then 0 else c2 * Finset.univ.sup S) (k : K) :
    Ideal.div (Ideal.exp2 (c2 * S k - m)) (max (∑ x, Ideal.exp2 (c2 * S x - m)) ε) = soft ε S k := by
  induction hM : Finset.univ.sup S using EReal.rec with
  | bot =>
    rw [soft_zero hε0 (Or.inl hM), sup_eq_bot_all hM k, c2_mul_bot, bot_sub, Ideal.exp2_bot]
    exact div_zero_left (lt_max_of_lt_right hε0).ne'
  | top =>
    rw [hM, c2_mul_top, if_neg top_ne_bot] at hm
    rw [soft_zero hε0 (Or.inr hM), hm]
    simp only [EReal.sub_top, Ideal.exp2_bot]
    exact div_zero_left (lt_max_of_lt_right hε0).ne'
  | coe M =>
    rw [hM, ← EReal.coe_mul, if_neg (EReal.coe_ne_bot _)] at hm
    obtain ⟨e, he, h0, h1⟩ := exp_reals hM
    have hS : ∀ k, S k ≠ ⊤ := fun k h => by
      have : S k ≤ M := hM ▸ Finset.le_sup (Finset.mem_univ k)
      rw [h] at this; simp at this
    have hw : ∀ k, Ideal.exp2 (c2 * S k - m) = (e k : EReal) := fun k => by
      rw [hm, exp2_rescale (S k) (hS k) (c2 * M) M, he]
      have : M - c2 * M * Real.log 2 = 0 := by
        unfold c2; have h : Real.log 2 ≠ 0 := (Real.log_pos (by norm_num)).ne'
        field_simp; ring
      rw [this, Real.exp_zero, EReal.coe_one, one_mul]
    rw [soft_real_max hε hM he h1 k]
    simp only [hw]
    rw [← coe_sum, max_eq_left (hε.trans (by exact_mod_cast h1)), div_real (by linarith), EReal.coe_mul]

/-- A softmax does not see masked entries: reading a row through an injection that misses only masked ones. -/
theorem soft_embed {K L : Type} [Fintype K] [Fintype L] {ε : EReal} (S : K → EReal) (φ : L → K)
    (hφ : Function.Injective φ) (hoff : ∀ k, k ∉ Set.range φ → S k = ⊥) (l : L) :
    soft ε (fun l => S (φ l)) l = soft ε S (φ l) := by
  have hsup : Finset.univ.sup (fun l => S (φ l)) = Finset.univ.sup S := by
    apply le_antisymm
    · exact Finset.sup_le fun l _ => Finset.le_sup (f := S) (Finset.mem_univ (φ l))
    · refine Finset.sup_le fun k _ => ?_
      by_cases hk : k ∈ Set.range φ
      · obtain ⟨l, rfl⟩ := hk
        exact Finset.le_sup (f := fun l => S (φ l)) (Finset.mem_univ l)
      · rw [hoff k hk]; exact bot_le
  unfold soft
  rw [hsup]
  congr 2
  exact Fintype.sum_of_injective φ hφ _ _ (fun k hk => by rw [hoff k hk, bot_sub, Ideal.exp_bot]) (fun _ => rfl)

theorem soft_embed_sum {K L : Type} [Fintype K] [Fintype L] {ε : EReal} (hε0 : 0 < ε) (S v : K → EReal) (φ : L → K)
    (hφ : Function.Injective φ) (hoff : ∀ k, k ∉ Set.range φ → S k = ⊥) :
    ∑ l, soft ε (fun l => S (φ l)) l * v (φ l) = ∑ k, soft ε S k * v k :=
  Fintype.sum_of_injective φ hφ _ _ (fun k hk => by rw [soft_bot hε0 S k (hoff k hk), zero_mul])
    (fun l => by rw [soft_embed S φ hφ hoff])

/-- Moving a weighted sum from its own maximum to a larger reference. -/
theorem rescale_sum {K : Type} (A : Finset K) (s v : K → EReal) (m' : EReal) (h : A.sup s ≤ m') :
    Ideal.exp2 (A.sup s - m') * ∑ k ∈ A, Ideal.exp2 (s k - A.sup s) * v k = ∑ k ∈ A, Ideal.exp2 (s k - m') * v k := by
  have hle : ∀ k ∈ A, s k ≤ A.sup s := fun k hk => Finset.le_sup hk
  induction hm : A.sup s using EReal.rec with
  | bot =>
    have hs : ∀ k ∈ A, s k = ⊥ := fun k hk => le_bot_iff.mp (hm ▸ hle k hk)
    rw [bot_sub, Ideal.exp2_bot, zero_mul]
    exact (Finset.sum_eq_zero fun k hk => by rw [hs k hk, bot_sub]; simp).symm
  | top =>
    have : m' = ⊤ := top_le_iff.mp (hm ▸ h)
    subst this
    simp only [EReal.sub_top, Ideal.exp2_bot, zero_mul]; simp
  | coe m =>
    rw [hm] at h hle
    induction m' using EReal.rec with
    | bot => simp at h
    | top => simp
    | coe μ =>
      rw [← EReal.coe_sub, Ideal.exp2_coe, mul_sum_real (Real.rpow 2 (m - μ)) (Real.rpow_nonneg (by norm_num) _)]
      refine Finset.sum_congr rfl fun k hk => ?_
      rw [← mul_assoc]
      congr 1
      have hk' := hle k hk
      induction hs : s k using EReal.rec with
      | bot => rw [bot_sub, bot_sub]; simp
      | top => rw [hs] at hk'; simp at hk'
      | coe r =>
        rw [← EReal.coe_sub, ← EReal.coe_sub, Ideal.exp2_coe, Ideal.exp2_coe, ← EReal.coe_mul]
        congr 1
        simp only [Real.rpow_eq_pow]
        rw [← Real.rpow_add (by norm_num)]; congr 1; ring

/-- Against its own maximum a sum of weights is finite. -/
theorem sum_self_ne_top {K : Type} [Fintype K] (s : K → EReal) :
    ∑ k, Ideal.exp2 (s k - Finset.univ.sup s) ≠ ⊤ := by
  have : ∀ k, ∃ r : ℝ, Ideal.exp2 (s k - Finset.univ.sup s) = r := by
    intro k
    have hk : s k ≤ Finset.univ.sup s := Finset.le_sup (Finset.mem_univ k)
    induction hm : Finset.univ.sup s using EReal.rec with
    | bot =>
      have hb : s k = ⊥ := le_bot_iff.mp (by rw [← hm]; exact hk)
      exact ⟨0, by rw [hb, bot_sub]; simp⟩
    | top => exact ⟨0, by simp⟩
    | coe m =>
      rw [hm] at hk
      induction hs : s k using EReal.rec with
      | bot => exact ⟨0, by rw [bot_sub]; simp⟩
      | top => rw [hs] at hk; simp at hk
      | coe r => exact ⟨_, by rw [← EReal.coe_sub, Ideal.exp2_coe]⟩
  choose r hr using this
  simp only [hr]
  rw [← coe_sum]
  exact EReal.coe_ne_top _

end Cert.Softmax
end
-- ==== Proof.Rank.lean ====
module

public import Idealize.ShloMosaic.Lib.SortFacts
public import Idealize.ShloMosaic.Lib.Pointwise

@[expose] public section
noncomputable section
namespace Cert.Rank
open Idealize.ShloMosaic

variable {n : ℕ} (x : Fin n → EReal)

/-- Entry `a` goes before entry `b` in the stable descending order: it is larger, or equal and earlier. -/
def bef (a b : Fin n) : Bool := decide (x b < x a ∨ x a = x b ∧ a < b)

/-- The values' own order, larger first. -/
def gtb (a b : Fin n) : Bool := decide (x b < x a)

theorem bef_irrefl (a : Fin n) : bef x a a = false := by simp [bef]

theorem bef_total (a b : Fin n) (h : a ≠ b) : bef x a b = !bef x b a := by
  unfold bef
  rcases lt_trichotomy (x a) (x b) with h1 | h1 | h1
  · simp [h1, not_lt.mpr h1.le, h1.ne, h1.ne']
  · rcases lt_or_gt_of_ne h with h2 | h2 <;> simp [h1, h2, not_lt.mpr h2.le]
  · simp [h1, not_lt.mpr h1.le, h1.ne, h1.ne']

theorem bef_trans (a b c : Fin n) (h1 : bef x a b = true) (h2 : bef x b c = true) : bef x a c = true := by
  unfold bef at *
  simp only [decide_eq_true_eq] at *
  rcases h1 with h1 | ⟨e1, h1⟩ <;> rcases h2 with h2 | ⟨e2, h2⟩
  · exact Or.inl (h2.trans h1)
  · exact Or.inl (e2 ▸ h1)
  · exact Or.inl (e1 ▸ h2)
  · exact Or.inr ⟨e1.trans e2, h1.trans h2⟩

/-- A stable sort by the values alone is the sort by `bef`, on a list in index order. -/
theorem stableSort_bef (l : List (Fin n)) (hl : l.Pairwise (· < ·)) : stableSort (gtb x) l = stableSort (bef x) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have := hl.1 b hb'
    unfold gtb bef
    simp [not_lt.mpr this.le]

/-- The sorted order's positions. -/
theorem sortedFrom_bef : sortedFrom (gtb x) = sortedFrom (bef x) := by
  have h : sortPositions n (gtb x) = sortPositions n (bef x) := stableSort_bef x _ (List.pairwise_lt_finRange n)
  funext k
  unfold sortedFrom
  simp only [List.get_eq_getElem, h, Fin.val_cast]

/-- The entry at sorted position `j` has exactly `j` entries before it. -/
theorem rank_sorted (j : Fin n) : (Finset.univ.filter fun a => bef x a (sortedFrom (gtb x) j) = true).card = j.val := by
  rw [sortedFrom_bef]
  have key : ∀ i k : Fin n, i < k → bef x (sortedFrom (bef x) i) (sortedFrom (bef x) k) = true := by
    intro i k hik
    have h := sortedFrom_noInversion (bef x) (bef x)
      (fun a b hab => by
        by_cases e : a = b
        · subst e; exact bef_irrefl x a
        · rw [bef_total x a b e] at hab; simpa using hab)
      (fun _ _ h => h)
      (fun a b c hab hbc => by
        by_contra hac
        have hac : bef x a c = true := by simpa using hac
        by_cases e1 : a = b
        · subst e1; rw [hac] at hbc; exact absurd hbc (by decide)
        by_cases e2 : b = c
        · subst e2; rw [hac] at hab; exact absurd hab (by decide)
        have h1 : bef x b a = true := by rw [bef_total x a b e1] at hab; simpa using hab
        have h3 : bef x b c = true := bef_trans x b a c h1 hac
        rw [h3] at hbc; exact absurd hbc (by decide)) i k hik
    have hne : sortedFrom (bef x) i ≠ sortedFrom (bef x) k := fun e => hik.ne (sortedFrom_injective _ e)
    rw [bef_total x _ _ hne, h]; rfl
  have himg : (Finset.univ.filter fun a => bef x a (sortedFrom (bef x) j) = true) = (Finset.univ.filter fun i : Fin n => i < j).image (sortedFrom (bef x)) := by
    ext a
    simp only [Finset.mem_filter, Finset.mem_univ, true_and, Finset.mem_image]
    constructor
    · intro ha
      obtain ⟨i, rfl⟩ := sortedFrom_surjective (bef x) a
      refine ⟨i, ?_, rfl⟩
      rcases lt_trichotomy i j with h | h | h
      · exact h
      · subst h; rw [bef_irrefl] at ha; exact absurd ha (by decide)
      · have h2 := key j i h
        have hne : sortedFrom (bef x) i ≠ sortedFrom (bef x) j := fun e => h.ne' (sortedFrom_injective _ e)
        rw [bef_total x _ _ hne, h2] at ha; exact absurd ha (by decide)
    · rintro ⟨i, hi, rfl⟩
      exact key i j hi
  rw [himg, Finset.card_image_of_injective _ (sortedFrom_injective _),
    show (Finset.univ.filter fun i : Fin n => i < j) = Finset.Iio j by ext i; simp only [Finset.mem_filter, Finset.mem_univ, true_and, Finset.mem_Iio], Fin.card_Iio]

/-- The entries among the first `k` sorted positions are those with fewer than `k` before them. -/
theorem among_first (k : ℕ) (a : Fin n) : (∃ j : Fin n, j.val < k ∧ sortedFrom (gtb x) j = a) ↔ (Finset.univ.filter fun b => bef x b a = true).card < k := by
  constructor
  · rintro ⟨j, hj, rfl⟩
    rwa [rank_sorted]
  · intro h
    obtain ⟨j, rfl⟩ := sortedFrom_surjective (gtb x) a
    exact ⟨j, by rwa [rank_sorted] at h, rfl⟩

end Cert.Rank
end
-- ==== Proof.Spec.lean ====
/- The layer's mathematics at one query, one head and one output lane: what both programs are shown to compute. -/
module

public import proofs.«01_k».proof.Proof.Softmax
public import proofs.«01_k».proof.Proof.Rank

@[expose] public section
noncomputable section
namespace Cert.Spec
open Idealize.ShloMosaic Cert.Softmax Cert.Rank

/-- The score's scale, one eighth. -/
abbrev E8 : EReal := Ideal.ofBits .f32 1040187392#32
/-- The lower bound of a softmax's denominator. -/
abbrev EPS : EReal := Ideal.ofBits .f32 228737632#32
/-- A key's score. -/
def score (K Q : Fin 64 → EReal) : EReal := (∑ x, K x * Q x) * E8
/-- The compressed branch's scores: a window counts once it ends before the query. -/
def Sc (t : ℕ) (Kc : Fin 127 → Fin 64 → EReal) (Q : Fin 64 → EReal) (n : Fin 127) : EReal :=
  if 16 * n.val + 31 ≤ t then score (Kc n) Q else ⊥
/-- The importance of each block of 64 keys: later blocks never, the first and the last two always. -/
def imp (t : ℕ) (ov : Fin 127 → Fin 32 → EReal) (Kc : Fin 127 → Fin 64 → EReal) (Qs : Fin 4 → Fin 64 → EReal) (j : Fin 32) : EReal :=
  if t < 64 * j.val then ⊥ else if j.val = 0 ∨ j.val = t / 64 ∨ j.val + 1 = t / 64 then ⊤
  else ∑ n, (∑ g, soft EPS (Sc t Kc (Qs g)) n) * ov n j
/-- The selected blocks: fewer than eight come before them. -/
def sel (I : Fin 32 → EReal) (m : Fin 32) : Prop := (Finset.univ.filter fun b => bef I b m = true).card < 8
/-- The block a key lies in. -/
abbrev blk (k : Fin 2048) : Fin 32 := ⟨k.val / 64, by have := k.isLt; omega⟩
open Classical in
/-- The selected branch's scores. -/
def Ss (t : ℕ) (I : Fin 32 → EReal) (Ks : Fin 2048 → Fin 64 → EReal) (Q : Fin 64 → EReal) (k : Fin 2048) : EReal :=
  if sel I (blk k) ∧ k.val ≤ t then score (Ks k) Q else ⊥
/-- The window branch's scores. -/
def Sw (t : ℕ) (Kw : Fin 2048 → Fin 64 → EReal) (Q : Fin 64 → EReal) (k : Fin 2048) : EReal :=
  if k.val ≤ t ∧ t < k.val + 512 then score (Kw k) Q else ⊥
/-- The output: the three branches, each times its gate. -/
def out (t : ℕ) (ov : Fin 127 → Fin 32 → EReal) (Kc : Fin 127 → Fin 64 → EReal) (Qs : Fin 4 → Fin 64 → EReal)
    (Ks Kw : Fin 2048 → Fin 64 → EReal) (vc : Fin 127 → EReal) (vs vw : Fin 2048 → EReal) (z : Fin 3 → EReal) (g : Fin 4) : EReal :=
  Ideal.logistic (z 0) * ∑ n, soft EPS (Sc t Kc (Qs g)) n * vc n
    + Ideal.logistic (z 1) * ∑ k, soft EPS (Ss t (imp t ov Kc Qs) Ks (Qs g)) k * vs k
    + Ideal.logistic (z 2) * ∑ k, soft EPS (Sw t Kw (Qs g)) k * vw k

/-- How much of compressed window `n` lies in block `j`, as a fraction of the window. -/
def ov (n : Fin 127) (j : Fin 32) : EReal :=
  Ideal.div (FloatOps.sitofp (F := Ideal) .f32 (IntOp.maxsi (0#32 : BitVec 32)
    (IntOp.subi (IntOp.minsi (IntOp.addi (IntOp.muli (16#32) (BitVec.ofNat 32 n.val)) 32#32)
        (IntOp.addi (IntOp.muli (64#32) (BitVec.ofNat 32 j.val)) 64#32))
      (IntOp.maxsi (IntOp.muli (16#32) (BitVec.ofNat 32 n.val)) (IntOp.muli (64#32) (BitVec.ofNat 32 j.val))))))
    (Ideal.ofBits .f32 1107296256#32)
/-- A maximum folded from below is the least upper bound. -/
theorem fold_max {K : Type} (s : Finset K) (f : K → EReal) : s.fold max (Ideal.ofBits .f32 4286578688#32) f = s.sup f := by
  have h : Ideal.ofBits .f32 4286578688#32 = ⊥ := by simp [Ideal.ofBits, Ideal.ieee]
  rw [h]; rfl

/-- One eighth, read. -/
theorem e8_eq : E8 = ((1 / 8 : ℝ) : EReal) := by simp [E8, Ideal.ofBits, Ideal.ieee, -EReal.coe_mul]; norm_num
theorem eps_real : ∃ r : ℝ, 0 < r ∧ r ≤ 1 ∧ EPS = (r : EReal) := by
  have h : EPS = ((10633824 * (2 : ℝ) ^ (-123 : ℤ) : ℝ) : EReal) := by simp [EPS, Ideal.ofBits, Ideal.ieee, -EReal.coe_mul]
  exact ⟨_, by positivity, by norm_num, h⟩
theorem eps_pos : 0 < EPS := by
  obtain ⟨r, h0, -, h⟩ := eps_real
  rw [h]; exact_mod_cast h0
theorem eps_le : EPS ≤ 1 := by
  obtain ⟨r, -, h1, h⟩ := eps_real
  rw [h]; exact_mod_cast h1
theorem neg_inf : Ideal.ofBits .f32 4286578688#32 = ⊥ := by simp [Ideal.ofBits, Ideal.ieee]
theorem pos_inf : Ideal.ofBits .f32 0x7F800000#32 = ⊤ := by simp [Ideal.ofBits, Ideal.ieee]
theorem eight : Ideal.ofBits .f32 1090519040#32 = ((8 : ℝ) : EReal) := by simp [Ideal.ofBits, Ideal.ieee, -EReal.coe_mul]; norm_num

/-- The kernel's scale of a query's lane. -/
abbrev KS : EReal := (((8 * Real.log 2)⁻¹ : ℝ) : EReal)
theorem ks_eq : KS = (c2 : EReal) * E8 := by
  rw [KS, e8_eq, ← EReal.coe_mul, c2, mul_inv]
  congr 1
  ring
theorem e8_nonneg : (0 : ℝ) ≤ 1 / 8 := by norm_num
/-- A key's score by 64 scaled lanes. -/
theorem score_scaled (K Q : Fin 64 → EReal) : ∑ x, K x * (Q x * KS) = c2 * score K Q := by
  have h : ∀ x : Fin 64, K x * (Q x * KS) = ((((8 * Real.log 2)⁻¹ : ℝ)) : EReal) * (K x * Q x) := fun x => by
    rw [KS, ← mul_assoc, mul_comm]
  have h0 : (0 : ℝ) ≤ (8 * Real.log 2)⁻¹ := by have := Real.log_nonneg (x := 2) (by norm_num); positivity
  rw [Finset.sum_congr rfl (fun x _ => h x), ← mul_sum_real _ h0, score, ← mul_comm E8, ← mul_assoc, ← ks_eq]
/-- A sum over 128 lanes is one over the lower 64 and one over the upper 64. -/
theorem sum_lanes (f : Fin 128 → EReal) :
    ∑ y, f y = (∑ x : Fin 64, f ⟨x.val, by omega⟩) + ∑ x : Fin 64, f ⟨64 + x.val, by omega⟩ := by
  have := Fin.sum_univ_add (a := 64) (b := 64) (fun i => f ⟨i.val, i.isLt⟩)
  exact this
/-- A key's score by 128 lanes, the upper half of the query zero. -/
theorem score_lanes (K q : Fin 128 → EReal) (Q : Fin 64 → EReal)
    (hq : ∀ y : Fin 128, q y = if h : y.val < 64 then Q ⟨y.val, h⟩ * KS else 0) :
    ∑ y, K y * q y = c2 * score (fun d => K ⟨d.val, by omega⟩) Q := by
  rw [sum_lanes, ← score_scaled, Finset.sum_eq_zero (s := Finset.univ) (f := fun x : Fin 64 => K ⟨64 + x.val, _⟩ * q ⟨64 + x.val, _⟩), add_zero]
  · refine Finset.sum_congr rfl fun x _ => ?_
    rw [hq, dif_pos (show (⟨x.val, _⟩ : Fin 128).val < 64 from x.isLt)]
  · intro x _
    rw [hq, dif_neg (by show ¬ 64 + x.val < 64; omega), mul_zero]
/-- A key's score with a block's bias beside it. -/
theorem score_bias (K q : Fin 128 → EReal) (Q : Fin 64 → EReal) (B : Fin 32 → EReal) (m : Fin 32)
    (hK : ∀ y : Fin 128, ¬ y.val < 64 → K y = if m.val = y.val - 64 then 1 else 0)
    (hq : ∀ y : Fin 128, q y = if h : y.val < 64 then Q ⟨y.val, h⟩ * KS else if h' : y.val - 64 < 32 then B ⟨y.val - 64, h'⟩ else 0) :
    ∑ y, K y * q y = c2 * score (fun d => K ⟨d.val, by omega⟩) Q + B m := by
  rw [sum_lanes, ← score_scaled]
  congr 1
  · refine Finset.sum_congr rfl fun x _ => ?_
    rw [hq, dif_pos (show (⟨x.val, _⟩ : Fin 128).val < 64 from x.isLt)]
  · rw [Finset.sum_eq_single (⟨m.val, by omega⟩ : Fin 64)]
    · rw [hK _ (by show ¬ 64 + m.val < 64; omega), if_pos (by show m.val = 64 + m.val - 64; omega), one_mul, hq,
        dif_neg (by show ¬ 64 + m.val < 64; omega), dif_pos (by show 64 + m.val - 64 < 32; omega)]
      congr 1; apply Fin.ext; show 64 + m.val - 64 = m.val; omega
    · intro x _ hx
      rw [hK _ (by show ¬ 64 + x.val < 64; omega), if_neg, zero_mul]
      intro h
      have h' : m.val = 64 + x.val - 64 := h
      exact hx (Fin.ext (by show x.val = m.val; omega))
    · intro h; exact absurd (Finset.mem_univ _) h
end Cert.Spec
end
-- ==== Proof.Words.lean ====
/- The kernel's and the reference's words, read as numbers. -/
module

public import Idealize.ShloMosaic.PureOps
public import Idealize.ShloMosaic.Lib.ValueIdxCore
public import Idealize.ShloMosaic.Lib.Tactic.WordOmega

@[expose] public section
noncomputable section
namespace Cert.Words
open Idealize.ShloMosaic
set_option maxRecDepth 16384

/-- Division by 64, rounded down, as both programs spell it. -/
abbrev fdiv (u : ArithUnit) (w : BitVec 32) : BitVec 32 :=
  Scalar.select (IntOp.andi (IntOp.cmpi .ne
      (IntOp.subi (BitVec.setWidth 32 (IntOp.cmpi .sgt w 0#32)) (BitVec.setWidth 32 (IntOp.cmpi .slt w 0#32)))
      (Scalar.subi (Scalar.extui (Scalar.cmpi .sgt 64#32 0#32)) (Scalar.extui (Scalar.cmpi .slt 64#32 0#32))))
      (IntOp.cmpi .ne (IntOp.remsi u w 64#32) 0#32))
    (IntOp.subi (IntOp.divsi u w 64#32) 1#32) (IntOp.divsi u w 64#32)
/-- The remainder by 256, as the kernel spells it. -/
abbrev frem (w : BitVec 32) : BitVec 32 :=
  Scalar.select (IntOp.andi (IntOp.xori
      (IntOp.cmpi .slt (IntOp.remsi ArithUnit.vector w (Scalar.select (Scalar.cmpi .eq 256#32 0#32) 1#32 256#32)) 0#32)
      (Scalar.cmpi .slt (Scalar.select (Scalar.cmpi .eq 256#32 0#32) 1#32 256#32) 0#32))
      (IntOp.cmpi .ne (IntOp.remsi ArithUnit.vector w (Scalar.select (Scalar.cmpi .eq 256#32 0#32) 1#32 256#32)) 0#32))
    (IntOp.addi (IntOp.remsi ArithUnit.vector w (Scalar.select (Scalar.cmpi .eq 256#32 0#32) 1#32 256#32))
      (Scalar.select (Scalar.cmpi .eq 256#32 0#32) 1#32 256#32))
    (IntOp.remsi ArithUnit.vector w (Scalar.select (Scalar.cmpi .eq 256#32 0#32) 1#32 256#32))

theorem fdiv_tab : ∀ n : Fin 2048, fdiv ArithUnit.vector (BitVec.ofNat 32 n.val) = BitVec.ofNat 32 (n.val / 64) := by
  decide +kernel
theorem frem_tab : ∀ n : Fin 1024, frem (BitVec.ofNat 32 n.val) = BitVec.ofNat 32 (n.val % 256) := by
  decide +kernel

theorem toInt_nat (a : ℕ) (ha : a < 2 ^ 25) : (BitVec.ofNat 32 a).toInt = (a : ℤ) := by
  rw [BitVec.toInt_eq_toNat_cond, BitVec.toNat_ofNat]; split <;> omega
theorem toInt_sub (x y : BitVec 32) (hx : -2 ^ 28 < x.toInt ∧ x.toInt < 2 ^ 28) (hy : -2 ^ 28 < y.toInt ∧ y.toInt < 2 ^ 28) :
    (IntOp.subi x y).toInt = x.toInt - y.toInt := by
  show (x - y).toInt = _
  rw [BitVec.toInt_sub, Int.bmod_eq_of_le] <;> omega
theorem toInt_add (x y : BitVec 32) (hx : -2 ^ 28 < x.toInt ∧ x.toInt < 2 ^ 28) (hy : -2 ^ 28 < y.toInt ∧ y.toInt < 2 ^ 28) :
    (IntOp.addi x y).toInt = x.toInt + y.toInt := by
  show (x + y).toInt = _
  rw [BitVec.toInt_add, Int.bmod_eq_of_le] <;> omega
theorem sge_eq (x y : BitVec 32) : IntOp.cmpi .sge x y = BitVec.ofBool (decide (y.toInt ≤ x.toInt)) := rfl
theorem sgt_eq (x y : BitVec 32) : IntOp.cmpi .sgt x y = BitVec.ofBool (decide (y.toInt < x.toInt)) := rfl
theorem sle_eq (x y : BitVec 32) : IntOp.cmpi .sle x y = BitVec.ofBool (decide (x.toInt ≤ y.toInt)) := rfl
theorem slt_eq (x y : BitVec 32) : IntOp.cmpi .slt x y = BitVec.ofBool (decide (x.toInt < y.toInt)) := rfl
theorem ofBool_congr {p q : Prop} [Decidable p] [Decidable q] (h : p ↔ q) : BitVec.ofBool (decide p) = BitVec.ofBool (decide q) := by
  simp only [h]
/-- An unsigned comparison with 512 asks for the range 0 … 511. -/
theorem ult_512 (x : BitVec 32) (z : ℤ) (h : x.toInt = z) : IntOp.cmpi .ult x 512#32 = BitVec.ofBool (decide (0 ≤ z ∧ z < 512)) := by
  show BitVec.ofBool (decide (x.toNat < (512#32).toNat)) = _
  apply ofBool_congr
  have : (512#32).toNat = 512 := rfl
  have := x.isLt
  rw [BitVec.toInt_eq_toNat_cond] at h
  split at h <;> omega
theorem select_ofBool {α : Type} (p : Prop) [Decidable p] (a b : α) : Scalar.select (BitVec.ofBool (decide p)) a b = if p then a else b := by
  by_cases h : p <;> simp [h, Scalar.select]

/-- The first query of tile `q`. -/
theorem t0_eq (q : ℕ) (hq : q < 8) : Scalar.muli (BitVec.ofNat 32 q) 256#32 = BitVec.ofNat 32 (256 * q) := by
  interval_cases q <;> rfl
/-- The compressed branch's mask. -/
theorem cmp_mask (n a q : ℕ) (hn : n < 128) (ha : a < 256) (hq : q < 8) :
    IntOp.cmpi .sge (IntOp.subi (BitVec.ofNat 32 a) (IntOp.muli 16#32 (BitVec.ofNat 32 n))) (Scalar.subi 31#32 (BitVec.ofNat 32 (256 * q)))
      = BitVec.ofBool (decide (16 * n + 31 ≤ 256 * q + a)) := by
  have e : IntOp.muli 16#32 (BitVec.ofNat 32 n) = BitVec.ofNat 32 (16 * n) := by
    apply BitVec.eq_of_toNat_eq
    simp [IntOp.muli]
  have h1 := toInt_nat a (by omega)
  have h2 := toInt_nat (16 * n) (by omega)
  have h3 := toInt_nat (256 * q) (by omega)
  have h4 : (31#32).toInt = 31 := rfl
  rw [sge_eq, e, show Scalar.subi 31#32 (BitVec.ofNat 32 (256 * q)) = IntOp.subi 31#32 (BitVec.ofNat 32 (256 * q)) from rfl,
    toInt_sub _ _ (by omega) (by omega), toInt_sub _ _ (by omega) (by omega)]
  exact ofBool_congr (by omega)
/-- The own tile's mask. -/
theorem own_mask (r a : ℕ) (hr : r < 768) (ha : a < 256) :
    IntOp.cmpi .sge (IntOp.subi (BitVec.ofNat 32 a) (BitVec.ofNat 32 r)) 0#32 = BitVec.ofBool (decide (r ≤ a)) := by
  have h1 := toInt_nat a (by omega)
  have h2 := toInt_nat r (by omega)
  have h4 : (0#32).toInt = 0 := rfl
  rw [sge_eq, toInt_sub _ _ (by omega) (by omega)]
  exact ofBool_congr (by omega)
/-- A window tile's mask, its distance given. -/
theorem win_mask (r a : ℕ) (d : BitVec 32) (z : ℤ) (hd : d.toInt = z) (hz : 0 ≤ z ∧ z < 2048) (hr : r < 768) (ha : a < 256) :
    IntOp.cmpi .ult (IntOp.addi (IntOp.subi (BitVec.ofNat 32 a) (BitVec.ofNat 32 r)) d) 512#32
      = BitVec.ofBool (decide ((r : ℤ) ≤ a + z ∧ a + z < r + 512)) := by
  have h1 := toInt_nat a (by omega)
  have h2 := toInt_nat r (by omega)
  rw [ult_512 _ _ rfl, toInt_add _ _ (by rw [toInt_sub _ _ (by omega) (by omega)]; omega) (by omega), toInt_sub _ _ (by omega) (by omega)]
  exact ofBool_congr (by omega)
theorem back_tab : ∀ q : Fin 8, (Scalar.select (Scalar.cmpi .sge (Scalar.subi (BitVec.ofNat 32 (256 * q.val)) 256#32) 0#32) 256#32 1280#32).toInt
    = if 1 ≤ q.val then 256 else 1280 := by decide +kernel
theorem back2_tab : ∀ q : Fin 8, (Scalar.select (Scalar.cmpi .sge (Scalar.subi (BitVec.ofNat 32 (256 * q.val)) 512#32) 0#32) 512#32 1280#32).toInt
    = if 2 ≤ q.val then 512 else 1280 := by decide +kernel
theorem wide_tab : ∀ q : Fin 8, (Scalar.subi (BitVec.ofNat 32 (256 * q.val)) (Scalar.maxsi (Scalar.subi (BitVec.ofNat 32 (256 * q.val)) 512#32) 0#32)).toInt
    = if 2 ≤ q.val then 512 else 256 * (q.val : ℤ) := by decide +kernel
/-- The selected branch's mask in a tile of 512 keys. -/
theorem tile_mask (r a q k : ℕ) (w : BitVec 32) (hr : r < 768) (ha : a < 256) (hq : q < 8) (hk : k < 4) (e : w = BitVec.ofNat 32 (512 * k)) :
    IntOp.cmpi .sge (IntOp.addi (IntOp.subi (BitVec.ofNat 32 a) (BitVec.ofNat 32 r))
      (Scalar.subi (BitVec.ofNat 32 (256 * q)) w)) 0#32
      = BitVec.ofBool (decide (512 * k + r ≤ 256 * q + a)) := by
  have h1 := toInt_nat a (by omega)
  have h2 := toInt_nat r (by omega)
  have h3 := toInt_nat (256 * q) (by omega)
  have h5 := toInt_nat (512 * k) (by omega)
  have h4 : (0#32).toInt = 0 := rfl
  have h6 := toInt_sub (BitVec.ofNat 32 (256 * q)) (BitVec.ofNat 32 (512 * k)) (by omega) (by omega)
  have h7 := toInt_sub (BitVec.ofNat 32 a) (BitVec.ofNat 32 r) (by omega) (by omega)
  rw [sge_eq, e, show Scalar.subi (BitVec.ofNat 32 (256 * q)) (BitVec.ofNat 32 (512 * k)) = IntOp.subi _ _ from rfl,
    toInt_add _ _ (by omega) (by omega)]
  exact ofBool_congr (by omega)
theorem eq_nat (a b : ℕ) (ha : a < 2 ^ 25) (hb : b < 2 ^ 25) : IntOp.cmpi .eq (BitVec.ofNat 32 a) (BitVec.ofNat 32 b) = BitVec.ofBool (decide (a = b)) := by
  show BitVec.ofBool (decide (BitVec.ofNat 32 a = BitVec.ofNat 32 b)) = _
  apply ofBool_congr
  constructor
  · intro h
    have := congrArg BitVec.toNat h
    simp only [BitVec.toNat_ofNat] at this
    omega
  · rintro rfl; rfl
theorem eq_pred (a b : ℕ) (ha : a < 2 ^ 25) (hb : b < 2 ^ 25) :
    IntOp.cmpi .eq (BitVec.ofNat 32 a) (IntOp.subi (BitVec.ofNat 32 b) 1#32) = BitVec.ofBool (decide (a + 1 = b)) := by
  have h1 := toInt_nat a (by omega)
  have h2 := toInt_nat b (by omega)
  have h3 : (1#32).toInt = 1 := rfl
  have h6 := toInt_sub (BitVec.ofNat 32 b) 1#32 (by omega) (by omega)
  show BitVec.ofBool (decide (BitVec.ofNat 32 a = IntOp.subi (BitVec.ofNat 32 b) 1#32)) = _
  apply ofBool_congr
  constructor
  · intro h
    have := congrArg BitVec.toInt h
    omega
  · intro h
    apply BitVec.eq_of_toInt_eq
    omega
theorem ori_dec (p q : Prop) [Decidable p] [Decidable q] : IntOp.ori (BitVec.ofBool (decide p)) (BitVec.ofBool (decide q)) = BitVec.ofBool (decide (p ∨ q)) := by
  by_cases h : p <;> by_cases h' : q <;> simp [h, h', IntOp.ori]
theorem andi_dec (p q : Prop) [Decidable p] [Decidable q] : IntOp.andi (BitVec.ofBool (decide p)) (BitVec.ofBool (decide q)) = BitVec.ofBool (decide (p ∧ q)) := by
  by_cases h : p <;> by_cases h' : q <;> simp [h, h', IntOp.andi]
/-- The block's number against the query's block, as the importance's mask spells it. -/
theorem forced_eq (u : ArithUnit) (j n : ℕ) (hj : j < 32) (hn : n < 2048) (w : BitVec 32) (hw : w = BitVec.ofNat 32 (n / 64)) :
    IntOp.ori (IntOp.cmpi .eq (BitVec.ofNat 32 j) 0#32) (IntOp.ori (IntOp.cmpi .eq (BitVec.ofNat 32 j) w)
      (IntOp.cmpi .eq (BitVec.ofNat 32 j) (IntOp.subi w 1#32)))
      = BitVec.ofBool (decide (j = 0 ∨ j = n / 64 ∨ j + 1 = n / 64)) := by
  subst hw
  rw [show (0#32) = BitVec.ofNat 32 0 from rfl, eq_nat _ _ (by omega) (by omega), eq_nat _ _ (by omega) (by omega), eq_pred _ _ (by omega) (by omega), ori_dec, ori_dec]
theorem future_eq (j n : ℕ) (hj : j < 32) (hn : n < 2048) :
    IntOp.cmpi .sgt (IntOp.muli (BitVec.ofNat 32 j) 64#32) (BitVec.ofNat 32 n) = BitVec.ofBool (decide (n < 64 * j)) := by
  have e : IntOp.muli (BitVec.ofNat 32 j) 64#32 = BitVec.ofNat 32 (64 * j) := by
    apply BitVec.eq_of_toNat_eq
    simp [IntOp.muli, Nat.mul_comm]
  have h1 := toInt_nat n (by omega)
  have h2 := toInt_nat (64 * j) (by omega)
  rw [sgt_eq, e]
  exact ofBool_congr (by omega)
theorem add_nat (a b : ℕ) : IntOp.addi (BitVec.ofNat 32 a) (BitVec.ofNat 32 b) = BitVec.ofNat 32 (a + b) := by
  show BitVec.ofNat 32 a + BitVec.ofNat 32 b = _
  rw [← BitVec.ofNat_add]
/-- The block indicator beside the keys. -/
theorem onehot_eq (r s : ℕ) (hr : r < 2048) (hs : s < 128) (h : ¬ s < 64) :
    IntOp.andi (IntOp.cmpi .sge (BitVec.ofNat 32 s) 64#32) (IntOp.cmpi .eq (fdiv ArithUnit.vector (BitVec.ofNat 32 r)) (IntOp.subi (BitVec.ofNat 32 s) 64#32))
      = BitVec.ofBool (decide (r / 64 = s - 64)) := by
  have e : IntOp.subi (BitVec.ofNat 32 s) 64#32 = BitVec.ofNat 32 (s - 64) := by
    apply BitVec.eq_of_toInt_eq
    have h1 := toInt_nat s (by omega)
    have h2 := toInt_nat (s - 64) (by omega)
    have h3 : (64#32).toInt = 64 := rfl
    rw [toInt_sub _ _ (by omega) (by omega)]
    omega
  have h1 := toInt_nat s (by omega)
  have h3 : (64#32).toInt = 64 := rfl
  rw [e, fdiv_tab ⟨r, hr⟩, eq_nat _ _ (by show r / 64 < _; omega) (by omega), sge_eq, andi_dec]
  exact ofBool_congr (by show _ ∧ r / 64 = _ ↔ _; omega)
/-- The reference's mask of the compressed branch. -/
theorem ends_eq (n t : ℕ) (hn : n < 127) (ht : t < 2048) :
    IntOp.cmpi .sle (IntOp.addi (IntOp.muli 16#32 (BitVec.ofNat 32 n)) 31#32) (BitVec.ofNat 32 t) = BitVec.ofBool (decide (16 * n + 31 ≤ t)) := by
  have e : IntOp.addi (IntOp.muli 16#32 (BitVec.ofNat 32 n)) 31#32 = BitVec.ofNat 32 (16 * n + 31) := by
    apply BitVec.eq_of_toNat_eq
    simp [IntOp.muli, IntOp.addi]
  have h1 := toInt_nat (16 * n + 31) (by omega)
  have h2 := toInt_nat t (by omega)
  rw [sle_eq, e]
  exact ofBool_congr (by omega)
theorem slt64 (s : ℕ) (hs : s < 2 ^ 20) : IntOp.cmpi .slt (BitVec.ofNat 32 s) 64#32 = BitVec.ofBool (decide (s < 64)) := by
  have h1 := toInt_nat s (by omega)
  have h3 : (64#32).toInt = 64 := rfl
  rw [slt_eq]
  exact ofBool_congr (by omega)
end Cert.Words
end
-- ==== Proof.KPieces.lean ====
/- The kernel's queries, keys, values and offsets, element by element. -/
module

public import proofs.«01_k».proof.Proof.BodyVal
public import proofs.«01_k».proof.Proof.Spec
public import proofs.«01_k».proof.Proof.Words
public import Idealize.ShloMosaic.Lib.Pointwise

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

theorem scale_eq : (Named.named κ "scale" 1043900987#32 : Ideal .f32) = KS :=
  IdealRules.named_const.ideal_named_scalar _ _ _ _ rfl
theorem neg_eq : NEG = ⊥ :=
  IdealRules.named_const.ideal_named_scalar _ _ _ _ rfl
variable (x3 : FVec Ideal S1x256x256 .bf16) (x4 : FVec Ideal S1x2048x256 .bf16) (x5 : FVec Ideal S1x1x128x128 .f32)
/-- The query in column `s`. -/
def kQ (a : ℕ) (g : ℕ) (d : Fin 64) : EReal := x3 (ix3 0 (Fin.ofNat 256 a) (Fin.ofNat 256 (64 * g + d.val)))

theorem pay95_at (a : Fin 256) (s : Fin 128) : k0_pay95 (ix2 a s) = BitVec.ofBool (decide (s.val < 64)) := by
  pointwise [k0_pay95]
  exact slt64 s.val (by omega)
theorem v27_at (s : Fin 1024) (y : Fin 128) :
    k0_pay96 (F := Ideal) x3 (ix2 s y) = if h : y.val < 64 then kQ x3 (s.val % 256) (s.val / 256) ⟨y.val, h⟩ * KS else (0 : EReal) := by
  pointwise [k0_pay96]
  simp only [pay95_at, select_ofBool, scale_eq]
  have hs := s.isLt
  have hy := y.isLt
  by_cases h : y.val < 64
  · simp only [dif_pos h, if_pos h]
    unfold kQ
    split_ifs with h1 h2 h3 <;>
    · refine congrArg (fun z : EReal => z * KS) (congrArg x3 ?_)
      congr 1 <;> apply Fin.ext <;> simp only [Fin.ofNat] <;> omega
  · simp only [dif_neg h, if_neg h, dite_eq_ite, ite_self]
theorem v28_at (s : Fin 1024) (y : Fin 128) :
    k0_pay97 (F := Ideal) x3 (ix2 s y) = if h : y.val < 64 then kQ x3 (s.val % 256) (s.val / 256) ⟨y.val, h⟩ * KS else (0 : EReal) := by
  rw [← v27_at]
  pointwise [k0_pay97]
theorem k_at (r y : Fin 128) : k0_pay101 (F := Ideal) x5 (ix2 r y) = x5 (ix4 0 0 r y) := by
  pointwise [k0_pay101, k0_pay100]
theorem v_at (r y : Fin 128) : k0_pay100 (F := Ideal) x5 (ix2 r y) = x5 (ix4 0 0 r y) := by
  pointwise [k0_pay100]
theorem y12_at (r : Fin 768) (s : Fin 1024) : k0_pay9 (ix2 r s) = IntOp.subi (BitVec.ofNat 32 (s.val % 256)) (BitVec.ofNat 32 r.val) := by
  pointwise [k0_pay9]
  exact congrArg (fun z => IntOp.subi z _) (frem_tab s)
theorem y13_at (r : Fin 128) (s : Fin 1024) : L35 Y13 (ix2 r s) = IntOp.subi (BitVec.ofNat 32 (s.val % 256)) (IntOp.muli 16#32 (BitVec.ofNat 32 r.val)) := by
  unfold L35 Y13
  pointwise [k0_pay12,k0_pay11,k0_pay10]
  exact congrArg (fun z => IntOp.subi z _) (frem_tab s)
theorem y9_at (r : Fin 2048) (y : Fin 128) : Y9 x4 (ix2 r y) =
    if h : y.val < 64 then x4 (ix3 0 r ⟨y.val, by omega⟩) else if r.val / 64 = y.val - 64 then 1 else (0 : EReal) := by
  unfold Y9
  pointwise [k0_pay8, k0_pay7]
  by_cases h : y.val < 64
  · rw [slt64 _ (by omega), select_ofBool, if_pos h, dif_pos h]
  · rw [slt64 _ (by omega), select_ofBool, if_neg h, dif_neg h]
    refine Eq.trans (congrArg (fun z => Scalar.select z _ _) (onehot_eq r.val y.val r.isLt y.isLt h)) ?_
    rw [select_ofBool]
end Cert.KernelIdeal.Exact
end
-- ==== Proof.KCmp.lean ====
/- The kernel's compressed branch: its softmax, its output, the blocks' importance. -/
module

public import proofs.«01_k».proof.Proof.KPieces

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

variable (q : Fin 8) (v28 : FVec Ideal S1024x128 .bf16) (v32 : FVec Ideal S128x128 .f32) (v33 : FVec Ideal S128x128 .bf16)
  (cst : FVec Ideal S128x1024 .f32) (v35 : IVec S128x1024 32) (Q : Fin 1024 → Fin 64 → EReal)
/-- The first query of the tile, as a word. -/
abbrev w0 : BitVec 32 := BitVec.ofNat 32 (256 * q.val)
/-- The compressed keys. -/
abbrev kcs (n : Fin 127) (d : Fin 64) : EReal := v33 (ix2 (⟨n.val, by omega⟩ : Fin 128) (⟨d.val, by omega⟩ : Fin 128))
/-- The compressed scores with one window more, which never counts. -/
def S128 (s : Fin 1024) (n : Fin 128) : EReal :=
  if 16 * n.val + 31 ≤ 256 * q.val + s.val % 256 then score (fun d => v33 (ix2 n (⟨d.val, by omega⟩ : Fin 128))) (Q s) else ⊥
theorem s128_cast (s : Fin 1024) : (fun n : Fin 127 => S128 q v33 Q s n.castSucc) = Sc (256 * q.val + s.val % 256) (kcs v33) (Q s) := rfl
theorem s128_off (s : Fin 1024) (n : Fin 128) (h : n ∉ Set.range (Fin.castSucc (n := 127))) : S128 q v33 Q s n = ⊥ := by
  have hn : n.val = 127 := by
    by_contra h'
    exact h ⟨⟨n.val, by omega⟩, rfl⟩
  exact if_neg (by omega)
/-- A sum of the softmax over all windows. -/
theorem s128_sum (s : Fin 1024) (v : Fin 128 → EReal) :
    ∑ n, soft EPS (S128 q v33 Q s) n * v n = ∑ n, soft EPS (Sc (256 * q.val + s.val % 256) (kcs v33) (Q s)) n * v n.castSucc :=
  (soft_embed_sum eps_pos (S128 q v33 Q s) v Fin.castSucc (Fin.castSucc_injective 127) (s128_off q v33 Q s)).symm

variable (hcst : ∀ n s, cst (ix2 n s) = 0) (h28 : ∀ s y, v28 (ix2 s y) = if h : y.val < 64 then Q s ⟨y.val, h⟩ * KS else 0)
  (h35 : ∀ n s, v35 (ix2 n s) = IntOp.subi (BitVec.ofNat 32 (s.val % 256)) (IntOp.muli 16#32 (BitVec.ofNat 32 n.val)))
include hcst h28 h35
theorem cmp_score (n : Fin 128) (s : Fin 1024) :
    Scalar.select (IntOp.cmpi .sge (v35 (ix2 n s)) (Scalar.subi 31#32 (w0 q))) (cst (ix2 n s) + ∑ y : Fin 128, v33 (ix2 n y) * v28 (ix2 s y)) (Ideal.ofBits .f32 4286578688#32)
      = c2 * S128 q v33 Q s n := by
  rw [h35, cmp_mask n.val (s.val % 256) q.val n.isLt (by omega) q.isLt, select_ofBool, hcst, zero_add, neg_inf,
    score_lanes (fun y => v33 (ix2 n y)) (fun y => v28 (ix2 s y)) (Q s) (h28 s), S128]
  split
  · rfl
  · exact c2_mul_bot.symm
/-- The compressed branch's softmax. -/
theorem pay102_at (r : Fin 128) (s : Fin 1024) : k0_pay102 (F := Ideal) (w0 q) v28 v33 cst v35 (ix2 r s) = soft EPS (S128 q v33 Q s) r := by
  have hs := cmp_score q v28 v33 cst v35 Q hcst h28 h35
  rw [← soft_exp2 eps_pos eps_le (S128 q v33 Q s) _ rfl r]
  pointwise [k0_pay102]
  simp only [hs]
  simp only [fold_max, sup_c2]
  simp only [neg_inf]
  rfl
/-- The compressed branch's output, transposed. -/
theorem pay103_at (r : Fin 128) (s : Fin 1024) : k0_pay103 (F := Ideal) (w0 q) v28 v32 v33 cst v35 (ix2 r s)
    = ∑ n, soft EPS (Sc (256 * q.val + s.val % 256) (kcs v33) (Q s)) n * v32 (ix2 (⟨n.val, by omega⟩ : Fin 128) r) := by
  have hp := pay102_at q v28 v33 cst v35 Q hcst h28 h35
  refine Eq.trans ?_ (s128_sum q v33 Q s (fun n => v32 (ix2 n r)))
  pointwise [k0_pay103]
  simp only [hp]
  exact Finset.sum_congr rfl fun n _ => mul_comm _ _
/-- The four queries' softmax, summed. -/
def ps (n : Fin 128) (a : Fin 256) : EReal := ∑ g : Fin 4, soft EPS (S128 q v33 Q ⟨256 * g.val + a.val, by omega⟩) n
omit hcst h28 h35 in
theorem ps_real (n : Fin 128) (a : Fin 256) : ∃ r : ℝ, ps q v33 Q n a = r := by
  choose f hf using fun g : Fin 4 => soft_coe eps_pos eps_le (S128 q v33 Q ⟨256 * g.val + a.val, by omega⟩) n
  exact ⟨∑ g, f g, by rw [coe_sum]; exact Finset.sum_congr rfl fun g _ => hf g⟩
theorem pay104_at (n : Fin 128) (a : Fin 256) : k0_pay104 (F := Ideal) (w0 q) v28 v33 cst v35 (ix2 n a) = ps q v33 Q n a := by
  have hp := pay102_at q v28 v33 cst v35 Q hcst h28 h35
  pointwise [k0_pay104]
  simp only [hp]
  rw [ps, Fin.sum_univ_four]
  have e : (⟨256 * (0 : Fin 4).val + a.val, by show 256 * 0 + a.val < 1024; omega⟩ : Fin 1024) = ⟨a.val, by omega⟩ := Fin.ext (by show 256 * 0 + a.val = a.val; omega)
  rw [e]
  rfl
theorem pay105_at (n : Fin 128) (a : Fin 256) : k0_pay105 (F := Ideal) (w0 q) v28 v33 cst v35 (ix2 n a) = ps q v33 Q n a := by
  rw [← pay104_at q v28 v33 cst v35 Q hcst h28 h35]
  pointwise [k0_pay105]
omit hcst h28 h35 in
theorem real_sub (x : EReal) (h : ∃ r : ℝ, x = r) : x - x = 0 := by
  obtain ⟨r, rfl⟩ := h
  rw [← EReal.coe_sub, sub_self]; rfl
theorem pay106_at (n : Fin 128) (a : Fin 256) : k0_pay106 (F := Ideal) (w0 q) v28 v33 cst v35 (ix2 n a) = (0 : EReal) := by
  have h4 := pay104_at q v28 v33 cst v35 Q hcst h28 h35 n a
  have h5 := pay105_at q v28 v33 cst v35 Q hcst h28 h35 n a
  pointwise [k0_pay106]
  rw [h4, h5]
  exact real_sub _ (ps_real q v33 Q n a)
theorem pay107_at (n : Fin 128) (a : Fin 256) : k0_pay107 (F := Ideal) (w0 q) v28 v33 cst v35 (ix2 n a) = (0 : EReal) := by
  rw [← pay106_at q v28 v33 cst v35 Q hcst h28 h35 n a]
  pointwise [k0_pay107]
theorem pay108_at (n : Fin 128) (a : Fin 256) : k0_pay108 (F := Ideal) (w0 q) v28 v33 cst v35 (ix2 n a) = (0 : EReal) := by
  have h6 := pay106_at q v28 v33 cst v35 Q hcst h28 h35 n a
  have h7 := pay107_at q v28 v33 cst v35 Q hcst h28 h35 n a
  pointwise [k0_pay108]
  rw [h6, h7]
  exact sub_zero (0 : EReal)
omit hcst h28 h35 in
theorem sum_mul_zero {K : Type} [Fintype K] (f g : K → EReal) (h : ∀ k, g k = 0) : ∑ k, f k * g k = 0 :=
  Finset.sum_eq_zero fun k _ => by rw [h, mul_zero]
variable (L : FVec Ideal S32x128 .bf16) (hL : ∀ (j : Fin 32) (n : Fin 127), L (ix2 j (⟨n.val, by omega⟩ : Fin 128)) = ov n j)
omit hcst h28 h35 in
theorem pay109_at (j : Fin 32) (n : Fin 128) : k0_pay109 (F := Ideal) L (ix2 j n) = L (ix2 j n) := by
  pointwise [k0_pay109]
include hL
omit hcst h28 h35 in
/-- The importance before its mask. -/
theorem ps_ov (j : Fin 32) (a : Fin 256) : ∑ n, L (ix2 j n) * ps q v33 Q n a
    = ∑ n, (∑ g : Fin 4, soft EPS (Sc (256 * q.val + a.val) (kcs v33) (Q ⟨256 * g.val + a.val, by omega⟩)) n) * ov n j := by
  rw [Fin.sum_univ_castSucc]
  have h0 : ps q v33 Q (Fin.last 127) a = 0 := by
    unfold ps
    refine Finset.sum_eq_zero fun g _ => soft_bot eps_pos _ _ (if_neg ?_)
    show ¬ 16 * 127 + 31 ≤ 256 * q.val + (256 * g.val + a.val) % 256
    omega
  rw [h0, mul_zero, add_zero]
  refine Finset.sum_congr rfl fun n _ => ?_
  rw [mul_comm]
  refine congrArg₂ (fun y z : EReal => y * z) ?_ (hL j n)
  unfold ps
  refine Finset.sum_congr rfl fun g _ => ?_
  rw [← soft_embed (S128 q v33 Q _) Fin.castSucc (Fin.castSucc_injective 127) (s128_off q v33 Q _) n, s128_cast]
  have e : (⟨256 * g.val + a.val, by omega⟩ : Fin 1024).val % 256 = a.val := by show (256 * g.val + a.val) % 256 = a.val; omega
  rw [e]
theorem pay110_at (j : Fin 32) (a : Fin 256) : k0_pay110 (F := Ideal) (w0 q) v28 v33 cst v35 L (ix2 j a) = ∑ n, L (ix2 j n) * ps q v33 Q n a := by
  have h5 := pay105_at q v28 v33 cst v35 Q hcst h28 h35
  have h7 := pay107_at q v28 v33 cst v35 Q hcst h28 h35
  have h9 := pay109_at L
  pointwise [k0_pay110]
  simp only [h5, h7, h9]
  rw [sum_mul_zero _ _ (fun _ => rfl), add_zero]
/-- The blocks' importance. -/
theorem pay111_at (c2 : FVec Ideal S32x256 .f32) (hc2 : ∀ j a, c2 (ix2 j a) = 0) (j : Fin 32) (a : Fin 256) :
    k0_pay111 (F := Ideal) (w0 q) (k0_pay108 (w0 q) v28 v33 cst v35) (k0_pay109 L) (k0_pay110 (w0 q) v28 v33 cst v35 L) c2 (ix2 j a)
      = imp (256 * q.val + a.val) ov (kcs v33) (fun g => Q ⟨256 * g.val + a.val, by omega⟩) j := by
  have h8 := pay108_at q v28 v33 cst v35 Q hcst h28 h35
  have h10 := pay110_at q v28 v33 cst v35 Q hcst h28 h35 L hL
  have ht : 256 * q.val + a.val < 2048 := by omega
  pointwise [k0_pay111]
  simp only [h8, h10, hc2]
  have hw : fdiv ArithUnit.vector (IntOp.addi (w0 q) (BitVec.ofNat 32 a.val)) = BitVec.ofNat 32 ((256 * q.val + a.val) / 64) := by
    rw [add_nat]; exact fdiv_tab ⟨_, ht⟩
  rw [sum_mul_zero _ _ (fun _ => rfl), add_zero, add_zero, ps_ov q v33 Q L hL]
  refine Eq.trans (congrArg₂ (fun m m' => Scalar.select m _ (Scalar.select m' _ _))
    ((congrArg (fun z => IntOp.cmpi .sgt _ z) (add_nat _ _)).trans (future_eq j.val _ j.isLt ht)) (forced_eq .vector j.val _ j.isLt ht _ hw)) ?_
  rw [select_ofBool, select_ofBool, neg_inf, pos_inf]
  rfl
end Cert.KernelIdeal.Exact
end
-- ==== Proof.KRank.lean ====
/- The kernel's ranks of the blocks, and the selected branch's queries with the bias they give. -/
module

public import proofs.«01_k».proof.Proof.KCmp

@[expose] public section
noncomputable section
namespace Cert.KernelIdeal.Exact
open Cert.KernelIdeal Cert.KernelIdeal.Gen
open Idealize.ShloMosaic Idealize.ShloMosaic.TcCoe
open Cert.Spec Cert.Words Cert.Softmax Cert.Rank
set_option maxRecDepth 16384

/-- One if block `k` comes before block `m`, as the kernel spells it. -/
def bitN (x : Fin 32 → EReal) (m : Fin 32) (k : ℕ) : EReal :=
  Scalar.select (IntOp.ori (BitVec.ofBool (decide (x m < x (Fin.ofNat 32 k))))
    (IntOp.andi (BitVec.ofBool (decide (x (Fin.ofNat 32 k) = x m))) (IntOp.cmpi .sgt (BitVec.ofNat 32 m.val) (BitVec.ofNat 32 k)))) 1 0
theorem bitN_eq (x : Fin 32 → EReal) (m : Fin 32) (k : Fin 32) : bitN x m k.val = if bef x k m = true then ((1 : ℝ) : EReal) else ((0 : ℝ) : EReal) := by
  have hk : Fin.ofNat 32 k.val = k := Fin.ext (Nat.mod_eq_of_lt k.isLt)
  have h1 := toInt_nat m.val (by omega)
  have h2 := toInt_nat k.val (by omega)
  unfold bitN
  rw [hk, sgt_eq, h1, h2, andi_dec, ori_dec, select_ofBool]
  have h : (x m < x k ∨ x k = x m ∧ (k.val : ℤ) < m.val) ↔ bef x k m = true := by
    unfold bef
    rw [decide_eq_true_eq]
    have : ((k.val : ℤ) < m.val) ↔ k < m := by rw [Fin.lt_def]; omega
    rw [this]
  by_cases hb : bef x k m = true
  · rw [if_pos hb, if_pos (h.mpr hb)]; rfl
  · rw [if_neg hb, if_neg (fun hh => hb (h.mp hh))]; rfl
/-- The kernel's test of a block's rank. -/
theorem rank_sel (x : Fin 32 → EReal) (m : Fin 32) :
    (∑ k ∈ Finset.range 32, bitN x m k) < Ideal.ofBits .f32 1090519040#32 ↔ sel x m := by
  have h : (∑ k ∈ Finset.range 32, bitN x m k) = (((Finset.univ.filter fun b => bef x b m = true).card : ℝ) : EReal) := by
    rw [← Fin.sum_univ_eq_sum_range (fun k => bitN x m k) 32, Finset.sum_congr rfl (fun k _ => bitN_eq x m k),
      Finset.sum_congr rfl (fun k _ => (apply_ite (fun r : ℝ => (r : EReal)) (bef x k m = true) 1 0).symm), ← coe_sum, Finset.sum_boole]
  rw [h, eight, sel, EReal.coe_lt_coe_iff]
  norm_cast
theorem rank_a (v123 : FVec Ideal S32x256 .f32) (v125 : FVec Ideal S1x256 .f32) (m : Fin 32) (a : Fin 256) (h0 : v125 (ix2 0 a) = v123 (ix2 0 a)) :
    rankA W81 v123 v125 (ix2 m a) = ∑ k ∈ Finset.range 30, bitN (fun b => v123 (ix2 b a)) m k := by
  unfold rankA W81
  pointwise [k0_pay112,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138]
  simp only [Finset.sum_range_succ, Finset.sum_range_zero, h0, zero_add]
  rfl
/-- A block's bias. -/
def bias (v123 : FVec Ideal S32x256 .f32) (a : Fin 256) (m : Fin 32) : EReal :=
  open Classical in if sel (fun b => v123 (ix2 b a)) m then 0 else ⊥
theorem bias_eq (v123 : FVec Ideal S32x256 .f32) (a : Fin 256) (m : Fin 32) (x : EReal)
    (hx : x = ∑ k ∈ Finset.range 30, bitN (fun b => v123 (ix2 b a)) m k) :
    (if x + bitN (fun b => v123 (ix2 b a)) m 30 + bitN (fun b => v123 (ix2 b a)) m 31 < Ideal.ofBits .f32 1090519040#32 then (0 : EReal) else NEG) = bias v123 a m := by
  have h := rank_sel (fun b => v123 (ix2 b a)) m
  rw [Finset.sum_range_succ, Finset.sum_range_succ, ← hx] at h
  unfold bias
  by_cases hs : sel (fun b => v123 (ix2 b a)) m
  · rw [if_pos hs, if_pos (h.mpr hs)]
  · rw [if_neg hs, if_neg (fun hh => hs (h.mp hh)), neg_eq]
/-- The selected branch's queries. -/
theorem pay140_at (v27 : FVec Ideal S1024x128 .f32) (v123 v514 : FVec Ideal S32x256 .f32) (Q : Fin 1024 → Fin 64 → EReal)
    (h27 : ∀ s y, v27 (ix2 s y) = if h : y.val < 64 then Q s ⟨y.val, h⟩ * KS else 0)
    (h514 : ∀ m a, v514 (ix2 m a) = ∑ k ∈ Finset.range 30, bitN (fun b => v123 (ix2 b a)) m k) (r : Fin 1024) (y : Fin 128) :
    k0_pay140 v27 W81 v123 v514 (k0_pay139 v123) (ix2 r y) = if h : y.val < 64 then Q r ⟨y.val, h⟩ * KS else
      if h' : y.val - 64 < 32 then bias v123 ⟨r.val % 256, by omega⟩ ⟨y.val - 64, h'⟩ else 0 := by
  have hb := fun a m => bias_eq v123 a m _ (h514 m a)
  have hr := r.isLt
  have e : ∀ (f : Fin 256 → EReal), (if h : r.val < 256 then f ⟨r.val, h⟩ else if h : r.val - 256 < 256 then f ⟨r.val - 256, h⟩ else
      if h : r.val - 256 - 256 < 256 then f ⟨r.val - 256 - 256, h⟩ else f ⟨r.val - 256 - 256 - 256, by omega⟩) = f ⟨r.val % 256, by omega⟩ := by
    intro f
    split_ifs <;>
    · congr 1
      apply Fin.ext
      show _ = r.val % 256
      simp only
      omega
  refine Eq.trans ?_ (Eq.trans (congrArg (fun z => v27 (ix2 r y) + z) (e (fun a => if h : y.val < 64 then 0 else if h' : y.val - 64 < 32 then bias v123 a ⟨y.val - 64, h'⟩ else 0))) ?_)
  · simp only [← hb]
    unfold W81
    pointwise [k0_pay140,k0_pay139]
    rfl
  · rw [h27]
    by_cases h : y.val < 64
    · simp only [dif_pos h, add_zero]
    · simp only [dif_neg h, zero_add]
end Cert.KernelIdeal.Exact
end
-- ==== Proof.KSum.lean ====
/- The kernel's sums over tiles of keys as sums over all keys. -/
module

public import proofs.«01_k».proof.Proof.KRank

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

/-- A sum over a range of keys outside which every term is zero. -/
theorem ico_all (F : ℕ → EReal) (a b : ℕ) (hb : b ≤ 2048) (h : ∀ k < 2048, ¬ (a ≤ k ∧ k < b) → F k = 0) :
    ∑ k ∈ Finset.Ico a b, F k = ∑ k : Fin 2048, F k.val := by
  rw [Fin.sum_univ_eq_sum_range F 2048]
  refine Finset.sum_subset (fun k hk => ?_) (fun k hk hk' => h k (Finset.mem_range.mp hk) (fun hh => hk' (Finset.mem_Ico.mpr hh)))
  exact Finset.mem_range.mpr (by have := (Finset.mem_Ico.mp hk).2; omega)
/-- The window's three tiles. -/
theorem win_tiles (F : ℕ → EReal) (q : ℕ) (hq : q < 8) (h : ∀ k < 2048, ¬ (256 * q ≤ k + 512 ∧ k < 256 * q + 256) → F k = 0) :
    ((∑ x : Fin 256, F (256 * q + x.val)) + (if 1 ≤ q then ∑ x : Fin 256, F (256 * (q - 1) + x.val) else 0))
      + (if 2 ≤ q then ∑ x : Fin 256, F (256 * (q - 2) + x.val) else 0) = ∑ k : Fin 2048, F k.val := by
  rw [← ico_all F (256 * (q - 2)) (256 * q + 256) (by omega) (fun k hk hh => h k hk (by omega)), sum_block, sum_block, sum_block]
  rcases (by omega : q = 0 ∨ q = 1 ∨ 2 ≤ q) with rfl | rfl | h2
  · simp
  · rw [if_pos (le_refl 1), if_neg (by omega), add_zero, add_comm]
    exact Finset.sum_Ico_consecutive F (by omega) (by omega)
  · rw [if_pos (by omega), if_pos h2, add_comm, add_comm (∑ k ∈ Finset.Ico (256 * q) (256 * q + 256), F k), ← add_assoc,
      show 256 * (q - 1) = 256 * (q - 2) + 256 by omega, show 256 * (q - 2) + 256 + 256 = 256 * q by omega,
      Finset.sum_Ico_consecutive F (by omega) (by omega), Finset.sum_Ico_consecutive F (by omega) (by omega)]
/-- A weighted key of score `x`: nothing at a masked one. -/
theorem exp2_bot_mul (m v : EReal) : Ideal.exp2 (c2 * (⊥ : EReal) - m) * v = 0 := by
  rw [c2_mul_bot, bot_sub]
  have : Ideal.exp2 ⊥ = 0 := by simp
  rw [this, zero_mul]
/-- What the fast path gathers over all keys: weights against a maximum no larger than the true one. -/
def gat (S v : Fin 2048 → EReal) (M : EReal) : EReal := ∑ k, Ideal.exp2 (c2 * S k - M) * v k

variable (n : ℕ) (hn : n < 8) (a : ℕ) (ha : a < 256) (qs : FVec Ideal S1024x128 .bf16) (mk : IVec S256x1024 1) (y9 : FVec Ideal S2048x128 .bf16) (y10 : FVec Ideal S16x128x128 .bf16)
  (s : Fin 1024) (S : Fin 2048 → EReal)
include hn ha
/-- The selected branch's sums. -/
theorem accv_at (hmk : ∀ x, mk (ix2 x s) = BitVec.ofBool (decide (x.val ≤ a)))
    (hS : ∀ k : Fin 2048, c2 * S k = if k.val ≤ 256 * n + a then kS y9 qs k.val s else ⊥) :
    oM n qs mk y9 s ≤ c2 * Finset.univ.sup S ∧
      ∀ r, accv n qs mk y9 y10 r s = gat S (fun k => vt y10 k.val r) (oM n qs mk y9 s) := by
  have hx : ∀ x : Fin 256, Scalar.select (mk (ix2 x s)) (kS y9 qs (256 * n + x.val) s) NEG = c2 * S ⟨256 * n + x.val, by omega⟩ := fun x => by
    rw [hmk, select_ofBool, hS, neg_eq]
    by_cases h : x.val ≤ a
    · rw [if_pos h, if_pos (by show 256 * n + x.val ≤ _; omega)]
    · rw [if_neg h, if_neg (by show ¬ 256 * n + x.val ≤ _; omega)]
  refine ⟨?_, fun r => ?_⟩
  · show oM n qs mk y9 s ≤ _
    unfold oM
    rw [fold_max, ← sup_c2]
    exact Finset.sup_le fun x _ => (hx x).le.trans (Finset.le_sup (f := fun k => c2 * S k) (Finset.mem_univ _))
  · generalize hM : oM n qs mk y9 s = M
    have hofn : ∀ k (h : k < 2048), Fin.ofNat 2048 k = (⟨k, h⟩ : Fin 2048) := fun k h => Fin.ext (Nat.mod_eq_of_lt h)
    unfold gat
    have e := ico_all (fun k => Ideal.exp2 (c2 * S (Fin.ofNat 2048 k) - M) * vt y10 k r) 0 (256 * n + 256) (by omega) (fun k hk hh => by
      rw [hS, if_neg (by rw [hofn k hk]; show ¬ k ≤ _; omega), ← c2_mul_bot]
      exact exp2_bot_mul _ _)
    simp only [Fin.ofNat_val_eq_self] at e
    rw [← e, ← Finset.sum_Ico_consecutive _ (Nat.zero_le (256 * n)) (by omega), ← sum_block _ (256 * n) 256, add_comm]
    unfold accv
    rw [hM]
    refine congrArg₂ (fun y z : EReal => y + z) ?_ ?_
    · refine Finset.sum_congr rfl fun x _ => ?_
      rw [hx, hofn _ (by omega), mul_comm]
      rfl
    · rw [← Finset.range_eq_Ico]
      refine Finset.sum_congr rfl fun k hk => ?_
      have hk' := Finset.mem_range.mp hk
      rw [hofn k (by omega), hS, if_pos (by show k ≤ _; omega), mul_comm]
      rfl
end Cert.KernelIdeal.Exact
end
-- ==== Proof.KLoad.lean ====
/- The blocks the body loads, read at an index. -/
module

public import proofs.«01_k».proof.Proof.KSum
public import proofs.«01_k».proof.Proof.Loads

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

/-- Rows of the window's keys, loaded. -/
theorem kv_ld {n o : ℕ} (X : FVec Ideal S1x2048x256 .bf16) (off : Fin 3 → ℕ) (hoff : off = ![0, o, 128])
    (inb : ∀ a, off a + (![1, n, 128] : Fin 3 → ℕ) a ≤ S1x2048x256.size a) (r : Fin n) (y : Fin 128) :
    (View.ld (Val := Elt Ideal) (e' := .bf16) X (Rect.unit (s := S1x2048x256) off ![1, n, 128] inb) : (⟨3, ![1, n, 128]⟩ : Shape).Idx → EReal) (ix3 0 r y)
      = X (ix3 0 (Fin.ofNat 2048 (o + r.val)) (Fin.ofNat 256 (128 + y.val))) := by
  subst hoff
  have h : o + n ≤ 2048 := inb 1
  exact congrArg X (funext fun a => by
    fin_cases a
    · exact Fin.ext (by show 0 + 1 * 0 = 0; omega)
    · exact Fin.ext (by show o + 1 * r.val = (o + r.val) % 2048; have := r.isLt; omega)
    · exact Fin.ext (by show 128 + 1 * y.val = (128 + y.val) % 256; have := y.isLt; omega))
theorem tile_ld' {j : ℕ} (X : FVec Ideal S16x128x128 .bf16) (off : Fin 3 → ℕ) (hoff : off = ![j, 0, 0])
    (inb : ∀ a, off a + (![1, 128, 128] : Fin 3 → ℕ) a ≤ S16x128x128.size a) :
    Tile (View.ld (Val := Elt Ideal) (e' := .bf16) X (Rect.unit (s := S16x128x128) off ![1, 128, 128] inb)) j X := by
  subst hoff
  exact tile_ld X inb
theorem rows_ld' {n o : ℕ} (X : FVec Ideal S2048x128 .bf16) (off : Fin 2 → ℕ) (hoff : off = ![o, 0])
    (inb : ∀ a, off a + (![n, 128] : Fin 2 → ℕ) a ≤ S2048x128.size a) :
    Rows (n := n) (View.ld (Val := Elt Ideal) (e' := .bf16) X (Rect.unit (s := S2048x128) off ![n, 128] inb)) o X := by
  subst hoff
  exact rows_ld X inb
/-- Rows of the offsets, loaded. -/
theorem off_ld {n : ℕ} (hn : n ≤ 768) (X : IVec S768x1024 32) (inb : ∀ a, (![0, 0] : Fin 2 → ℕ) a + (![n, 1024] : Fin 2 → ℕ) a ≤ S768x1024.size a) (r : Fin n) (s : Fin 1024) :
    (View.ld (Val := Elt Ideal) (e' := .i32) X (Rect.unit (s := S768x1024) ![0, 0] ![n, 1024] inb) : (⟨2, ![n, 1024]⟩ : Shape).Idx → BitVec 32) (ix2 r s) = X (ix2 ⟨r.val, by omega⟩ s) :=
  congrArg X (funext fun a => by
    fin_cases a
    · exact Fin.ext (by show 0 + 1 * r.val = r.val; omega)
    · exact Fin.ext (by show 0 + 1 * s.val = s.val; omega))
/-- Two tiles of values against one tile's weights. -/
theorem tile_gather (y11 : FVec Ideal S16x128x128 .bf16) (j o : ℕ) (h : o = 128 * j) (b0 b1 : FVec Ideal S1x128x128 .bf16) (h0 : Tile b0 j y11) (h1 : Tile b1 (j + 1) y11)
    (f : Fin 256 → EReal) (M : EReal) (r : Fin 128) :
    (∑ x : Fin 128, b0 (ix3 0 r x) * FloatOps.exp2 (F := Ideal) (φ := .f32) (f ⟨x.val, by omega⟩ - M)) + ∑ x : Fin 128, b1 (ix3 0 r x) * FloatOps.exp2 (F := Ideal) (φ := .f32) (f ⟨128 + x.val, by omega⟩ - M)
      = ∑ x : Fin 256, Ideal.exp2 (f x - M) * vt y11 (o + x.val) r := by
  subst h
  rw [show (∑ x : Fin 256, Ideal.exp2 (f x - M) * vt y11 (128 * j + x.val) r) = _ from Fin.sum_univ_add (a := 128) (b := 128) (fun x => Ideal.exp2 (f x - M) * vt y11 (128 * j + x.val) r)]
  refine congrArg₂ (fun y z : EReal => y + z) (Finset.sum_congr rfl fun x _ => ?_) (Finset.sum_congr rfl fun x _ => ?_)
  · have e1 : (128 * j + x.val) / 128 = j := by omega
    have e2 : (128 * j + x.val) % 128 = x.val := by omega
    simp only [vt, Fin.val_castAdd, e1, e2, Fin.ofNat_val_eq_self]
    rw [h0, mul_comm]; rfl
  · have e1 : (128 * j + (128 + x.val)) / 128 = j + 1 := by omega
    have e2 : (128 * j + (128 + x.val)) % 128 = x.val := by omega
    simp only [vt, Fin.val_natAdd, e1, e2, Fin.ofNat_val_eq_self]
    rw [h1, mul_comm]; rfl

theorem off1_eq (i : grid0.Coords) : k0_off1 i = ![0, 256 * (i 2).val, 128] := by
  have h : (i 2).val < 8 := (i 2).isLt
  unfold k0_off1
  generalize (i 2).val = n at *
  interval_cases n <;> rfl
theorem off2_eq (i : grid0.Coords) (c : Fin 2) : k0_off2 i (BitVec.ofNat 32 c.val) = ![2 * (i 2).val + c.val, 0, 0] := by
  have h : (i 2).val < 8 := (i 2).isLt
  unfold k0_off2
  generalize (i 2).val = n at *
  fin_cases c <;> interval_cases n <;> rfl
theorem off3_eq (i : grid0.Coords) (d : Fin 2) : k0_off3 i (BitVec.ofNat 32 (256 * (d.val + 1))) = ![0, 256 * ((i 2).val - (d.val + 1)), 128] := by
  have h : (i 2).val < 8 := (i 2).isLt
  unfold k0_off3
  generalize (i 2).val = n at *
  fin_cases d <;> interval_cases n <;> rfl
theorem off4_eq (i : grid0.Coords) (d c : Fin 2) : k0_off4 i (BitVec.ofNat 32 (256 * (d.val + 1))) (BitVec.ofNat 32 c.val) = ![2 * ((i 2).val - (d.val + 1)) + c.val, 0, 0] := by
  have h : (i 2).val < 8 := (i 2).isLt
  unfold k0_off4
  generalize (i 2).val = n at *
  fin_cases d <;> fin_cases c <;> interval_cases n <;> rfl
theorem off5_eq (i : grid0.Coords) : k0_off5 i = ![0, 256 * ((i 2).val - 2), 128] := by
  have h : (i 2).val < 8 := (i 2).isLt
  unfold k0_off5
  generalize (i 2).val = n at *
  interval_cases n <;> rfl
theorem off6_eq (i : grid0.Coords) (c : Fin 6) : k0_off6 i (BitVec.ofNat 32 c.val) = ![2 * ((i 2).val - 2) + c.val, 0, 0] := by
  have h : (i 2).val < 8 := (i 2).isLt
  unfold k0_off6
  generalize (i 2).val = n at *
  fin_cases c <;> interval_cases n <;> rfl
theorem trips_eq (i : grid0.Coords) : (k0_t1_loop i).trips = (i 2).val / 2 + 1 := by
  have h : (i 2).val < 8 := (i 2).isLt
  unfold k0_t1_loop
  generalize (i 2).val = n at *
  interval_cases n <;> rfl
theorem off7_eq (i : grid0.Coords) (k : Fin (k0_t1_loop i).trips) : k0_off7 i k = ![512 * k.val, 0] := by
  have h : (i 2).val < 8 := (i 2).isLt
  have hk : k.val < 4 := by have := lt_of_lt_of_eq k.isLt (trips_eq i); omega
  unfold k0_off7
  generalize k.val = n at *
  interval_cases n <;> rfl
theorem off8_eq (i : grid0.Coords) (k : Fin (k0_t1_loop i).trips) (c : Fin 4) : k0_off8 i k (BitVec.ofNat 32 c.val) = ![4 * k.val + c.val, 0, 0] := by
  have h : (i 2).val < 8 := (i 2).isLt
  have hk : k.val < 4 := by have := lt_of_lt_of_eq k.isLt (trips_eq i); omega
  unfold k0_off8
  generalize k.val = n at *
  fin_cases c <;> interval_cases n <;> rfl
end Cert.KernelIdeal.Exact
end
-- ==== Proof.KWin.lean ====
/- The kernel's window branch on the fast path. -/
module

public import proofs.«01_k».proof.Proof.KLoad

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

/-! The window's vectors at an index, over whatever was loaded. -/
section
variable (v28 : FVec Ideal S1024x128 .bf16) (v555 : IVec S256x1024 1) (v559 : FVec Ideal S256x128 .bf16) (v563 v567 : FVec Ideal S1x128x128 .bf16)
theorem pay141_v (v : IVec S256x1024 32) (x : Fin 256) (s : Fin 1024) : k0_pay141 (F := Ideal) v (ix2 x s) = IntOp.cmpi .sge (v (ix2 x s)) 0#32 := by
  pointwise [k0_pay141]
theorem pay142_v (v : FVec Ideal S1x256x128 .bf16) (x : Fin 256) (y : Fin 128) : k0_pay142 v (ix2 x y) = v (ix3 0 x y) := by
  pointwise [k0_pay142]
theorem pay143_v (x : Fin 256) (s : Fin 1024) :
    k0_pay143 v28 v555 v559 (ix2 x s) = Scalar.select (v555 (ix2 x s)) (∑ y : Fin 128, v559 (ix2 x y) * v28 (ix2 s y)) NEG := by
  pointwise [k0_pay143]
theorem pay144_v (s : Fin 1024) : k0_pay144 v28 v555 v559 (ix2 0 s)
    = Finset.fold max (Ideal.ofBits .f32 4286578688#32) (fun x : Fin 256 => k0_pay143 v28 v555 v559 (ix2 x s)) Finset.univ := by
  pointwise [k0_pay144]
theorem pay145_v (r : Fin 128) (s : Fin 1024) : k0_pay145 v28 v555 v559 v563 v567 (ix2 r s)
    = (∑ x : Fin 128, v563 (ix3 0 r x) * FloatOps.exp2 (F := Ideal) (φ := .f32) (k0_pay143 v28 v555 v559 (ix2 ⟨x.val, by omega⟩ s) - k0_pay144 v28 v555 v559 (ix2 0 s)))
      + ∑ x : Fin 128, v567 (ix3 0 r x) * FloatOps.exp2 (F := Ideal) (φ := .f32) (k0_pay143 v28 v555 v559 (ix2 ⟨128 + x.val, by omega⟩ s) - k0_pay144 v28 v555 v559 (ix2 0 s)) := by
  pointwise [k0_pay145]
theorem pay146_v (v0 : BitVec 32) (v584 : IVec S256x1024 32) (x : Fin 256) (s : Fin 1024) : k0_pay146 (F := Ideal) v0 v584 (ix2 x s)
    = IntOp.cmpi .ult (IntOp.addi (v584 (ix2 x s)) (Scalar.select (Scalar.cmpi .sge (Scalar.subi v0 256#32) 0#32) 256#32 1280#32)) 512#32 := by
  pointwise [k0_pay146]
theorem pay147_v (v591 : FVec Ideal S1x256x128 .bf16) (x : Fin 256) (s : Fin 1024) :
    k0_pay147 v28 v591 (ix2 x s) = (∑ y : Fin 128, v591 (ix3 0 x y) * v28 (ix2 s y) : EReal) := by
  pointwise [k0_pay147]
theorem pay148_v (v574 : FVec Ideal S1x1024 .f32) (v579 : FVec Ideal S128x1024 .f32) (v588 : IVec S256x1024 1) (v593 : FVec Ideal S256x1024 .f32) (r : Fin 128) (s : Fin 1024) :
    k0_pay148 v574 v579 v588 v593 v563 v567 (ix2 r s)
    = v579 (ix2 r s) + ((∑ x : Fin 128, v563 (ix3 0 r x) * FloatOps.exp2 (F := Ideal) (φ := .f32) ((fun x : Fin 256 => Scalar.select (v588 (ix2 x s)) (v593 (ix2 x s)) NEG) ⟨x.val, by omega⟩ - v574 (ix2 0 s)))
      + ∑ x : Fin 128, v567 (ix3 0 r x) * FloatOps.exp2 (F := Ideal) (φ := .f32) ((fun x : Fin 256 => Scalar.select (v588 (ix2 x s)) (v593 (ix2 x s)) NEG) ⟨128 + x.val, by omega⟩ - v574 (ix2 0 s))) := by
  pointwise [k0_pay148]
theorem pay149_v (v0 : BitVec 32) (v632 : IVec S256x1024 32) (x : Fin 256) (s : Fin 1024) : k0_pay149 (F := Ideal) v0 v632 (ix2 x s)
    = IntOp.addi (v632 (ix2 x s)) (Scalar.select (Scalar.cmpi .sge (Scalar.subi v0 512#32) 0#32) 512#32 1280#32) := by
  pointwise [k0_pay149]
theorem pay150_v (v574 : FVec Ideal S1x1024 .f32) (v627 : FVec Ideal S128x1024 .f32) (v634 : IVec S256x1024 32) (v639 : FVec Ideal S1x256x128 .bf16) (r : Fin 128) (s : Fin 1024) :
    k0_pay150 v28 v574 v627 v634 512#32 v639 v563 v567 (ix2 r s)
    = v627 (ix2 r s) + ((∑ x : Fin 128, v563 (ix3 0 r x) * FloatOps.exp2 (F := Ideal) (φ := .f32) ((fun x : Fin 256 => Scalar.select (IntOp.cmpi .ult (v634 (ix2 x s)) 512#32) (∑ y : Fin 128, v639 (ix3 0 x y) * v28 (ix2 s y)) NEG) ⟨x.val, by omega⟩ - v574 (ix2 0 s)))
      + ∑ x : Fin 128, v567 (ix3 0 r x) * FloatOps.exp2 (F := Ideal) (φ := .f32) ((fun x : Fin 256 => Scalar.select (IntOp.cmpi .ult (v634 (ix2 x s)) 512#32) (∑ y : Fin 128, v639 (ix3 0 x y) * v28 (ix2 s y)) NEG) ⟨128 + x.val, by omega⟩ - v574 (ix2 0 s))) := by
  pointwise [k0_pay150]
end

variable (i : grid0.Coords) (v28 : FVec Ideal S1024x128 .bf16) (x4 : FVec Ideal S1x2048x256 .bf16) (y11 : FVec Ideal S16x128x128 .bf16) (y12 : IVec S768x1024 32)
  (Q : Fin 1024 → Fin 64 → EReal) (s : Fin 1024)
/-- The grid point's tile of queries. -/
abbrev qi (i : grid0.Coords) : ℕ := (i 2).val
theorem qi_lt (i : grid0.Coords) : qi i < 8 := (i 2).isLt
/-- The window's keys. -/
abbrev kws (k : Fin 2048) (d : Fin 64) : EReal := x4 (ix3 0 k (Fin.ofNat 256 (128 + d.val)))
/-- The window's scores of a query column. -/
abbrev SW : Fin 2048 → EReal := Sw (256 * qi i + s.val % 256) (kws x4) (Q s)
variable (h28 : ∀ s y, v28 (ix2 s y) = if h : y.val < 64 then Q s ⟨y.val, h⟩ * KS else 0)
  (h12 : ∀ r s, y12 (ix2 r s) = IntOp.subi (BitVec.ofNat 32 (s.val % 256)) (BitVec.ofNat 32 r.val))
include h28 in
theorem win_score (b : Fin 128 → EReal) (k : Fin 2048) (hb : ∀ y, b y = x4 (ix3 0 k (Fin.ofNat 256 (128 + y.val)))) :
    ∑ y, b y * v28 (ix2 s y) = c2 * score (kws x4 k) (Q s) := by
  rw [score_lanes b (fun y => v28 (ix2 s y)) (Q s) (h28 s)]
  exact congrArg (fun z : EReal => c2 * z) (congrArg (fun K => score K (Q s)) (funext fun d => hb _))
include h12 in
theorem w555_at (x : Fin 256) : W555 y12 (ix2 x s) = BitVec.ofBool (decide (x.val ≤ s.val % 256)) := by
  refine (pay141_v _ x s).trans ?_
  refine (congrArg (fun z => IntOp.cmpi .sge z 0#32) ((off_ld (by omega) y12 _ x s).trans (h12 _ s))).trans ?_
  exact own_mask x.val (s.val % 256) (by omega) (by omega)
/-- The offsets, loaded. -/
abbrev ldo : IVec S256x1024 32 := View.ld (Val := Elt Ideal) (e' := .i32) y12 (Rect.unit (s := S768x1024) ![0, 0] S256x1024.size inb_S768x1024_S256x1024_0_0)
include h12 in
theorem ldo_at (x : Fin 256) : ldo y12 (ix2 x s) = IntOp.subi (BitVec.ofNat 32 (s.val % 256)) (BitVec.ofNat 32 x.val) :=
  (off_ld (n := 256) (by omega) y12 _ x s).trans (h12 _ s)
/-- The window's own tile's largest score. -/
abbrev wM : EReal := W574 i v28 x4 y12 (ix2 0 s)
/-- A tile's loaded keys. -/
abbrev ldw (off : Fin 3 → ℕ) (inb : ∀ a, off a + S1x256x128.size a ≤ S1x2048x256.size a) : FVec Ideal S1x256x128 .bf16 :=
  View.ld (Val := Elt Ideal) (e' := .bf16) x4 (Rect.unit (s := S1x2048x256) off S1x256x128.size inb)
include h28 h12 in
theorem own_score (x : Fin 256) : k0_pay143 v28 (W555 y12) (k0_pay142 (ldw x4 (k0_off1 i) (k0_off1_inb i))) (ix2 x s)
    = c2 * SW i x4 Q s ⟨256 * qi i + x.val, by have := qi_lt i; omega⟩ := by
  have hq := qi_lt i
  have hk : Fin.ofNat 2048 (256 * qi i + x.val) = ⟨256 * qi i + x.val, by omega⟩ := Fin.ext (Nat.mod_eq_of_lt (by omega))
  have hs := win_score v28 x4 Q s h28 (fun y => ldw x4 (k0_off1 i) (k0_off1_inb i) (ix3 0 x y)) _ (fun y => kv_ld x4 _ (off1_eq i) _ x y)
  rw [hk] at hs
  rw [pay143_v, w555_at y12 s h12, select_ofBool, neg_eq]
  simp only [pay142_v]
  unfold SW Sw
  by_cases h : x.val ≤ s.val % 256
  · rw [if_pos h, if_pos (by constructor <;> show _ <;> simp only <;> omega)]; exact hs
  · rw [if_neg h, if_neg (by rintro ⟨h1, -⟩; exact h (by simp only at h1; omega)), c2_mul_bot]
include h28 h12 in
theorem wM_eq : wM i v28 x4 y12 s = Finset.univ.sup fun x : Fin 256 => c2 * SW i x4 Q s ⟨256 * qi i + x.val, by have := qi_lt i; omega⟩ := by
  have h := own_score i v28 x4 y12 Q s h28 h12
  refine (pay144_v _ _ _ s).trans ((fold_max Finset.univ _).trans ?_)
  exact congrArg (fun f => Finset.univ.sup f) (funext h)
include h28 h12 in
theorem wM_le : wM i v28 x4 y12 s ≤ c2 * Finset.univ.sup (SW i x4 Q s) := by
  rw [wM_eq i v28 x4 y12 Q s h28 h12, ← sup_c2]
  exact Finset.sup_le fun x _ => Finset.le_sup (f := fun k => (c2 : EReal) * SW i x4 Q s k) (Finset.mem_univ _)
/-- A key's weighted value in the window. -/
abbrev wF (r : Fin 128) (k : ℕ) : EReal := Ideal.exp2 (c2 * SW i x4 Q s (Fin.ofNat 2048 k) - wM i v28 x4 y12 s) * vt y11 k r
include h28 h12 in
theorem w579_at (r : Fin 128) : W579 i v28 x4 y11 y12 (ix2 r s) = ∑ x : Fin 256, wF i v28 x4 y11 y12 Q s r (256 * qi i + x.val) := by
  have hq := qi_lt i
  have h := own_score i v28 x4 y12 Q s h28 h12
  have e := tile_gather y11 (2 * qi i) (256 * qi i) (by omega) _ _ (tile_ld' y11 (k0_off2 i 0#32) (off2_eq i 0) (k0_off2_inb i 0)) (tile_ld' y11 (k0_off2 i 1#32) (off2_eq i 1) (k0_off2_inb i 1))
    (fun x => k0_pay143 v28 (W555 y12) (k0_pay142 (ldw x4 (k0_off1 i) (k0_off1_inb i))) (ix2 x s)) (wM i v28 x4 y12 s) r
  refine (pay145_v _ _ _ _ _ r s).trans (e.trans (Finset.sum_congr rfl fun x _ => ?_))
  unfold wF
  rw [h, show Fin.ofNat 2048 (256 * qi i + x.val) = ⟨256 * qi i + x.val, by omega⟩ from Fin.ext (Nat.mod_eq_of_lt (by omega))]
/-- An earlier tile's masked scores: all masked where there is no such tile. -/
theorem back_score (d : ℕ) (hd : 1 ≤ d ∧ d ≤ 2) (x : Fin 256) (m : BitVec 1) (w : BitVec 32) (sc : EReal)
    (hw : w.toInt = if d ≤ qi i then ((256 * d : ℕ) : ℤ) else 1280)
    (hm : m = IntOp.cmpi .ult (IntOp.addi (IntOp.subi (BitVec.ofNat 32 (s.val % 256)) (BitVec.ofNat 32 x.val)) w) 512#32)
    (hsc : sc = c2 * score (kws x4 (Fin.ofNat 2048 (256 * (qi i - d) + x.val))) (Q s)) :
    Scalar.select m sc NEG = c2 * if d ≤ qi i then SW i x4 Q s (Fin.ofNat 2048 (256 * (qi i - d) + x.val)) else ⊥ := by
  have hq := qi_lt i
  have hv : (Fin.ofNat 2048 (256 * (qi i - d) + x.val)).val = 256 * (qi i - d) + x.val := Nat.mod_eq_of_lt (by omega)
  rw [hm, win_mask x.val (s.val % 256) w _ hw (by split <;> omega) (by omega) (by omega), select_ofBool, neg_eq]
  by_cases h : d ≤ qi i
  · simp only [if_pos h]
    unfold SW Sw
    rw [hv]
    by_cases h' : s.val % 256 + 256 * d < x.val + 512
    · rw [if_pos (by push_cast; omega), if_pos (by omega), hsc]
    · rw [if_neg (by push_cast; omega), if_neg (by omega), c2_mul_bot]
  · simp only [if_neg h]
    rw [if_neg (by omega), c2_mul_bot]
/-- What an earlier tile adds. -/
theorem back_sum (d : ℕ) (M : EReal) (v : ℕ → EReal) : (∑ x : Fin 256, Ideal.exp2 ((c2 * if d ≤ qi i then SW i x4 Q s (Fin.ofNat 2048 (256 * (qi i - d) + x.val)) else ⊥) - M) * v (256 * (qi i - d) + x.val))
    = if d ≤ qi i then ∑ x : Fin 256, Ideal.exp2 (c2 * SW i x4 Q s (Fin.ofNat 2048 (256 * (qi i - d) + x.val)) - M) * v (256 * (qi i - d) + x.val) else 0 := by
  by_cases h : d ≤ qi i
  · simp only [if_pos h]
  · simp only [if_neg h]
    exact Finset.sum_eq_zero fun x _ => exp2_bot_mul _ _
include h28 h12 in
theorem w627_at (r : Fin 128) : W627 i (w0 (i 2)) v28 x4 y11 y12 (ix2 r s) = (∑ x : Fin 256, wF i v28 x4 y11 y12 Q s r (256 * qi i + x.val))
      + (if 1 ≤ qi i then ∑ x : Fin 256, wF i v28 x4 y11 y12 Q s r (256 * (qi i - 1) + x.val) else 0) := by
  have hb : ∀ x : Fin 256, Scalar.select (k0_pay146 (F := Ideal) (w0 (i 2)) (ldo y12) (ix2 x s))
      (k0_pay147 v28 (ldw x4 (k0_off3 i 256#32) (k0_off3_inb i 0)) (ix2 x s)) NEG = c2 * if 1 ≤ qi i then SW i x4 Q s (Fin.ofNat 2048 (256 * (qi i - 1) + x.val)) else ⊥ := fun x =>
    back_score i x4 Q s 1 (by omega) x _ _ _ (back_tab ⟨qi i, qi_lt i⟩)
      ((pay146_v _ _ x s).trans (congrArg (fun z => IntOp.cmpi .ult (IntOp.addi z _) 512#32) (ldo_at y12 s h12 x)))
      ((pay147_v _ _ x s).trans (win_score v28 x4 Q s h28 (fun y => ldw x4 (k0_off3 i 256#32) (k0_off3_inb i 0) (ix3 0 x y)) _ (fun y => kv_ld x4 _ (off3_eq i 0) _ x y)))
  have e := tile_gather y11 (2 * (qi i - 1)) (256 * (qi i - 1)) (by omega) _ _ (tile_ld' y11 (k0_off4 i 256#32 0#32) (off4_eq i 0 0) (k0_off4_inb i 0 0)) (tile_ld' y11 (k0_off4 i 256#32 1#32) (off4_eq i 0 1) (k0_off4_inb i 0 1))
    (fun x => Scalar.select (k0_pay146 (F := Ideal) (w0 (i 2)) (ldo y12) (ix2 x s)) (k0_pay147 v28 (ldw x4 (k0_off3 i 256#32) (k0_off3_inb i 0)) (ix2 x s)) NEG) (wM i v28 x4 y12 s) r
  refine (pay148_v _ _ _ _ _ _ r s).trans (congrArg₂ (fun y z : EReal => y + z) (w579_at i v28 x4 y11 y12 Q s h28 h12 r) (e.trans ?_))
  refine Eq.trans (Finset.sum_congr rfl fun x _ => ?_) (back_sum i x4 Q s 1 (wM i v28 x4 y12 s) (fun k => vt y11 k r))
  rw [hb]
include h28 h12 in
/-- The window's sums. -/
theorem w675_at (r : Fin 128) : W675 i (w0 (i 2)) v28 x4 y11 y12 (ix2 r s) = gat (SW i x4 Q s) (fun k => vt y11 k.val r) (wM i v28 x4 y12 s) := by
  have hq := qi_lt i
  have hb : ∀ x : Fin 256, Scalar.select (IntOp.cmpi .ult (k0_pay149 (F := Ideal) (w0 (i 2)) (ldo y12) (ix2 x s)) 512#32)
      (∑ y : Fin 128, ldw x4 (k0_off3 i 512#32) (k0_off3_inb i 1) (ix3 0 x y) * v28 (ix2 s y)) NEG = c2 * if 2 ≤ qi i then SW i x4 Q s (Fin.ofNat 2048 (256 * (qi i - 2) + x.val)) else ⊥ := fun x =>
    back_score i x4 Q s 2 (by omega) x _ _ _ (back2_tab ⟨qi i, qi_lt i⟩)
      ((congrArg (fun z => IntOp.cmpi .ult z 512#32) (pay149_v _ _ x s)).trans (congrArg (fun z => IntOp.cmpi .ult (IntOp.addi z _) 512#32) (ldo_at y12 s h12 x)))
      (win_score v28 x4 Q s h28 (fun y => ldw x4 (k0_off3 i 512#32) (k0_off3_inb i 1) (ix3 0 x y)) _ (fun y => kv_ld x4 _ (off3_eq i 1) _ x y))
  have e := tile_gather y11 (2 * (qi i - 2)) (256 * (qi i - 2)) (by omega) _ _ (tile_ld' y11 (k0_off4 i 512#32 0#32) (off4_eq i 1 0) (k0_off4_inb i 1 0)) (tile_ld' y11 (k0_off4 i 512#32 1#32) (off4_eq i 1 1) (k0_off4_inb i 1 1))
    (fun x => Scalar.select (IntOp.cmpi .ult (k0_pay149 (F := Ideal) (w0 (i 2)) (ldo y12) (ix2 x s)) 512#32)
      (∑ y : Fin 128, ldw x4 (k0_off3 i 512#32) (k0_off3_inb i 1) (ix3 0 x y) * v28 (ix2 s y)) NEG) (wM i v28 x4 y12 s) r
  refine (pay150_v _ _ _ _ _ _ _ r s).trans ((congrArg₂ (fun y z : EReal => y + z) (w627_at i v28 x4 y11 y12 Q s h28 h12 r) (e.trans
    (Eq.trans (Finset.sum_congr rfl fun x _ => ?_) (back_sum i x4 Q s 2 (wM i v28 x4 y12 s) (fun k => vt y11 k r))))).trans ?_)
  · rw [hb]
  · refine (win_tiles (wF i v28 x4 y11 y12 Q s r) (qi i) hq (fun k hk hh => ?_)).trans ?_
    · unfold wF
      have hv : (Fin.ofNat 2048 k).val = k := Nat.mod_eq_of_lt hk
      rw [show SW i x4 Q s (Fin.ofNat 2048 k) = ⊥ from if_neg (by rw [hv]; omega)]
      exact exp2_bot_mul _ _
    · unfold gat wF
      simp only [Fin.ofNat_val_eq_self]
end Cert.KernelIdeal.Exact
end
-- ==== Proof.KSlow.lean ====
/- The kernel's slow path: the window in one step, the selected branch in steps of 512 keys. -/
module

public import proofs.«01_k».proof.Proof.KWin

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

/-! The slow path's vectors at an index, over whatever was loaded. -/
section
variable (v28 : FVec Ideal S1024x128 .bf16) (v29 : FVec Ideal S1x1024 .f32) (v30 : FVec Ideal S128x1024 .f32) (v760 : IVec S768x1024 1) (v764 : FVec Ideal S768x1024 .f32)
  (b0 b1 b2 b3 b4 b5 : FVec Ideal S1x128x128 .bf16) (y11 : FVec Ideal S16x128x128 .bf16) (r : Fin 128) (s : Fin 1024)
/-- The masked scores' maximum, the running one taken in. -/
abbrev mx {n : ℕ} (m : EReal) (f : Fin n → EReal) : EReal := max m (Finset.fold max (Ideal.ofBits .f32 4286578688#32) f Finset.univ)
theorem pay90_v (j : ℕ) (hj : j + 6 ≤ 16) (h0 : Tile b0 j y11) (h1 : Tile b1 (j + 1) y11) (h2 : Tile b2 (j + 2) y11) (h3 : Tile b3 (j + 3) y11) (h4 : Tile b4 (j + 4) y11) (h5 : Tile b5 (j + 5) y11)
    (f : Fin 768 → EReal) (hf : ∀ x, Scalar.select (v760 (ix2 x s)) (v764 (ix2 x s)) NEG = f x) :
    k0_pay90 v29 v30 v760 v764 (k0_pay88 b0) (k0_pay89 b1) b2 b3 b4 b5 (ix2 r s)
      = Ideal.exp2 (v29 (ix2 0 s) - mx (v29 (ix2 0 s)) f) * v30 (ix2 r s) + ∑ x : Fin 768, vt y11 (128 * j + x.val) r * Ideal.exp2 (f x - mx (v29 (ix2 0 s)) f) := by
  have hv : ∀ x : Fin 768, vt y11 (128 * j + x.val) r = (if h : x.val < 128 then b0 (ix3 0 r ⟨x.val, h⟩) else if h : x.val - 128 < 128 then b1 (ix3 0 r ⟨x.val - 128, h⟩) else
      if h : x.val - 128 - 128 < 128 then b2 (ix3 0 r ⟨x.val - 128 - 128, h⟩) else if h : x.val - 128 - 128 - 128 < 128 then b3 (ix3 0 r ⟨x.val - 128 - 128 - 128, h⟩) else
      if h : x.val - 128 - 128 - 128 - 128 < 128 then b4 (ix3 0 r ⟨x.val - 128 - 128 - 128 - 128, h⟩) else b5 (ix3 0 r ⟨x.val - 128 - 128 - 128 - 128 - 128, by omega⟩) : EReal) := by
    intro x
    have hx := x.isLt
    simp only [h0 _ _, h1 _ _, h2 _ _, h3 _ _, h4 _ _, h5 _ _, vt]
    split_ifs <;>
    · refine congrArg y11 ?_
      congr 1 <;> apply Fin.ext <;> simp only [Fin.ofNat] <;> omega
  obtain rfl : f = fun x => Scalar.select (v760 (ix2 x s)) (v764 (ix2 x s)) NEG := funext fun x => (hf x).symm
  simp only [hv]
  pointwise [k0_pay90, k0_pay88, k0_pay89]
  rfl
theorem pay86_v (v0 : BitVec 32) (v756 : IVec S768x1024 32) (x : Fin 768) : k0_pay86 (F := Ideal) v0 v756 (ix2 x s)
    = IntOp.cmpi .ult (IntOp.addi (v756 (ix2 x s)) (Scalar.subi v0 (Scalar.maxsi (Scalar.subi v0 512#32) 0#32))) 512#32 := by
  pointwise [k0_pay86]
theorem pay87_v (v762 : FVec Ideal S1x768x128 .bf16) (x : Fin 768) : k0_pay87 v28 v762 (ix2 x s) = (∑ y : Fin 128, v762 (ix3 0 x y) * v28 (ix2 s y) : EReal) := by
  pointwise [k0_pay87]
theorem pay78_v (j : ℕ) (hj : j + 4 ≤ 16) (h0 : Tile b0 j y11) (h1 : Tile b1 (j + 1) y11) (h2 : Tile b2 (j + 2) y11) (h3 : Tile b3 (j + 3) y11) (x : Fin 512) :
    k0_pay78 (F := Ideal) b0 b1 b2 b3 (ix2 r x) = (vt y11 (128 * j + x.val) r : EReal) := by
  have hx := x.isLt
  pointwise [k0_pay78]
  simp only [h0 _ _, h1 _ _, h2 _ _, h3 _ _, vt]
  split_ifs <;>
  · refine congrArg y11 ?_
    congr 1 <;> apply Fin.ext <;> simp only [Fin.ofNat] <;> omega
variable (i : grid0.Coords) (v0 : BitVec 32) (k : Fin (k0_t1_loop i).trips) (m : FVec Ideal S1x1024 .f32) (a : FVec Ideal S512x128 .bf16) (o : IVec S512x1024 32)
theorem pay79_v (x : Fin 512) : k0_pay79 i v0 v28 0#32 1#32 k a o (ix2 x s)
    = Scalar.select (IntOp.cmpi .sge (IntOp.addi (o (ix2 x s)) (Scalar.subi v0 (Scalar.muli (Scf.iv 0#32 1#32 k.val) 512#32))) 0#32) (∑ y : Fin 128, a (ix2 x y) * v28 (ix2 s y)) NEG := by
  pointwise [k0_pay79]
theorem pay80_v : k0_pay80 i v0 v28 0#32 1#32 k m a o (ix2 0 s) = mx (m (ix2 0 s)) (fun x => k0_pay79 i v0 v28 0#32 1#32 k a o (ix2 x s)) := by
  pointwise [k0_pay80]
theorem pay81_v : k0_pay81 i v0 v28 0#32 1#32 k m a o (ix2 0 s) = (Ideal.exp2 (m (ix2 0 s) - k0_pay80 i v0 v28 0#32 1#32 k m a o (ix2 0 s)) : EReal) := by
  pointwise [k0_pay81]
  rfl
theorem pay2_v (acc : FVec Ideal S128x1024 .f32) (v896 : FVec Ideal S128x512 .bf16) (v905 : FVec Ideal S512x1024 .f32) (v908 v910 : FVec Ideal S1x1024 .f32) :
    k0_pay2 acc v896 v905 v908 v910 (ix2 r s) = (v910 (ix2 0 s) * acc (ix2 r s) + ∑ x : Fin 512, v896 (ix2 r x) * Ideal.exp2 (v905 (ix2 x s) - v908 (ix2 0 s)) : EReal) := by
  pointwise [k0_pay2]
  rfl
end

/-- A weighted sum with its maximum, over keys in a range outside which all are masked. -/
theorem gat_ico (S v : Fin 2048 → EReal) (V : ℕ → EReal) (hV : ∀ k : Fin 2048, V k.val = v k) (a b : ℕ) (hb : b ≤ 2048) (h : ∀ k : Fin 2048, ¬ (a ≤ k.val ∧ k.val < b) → S k = ⊥) (M : EReal) :
    ∑ k ∈ Finset.Ico a b, Ideal.exp2 (c2 * S (Fin.ofNat 2048 k) - M) * V k = gat S v M := by
  have hofn : ∀ k (h : k < 2048), Fin.ofNat 2048 k = (⟨k, h⟩ : Fin 2048) := fun k h => Fin.ext (Nat.mod_eq_of_lt h)
  refine (ico_all _ a b hb (fun k hk hh => ?_)).trans ?_
  · rw [hofn k hk, h ⟨k, hk⟩ hh]
    exact exp2_bot_mul _ _
  · unfold gat
    exact Finset.sum_congr rfl fun k _ => by rw [Fin.ofNat_val_eq_self, hV]
theorem sup_ico (S : Fin 2048 → EReal) (a b : ℕ) (hb : b ≤ 2048) (h : ∀ k : Fin 2048, ¬ (a ≤ k.val ∧ k.val < b) → S k = ⊥) :
    (Finset.Ico a b).sup (fun k => (c2 : EReal) * S (Fin.ofNat 2048 k)) = c2 * Finset.univ.sup S := by
  have hofn : ∀ k (h : k < 2048), Fin.ofNat 2048 k = (⟨k, h⟩ : Fin 2048) := fun k h => Fin.ext (Nat.mod_eq_of_lt h)
  rw [← sup_c2]
  apply le_antisymm
  · exact Finset.sup_le fun k hk => Finset.le_sup (f := fun k => (c2 : EReal) * S k) (Finset.mem_univ _)
  · refine Finset.sup_le fun k _ => ?_
    by_cases hk : a ≤ k.val ∧ k.val < b
    · have := Finset.le_sup (f := fun k => (c2 : EReal) * S (Fin.ofNat 2048 k)) (Finset.mem_Ico.mpr hk)
      simpa only [Fin.ofNat_val_eq_self] using this
    · rw [h k hk, c2_mul_bot]; exact bot_le
theorem sup_block (f : ℕ → EReal) (o n : ℕ) : Finset.univ.sup (fun x : Fin n => f (o + x.val)) = (Finset.Ico o (o + n)).sup f := by
  apply le_antisymm
  · exact Finset.sup_le fun x _ => Finset.le_sup (f := f) (Finset.mem_Ico.mpr (by have := x.isLt; omega))
  · refine Finset.sup_le fun k hk => ?_
    have hk' := Finset.mem_Ico.mp hk
    have := Finset.le_sup (f := fun x : Fin n => f (o + x.val)) (Finset.mem_univ ⟨k - o, by omega⟩)
    simpa only [show o + (k - o) = k by omega] using this

section
variable (i : grid0.Coords) (v28 : FVec Ideal S1024x128 .bf16) (v29 : FVec Ideal S1x1024 .f32) (v30 : FVec Ideal S128x1024 .f32) (x4 : FVec Ideal S1x2048x256 .bf16)
  (y11 : FVec Ideal S16x128x128 .bf16) (y12 : IVec S768x1024 32) (Q : Fin 1024 → Fin 64 → EReal) (s : Fin 1024)
  (h28 : ∀ s y, v28 (ix2 s y) = if h : y.val < 64 then Q s ⟨y.val, h⟩ * KS else 0)
  (h12 : ∀ r s, y12 (ix2 r s) = IntOp.subi (BitVec.ofNat 32 (s.val % 256)) (BitVec.ofNat 32 r.val))
  (h29 : ∀ s, v29 (ix2 0 s) = (⊥ : EReal)) (h30 : ∀ r s, v30 (ix2 r s) = (0 : EReal))
include h28 h12 h29 h30 in
/-- The window's sums against its own maximum. -/
theorem w821_at (r : Fin 128) : W821 i (w0 (i 2)) v28 v29 v30 x4 y11 y12 (ix2 r s) = gat (SW i x4 Q s) (fun k => vt y11 k.val r) (c2 * Finset.univ.sup (SW i x4 Q s)) := by
  have hq := qi_lt i
  have hsw : ∀ k : Fin 2048, ¬ (256 * (qi i - 2) ≤ k.val ∧ k.val < 256 * (qi i - 2) + 768) → SW i x4 Q s k = ⊥ := fun k hk => if_neg (by omega)
  have hf : ∀ x : Fin 768, Scalar.select (k0_pay86 (F := Ideal) (w0 (i 2)) (View.ld (Val := Elt Ideal) (e' := .i32) y12 (Rect.unit (s := S768x1024) ![0, 0] S768x1024.size inb_S768x1024_S768x1024_0_0)) (ix2 x s))
      (k0_pay87 v28 (View.ld (Val := Elt Ideal) (e' := .bf16) x4 (Rect.unit (s := S1x2048x256) (k0_off5 i) S1x768x128.size (k0_off5_inb i))) (ix2 x s)) NEG
      = (fun k : ℕ => (c2 : EReal) * SW i x4 Q s (Fin.ofNat 2048 k)) (256 * (qi i - 2) + x.val) := fun x => by
    have hx := x.isLt
    have hv : (Fin.ofNat 2048 (256 * (qi i - 2) + x.val)).val = 256 * (qi i - 2) + x.val := Nat.mod_eq_of_lt (by omega)
    rw [pay86_v, pay87_v, win_score v28 x4 Q s h28 _ _ (fun y => kv_ld x4 _ (off5_eq i) _ x y),
      show View.ld (Val := Elt Ideal) (e' := .i32) y12 (Rect.unit (s := S768x1024) ![0, 0] S768x1024.size inb_S768x1024_S768x1024_0_0) (ix2 x s) = _ from (off_ld (n := 768) (by omega) y12 _ x s).trans (h12 _ s),
      win_mask x.val (s.val % 256) _ _ (wide_tab ⟨qi i, qi_lt i⟩) (by simp only; split <;> omega) hx (by omega), select_ofBool, neg_eq]
    simp only
    unfold SW Sw
    rw [hv]
    by_cases h : 256 * (qi i - 2) + x.val ≤ 256 * qi i + s.val % 256 ∧ 256 * qi i + s.val % 256 < 256 * (qi i - 2) + x.val + 512
    · rw [if_pos h, if_pos (by split <;> omega)]
    · rw [if_neg h, if_neg (by split <;> omega), c2_mul_bot]
  have hM : mx (v29 (ix2 0 s)) (fun x : Fin 768 => (fun k : ℕ => (c2 : EReal) * SW i x4 Q s (Fin.ofNat 2048 k)) (256 * (qi i - 2) + x.val)) = c2 * Finset.univ.sup (SW i x4 Q s) := by
    unfold mx
    rw [h29, fold_max, sup_block (fun k : ℕ => (c2 : EReal) * SW i x4 Q s (Fin.ofNat 2048 k)), sup_ico _ _ _ (by omega) hsw]
    exact max_eq_right bot_le
  refine (pay90_v v29 v30 _ _ _ _ _ _ _ _ y11 r s (2 * (qi i - 2)) (by omega) (tile_ld' y11 (k0_off6 i 0#32) (off6_eq i 0) (k0_off6_inb i 0)) (tile_ld' y11 (k0_off6 i 1#32) (off6_eq i 1) (k0_off6_inb i 1))
    (tile_ld' y11 (k0_off6 i 2#32) (off6_eq i 2) (k0_off6_inb i 2)) (tile_ld' y11 (k0_off6 i 3#32) (off6_eq i 3) (k0_off6_inb i 3)) (tile_ld' y11 (k0_off6 i 4#32) (off6_eq i 4) (k0_off6_inb i 4))
    (tile_ld' y11 (k0_off6 i 5#32) (off6_eq i 5) (k0_off6_inb i 5)) _ hf).trans ?_
  rw [hM, h30, mul_zero, zero_add, ← gat_ico (SW i x4 Q s) _ (fun k => vt y11 k r) (fun _ => rfl) _ _ (by omega) hsw, ← sum_block]
  refine Finset.sum_congr rfl fun x _ => ?_
  rw [mul_comm, show 128 * (2 * (qi i - 2)) = 256 * (qi i - 2) by omega]
end

section
variable (i : grid0.Coords) (v552 : FVec Ideal S1024x128 .bf16) (y9 : FVec Ideal S2048x128 .bf16) (y10 : FVec Ideal S16x128x128 .bf16) (y12 : IVec S768x1024 32)
  (init : FVec Ideal S1x1024 .f32 × FVec Ideal S128x1024 .f32) (s : Fin 1024) (S : Fin 2048 → EReal)
  (h12 : ∀ r s, y12 (ix2 r s) = IntOp.subi (BitVec.ofNat 32 (s.val % 256)) (BitVec.ofNat 32 r.val))
  (h29 : ∀ s, init.1 (ix2 0 s) = (⊥ : EReal)) (h30 : ∀ r s, init.2 (ix2 r s) = (0 : EReal))
  (hS : ∀ k : Fin 2048, c2 * S k = if k.val ≤ 256 * qi i + s.val % 256 then kS y9 v552 k.val s else ⊥)
/-- Key `k`'s score, scaled. -/
abbrev fS (k : ℕ) : EReal := c2 * S (Fin.ofNat 2048 k)
include h12 hS in
theorem trip_score (k : Fin (k0_t1_loop i).trips) (x : Fin 512) :
    k0_pay79 i (w0 (i 2)) v552 0#32 1#32 k (View.ld (Val := Elt Ideal) (e' := .bf16) y9 (Rect.unit (s := S2048x128) (k0_off7 i k) S512x128.size (k0_off7_inb i k)))
      (View.ld (Val := Elt Ideal) (e' := .i32) y12 (Rect.unit (s := S768x1024) ![0, 0] S512x1024.size inb_S768x1024_S512x1024_0_0)) (ix2 x s) = fS S (512 * k.val + x.val) := by
  have hq : (i 2).val < 8 := qi_lt i
  have hk : k.val < 4 := by have := lt_of_lt_of_eq k.isLt (trips_eq i); omega
  have hx := x.isLt
  have hv : (Fin.ofNat 2048 (512 * k.val + x.val)).val = 512 * k.val + x.val := Nat.mod_eq_of_lt (by omega)
  have hw : Scalar.muli (Scf.iv 0#32 1#32 k.val) 512#32 = BitVec.ofNat 32 (512 * k.val) := by
    generalize k.val = n at hk
    interval_cases n <;> rfl
  have hr := rows_ld' (n := 512) y9 (k0_off7 i k) (off7_eq i k) (k0_off7_inb i k)
  rw [pay79_v, show View.ld (Val := Elt Ideal) (e' := .i32) y12 (Rect.unit (s := S768x1024) ![0, 0] S512x1024.size inb_S768x1024_S512x1024_0_0) (ix2 x s) = _ from (off_ld (n := 512) (by omega) y12 _ x s).trans (h12 _ s),
    tile_mask x.val (s.val % 256) (qi i) k.val _ (by omega) (by omega) hq hk hw, select_ofBool, neg_eq]
  unfold fS
  rw [hS, hv]
  by_cases h : 512 * k.val + x.val ≤ 256 * qi i + s.val % 256
  · rw [if_pos h, if_pos h]
    exact Finset.sum_congr rfl fun y _ => congrArg (fun z : EReal => z * v552 (ix2 s y)) (hr x y)
  · rw [if_neg h, if_neg h]
include h12 hS h29 h30 in
theorem loop_at (k : ℕ) (hk : k ≤ (k0_t1_loop i).trips) : (loopW i (w0 (i 2)) y9 y10 y12 v552 init k).1 (ix2 0 s) = (Finset.Ico 0 (512 * k)).sup (fS S) ∧
    ∀ r, (loopW i (w0 (i 2)) y9 y10 y12 v552 init k).2 (ix2 r s) = ∑ x ∈ Finset.Ico 0 (512 * k), Ideal.exp2 (fS S x - (Finset.Ico 0 (512 * k)).sup (fS S)) * vt y10 x r := by
  induction k with
  | zero => exact ⟨h29 s, fun r => h30 r s⟩
  | succ k ih =>
    obtain ⟨i1, i2⟩ := ih (by omega)
    have hk4 : k < 4 := by have := trips_eq i; have : (i 2).val < 8 := qi_lt i; omega
    have hsc := trip_score i v552 y9 y12 s S h12 hS ⟨k, hk⟩
    have e : loopW i (w0 (i 2)) y9 y10 y12 v552 init (k + 1) = tripW i (w0 (i 2)) y9 y10 y12 v552 ⟨k, hk⟩ (loopW i (w0 (i 2)) y9 y10 y12 v552 init k) := dif_pos hk
    rw [e]
    have hm : (tripW i (w0 (i 2)) y9 y10 y12 v552 ⟨k, hk⟩ (loopW i (w0 (i 2)) y9 y10 y12 v552 init k)).1 (ix2 0 s) = (Finset.Ico 0 (512 * (k + 1))).sup (fS S) := by
      refine (pay80_v _ s i _ _ _ _ _).trans ?_
      unfold mx
      rw [i1, fold_max, funext hsc, sup_block (fS S), ← Finset.Ico_union_Ico_eq_Ico (Nat.zero_le (512 * k)) (show 512 * k ≤ 512 * (k + 1) by omega), Finset.sup_union]
      rfl
    refine ⟨hm, fun r => ?_⟩
    refine (pay2_v r s _ _ _ _ _).trans ?_
    rw [i2, pay81_v, i1]
    have hm' := hm
    unfold tripW at hm'
    simp only at hm'
    rw [hm', rescale_sum _ (fS S) (fun x => vt y10 x r) _ (Finset.sup_mono (Finset.Ico_subset_Ico_right (by omega))),
      ← Finset.sum_Ico_consecutive _ (Nat.zero_le (512 * k)) (show 512 * k ≤ 512 * (k + 1) by omega)]
    refine congrArg (fun z : EReal => _ + z) ?_
    rw [show 512 * (k + 1) = 512 * k + 512 by omega, ← sum_block _ (512 * k) 512]
    refine Finset.sum_congr rfl fun x _ => ?_
    rw [hsc, mul_comm]
    refine congrArg₂ (fun y z : EReal => y * z) rfl ?_
    refine (pay78_v _ _ _ _ y10 r (4 * k) (by omega) (tile_ld' y10 (k0_off8 i ⟨k, hk⟩ 0#32) (off8_eq i ⟨k, hk⟩ 0) (k0_off8_inb i ⟨k, hk⟩ 0)) (tile_ld' y10 (k0_off8 i ⟨k, hk⟩ 1#32) (off8_eq i ⟨k, hk⟩ 1) (k0_off8_inb i ⟨k, hk⟩ 1))
      (tile_ld' y10 (k0_off8 i ⟨k, hk⟩ 2#32) (off8_eq i ⟨k, hk⟩ 2) (k0_off8_inb i ⟨k, hk⟩ 2)) (tile_ld' y10 (k0_off8 i ⟨k, hk⟩ 3#32) (off8_eq i ⟨k, hk⟩ 3) (k0_off8_inb i ⟨k, hk⟩ 3)) x).trans ?_
    rw [show 128 * (4 * k) = 512 * k by omega]
include h12 hS h29 h30 in
/-- The selected branch's sums against the true maximum. -/
theorem loop_gat (r : Fin 128) : (loopW i (w0 (i 2)) y9 y10 y12 v552 init (k0_t1_loop i).trips).2 (ix2 r s) = gat S (fun k => vt y10 k.val r) (c2 * Finset.univ.sup S) := by
  have hq := qi_lt i
  have ht := trips_eq i
  have hoff : ∀ k : Fin 2048, ¬ (0 ≤ k.val ∧ k.val < 512 * (k0_t1_loop i).trips) → S k = ⊥ := fun k hk => by
    rw [← c2_mul_eq_bot, hS, if_neg]
    unfold qi at *
    omega
  have hb : 512 * (k0_t1_loop i).trips ≤ 2048 := by unfold qi at hq; omega
  rw [(loop_at i v552 y9 y10 y12 init s S h12 h29 h30 hS _ le_rfl).2 r, sup_ico S _ _ hb hoff]
  exact gat_ico S _ (fun k => vt y10 k r) (fun _ => rfl) _ _ hb hoff _
end
end Cert.KernelIdeal.Exact
end
-- ==== Proof.KOut.lean ====
/- The kernel's gated sum: both paths give the three branches' outputs. -/
module

public import proofs.«01_k».proof.Proof.KSlow

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

theorem logistic_real (x : EReal) : ∃ r : ℝ, 0 ≤ r ∧ Ideal.logistic x = r := by
  induction x using EReal.rec with
  | bot => exact ⟨0, le_rfl, by
    show Ideal.div 1 (1 + Ideal.exp (-⊥)) = _
    rw [EReal.neg_bot, Ideal.exp_top, show (1 : EReal) + ⊤ = ⊤ from EReal.coe_add_top 1, div_top]; rfl⟩
  | top => exact ⟨1, zero_le_one, by
    show Ideal.div 1 (1 + Ideal.exp (-⊤)) = _
    rw [EReal.neg_top, Ideal.exp_bot, add_zero, show (1 : EReal) = ((1 : ℝ) : EReal) from rfl, div_real one_ne_zero, inv_one, ← EReal.coe_mul, one_mul]⟩
  | coe x =>
    have h : (0 : ℝ) < 1 + Real.exp (-x) := by positivity
    refine ⟨(1 + Real.exp (-x))⁻¹, by positivity, ?_⟩
    show Ideal.div 1 (1 + Ideal.exp (-(x : EReal))) = _
    rw [← EReal.coe_neg, Ideal.exp_coe, show (1 : EReal) = ((1 : ℝ) : EReal) from rfl, ← EReal.coe_add, div_real h.ne', ← EReal.coe_mul, one_mul]
variable (x6 : FVec Ideal S1x256x128 .f32)
/-- A branch's gate for a query column. -/
def gt (br : ℕ) (s : Fin 1024) : EReal := Ideal.logistic (x6 (ix3 0 (Fin.ofNat 256 s.val) (Fin.ofNat 128 (3 * (s.val / 256) + br))))
theorem pay159_v (r : Fin 128) (a : Fin 256) : k0_pay159 (F := Ideal) x6 (ix2 r a) = (Ideal.logistic (x6 (ix3 0 a r)) : EReal) := by
  pointwise [k0_pay159]
theorem gate_at (br : ℕ) (hbr : br < 3) (s : Fin 1024) : gt x6 br s = (if h : s.val < 256 then k0_pay159 (F := Ideal) x6 (ix2 ⟨br, by omega⟩ ⟨s.val, h⟩) else
    if h : s.val - 256 < 256 then k0_pay159 (F := Ideal) x6 (ix2 ⟨3 + br, by omega⟩ ⟨s.val - 256, h⟩) else if h : s.val - 256 - 256 < 256 then k0_pay159 (F := Ideal) x6 (ix2 ⟨6 + br, by omega⟩ ⟨s.val - 256 - 256, h⟩)
    else k0_pay159 (F := Ideal) x6 (ix2 ⟨9 + br, by omega⟩ ⟨s.val - 256 - 256 - 256, by omega⟩) : EReal) := by
  have hs := s.isLt
  simp only [pay159_v, gt]
  split_ifs <;>
  · refine congrArg Ideal.logistic (congrArg x6 ?_)
    congr 1 <;> apply Fin.ext <;> simp only [Fin.ofNat] <;> omega
variable (v59 v675 v679 : FVec Ideal S128x1024 .f32)
theorem pay4_v (r : Fin 128) (s : Fin 1024) : k0_pay4 v59 (k0_pay159 x6) v675 v679 (ix2 r s)
    = (v59 (ix2 r s) * gt x6 0 s + v679 (ix2 r s) * Ideal.div (gt x6 1 s) (v679 (ix2 0 s)) + v675 (ix2 r s) * Ideal.div (gt x6 2 s) (v675 (ix2 0 s)) : EReal) := by
  rw [gate_at x6 0 (by omega), gate_at x6 1 (by omega), gate_at x6 2 (by omega)]
  pointwise [k0_pay4]
theorem pay160_v (r : Fin 128) (s : Fin 1024) : k0_pay160 v59 v675 v679 x6 (ix2 r s)
    = (v59 (ix2 r s) * gt x6 0 s + v679 (ix2 r s) * Ideal.div (gt x6 1 s) (v679 (ix2 0 s)) + v675 (ix2 r s) * Ideal.div (gt x6 2 s) (v675 (ix2 0 s)) : EReal) := by
  rw [gate_at x6 0 (by omega), gate_at x6 1 (by omega), gate_at x6 2 (by omega)]
  pointwise [k0_pay160]
theorem pay161_v : k0_pay161 v59 v675 v679 x6 (ix1 0) = Finset.fold max (Ideal.ofBits .f32 4286578688#32)
      (fun x : Fin 64 × Fin 1024 => Scalar.select (IntOp.andi (IntOp.xori (FloatOps.weird (k0_pay160 v59 v675 v679 x6 (ix2 ⟨64 + x.1.val, by omega⟩ x.2))) 1#1)
        (IntOp.xori (FloatOps.weird (F := Ideal) (v679 (ix2 0 x.2) + v675 (ix2 0 x.2))) 1#1)) (0 : EReal) 1) Finset.univ := by
  pointwise [k0_pay161]
theorem over_iff (v : FVec Ideal S1 .f32) : over v ↔ (0 : EReal) < v (ix1 0) := by
  have h : k0_pay1 (F := Ideal) v = v (ix1 0) := by
    unfold k0_pay1
    pointwise
  unfold over
  rw [h]
  have e : Scalar.cmpf (F := Ideal) (φ := .f32) .ogt (v (ix1 0)) (Scalar.ofBits .f32 0#32) = BitVec.ofBool (decide ((0 : EReal) < v (ix1 0))) := by
    rw [← show (Scalar.ofBits (F := Ideal) .f32 0#32 : EReal) = 0 from Ideal.ofBits_zero _]
    rfl
  refine (iff_of_eq (congrArg (fun z => Scalar.cmpi .ne (Scalar.extui z : BitVec 32) 0#32 = 1#1) e)).trans ?_
  by_cases hv : (0 : EReal) < v (ix1 0)
  · simp [hv, Scalar.cmpi, Scalar.extui, IntOp.cmpi]
  · simp [hv, Scalar.cmpi, Scalar.extui, IntOp.cmpi]
theorem not_over (h : ¬ over (k0_pay161 v59 v675 v679 x6)) (s : Fin 1024) : (v679 (ix2 0 s) + v675 (ix2 0 s) : EReal) ≠ ⊤ := by
  intro ht
  apply h
  rw [over_iff, pay161_v, fold_max]
  refine lt_of_lt_of_le (zero_lt_one (α := EReal)) (le_trans (le_of_eq ?_) (Finset.le_sup (Finset.mem_univ ((0 : Fin 64), s))))
  simp only
  rw [ht]
  have hw : FloatOps.weird (F := Ideal) (⊤ : EReal) = (1#1 : BitVec 1) := by
    show BitVec.ofBool (decide ((⊤ : EReal) = ⊤ ∨ (⊤ : EReal) = ⊥)) = 1#1
    simp
  rw [show IntOp.xori (FloatOps.weird (F := Ideal) (⊤ : EReal)) 1#1 = (0#1 : BitVec 1) from by rw [hw]; rfl]
  rw [show ∀ z : BitVec 1, IntOp.andi z 0#1 = 0#1 from fun z => BitVec.and_zero]
  rfl
/-- A branch's sums, divided by their weights and gated. -/
theorem branch_sum (S v : Fin 2048 → EReal) (M : EReal) (hM : M ≤ c2 * Finset.univ.sup S) (g : EReal) (hg : ∃ r : ℝ, 0 ≤ r ∧ g = r) (hl : gat S (fun _ => 1) M ≠ ⊤) :
    gat S v M * Ideal.div g (gat S (fun _ => 1) M) = g * ∑ k, soft EPS S k * v k := by
  obtain ⟨r, hr, rfl⟩ := hg
  unfold gat at *
  simp only [mul_one] at *
  exact attn_eq eps_pos eps_le S v M hM r hr hl
theorem gat_max_ne_top (S : Fin 2048 → EReal) : gat S (fun _ => 1) (c2 * Finset.univ.sup S) ≠ ⊤ := by
  unfold gat
  simp only [mul_one]
  rw [← sup_c2]
  exact sum_self_ne_top fun k => (c2 : EReal) * S k
theorem gat_nonneg (S : Fin 2048 → EReal) (M : EReal) : 0 ≤ gat S (fun _ => 1) M :=
  Finset.sum_nonneg fun k _ => by rw [mul_one]; exact exp2_nonneg _
theorem ne_top_of_add {x y : EReal} (hx : 0 ≤ x) (hy : 0 ≤ y) (h : x + y ≠ ⊤) : x ≠ ⊤ ∧ y ≠ ⊤ := by
  refine ⟨fun e => h ?_, fun e => h ?_⟩
  · rw [e]; exact EReal.top_add_of_ne_bot (ne_of_gt (lt_of_lt_of_le EReal.bot_lt_zero hy))
  · rw [e]; exact EReal.add_top_of_ne_bot (ne_of_gt (lt_of_lt_of_le EReal.bot_lt_zero hx))

/-- The operand holds the overlap table. -/
def OvT (x7 : FVec Ideal S32x128 .bf16) : Prop :=
  ∀ (j : Fin 32) (n : Fin 127), x7 (ix2 j (⟨n.val, by omega⟩ : Fin 128)) = ov n j
/-! The body's value at one query, head and lane. -/
section
variable (i : grid0.Coords) (x3 : FVec Ideal S1x256x256 .bf16) (x4 : FVec Ideal S1x2048x256 .bf16) (x5 : FVec Ideal S1x1x128x128 .f32) (x7 : FVec Ideal S32x128 .bf16)
/-- The queries by column. -/
abbrev qs (s : Fin 1024) (d : Fin 64) : EReal := kQ x3 (s.val % 256) (s.val / 256) d
/-- The compressed keys. -/
abbrev kc (n : Fin 127) (d : Fin 64) : EReal := x5 (ix4 0 0 (⟨n.val, by omega⟩ : Fin 128) (⟨d.val, by omega⟩ : Fin 128))
/-- The selected branch's keys. -/
abbrev kss (k : Fin 2048) (d : Fin 64) : EReal := x4 (ix3 0 k (⟨d.val, by omega⟩ : Fin 256))
/-- The zeros the scores are added to. -/
abbrev Z1 : FVec Ideal S128x1024 .f32 := constant S128x1024 .f32 0x00000000#32
theorem z1_at (n : Fin 128) (s : Fin 1024) : Z1 (ix2 n s) = (0 : EReal) := by
  unfold Z1
  pointwise
theorem z2_at (j : Fin 32) (a : Fin 256) : (constant (F := Ideal) S32x256 .f32 0x00000000#32 : FVec Ideal S32x256 .f32) (ix2 j a) = (0 : EReal) := by
  pointwise
theorem kcs_eq : kcs (k0_pay101 x5) = kc x5 := funext fun n => funext fun d => k_at x5 _ _
theorem w59_at (r : Fin 128) (s : Fin 1024) : W59 (w0 (i 2)) (k0_pay97 x3) (k0_pay100 x5) (k0_pay101 x5) Z1 Y13 (ix2 r s)
    = ∑ n, soft EPS (Sc (256 * qi i + s.val % 256) (kc x5) (qs x3 s)) n * x5 (ix4 0 0 (⟨n.val, by omega⟩ : Fin 128) r) := by
  refine (pay103_at (i 2) _ _ _ _ _ (qs x3) z1_at (v28_at x3) y13_at r s).trans ?_
  rw [kcs_eq]
  exact Finset.sum_congr rfl fun n _ => congrArg (fun z : EReal => _ * z) (v_at x5 _ r)
variable (h7 : OvT x7)
include h7
/-- The blocks' importance, for the query in place `a`. -/
theorem w123_at (j : Fin 32) (a : Fin 256) : W123 (w0 (i 2)) (k0_pay97 x3) (k0_pay101 x5) x7 Z1 Y13 (ix2 j a)
    = imp (256 * qi i + a.val) ov (kc x5) (fun g => kQ x3 a.val g.val) j := by
  have hL : ∀ (j : Fin 32) (n : Fin 127), L74 x7 (ix2 j (⟨n.val, by omega⟩ : Fin 128)) = ov n j := fun j n => by
    rw [← h7]
    unfold L74
    pointwise
  refine (pay111_at (i 2) _ _ _ _ (qs x3) z1_at (v28_at x3) y13_at (L74 x7) hL _ z2_at j a).trans ?_
  rw [kcs_eq]
  refine congrArg (fun Q => imp (256 * qi i + a.val) ov (kc x5) Q j) (funext fun g => funext fun d => ?_)
  have e1 : (256 * g.val + a.val) % 256 = a.val := by omega
  have e2 : (256 * g.val + a.val) / 256 = g.val := by omega
  show kQ x3 ((256 * g.val + a.val) % 256) ((256 * g.val + a.val) / 256) d = _
  rw [e1, e2]
/-- The selected branch's scores of a column. -/
abbrev SS (s : Fin 1024) : Fin 2048 → EReal :=
  Ss (256 * qi i + s.val % 256) (imp (256 * qi i + s.val % 256) ov (kc x5) (fun g => kQ x3 (s.val % 256) g.val)) (kss x4) (qs x3 s)
theorem sel_score (s : Fin 1024) (k : Fin 2048) : c2 * SS i x3 x4 x5 s k = if k.val ≤ 256 * qi i + s.val % 256 then
    kS (Y9 x4) (W552 (w0 (i 2)) (k0_pay96 x3) (k0_pay97 x3) (k0_pay101 x5) x7 Z1 Y13) k.val s else ⊥ := by
  have hp := pay140_at (k0_pay96 x3) (W123 (w0 (i 2)) (k0_pay97 x3) (k0_pay101 x5) x7 Z1 Y13) (W514 (w0 (i 2)) (k0_pay97 x3) (k0_pay101 x5) x7 Z1 Y13) (qs x3) (v27_at x3)
    (fun m a => rank_a _ _ m a (by unfold W123; pointwise [k0_pay113, k0_pay111])) s
  have hs := score_bias (fun y => Y9 x4 (ix2 k y)) (fun y => W552 (w0 (i 2)) (k0_pay96 x3) (k0_pay97 x3) (k0_pay101 x5) x7 Z1 Y13 (ix2 s y)) (qs x3 s)
    (bias (W123 (w0 (i 2)) (k0_pay97 x3) (k0_pay101 x5) x7 Z1 Y13) ⟨s.val % 256, by omega⟩) (blk k) (fun y hy => by rw [y9_at, dif_neg hy]) hp
  have hk : (fun d : Fin 64 => Y9 x4 (ix2 k (⟨d.val, by omega⟩ : Fin 128))) = kss x4 k := funext fun d => by rw [y9_at, dif_pos d.isLt]
  have hi : (fun b => W123 (w0 (i 2)) (k0_pay97 x3) (k0_pay101 x5) x7 Z1 Y13 (ix2 b (⟨s.val % 256, by omega⟩ : Fin 256))) = imp (256 * qi i + s.val % 256) ov (kc x5) (fun g => kQ x3 (s.val % 256) g.val) :=
    funext fun b => w123_at i x3 x5 x7 h7 b _
  unfold kS
  rw [Fin.ofNat_val_eq_self, hs, hk]
  unfold bias
  rw [hi]
  unfold SS Ss
  by_cases h1 : k.val ≤ 256 * qi i + s.val % 256
  · rw [if_pos h1]
    by_cases h2 : sel (imp (256 * qi i + s.val % 256) ov (kc x5) (fun g => kQ x3 (s.val % 256) g.val)) (blk k)
    · rw [if_pos ⟨h2, h1⟩, if_pos h2, add_zero]
    · rw [if_neg (fun h => h2 h.1), if_neg h2, c2_mul_bot, EReal.add_bot]
  · rw [if_neg (fun h => h1 h.2), if_neg h1, c2_mul_bot]
end
end Cert.KernelIdeal.Exact
end
-- ==== Proof.KBody.lean ====
/- The kernel body's value at one query, head and lane is the layer's mathematics. -/
module

public import proofs.«01_k».proof.Proof.KOut

@[expose] public section
noncomputable section
namespace Cert.KernelIdeal.Exact
open Cert.KernelIdeal Cert.KernelIdeal.Gen
open Idealize.ShloMosaic Idealize.ShloMosaic.TcCoe
open Cert.Spec Cert.Words Cert.Softmax
set_option maxRecDepth 16384

theorem pay98_at (s : Fin 1024) : k0_pay98 (F := Ideal) (ix2 0 s) = (⊥ : EReal) := by
  rw [← neg_eq]
  pointwise [k0_pay98]
theorem pay99_at (r : Fin 128) (s : Fin 1024) : k0_pay99 (F := Ideal) (ix2 r s) = (0 : EReal) := by
  pointwise [k0_pay99]
theorem pay5_v (v9 : IVec S256x128 1) (v731 : FVec Ideal S128x1024 .f32) (s : Fin 256) (u : Fin 128) :
    k0_pay5 v9 v731 (ix3 0 s u) = (Scalar.select (v9 (ix2 s u)) (v731 (ix2 (⟨(u.val + 128 - 64) % 128, by omega⟩ : Fin 128) (⟨s.val, by omega⟩ : Fin 1024)))
      (v731 (ix2 u (⟨256 + s.val, by omega⟩ : Fin 1024))) : EReal) := by
  pointwise [k0_pay5]
theorem pay6_v (v9 : IVec S256x128 1) (v731 : FVec Ideal S128x1024 .f32) (s : Fin 256) (u : Fin 128) :
    k0_pay6 v9 v731 (ix3 0 s u) = (Scalar.select (v9 (ix2 s u)) (v731 (ix2 (⟨(u.val + 128 - 64) % 128, by omega⟩ : Fin 128) (⟨512 + s.val, by omega⟩ : Fin 1024)))
      (v731 (ix2 u (⟨768 + s.val, by omega⟩ : Fin 1024))) : EReal) := by
  pointwise [k0_pay6]

/-- The values' rows: a row of ones, then the values. -/
theorem vt_one (o : ℕ) (x4 : FVec Ideal S1x2048x256 .bf16) (k : Fin 2048) : vt (Yv o x4) k.val 0 = 1 := by
  unfold vt Yv
  exact if_pos (show (0 : ℕ) < 64 by omega)
/-- A value. -/
abbrev vrow (o : ℕ) (x4 : FVec Ideal S1x2048x256 .bf16) (d : Fin 64) (k : Fin 2048) : EReal := x4 (ix3 0 k (Fin.ofNat 256 (o + (64 + d.val))))
theorem vt_row (o : ℕ) (x4 : FVec Ideal S1x2048x256 .bf16) (d : Fin 64) (k : Fin 2048) :
    vt (Yv o x4) k.val (⟨64 + d.val, by omega⟩ : Fin 128) = vrow o x4 d k := by
  unfold vt Yv
  refine (if_neg (show ¬ 64 + d.val < 64 by omega)).trans ?_
  have e : (Fin.ofNat 2048 (128 * (k.val / 128 % 16) + k.val % 128 % 128) : Fin 2048) = k := Fin.ext (by
    show (128 * (k.val / 128 % 16) + k.val % 128 % 128) % 2048 = k.val
    omega)
  exact congrArg (fun z : Fin 2048 => (x4 (ix3 0 z (Fin.ofNat 256 (o + (64 + d.val)))) : EReal)) e

section
variable (i : grid0.Coords) (x3 : FVec Ideal S1x256x256 .bf16) (x4 : FVec Ideal S1x2048x256 .bf16) (x5 : FVec Ideal S1x1x128x128 .f32) (x6 : FVec Ideal S1x256x128 .f32) (x7 : FVec Ideal S32x128 .bf16)
variable (h7 : OvT x7)
include h7
/-- The gated sum of one column, at one lane. -/
theorem w731_at (s : Fin 1024) (d : Fin 64) :
    W731 i (w0 (i 2)) (k0_pay96 x3) (k0_pay97 x3) (k0_pay100 x5) (k0_pay101 x5) k0_pay98 k0_pay99 x4 x6 x7 Z1 (Y9 x4) (Yv 0 x4) (Yv 128 x4) k0_pay9 Y13 (ix2 (⟨64 + d.val, by omega⟩ : Fin 128) s)
    = gt x6 0 s * ∑ n, soft EPS (Sc (256 * qi i + s.val % 256) (kc x5) (qs x3 s)) n * x5 (ix4 0 0 (⟨n.val, by omega⟩ : Fin 128) (⟨64 + d.val, by omega⟩ : Fin 128))
      + gt x6 1 s * ∑ k, soft EPS (SS i x3 x4 x5 s) k * vrow 0 x4 d k
      + gt x6 2 s * ∑ k, soft EPS (SW i x4 (qs x3) s) k * vrow 128 x4 d k := by
  have hw := w59_at i x3 x5 (⟨64 + d.val, by omega⟩ : Fin 128) s
  have hg : ∀ b, ∃ r : ℝ, 0 ≤ r ∧ gt x6 b s = r := fun b => logistic_real _
  have vs1 : (fun k : Fin 2048 => vt (Yv 0 x4) k.val 0) = fun _ => 1 := funext fun k => vt_one 0 x4 k
  have vw1 : (fun k : Fin 2048 => vt (Yv 128 x4) k.val 0) = fun _ => 1 := funext fun k => vt_one 128 x4 k
  have vs2 : (fun k : Fin 2048 => vt (Yv 0 x4) k.val (⟨64 + d.val, by omega⟩ : Fin 128)) = vrow 0 x4 d := funext fun k => vt_row 0 x4 d k
  have vw2 : (fun k : Fin 2048 => vt (Yv 128 x4) k.val (⟨64 + d.val, by omega⟩ : Fin 128)) = vrow 128 x4 d := funext fun k => vt_row 128 x4 d k
  unfold W731
  by_cases hc : over (k0_pay161 (W59 (w0 (i 2)) (k0_pay97 x3) (k0_pay100 x5) (k0_pay101 x5) Z1 Y13) (W675 i (w0 (i 2)) (k0_pay97 x3) x4 (Yv 128 x4) k0_pay9)
      (ACC (i 2).val (W552 (w0 (i 2)) (k0_pay96 x3) (k0_pay97 x3) (k0_pay101 x5) x7 Z1 Y13) (W555 k0_pay9) (Y9 x4) (Yv 0 x4)) x6)
  · rw [if_pos hc]
    have hl := loop_gat i (W552 (w0 (i 2)) (k0_pay96 x3) (k0_pay97 x3) (k0_pay101 x5) x7 Z1 Y13) (Y9 x4) (Yv 0 x4) k0_pay9 (k0_pay98, k0_pay99) s (SS i x3 x4 x5 s) y12_at pay98_at pay99_at (sel_score i x3 x4 x5 x7 h7 s)
    have hs := w821_at i (k0_pay97 x3) k0_pay98 k0_pay99 x4 (Yv 128 x4) k0_pay9 (qs x3) s (v28_at x3) y12_at pay98_at pay99_at
    refine (pay4_v _ _ _ _ _ _).trans ?_
    rw [hw, hl, hl, hs, hs, vs1, vw1, vs2, vw2, branch_sum _ _ _ le_rfl _ (hg 1) (gat_max_ne_top _), branch_sum _ _ _ le_rfl _ (hg 2) (gat_max_ne_top _), mul_comm]
  · rw [if_neg hc]
    have hn := not_over _ _ _ _ hc s
    have ha := accv_at (i 2).val (qi_lt i) (s.val % 256) (by omega) (W552 (w0 (i 2)) (k0_pay96 x3) (k0_pay97 x3) (k0_pay101 x5) x7 Z1 Y13) (W555 k0_pay9) (Y9 x4) (Yv 0 x4) s (SS i x3 x4 x5 s) (w555_at k0_pay9 s y12_at) (sel_score i x3 x4 x5 x7 h7 s)
    have hs := w675_at i (k0_pay97 x3) x4 (Yv 128 x4) k0_pay9 (qs x3) s (v28_at x3) y12_at
    have hm := wM_le i (k0_pay97 x3) x4 k0_pay9 (qs x3) s (v28_at x3) y12_at
    refine (pay160_v _ _ _ _ _ _).trans ?_
    have hA : ∀ r, ACC (i 2).val (W552 (w0 (i 2)) (k0_pay96 x3) (k0_pay97 x3) (k0_pay101 x5) x7 Z1 Y13) (W555 k0_pay9) (Y9 x4) (Yv 0 x4) (ix2 r s) = gat (SS i x3 x4 x5 s) (fun k => vt (Yv 0 x4) k.val r) _ := ha.2
    rw [hA, hs, vs1, vw1] at hn
    obtain ⟨h1, h2⟩ := ne_top_of_add (gat_nonneg _ _) (gat_nonneg _ _) hn
    rw [hw, hA, hA, hs, hs, vs1, vw1, vs2, vw2, branch_sum _ _ _ ha.1 _ (hg 1) h1, branch_sum _ _ _ hm _ (hg 2) h2, mul_comm]

omit h7 in
/-- The stored block's element, by head and lane. -/
theorem store_at (w : FVec Ideal S128x1024 .f32) (a u : Fin 256) (g : Fin 4) (d : Fin 64) (hu : u.val = 64 * g.val + d.val) :
    OUT k0_pay95 w (ix3 0 a u) = (w (ix2 (⟨64 + d.val, by omega⟩ : Fin 128) (⟨256 * g.val + a.val, by omega⟩ : Fin 1024)) : EReal) := by
  have hd := d.isLt
  have ha := a.isLt
  have hw : ∀ (r r' : Fin 128) (s s' : Fin 1024), r.val = r'.val → s.val = s'.val → (w (ix2 r s) : EReal) = w (ix2 r' s') := fun r r' s s' h h' => by
    rw [Fin.ext h, Fin.ext h']
  have h4 : g.val = 0 ∨ g.val = 1 ∨ g.val = 2 ∨ g.val = 3 := by omega
  unfold OUT
  by_cases h : u.val < 128
  · refine (dif_pos (show ((ix3 0 a u : S1x256x256.Idx) 2).val < 128 from h)).trans ?_
    refine (pay5_v k0_pay95 w a ⟨u.val, h⟩).trans ?_
    rw [pay95_at, select_ofBool]
    by_cases h6 : u.val < 64
    · rw [if_pos h6]; exact hw _ _ _ _ (by show (u.val + 128 - 64) % 128 = 64 + d.val; omega) (by show a.val = 256 * g.val + a.val; omega)
    · rw [if_neg h6]; exact hw _ _ _ _ (by show u.val = 64 + d.val; omega) (by show 256 + a.val = 256 * g.val + a.val; omega)
  · refine (dif_neg (show ¬ ((ix3 0 a u : S1x256x256.Idx) 2).val < 128 from h)).trans ?_
    refine (pay6_v k0_pay95 w a ⟨u.val - 128, by omega⟩).trans ?_
    rw [pay95_at, select_ofBool]
    by_cases h6 : u.val - 128 < 64
    · rw [if_pos h6]; exact hw _ _ _ _ (by show (u.val - 128 + 128 - 64) % 128 = 64 + d.val; omega) (by show 512 + a.val = 256 * g.val + a.val; omega)
    · rw [if_neg h6]; exact hw _ _ _ _ (by show u.val - 128 = 64 + d.val; omega) (by show 768 + a.val = 256 * g.val + a.val; omega)
/-- The body's value. -/
theorem body_at (a u : Fin 256) (g : Fin 4) (d : Fin 64) (hu : u.val = 64 * g.val + d.val) :
    BODY i x3 x4 x5 x6 x7 (ix3 0 a u) = (out (256 * qi i + a.val) ov (kc x5) (fun g => kQ x3 a.val g.val) (kss x4) (kws x4)
      (fun n => x5 (ix4 0 0 (⟨n.val, by omega⟩ : Fin 128) (⟨64 + d.val, by omega⟩ : Fin 128))) (vrow 0 x4 d) (vrow 128 x4 d)
      (fun x => x6 (ix3 0 a (⟨3 * g.val + x.val, by omega⟩ : Fin 128))) g : EReal) := by
  have e0 : Scalar.muli (BitVec.ofNat 32 (i 2).val) 256#32 = w0 (i 2) := by
    have hq : (i 2).val < 8 := qi_lt i
    refine BitVec.eq_of_toNat_eq ?_
    show (BitVec.ofNat 32 (i 2).val * 256#32).toNat = (BitVec.ofNat 32 (256 * (i 2).val)).toNat
    rw [BitVec.toNat_mul, BitVec.toNat_ofNat, BitVec.toNat_ofNat, BitVec.toNat_ofNat]
    omega
  have e1 : (256 * g.val + a.val) % 256 = a.val := by omega
  have e2 : (256 * g.val + a.val) / 256 = g.val := by omega
  unfold BODY
  rw [store_at _ a u g d hu, e0]
  refine (w731_at i x3 x4 x5 x6 x7 h7 (⟨256 * g.val + a.val, by omega⟩ : Fin 1024) d).trans ?_
  have hz : ∀ x : Fin 3, gt x6 x.val (⟨256 * g.val + a.val, by omega⟩ : Fin 1024) = Ideal.logistic (x6 (ix3 0 a (⟨3 * g.val + x.val, by omega⟩ : Fin 128))) := fun x => by
    unfold gt
    refine congrArg Ideal.logistic (congrArg x6 ?_)
    congr 1
    · exact Fin.ext e1
    · refine Fin.ext ?_
      show (3 * ((256 * g.val + a.val) / 256) + x.val) % 128 = 3 * g.val + x.val
      omega
  have h0 := hz 0
  have h1 := hz 1
  have h2 := hz 2
  unfold SS SW qs out
  simp only [e1, e2]
  refine congrArg₂ (fun y z : EReal => y + z) (congrArg₂ (fun y z : EReal => y + z) (congrArg₂ (fun y z : EReal => y * z) h0 rfl) (congrArg₂ (fun y z : EReal => y * z) h1 rfl)) (congrArg₂ (fun y z : EReal => y * z) h2 rfl)
end
end Cert.KernelIdeal.Exact
end
-- ==== Proof.KHost.lean ====
/- What the call's operands hold, element by element, in the arguments. -/
module

public import proofs.«01_k».proof.Proof.Spec
public import proofs.«01_k».proof.Proof.Words
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.Tactic.CleanTypes

@[expose] public section
noncomputable section
namespace Cert.KernelIdeal.Exact
open Cert.KernelIdeal Cert.KernelIdeal.Gen
open Idealize.ShloMosaic Idealize.ShloMosaic.TcCoe Idealize.ShloMosaic.Tactic
open Cert.Spec Cert.Words
set_option maxRecDepth 16384

section
variable (a0 : FVec Ideal S16x2048x8x64 .f32) (a1 a2 : FVec Ideal S16x127x2x64 .f32) (a7 : FVec Ideal S16x2048x24 .f32)
/-- The queries, the heads side by side. -/
theorem q_v (b : Fin 16) (t : Fin 2048) (x : Fin 512) : (truncf .bf16 (shapeCast S16x2048x512 a0 shapeCasts_S16x2048x8x64_S16x2048x512) bitsLt_bf16_f32 : FVec Ideal S16x2048x512 .bf16) (ix3 b t x)
    = (a0 (ix4 b t (⟨x.val / 64, by omega⟩ : Fin 8) (⟨x.val % 64, by omega⟩ : Fin 64)) : EReal) := by
  pointwise
/-- One of the packed arrays. -/
theorem sl0_v (a : FVec Ideal S16x2048x2x64 .f32) (b : Fin 16) (t : Fin 2048) (x : Fin 64) : (shapeCast S16x2048x64 (extractStridedSlice S16x2048x1x64 ![0, 0, 0, 0] a slices_S16x2048x2x64_S16x2048x1x64_0_0_0_0) shapeCasts_S16x2048x1x64_S16x2048x64 : FVec Ideal S16x2048x64 .f32) (ix3 b t x)
    = (a (ix4 b t (0 : Fin 2) x) : EReal) := by
  pointwise
theorem sl1_v (a : FVec Ideal S16x2048x2x64 .f32) (b : Fin 16) (t : Fin 2048) (x : Fin 64) : (shapeCast S16x2048x64 (extractStridedSlice S16x2048x1x64 ![0, 0, 1, 0] a slices_S16x2048x2x64_S16x2048x1x64_0_0_1_0) shapeCasts_S16x2048x1x64_S16x2048x64 : FVec Ideal S16x2048x64 .f32) (ix3 b t x)
    = (a (ix4 b t (1 : Fin 2) x) : EReal) := by
  pointwise
theorem cat8_v (p0 p1 p2 p3 p4 p5 p6 p7 : FVec Ideal S16x2048x64 .f32) (b : Fin 16) (t : Fin 2048) (x : Fin 512) :
    (truncf .bf16 (concatenate S16x2048x512 2 [⟨S16x2048x64, p0⟩, ⟨S16x2048x64, p1⟩, ⟨S16x2048x64, p2⟩, ⟨S16x2048x64, p3⟩, ⟨S16x2048x64, p4⟩, ⟨S16x2048x64, p5⟩, ⟨S16x2048x64, p6⟩, ⟨S16x2048x64, p7⟩]
      concatenates_S16x2048x64_S16x2048x64_S16x2048x64_S16x2048x64_S16x2048x64_S16x2048x64_S16x2048x64_S16x2048x64_S16x2048x512_d2) bitsLt_bf16_f32 : FVec Ideal S16x2048x512 .bf16) (ix3 b t x)
    = ((![p0, p1, p2, p3, p4, p5, p6, p7] (⟨x.val / 64, by omega⟩ : Fin 8) : FVec Ideal S16x2048x64 .f32) (ix3 b t (⟨x.val % 64, by omega⟩ : Fin 64)) : EReal) := by
  pointwise
  have hx := x.isLt
  have hp : ∀ (i : Fin 8) (y : Fin 64), x.val = 64 * i.val + y.val → (![p0, p1, p2, p3, p4, p5, p6, p7] i : FVec Ideal S16x2048x64 .f32) (ix3 b t y)
      = (![p0, p1, p2, p3, p4, p5, p6, p7] (⟨x.val / 64, by omega⟩ : Fin 8) : FVec Ideal S16x2048x64 .f32) (ix3 b t (⟨x.val % 64, by omega⟩ : Fin 64)) := fun i y h => by
    rw [show (⟨x.val / 64, by omega⟩ : Fin 8) = i from Fin.ext (by show x.val / 64 = i.val; omega), show (⟨x.val % 64, by omega⟩ : Fin 64) = y from Fin.ext (by show x.val % 64 = y.val; omega)]
  by_cases h0 : x.val < 64
  · rw [dif_pos h0]; exact hp 0 ⟨x.val, by omega⟩ (by show x.val = 64 * 0 + (x.val); omega)
  rw [dif_neg h0]
  by_cases h1 : x.val - 64 < 64
  · rw [dif_pos h1]; exact hp 1 ⟨x.val - 64, by omega⟩ (by show x.val = 64 * 1 + (x.val - 64); omega)
  rw [dif_neg h1]
  by_cases h2 : x.val - 64 - 64 < 64
  · rw [dif_pos h2]; exact hp 2 ⟨x.val - 64 - 64, by omega⟩ (by show x.val = 64 * 2 + (x.val - 64 - 64); omega)
  rw [dif_neg h2]
  by_cases h3 : x.val - 64 - 64 - 64 < 64
  · rw [dif_pos h3]; exact hp 3 ⟨x.val - 64 - 64 - 64, by omega⟩ (by show x.val = 64 * 3 + (x.val - 64 - 64 - 64); omega)
  rw [dif_neg h3]
  by_cases h4 : x.val - 64 - 64 - 64 - 64 < 64
  · rw [dif_pos h4]; exact hp 4 ⟨x.val - 64 - 64 - 64 - 64, by omega⟩ (by show x.val = 64 * 4 + (x.val - 64 - 64 - 64 - 64); omega)
  rw [dif_neg h4]
  by_cases h5 : x.val - 64 - 64 - 64 - 64 - 64 < 64
  · rw [dif_pos h5]; exact hp 5 ⟨x.val - 64 - 64 - 64 - 64 - 64, by omega⟩ (by show x.val = 64 * 5 + (x.val - 64 - 64 - 64 - 64 - 64); omega)
  rw [dif_neg h5]
  by_cases h6 : x.val - 64 - 64 - 64 - 64 - 64 - 64 < 64
  · rw [dif_pos h6]; exact hp 6 ⟨x.val - 64 - 64 - 64 - 64 - 64 - 64, by omega⟩ (by show x.val = 64 * 6 + (x.val - 64 - 64 - 64 - 64 - 64 - 64); omega)
  rw [dif_neg h6]
  exact hp 7 ⟨x.val - 64 - 64 - 64 - 64 - 64 - 64 - 64, by omega⟩ (by show x.val = 64 * 7 + (x.val - 64 - 64 - 64 - 64 - 64 - 64 - 64); omega)
theorem c_v (f : FVec Ideal S_ .f32) (b : Fin 16) (k : Fin 2) (n x : Fin 128) (hn : n.val < 127) :
    (pad S16x2x128x128 ![0, 0, 0, 0] ![0, 0, 1, 0] ![0, 0, 0, 0] (transpose S16x2x127x128 [0, 2, 1, 3] (concatenate S16x127x2x128 3 [⟨S16x127x2x64, a1⟩, ⟨S16x127x2x64, a2⟩]
        concatenates_S16x127x2x64_S16x127x2x64_S16x127x2x128_d3) transposes_S16x127x2x128_S16x2x127x128_0_2_1_3) f pads_S16x2x127x128_S16x2x128x128_000_000_010_000 h_S_ : FVec Ideal S16x2x128x128 .f32) (ix4 b k n x)
    = (if h : x.val < 64 then a1 (ix4 b (⟨n.val, hn⟩ : Fin 127) k (⟨x.val, h⟩ : Fin 64)) else a2 (ix4 b (⟨n.val, hn⟩ : Fin 127) k (⟨x.val - 64, by omega⟩ : Fin 64)) : EReal) := by
  pointwise
  rw [dif_pos hn]
theorem z_v (f f' : FVec Ideal S_ .f32) (b : Fin 16) (t : Fin 2048) (x : Fin 256) (hx : x.val % 128 < 12) :
    (concatenate S16x2048x256 2 [⟨S16x2048x128, pad S16x2048x128 ![0, 0, 0] ![0, 0, 116] ![0, 0, 0] (extractStridedSlice S16x2048x12 ![0, 0, 0] a7 slices_S16x2048x24_S16x2048x12_0_0_0) f pads_S16x2048x12_S16x2048x128_000_000_01160 h_S_⟩,
      ⟨S16x2048x128, pad S16x2048x128 ![0, 0, 0] ![0, 0, 116] ![0, 0, 0] (extractStridedSlice S16x2048x12 ![0, 0, 12] a7 slices_S16x2048x24_S16x2048x12_0_0_12) f' pads_S16x2048x12_S16x2048x128_000_000_01160 h_S_⟩]
      concatenates_S16x2048x128_S16x2048x128_S16x2048x256_d2 : FVec Ideal S16x2048x256 .f32) (ix3 b t x)
    = (a7 (ix3 b t (⟨12 * (x.val / 128) + x.val % 128, by omega⟩ : Fin 24)) : EReal) := by
  pointwise
  have e : ∀ x' : Fin 24, x'.val = 12 * (x.val / 128) + x.val % 128 → (a7 (ix3 b t x') : EReal) = a7 (ix3 b t (⟨12 * (x.val / 128) + x.val % 128, by omega⟩ : Fin 24)) := fun x' h => by
    exact congrArg (fun z : Fin 24 => (a7 (ix3 b t z) : EReal)) (Fin.ext h)
  by_cases h0 : x.val < 128
  · rw [dif_pos h0, dif_pos (by omega)]; exact e _ (by show x.val = _; omega)
  · rw [dif_neg h0, dif_pos (by omega)]; exact e _ (by show 12 + (x.val - 128) = _; omega)
end
/-- The overlap table. -/
theorem ov_v (j : Fin 32) (n : Fin 128) : (maxsi (broadcastInDim S32x128 ![] bcast_S_S32x128 (constantI S_ 32 0#32))
   (subi
                (minsi
                  (broadcastInDim S32x128 ![0, 1] bcast_S1x128_S32x128_0_1
                    (addi
                      (broadcastInDim S1x128 ![1] bcast_S128_S1x128_1
                        (muli (broadcastInDim S128 ![] bcast_S_S128 (constantI S_ 32 16#32)) (iotaInDim S128 32 0)))
                      (broadcastInDim S1x128 ![] bcast_S_S1x128 (constantI S_ 32 32#32))))
                  (broadcastInDim S32x128 ![0, 1] bcast_S32x1_S32x128_0_1
                    (addi
                      (broadcastInDim S32x1 ![0] bcast_S32_S32x1_0
                        (muli (broadcastInDim S32 ![] bcast_S_S32 (constantI S_ 32 64#32)) (iotaInDim S32 32 0)))
                      (broadcastInDim S32x1 ![] bcast_S_S32x1 (constantI S_ 32 64#32)))))
                (maxsi
                  (broadcastInDim S32x128 ![0, 1] bcast_S1x128_S32x128_0_1
                    (broadcastInDim S1x128 ![1] bcast_S128_S1x128_1
                      (muli (broadcastInDim S128 ![] bcast_S_S128 (constantI S_ 32 16#32)) (iotaInDim S128 32 0))))
                  (broadcastInDim S32x128 ![0, 1] bcast_S32x1_S32x128_0_1
                    (broadcastInDim S32x1 ![0] bcast_S32_S32x1_0
                      (muli (broadcastInDim S32 ![] bcast_S_S32 (constantI S_ 32 64#32)) (iotaInDim S32 32 0)))))) : IVec S32x128 32) (ix2 j n)
   = (IntOp.maxsi (0#32 : BitVec 32)
    (IntOp.subi (IntOp.minsi (IntOp.addi (IntOp.muli (16#32) (BitVec.ofNat 32 n.val)) 32#32)
        (IntOp.addi (IntOp.muli (64#32) (BitVec.ofNat 32 j.val)) 64#32))
      (IntOp.maxsi (IntOp.muli (16#32) (BitVec.ofNat 32 n.val)) (IntOp.muli (64#32) (BitVec.ofNat 32 j.val))))) := by
  pointwise

variable (m : (ℓ : Loc nD τ sig) → Buf (Elt Ideal) ℓ) (c : Dev nD)
theorem v1_at (b : Fin 16) (t : Fin 2048) (x : Fin 512) : (V m c main_v1 : FVec Ideal S16x2048x512 .bf16) (ix3 b t x)
    = ((m ((c : Thread nD τ).loc main_arg0) : FVec Ideal S16x2048x8x64 .f32) (ix4 b t (⟨x.val / 64, by omega⟩ : Fin 8) (⟨x.val % 64, by omega⟩ : Fin 64)) : EReal) := by
  unfold V
  simp only [List.flatten_cons, List.flatten_nil, List.append_nil, StableHlo.after_append]
  entry_read
  exact q_v _ b t x
/-- The operations after the first run do not write the packed keys and values. -/
theorem later (F : Valuation τ sig (Elt Ideal)) : StableHlo.after hostOps0_8 (StableHlo.after hostOps0_7 (StableHlo.after hostOps0_6 (StableHlo.after hostOps0_5 (StableHlo.after hostOps0_4
    (StableHlo.after hostOps0_3 (StableHlo.after hostOps0_2 (StableHlo.after hostOps0_1 F))))))) (Proc.devRef .tc main_v19) = F (Proc.devRef .tc main_v19) := by
  simp only [StableHlo.after_cons, StableHlo.after_nil]
  after_results_simp
/-- The packed keys and values, in the eight slices. -/
theorem packed (F : Valuation τ sig (Elt Ideal)) : StableHlo.after (List.drop 18 hostOps0) F (Proc.devRef .tc main_v19) =
    (truncf .bf16 (concatenate S16x2048x512 2 [⟨S16x2048x64, F (Proc.devRef .tc main_v3)⟩, ⟨S16x2048x64, F (Proc.devRef .tc main_v5)⟩, ⟨S16x2048x64, F (Proc.devRef .tc main_v7)⟩, ⟨S16x2048x64, F (Proc.devRef .tc main_v9)⟩,
      ⟨S16x2048x64, F (Proc.devRef .tc main_v11)⟩, ⟨S16x2048x64, F (Proc.devRef .tc main_v13)⟩, ⟨S16x2048x64, F (Proc.devRef .tc main_v15)⟩, ⟨S16x2048x64, F (Proc.devRef .tc main_v17)⟩]
      concatenates_S16x2048x64_S16x2048x64_S16x2048x64_S16x2048x64_S16x2048x64_S16x2048x64_S16x2048x64_S16x2048x64_S16x2048x512_d2) bitsLt_bf16_f32 : FVec Ideal S16x2048x512 .bf16) := by
  simp only [hostOps0, List.drop_succ_cons, List.drop_zero, StableHlo.after_cons, StableHlo.after_nil]
  rw [StableHlo.nullary_result_ne (h := by decide), StableHlo.unary_result_ne (h := by decide), StableHlo.binary_result_ne (h := by decide), StableHlo.unary_result, StableHlo.nary_result]
  rfl
/-- The contents before the slices are put side by side. -/
abbrev pre18 : Valuation τ sig (Elt Ideal) := StableHlo.after (List.take 18 hostOps0) (fun b => m (c, b))
theorem pre_3 : pre18 m c (Proc.devRef .tc main_v3) = (shapeCast S16x2048x64 (extractStridedSlice S16x2048x1x64 ![0, 0, 0, 0] (m ((c : Thread nD τ).loc main_arg3)) slices_S16x2048x2x64_S16x2048x1x64_0_0_0_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_5 : pre18 m c (Proc.devRef .tc main_v5) = (shapeCast S16x2048x64 (extractStridedSlice S16x2048x1x64 ![0, 0, 0, 0] (m ((c : Thread nD τ).loc main_arg4)) slices_S16x2048x2x64_S16x2048x1x64_0_0_0_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_7 : pre18 m c (Proc.devRef .tc main_v7) = (shapeCast S16x2048x64 (extractStridedSlice S16x2048x1x64 ![0, 0, 0, 0] (m ((c : Thread nD τ).loc main_arg5)) slices_S16x2048x2x64_S16x2048x1x64_0_0_0_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_9 : pre18 m c (Proc.devRef .tc main_v9) = (shapeCast S16x2048x64 (extractStridedSlice S16x2048x1x64 ![0, 0, 0, 0] (m ((c : Thread nD τ).loc main_arg6)) slices_S16x2048x2x64_S16x2048x1x64_0_0_0_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_11 : pre18 m c (Proc.devRef .tc main_v11) = (shapeCast S16x2048x64 (extractStridedSlice S16x2048x1x64 ![0, 0, 1, 0] (m ((c : Thread nD τ).loc main_arg3)) slices_S16x2048x2x64_S16x2048x1x64_0_0_1_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_13 : pre18 m c (Proc.devRef .tc main_v13) = (shapeCast S16x2048x64 (extractStridedSlice S16x2048x1x64 ![0, 0, 1, 0] (m ((c : Thread nD τ).loc main_arg4)) slices_S16x2048x2x64_S16x2048x1x64_0_0_1_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_15 : pre18 m c (Proc.devRef .tc main_v15) = (shapeCast S16x2048x64 (extractStridedSlice S16x2048x1x64 ![0, 0, 1, 0] (m ((c : Thread nD τ).loc main_arg5)) slices_S16x2048x2x64_S16x2048x1x64_0_0_1_0) shapeCasts_S16x2048x1x64_S16x2048x64 : FVec Ideal S16x2048x64 .f32) := by
  simp only [pre18, hostOps0, List.take_succ_cons, List.take_zero, StableHlo.after_cons, StableHlo.after_nil]
  after_results_simp
  rfl
theorem pre_17 : pre18 m c (Proc.devRef .tc main_v17) = (shapeCast S16x2048x64 (extractStridedSlice S16x2048x1x64 ![0, 0, 1, 0] (m ((c : Thread nD τ).loc main_arg6)) slices_S16x2048x2x64_S16x2048x1x64_0_0_1_0) shapeCasts_S16x2048x1x64_S16x2048x64 : FVec Ideal S16x2048x64 .f32) := by
  simp only [pre18, hostOps0, List.take_succ_cons, List.take_zero, StableHlo.after_cons, StableHlo.after_nil]
  after_results_simp
  rfl
theorem v19_at (b : Fin 16) (t : Fin 2048) (x : Fin 512) (k : Fin 2) (j : Fin 4) (d : Fin 64) (hx : x.val = 256 * k.val + 64 * j.val + d.val) :
    (V m c main_v19 : FVec Ideal S16x2048x512 .bf16) (ix3 b t x) = ((![m ((c : Thread nD τ).loc main_arg3), m ((c : Thread nD τ).loc main_arg4),
      m ((c : Thread nD τ).loc main_arg5), m ((c : Thread nD τ).loc main_arg6)] j : FVec Ideal S16x2048x2x64 .f32) (ix4 b t k d) : EReal) := by
  have hV : (V m c main_v19 : FVec Ideal S16x2048x512 .bf16) = StableHlo.after (List.drop 18 hostOps0) (pre18 m c) (Proc.devRef .tc main_v19) := by
    unfold V
    simp only [List.flatten_cons, List.flatten_nil, List.append_nil, StableHlo.after_append]
    refine (later _).trans ?_
    unfold pre18
    rw [← StableHlo.after_append, List.take_append_drop]
  rw [hV, packed]
  refine (cat8_v _ _ _ _ _ _ _ _ b t x).trans ?_
  rw [show (⟨x.val / 64, by omega⟩ : Fin 8) = ⟨4 * k.val + j.val, by omega⟩ from Fin.ext (by show x.val / 64 = 4 * k.val + j.val; omega),
    show (⟨x.val % 64, by omega⟩ : Fin 64) = d from Fin.ext (by show x.val % 64 = d.val; omega)]
  fin_cases k <;> fin_cases j
  · exact (congrFun (pre_3 m c) _).trans (sl0_v _ b t d)
  · exact (congrFun (pre_5 m c) _).trans (sl0_v _ b t d)
  · exact (congrFun (pre_7 m c) _).trans (sl0_v _ b t d)
  · exact (congrFun (pre_9 m c) _).trans (sl0_v _ b t d)
  · exact (congrFun (pre_11 m c) _).trans (sl1_v _ b t d)
  · exact (congrFun (pre_13 m c) _).trans (sl1_v _ b t d)
  · exact (congrFun (pre_15 m c) _).trans (sl1_v _ b t d)
  · exact (congrFun (pre_17 m c) _).trans (sl1_v _ b t d)
theorem v22_at (b : Fin 16) (k : Fin 2) (n x : Fin 128) (hn : n.val < 127) : (V m c main_v22 : FVec Ideal S16x2x128x128 .f32) (ix4 b k n x)
    = (if h : x.val < 64 then (m ((c : Thread nD τ).loc main_arg1) : FVec Ideal S16x127x2x64 .f32) (ix4 b (⟨n.val, hn⟩ : Fin 127) k (⟨x.val, h⟩ : Fin 64))
      else (m ((c : Thread nD τ).loc main_arg2) : FVec Ideal S16x127x2x64 .f32) (ix4 b (⟨n.val, hn⟩ : Fin 127) k (⟨x.val - 64, by omega⟩ : Fin 64)) : EReal) := by
  unfold V
  simp only [List.flatten_cons, List.flatten_nil, List.append_nil, StableHlo.after_append]
  entry_read
  exact c_v _ _ _ b k n x hn
theorem v27_at' (b : Fin 16) (t : Fin 2048) (x : Fin 256) (hx : x.val % 128 < 12) : (V m c main_v27 : FVec Ideal S16x2048x256 .f32) (ix3 b t x)
    = ((m ((c : Thread nD τ).loc main_arg7) : FVec Ideal S16x2048x24 .f32) (ix3 b t (⟨12 * (x.val / 128) + x.val % 128, by omega⟩ : Fin 24)) : EReal) := by
  unfold V
  simp only [List.flatten_cons, List.flatten_nil, List.append_nil, StableHlo.after_append]
  entry_read
  exact z_v _ _ _ b t x hx
theorem v53_at (j : Fin 32) (n : Fin 127) : (V m c main_v53 : FVec Ideal S32x128 .bf16) (ix2 j (⟨n.val, by omega⟩ : Fin 128)) = (ov n j : EReal) := by
  unfold V
  simp only [List.flatten_cons, List.flatten_nil, List.append_nil, StableHlo.after_append]
  entry_read
  pointwise
  unfold ov
  exact congrArg (fun z : BitVec 32 => Ideal.div (FloatOps.sitofp (F := Ideal) .f32 z) (Ideal.ofBits .f32 1107296256#32)) (ov_v j (⟨n.val, by omega⟩ : Fin 128))
end Cert.KernelIdeal.Exact
end
-- ==== Proof.ExactBody.lean ====
module

public import proofs.«01_k».proof.Proof.Gen.KernelIdeal.Frame
public import proofs.«01_k».proof.Proof.Gen.KernelIdeal.Loops
public import proofs.«01_k».proof.Proof.ExactInit
public import proofs.«01_k».proof.Proof.BodyVal
public import Idealize.ShloMosaic.Lib.VecWindow
public import Idealize.ShloMosaic.Lib.Writes

@[expose] public section
noncomputable section
namespace Cert.KernelIdeal.Exact
open Cert.KernelIdeal Cert.KernelIdeal.Gen
open Idealize.ShloMosaic Idealize.ShloMosaic.TcCoe Idealize.ShloMosaic.Tactic
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384
local notation "𝕄" => MT nD τ sig Unit (Elt Ideal) ℕ (UR sig nD τ) ℕ

variable (c : Dev nD) (i : grid0.Coords) (arg3 : Memref sig .tc .vmem S1x256x256 .bf16) (harg3 : arg3.IsWhole) (arg4 : Memref sig .tc .vmem S1x2048x256 .bf16) (harg4 : arg4.IsWhole) (arg5 : Memref sig .tc .vmem S1x1x128x128 .f32) (harg5 : arg5.IsWhole) (arg6 : Memref sig .tc .vmem S1x256x128 .f32) (harg6 : arg6.IsWhole) (arg7 : Memref sig .tc .vmem S32x128 .bf16) (harg7 : arg7.IsWhole) (arg8 : Memref sig .tc .vmem S1x256x256 .bf16) (harg8 : arg8.IsWhole) (arg9 : Memref sig .tc .vmem S2048x128 .bf16) (harg9 : arg9.IsWhole) (arg10 : Memref sig .tc .vmem S16x128x128 .bf16) (harg10 : arg10.IsWhole) (arg11 : Memref sig .tc .vmem S16x128x128 .bf16) (harg11 : arg11.IsWhole) (arg12 : Memref sig .tc .vmem S768x1024 .i32) (harg12 : arg12.IsWhole) (arg13 : Memref sig .tc .vmem S128x1024 .i32) (harg13 : arg13.IsWhole)
  (f3 : Bf c arg3) (f4 : Bf c arg4) (f5 : Bf c arg5) (f6 : Bf c arg6) (f7 : Bf c arg7) (f8 : Bf c arg8) (f9 : Bf c arg9) (f10 : Bf c arg10) (f11 : Bf c arg11) (f12 : Bf c arg12) (f13 : Bf c arg13)

/-- The two halves stored are the whole block. -/
theorem halves (v9 : IVec S256x128 1) (V : FVec Ideal S128x1024 .f32) :
    arg8.view.read (Elt Ideal) (arg8.view.writes (Elt Ideal) f8
      [⟨Rect.unit (s := S1x256x256) ![0, 0, 128] S1x256x128.size inb_S1x256x256_S1x256x128_0_0_128, k0_pay6 v9 V⟩,
       ⟨Rect.unit (s := S1x256x256) ![0, 0, 0] S1x256x128.size inb_S1x256x256_S1x256x128_0_0_0, k0_pay5 v9 V⟩]) = OUT v9 V := by
  funext y
  refine View.read_writes_apply_of_pieces arg8.view f8 (OUT v9 V) _ ?_ y ?_
  · intro p hp
    simp only [List.mem_cons, List.not_mem_nil, or_false] at hp
    obtain rfl | rfl := hp
    · intro j
      have h1 : (j 1).val < 256 := (j 1).isLt
      have h2 : (j 2).val < 128 := (j 2).isLt
      have h0 : j 0 = (0 : Fin 1) := Subsingleton.elim (α := Fin 1) _ _
      refine Eq.symm ((dif_neg (by show ¬ 128 + 1 * (j 2).val < 128; omega)).trans ?_)
      refine congrArg (k0_pay6 v9 V) (funext fun a => ?_)
      fin_cases a
      · exact h0.symm
      · exact Fin.ext (by show 0 + 1 * (j 1).val = (j 1).val; omega)
      · exact Fin.ext (by show 128 + 1 * (j 2).val - 128 = (j 2).val; omega)
    · intro j
      have h1 : (j 1).val < 256 := (j 1).isLt
      have h2 : (j 2).val < 128 := (j 2).isLt
      have h0 : j 0 = (0 : Fin 1) := Subsingleton.elim (α := Fin 1) _ _
      refine Eq.symm ((dif_pos (by show 0 + 1 * (j 2).val < 128; omega)).trans ?_)
      refine congrArg (k0_pay5 v9 V) (funext fun a => ?_)
      fin_cases a
      · exact h0.symm
      · exact Fin.ext (by show 0 + 1 * (j 1).val = (j 1).val; omega)
      · exact Fin.ext (by show 0 + 1 * (j 2).val = (j 2).val; omega)
  · have h0 : (y 0).val < 1 := (y 0).isLt
    have h1 : (y 1).val < 256 := (y 1).isLt
    have h2 : (y 2).val < 256 := (y 2).isLt
    by_cases h : (y 2).val < 128
    · refine ⟨_, List.mem_cons_of_mem _ (List.mem_cons_self ..), ?_⟩
      rw [LoadRect.mem_set]
      intro a
      fin_cases a
      · exact ⟨0, Nat.one_pos, by show (y 0).val = 0 + 1 * 0; omega⟩
      · exact ⟨(y 1).val, h1, by show (y 1).val = 0 + 1 * (y 1).val; omega⟩
      · exact ⟨(y 2).val, h, by show (y 2).val = 0 + 1 * (y 2).val; omega⟩
    · refine ⟨_, List.mem_cons_self .., ?_⟩
      rw [LoadRect.mem_set]
      intro a
      fin_cases a
      · exact ⟨0, Nat.one_pos, by show (y 0).val = 0 + 1 * 0; omega⟩
      · exact ⟨(y 1).val, h1, by show (y 1).val = 0 + 1 * (y 1).val; omega⟩
      · exact ⟨(y 2).val - 128, by show (y 2).val - 128 < 128; omega, by show (y 2).val = 128 + 1 * ((y 2).val - 128); omega⟩

/-- One trip of the loop is one step of the running sums. -/
theorem trip_eq (v0 : BitVec 32) (v552 : FVec Ideal S1024x128 .bf16) (k : Fin (k0_t1_loop i).trips) (acc : FVec Ideal S1x1024 .f32 × FVec Ideal S128x1024 .f32) :
    tripR_k0_t1 (F := Ideal) Variants.none c none i arg3 harg3 arg4 harg4 arg5 harg5 arg6 harg6 arg7 harg7 arg8 harg8 arg9 harg9 arg10 harg10 arg11 harg11 arg12 harg12 arg13 harg13 v0 v552 f9 f10 f12 k acc
      = tripW i v0 (arg9.view.read (Elt Ideal) f9) (arg10.view.read (Elt Ideal) f10) (arg12.view.read (Elt Ideal) f12) v552 k acc := by
  unfold tripR_k0_t1 trip_k0_t1
  rfl

/-- The loop's state is the running sums. -/
theorem loop_eq (v0 : BitVec 32) (v552 : FVec Ideal S1024x128 .bf16) (init : FVec Ideal S1x1024 .f32 × FVec Ideal S128x1024 .f32) (k : ℕ) (hk : k ≤ (k0_t1_loop i).trips) :
    st_k0_t1 (F := Ideal) Variants.none c none i arg3 harg3 arg4 harg4 arg5 harg5 arg6 harg6 arg7 harg7 arg8 harg8 arg9 harg9 arg10 harg10 arg11 harg11 arg12 harg12 arg13 harg13 v0 v552 f9 f10 f12 init k
      = loopW i v0 (arg9.view.read (Elt Ideal) f9) (arg10.view.read (Elt Ideal) f10) (arg12.view.read (Elt Ideal) f12) v552 init k := by
  induction k with
  | zero => rfl
  | succ k ih =>
    have hk' : k < (k0_t1_loop i).trips := hk
    refine (st_k0_t1_succ (F := Ideal) Variants.none c none i arg3 harg3 arg4 harg4 arg5 harg5 arg6 harg6 arg7 harg7 arg8 harg8 arg9 harg9 arg10 harg10 arg11 harg11 arg12 harg12 arg13 harg13 v0 v552 f9 f10 f12 init ⟨k, hk'⟩).trans ?_
    rw [trip_eq, ih hk'.le]
    rw [loopW.eq_2, dif_pos hk']

/-- The remainder loop has no trips. -/
theorem rest_none : Scf.trips (k0_t2_loop i).lb (k0_t2_loop i).ub (k0_t2_loop i).st = 0 := by
  have h : (i 2).val < 8 := (i 2).isLt
  generalize hq : (i 2).val = q at h
  unfold k0_t2_loop
  rw [hq]
  interval_cases q <;> rfl

set_option maxHeartbeats 8000000 in
/-- The whole body: the block it stores, and what it leaves in the scratch buffers. -/
theorem runBody (hS : ¬ (Scalar.cmpi .ne (Scalar.extui (Scalar.cmpi .eq (BitVec.ofNat 32 (i 2).val) 0#32) : BitVec 32) 0#32 = 1#1) →
      Scr (arg4.view.read (Elt Ideal) f4) (arg9.view.read (Elt Ideal) f9) (arg10.view.read (Elt Ideal) f10) (arg11.view.read (Elt Ideal) f11) (arg12.view.read (Elt Ideal) f12) (arg13.view.read (Elt Ideal) f13)) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13)
    ⊢ wp frame (wpE (defs₀ (F := Ideal)) Variants.none (c : Thread nD τ) none) Set.univ
        (cc0_nsa i arg3 harg3 arg4 harg4 arg5 harg5 arg6 harg6 arg7 harg7 arg8 harg8 arg9 harg9 arg10 harg10 arg11 harg11 arg12 harg12 arg13 harg13)
        (fun _ => iprop(pt c arg3 f3 ∗ pt c arg4 f4 ∗ pt c arg5 f5 ∗ pt c arg6 f6 ∗ pt c arg7 f7
          ∗ (∃ f, pt c arg8 f ∗ ⌜(arg8.view.read (Elt Ideal) f) = BODY i (arg3.view.read (Elt Ideal) f3) (arg4.view.read (Elt Ideal) f4) (arg5.view.read (Elt Ideal) f5) (arg6.view.read (Elt Ideal) f6) (arg7.view.read (Elt Ideal) f7)⌝)
          ∗ (∃ f, pt c arg9 f ∗ ⌜(arg9.view.read (Elt Ideal) f) = Y9 (arg4.view.read (Elt Ideal) f4)⌝) ∗ (∃ f, pt c arg10 f ∗ ⌜(arg10.view.read (Elt Ideal) f) = Yv 0 (arg4.view.read (Elt Ideal) f4)⌝) ∗ (∃ f, pt c arg11 f ∗ ⌜(arg11.view.read (Elt Ideal) f) = Yv 128 (arg4.view.read (Elt Ideal) f4)⌝)
          ∗ (∃ f, pt c arg12 f ∗ ⌜(arg12.view.read (Elt Ideal) f) = k0_pay9⌝) ∗ ∃ f, pt c arg13 f ∗ ⌜(arg13.view.read (Elt Ideal) f) = Y13⌝)) := by
  rw [cc0_nsa_eq_skeleton]; unfold cc0_nsa_skel
  have h24 := run24 c i arg3 harg3 arg4 harg4 arg5 harg5 arg6 harg6 arg7 harg7 arg8 harg8 arg9 harg9 arg10 harg10 arg11 harg11 arg12 harg12 arg13 harg13 f3 f4 f5 f9 f10 f11 f12 f13 hS
  have h39 := fun w hw f9 f10 v59 v552 v555 v675 => run39 c i arg3 harg3 arg4 harg4 arg5 harg5 arg6 harg6 arg7 harg7 arg8 harg8 arg9 harg9 arg10 harg10 arg11 harg11 arg12 harg12 arg13 harg13 f6 f9 f10 w hw v59 v552 v555 v675
  clear hS
  have hq : (BitVec.ofNat 32 (i 2).val).toNat = (i 2).val := by
    have h : (i 2).val < 8 := (i 2).isLt
    rw [BitVec.toNat_ofNat]; omega
  iintro ⟨H3, H4, H5, H6, H7, H8, H9, H10, H11, H12, H13⟩
  sl_exec
  split
  · sl_exec
    sl_step
    clear h24 h39
    rename_i hov
    rename' hk0_part24_6 => e9, hk0_part24_8 => e10, hk0_part24_10 => e11, hk0_part24_12 => e12, hk0_part24_14 => e13, hk0_part24_1 => t24, hk0_part39_0 => t39
    clear hk0_part24_0

    cases t24
    cases t39
    rw [hq] at hov
    isplitl [Hk0_part24_2]; · iexact Hk0_part24_2
    isplitl [Hk0_part24_3]; · iexact Hk0_part24_3
    isplitl [Hk0_part24_4]; · iexact Hk0_part24_4
    isplitl [Hk0_part39_1]; · iexact Hk0_part39_1
    isplitl [H7]; · iexact H7
    isplitl [H8]
    · iexists _
      isplitl [H8]; · iexact H8
      ipureintro
      rw [halves]
      unfold BODY
      rw [← e9, ← e10, ← e11, ← e12, ← e13]
      refine congrArg (OUT k0_pay95) ?_
      unfold W731
      refine Eq.trans ?_ (if_pos ?_).symm
      · rw [rest_none, st_k0_t2_zero]
        exact congrArg (k0_pay4 _ _ _) (congrArg Prod.snd (loop_eq (c := c) (i := i) (hk := le_rfl) ..))
      · exact hov
    isplitl [Hk0_part39_2]
    · iexists _; isplitl [Hk0_part39_2]; · iexact Hk0_part39_2
      ipureintro; exact e9
    isplitl [Hk0_part39_3]
    · iexists _; isplitl [Hk0_part39_3]; · iexact Hk0_part39_3
      ipureintro; exact e10
    isplitl [Hk0_part24_9]
    · iexists _; isplitl [Hk0_part24_9]; · iexact Hk0_part24_9
      ipureintro; exact e11
    isplitl [Hk0_part24_11]
    · iexists _; isplitl [Hk0_part24_11]; · iexact Hk0_part24_11
      ipureintro; exact e12
    iexists _; isplitl [Hk0_part24_13]; · iexact Hk0_part24_13
    ipureintro; exact e13
  · sl_exec
    sl_step
    clear h24 h39
    rename_i hov
    rename' hk0_part24_6 => e9, hk0_part24_8 => e10, hk0_part24_10 => e11, hk0_part24_12 => e12, hk0_part24_14 => e13, hk0_part24_1 => t24, hk0_part39_0 => t39
    clear hk0_part24_0

    cases t24
    cases t39
    rw [hq] at hov
    isplitl [Hk0_part24_2]; · iexact Hk0_part24_2
    isplitl [Hk0_part24_3]; · iexact Hk0_part24_3
    isplitl [Hk0_part24_4]; · iexact Hk0_part24_4
    isplitl [Hk0_part39_1]; · iexact Hk0_part39_1
    isplitl [H7]; · iexact H7
    isplitl [H8]
    · iexists _
      isplitl [H8]; · iexact H8
      ipureintro
      rw [halves]
      unfold BODY
      rw [← e9, ← e10, ← e11, ← e12, ← e13]
      refine congrArg (OUT k0_pay95) ?_
      unfold W731
      refine Eq.trans ?_ (if_neg ?_).symm
      · rw [hq]; rfl
      · exact hov
    isplitl [Hk0_part39_2]
    · iexists _; isplitl [Hk0_part39_2]; · iexact Hk0_part39_2
      ipureintro; exact e9
    isplitl [Hk0_part39_3]
    · iexists _; isplitl [Hk0_part39_3]; · iexact Hk0_part39_3
      ipureintro; exact e10
    isplitl [Hk0_part24_9]
    · iexists _; isplitl [Hk0_part24_9]; · iexact Hk0_part24_9
      ipureintro; exact e11
    isplitl [Hk0_part24_11]
    · iexists _; isplitl [Hk0_part24_11]; · iexact Hk0_part24_11
      ipureintro; exact e12
    iexists _; isplitl [Hk0_part24_13]; · iexact Hk0_part24_13
    ipureintro; exact e13

end Cert.KernelIdeal.Exact
end
-- ==== Proof.ExactRun.lean ====
module

public import proofs.«01_k».proof.Proof.ExactBody
public import proofs.«01_k».proof.Proof.Gen.KernelIdeal.Frame
public import Idealize.ShloMosaic.Lib.Pipeline.ValueKit

@[expose] public section
noncomputable section
namespace Cert.KernelIdeal.Exact
open Cert.KernelIdeal Cert.KernelIdeal.Gen
open Idealize.ShloMosaic Idealize.ShloMosaic.TcCoe Idealize.ShloMosaic.Tactic
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 16384
local notation "𝕄" => MT nD τ sig Unit (Elt Ideal) ℕ (UR sig nD τ) ℕ

/-- A whole buffer, held through the memref of all of it. -/
theorem pt_whole (c : Dev nD) (b : Ref sig .tc) (f : Buf (Elt Ideal) ((c : Thread nD τ).loc b)) :
    pt c (Memref.whole b) f = (((c : Thread nD τ).loc b) ↦{fullShare} f : sProp 𝕄) := by
  unfold pt; simp only [Memref.view_whole, View.set_whole]

section
variable (c : Dev nD) (i : grid0.Coords) (arg3 : Memref sig .tc .vmem S1x256x256 .bf16) (harg3 : arg3.IsWhole) (arg4 : Memref sig .tc .vmem S1x2048x256 .bf16) (harg4 : arg4.IsWhole) (arg5 : Memref sig .tc .vmem S1x1x128x128 .f32) (harg5 : arg5.IsWhole) (arg6 : Memref sig .tc .vmem S1x256x128 .f32) (harg6 : arg6.IsWhole) (arg7 : Memref sig .tc .vmem S32x128 .bf16) (harg7 : arg7.IsWhole) (arg8 : Memref sig .tc .vmem S1x256x256 .bf16) (harg8 : arg8.IsWhole)

/-- What the scratch buffers hold, kept from one grid point to the next. -/
def Keep (c : Dev nD) (p : Prop) (x4 : FVec Ideal S1x2048x256 .bf16) : sProp 𝕄 :=
  iprop(∃ (g0 : Buf (Elt Ideal) ((c : Thread nD τ).loc cc0_scratch0)) (g1 : Buf (Elt Ideal) ((c : Thread nD τ).loc cc0_scratch1)) (g2 : Buf (Elt Ideal) ((c : Thread nD τ).loc cc0_scratch2)) (g3 : Buf (Elt Ideal) ((c : Thread nD τ).loc cc0_scratch3)) (g4 : Buf (Elt Ideal) ((c : Thread nD τ).loc cc0_scratch4)), (((c : Thread nD τ).loc cc0_scratch0) ↦{fullShare} g0) ∗ (((c : Thread nD τ).loc cc0_scratch1) ↦{fullShare} g1) ∗ (((c : Thread nD τ).loc cc0_scratch2) ↦{fullShare} g2) ∗ (((c : Thread nD τ).loc cc0_scratch3) ↦{fullShare} g3) ∗ (((c : Thread nD τ).loc cc0_scratch4) ↦{fullShare} g4) ∗ ⌜p → Scr x4 ((Memref.whole cc0_scratch0).view.read (Elt Ideal) g0) ((Memref.whole cc0_scratch1).view.read (Elt Ideal) g1) ((Memref.whole cc0_scratch2).view.read (Elt Ideal) g2) ((Memref.whole cc0_scratch3).view.read (Elt Ideal) g3) ((Memref.whole cc0_scratch4).view.read (Elt Ideal) g4)⌝)

/-- What is kept depends on `x4` only when something is. -/
theorem Keep_congr (c : Dev nD) (p : Prop) (x x' : FVec Ideal S1x2048x256 .bf16) (h : p → x = x') : Keep c p x = Keep c p x' := by
  by_cases hp : p
  · rw [h hp]
  · unfold Keep; simp only [hp, false_implies]

/-- What is known may be forgotten. -/
theorem Keep_true (c : Dev nD) (p : Prop) (x : FVec Ideal S1x2048x256 .bf16) : Keep c True x ⊢ Keep c p x := by
  unfold Keep
  iintro ⟨%g0, %g1, %g2, %g3, %g4, S0, S1, S2, S3, S4, %h⟩
  iexists g0, g1, g2, g3, g4
  isplitl [S0]; · iexact S0
  isplitl [S1]; · iexact S1
  isplitl [S2]; · iexact S2
  isplitl [S3]; · iexact S3
  isplitl [S4]; · iexact S4
  ipureintro; exact fun _ => h trivial

set_option maxHeartbeats 4000000 in
/-- The body at one grid point: the inputs stay, the output block is `BODY`, the scratch holds what `x4` gives. -/
theorem sound_body (p : Prop) (hp : ¬ (Scalar.cmpi .ne (Scalar.extui (Scalar.cmpi .eq (BitVec.ofNat 32 (i 2).val) 0#32) : BitVec 32) 0#32 = 1#1) → p) (x3 x4 x5 x6 x7) (Q : sProp 𝕄) :
    iprop(((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7) ∗ (∃ X, owns (c : Thread nD τ) arg8 fullShare X) ∗ Keep c p x4)
      ∗ (((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7) ∗ owns (c : Thread nD τ) arg8 fullShare (BODY i x3 x4 x5 x6 x7) ∗ Keep c True x4) -∗ Q))
    ⊢ wp frame (wpE (defs₀ (F := Ideal)) Variants.none (c : Thread nD τ) none) Set.univ (cc0_nsa i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => Q) := by
  unfold Keep
  simp only [← pt_whole]
  have hrun := fun f3 f4 f5 f6 f7 f8 f9 f10 f11 f12 f13 => runBody c i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f3 f4 f5 f6 f7 f8 f9 f10 f11 f12 f13
  unfold owns
  iintro ⟨⟨⟨H3, H4, H5, H6, H7⟩, ⟨%x8, H8⟩, ⟨%g0, %g1, %g2, %g3, %g4, S0, S1, S2, S3, S4, %hS⟩⟩, HQ⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  subst e3 e4 e5 e6 e7 e8
  iapply (wp_wand_r Idealize.ShloMosaic.frame (wpE (defs₀ (F := Ideal)) Variants.none (c : Thread nD τ) none) Set.univ)
  isplitl [H3 H4 H5 H6 H7 H8 S0 S1 S2 S3 S4]
  · iapply (hrun f3 f4 f5 f6 f7 f8 g0 g1 g2 g3 g4 (fun h => hS (hp h)))
    sl_close
  · iintro %_ ⟨H3, H4, H5, H6, H7, ⟨%h8, H8, %q8⟩, ⟨%h0, S0, %q0⟩, ⟨%h1, S1, %q1⟩, ⟨%h2, S2, %q2⟩, ⟨%h3, S3, %q3⟩, ⟨%h4, S4, %q4⟩⟩
    iapply HQ
    isplitl [H3 H4 H5 H6 H7]
    · isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      iexists _; isplitr; · ipureintro; rfl
      iexact H7
    isplitl [H8]
    · iexists _; isplitr; · ipureintro; exact q8
      iexact H8
    iexists h0, h1, h2, h3, h4
    isplitl [S0]; · iexact S0
    isplitl [S1]; · iexact S1
    isplitl [S2]; · iexact S2
    isplitl [S3]; · iexact S3
    isplitl [S4]; · iexact S4
    ipureintro; exact fun _ => ⟨q0, q1, q2, q3, q4⟩
end

variable (m : (ℓ : Loc nD τ sig) → Buf (Elt Ideal) ℓ) (ρ : Dev nD → PrngReg)

/-- The keys' and values' block at the point before position `s`. -/
def prev (c : Dev nD) (s : ℕ) : FVec Ideal S1x2048x256 .bf16 := iblk m c 1 (⟨(s - 1) % 256, by show _ < grid0.N; rw [N_0]; omega⟩ : Fin cfg0.N)

/-- What the pipeline's windows hold, and the scratch between the points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => BODY (grid0.coords t) (iblk m c 0 t) (iblk m c 1 t) (iblk m c 2 t) (iblk m c 3 t) (iblk m c 4 t)
  Φ s := iprop(Keep c (s.val % 8 ≠ 0) (prev m c s.val) ∗ ∃ r, prngReg c r)
  q _ := fullShare
  owed _ := 0

/-- Input window 0 holds its block when the body runs. -/
theorem before_0 (c : Dev nD) (t : Fin cfg0.N) (d) : (dats m 0 c).before 0 t d = iblk m c 0 t :=
  before0_0_of m (dats m 0 c) rfl (fun _ => rfl) t d
/-- Input window 1 holds its block when the body runs. -/
theorem before_1 (c : Dev nD) (t : Fin cfg0.N) (d) : (dats m 0 c).before 1 t d = iblk m c 1 t :=
  before0_1_of m (dats m 0 c) rfl (fun _ => rfl) t d
/-- Input window 2 holds its block when the body runs. -/
theorem before_2 (c : Dev nD) (t : Fin cfg0.N) (d) : (dats m 0 c).before 2 t d = iblk m c 2 t :=
  before0_2_of m (dats m 0 c) rfl (fun _ => rfl) t d
/-- Input window 3 holds its block when the body runs. -/
theorem before_3 (c : Dev nD) (t : Fin cfg0.N) (d) : (dats m 0 c).before 3 t d = iblk m c 3 t :=
  before0_3_of m (dats m 0 c) rfl (fun _ => rfl) t d
/-- Input window 4 holds its block when the body runs. -/
theorem before_4 (c : Dev nD) (t : Fin cfg0.N) (d) : (dats m 0 c).before 4 t d = iblk m c 4 t :=
  before0_4_of m (dats m 0 c) rfl (fun _ => rfl) t d

/-- The third coordinate of a grid point. -/
theorem coord2 : ∀ t : Fin cfg0.N, (grid0.coords t 2).val = t.val % 8 := by decide +kernel

/-- Where window 1's block lies. -/
theorem idx1 : ∀ t : Fin cfg0.N, win0_1.index t = ![t.val / 16, 0, t.val / 8 % 2] := by decide +kernel

/-- Inside a run of eight points the keys' and values' block stays. -/
theorem prev_eq (c : Dev nD) (t : Fin cfg0.N) (h : t.val % 8 ≠ 0) : prev m c t.val = iblk m c 1 t := by
  have hN : t.val < 256 := lt_of_lt_of_eq t.isLt N_0
  unfold prev
  funext y
  blk_ext [iblk, idx1]

/-- The position after a point is the point's own block. -/
theorem prev_succ (c : Dev nD) (t : Fin cfg0.N) : prev m c (t.val + 1) = iblk m c 1 t := by
  have hN : t.val < 256 := lt_of_lt_of_eq t.isLt N_0
  unfold prev
  have e : ∀ t' : Fin cfg0.N, t' = t → (iblk m c 1 t' : FVec Ideal S1x2048x256 .bf16) = iblk m c 1 t := by rintro _ rfl; rfl
  exact e _ (Fin.ext (by show (t.val + 1 - 1) % 256 = t.val; omega))

set_option maxHeartbeats 4000000 in
theorem body_obligation (c : Dev nD) : BodyObligationLoose (dats m 0 c) (defs₀ (F := Ideal)) Variants.none () Set.univ := fun t => by
  rw [bigSep_W0, bigSep_W0]
  rw [show (dats m 0 c).Φ t.succ = iprop(Keep c ((t.val + 1) % 8 ≠ 0) (prev m c (t.val + 1)) ∗ ∃ r, prngReg c r) from rfl,
    show (dats m 0 c).Φ t.castSucc = iprop(Keep c (t.val % 8 ≠ 0) (prev m c t.val) ∗ ∃ r, prngReg c r) from rfl,
    show (dats m 0 c).owesAt () t.succ = (dats m 0 c).owesAt () t.castSucc from rfl]
  rw [Keep_congr c (t.val % 8 ≠ 0) _ (iblk m c 1 t) (fun h => prev_eq m c t h), prev_succ]
  iintro ⟨⟨HK, HR⟩, Ho, ⟨%d0, H0⟩, ⟨%d1, H1⟩, ⟨%d2, H2⟩, ⟨%d3, H3⟩, ⟨%d4, H4⟩, ⟨%d5, H5⟩⟩
  rw [before_0, before_1, before_2, before_3, before_4]
  iapply (sound_body c (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (stage0_5 (cfg0.slots t 5)) (hstage0_5 _) (t.val % 8 ≠ 0) (fun h h' => h (by rw [coord2 t, h']; decide)) (iblk m c 0 t) (iblk m c 1 t) (iblk m c 2 t) (iblk m c 3 t) (iblk m c 4 t))
  isplitl [HK H0 H1 H2 H3 H4 H5]
  · isplitl [H0 H1 H2 H3 H4]
    · isplitl [H0]; · iexact H0
      isplitl [H1]; · iexact H1
      isplitl [H2]; · iexact H2
      isplitl [H3]; · iexact H3
      iexact H4
    isplitl [H5]
    · iexists _; iexact H5
    iexact HK
  iintro ⟨⟨H0, H1, H2, H3, H4⟩, H5, HK⟩
  isplitl [HK HR]
  · isplitl [HK]
    · iapply (Keep_true c ((t.val + 1) % 8 ≠ 0) (iblk m c 1 t)); iexact HK
    · iexact HR
  isplitl [Ho]; · iexact Ho
  isplitl [H0]; · iexact H0
  isplitl [H1]; · iexact H1
  isplitl [H2]; · iexact H2
  isplitl [H3]; · iexact H3
  isplitl [H4]; · iexact H4
  iexact H5

/-- Before the first point the scratch holds anything. -/
theorem keep_in (c : Dev nD) : Pipeline.ΦA spec0 c ⊢ (dats m 0 c).Φ 0 := by
  rw [show (dats m 0 c).Φ 0 = iprop(Keep c (0 % 8 ≠ 0) (prev m c 0) ∗ ∃ r, prngReg c r) from rfl]
  unfold Pipeline.ΦA Keep
  rw [scopedRest0_eq]
  iintro ⟨⟨⟨%g0, S0⟩, ⟨%g1, S1⟩, ⟨%g2, S2⟩, ⟨%g3, S3⟩, ⟨%g4, S4⟩⟩, HR⟩
  isplitl [S0 S1 S2 S3 S4]
  · iexists g0, g1, g2, g3, g4
    isplitl [S0]; · iexact S0
    isplitl [S1]; · iexact S1
    isplitl [S2]; · iexact S2
    isplitl [S3]; · iexact S3
    isplitl [S4]; · iexact S4
    ipureintro; exact fun h => absurd rfl h
  · iexact HR

/-- After the last point it is forgotten. -/
theorem keep_out (c : Dev nD) : (dats m 0 c).Φ (Fin.last cfg0.N) ⊢ Pipeline.ΦA spec0 c := by
  rw [show (dats m 0 c).Φ (Fin.last cfg0.N) = iprop(Keep c (cfg0.N % 8 ≠ 0) (prev m c cfg0.N) ∗ ∃ r, prngReg c r) from rfl]
  unfold Pipeline.ΦA Keep
  rw [scopedRest0_eq]
  iintro ⟨⟨%g0, %g1, %g2, %g3, %g4, S0, S1, S2, S3, S4, -⟩, HR⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  · iexact HR

/-- The output array is tiled by the blocks that the grid points write. -/
theorem out_eq (c : Dev nD) (G : FVec Ideal S16x2048x512 .bf16)
    (h : ∀ (t : Fin cfg0.N) (y : S1x256x256.Idx), BODY (grid0.coords t) (iblk m c 0 t) (iblk m c 1 t) (iblk m c 2 t) (iblk m c 3 t) (iblk m c 4 t) y
      = G (((cfg0.win 5).blk t).view.emb y)) :
    (dats m 0 c).arrAt 5 cfg0.N = G := by
  refine (dats m 0 c).arrAt_eq_of_covers 5 _ (by decide +kernel) fun t hf y => ?_
  exact (h t y)

/-- Every weak run of the launch ends with the output array holding the written blocks, the arguments as they were. -/
theorem run_track : θ_run defs (onTc (τ := τ) (main (F := Ideal))) ⟨m, fun _ => 0, ρ⟩
    (fun r => Pipeline.FramePost cfgs (dats m) 0 (V m) r) :=
  Pipeline.θ_run_frame_track cfgs (dats m) 0 launch0 defs₀ Variants.none m ρ main (fun c => body_obligation m c)
    (fun c => (dats m 0 c).share_full fun _ => rfl) (fun _ _ => rfl) (V m) (hmain m Variants.none) (fun _ _ => rfl)
    (keep_in m) (keep_out m) _ (fun r h => h.1)

end Cert.KernelIdeal.Exact
end
-- ==== Proof.KPoint.lean ====
/- What the body writes at each grid point, in the call's arguments. -/
module

public import proofs.«01_k».proof.Proof.KBody
public import proofs.«01_k».proof.Proof.KHost
public import proofs.«01_k».proof.Proof.ExactRun

@[expose] public section
noncomputable section
namespace Cert.KernelIdeal.Exact
open Cert.KernelIdeal Cert.KernelIdeal.Gen
open Idealize.ShloMosaic Idealize.ShloMosaic.TcCoe Idealize.ShloMosaic.Tactic
open Cert.Spec Cert.Words
set_option maxRecDepth 16384

/-- Where window 0's block lies. -/
theorem idx0 : ∀ t : Fin cfg0.N, win0_0.index t = ![t.val / 16, t.val % 8, t.val / 8 % 2] := by decide +kernel
/-- Where window 2's block lies. -/
theorem idx2 : ∀ t : Fin cfg0.N, win0_2.index t = ![t.val / 16, t.val / 8 % 2, 0, 0] := by decide +kernel
/-- Where window 3's block lies. -/
theorem idx3 : ∀ t : Fin cfg0.N, win0_3.index t = ![t.val / 16, t.val % 8, t.val / 8 % 2] := by decide +kernel
/-- Where window 4's block lies. -/
theorem idx4 : ∀ t : Fin cfg0.N, win0_4.index t = ![0, 0] := by decide +kernel
/-- Where window 5's block lies. -/
theorem idx5 : ∀ t : Fin cfg0.N, win0_5.index t = ![t.val / 16, t.val % 8, t.val / 8 % 2] := by decide +kernel

variable (m : (ℓ : Loc nD τ sig) → Buf (Elt Ideal) ℓ) (c : Dev nD) (t : Fin cfg0.N)
theorem tlt : t.val < 256 := lt_of_lt_of_eq t.isLt N_0
/-- A point's batch. -/
abbrev pb : Fin 16 := ⟨t.val / 16, by have := tlt t; omega⟩
/-- A point's key head. -/
abbrev pk : Fin 2 := ⟨t.val / 8 % 2, by omega⟩
/-- A point's query, by its place in the tile. -/
abbrev pt' (a : Fin 256) : Fin 2048 := ⟨256 * (t.val % 8) + a.val, by omega⟩
theorem blk0_at (a x : Fin 256) : (iblk m c 0 t : FVec Ideal S1x256x256 .bf16) (ix3 0 a x) = (V m c main_v1 : FVec Ideal S16x2048x512 .bf16) (ix3 (pb t) (pt' t a) ⟨256 * (pk t).val + x.val, by omega⟩) := by
  have hN := tlt t
  blk_ext [iblk, idx0]
theorem blk1_at (n : Fin 2048) (x : Fin 256) : (iblk m c 1 t : FVec Ideal S1x2048x256 .bf16) (ix3 0 n x) = (V m c main_v19 : FVec Ideal S16x2048x512 .bf16) (ix3 (pb t) n ⟨256 * (pk t).val + x.val, by omega⟩) := by
  have hN := tlt t
  blk_ext [iblk, idx1]
theorem blk2_at (n x : Fin 128) : (iblk m c 2 t : FVec Ideal S1x1x128x128 .f32) (ix4 0 0 n x) = (V m c main_v22 : FVec Ideal S16x2x128x128 .f32) (ix4 (pb t) (pk t) n x) := by
  have hN := tlt t
  blk_ext [iblk, idx2]
theorem blk3_at (a : Fin 256) (x : Fin 128) : (iblk m c 3 t : FVec Ideal S1x256x128 .f32) (ix3 0 a x) = (V m c main_v27 : FVec Ideal S16x2048x256 .f32) (ix3 (pb t) (pt' t a) ⟨128 * (pk t).val + x.val, by omega⟩) := by
  have hN := tlt t
  blk_ext [iblk, idx3]
theorem blk4_at (j : Fin 32) (x : Fin 128) : (iblk m c 4 t : FVec Ideal S32x128 .bf16) (ix2 j x) = (V m c main_v53 : FVec Ideal S32x128 .bf16) (ix2 j x) := by
  have hN := tlt t
  blk_ext [iblk, idx4]
theorem emb5_at (a u : Fin 256) : ((cfg0.win 5).blk t).view.emb (ix3 0 a u : S1x256x256.Idx) = (ix3 (pb t) (pt' t a) (⟨256 * (pk t).val + u.val, by omega⟩ : Fin 512) : S16x2048x512.Idx) := by
  have hN := tlt t
  blk_ext [idx5]

theorem out_congr {t₁ t₂ : ℕ} {ov₁ ov₂ : Fin 127 → Fin 32 → EReal} {Kc₁ Kc₂ : Fin 127 → Fin 64 → EReal} {Q₁ Q₂ : Fin 4 → Fin 64 → EReal} {Ks₁ Ks₂ Kw₁ Kw₂ : Fin 2048 → Fin 64 → EReal}
    {c₁ c₂ : Fin 127 → EReal} {s₁ s₂ w₁ w₂ : Fin 2048 → EReal} {z₁ z₂ : Fin 3 → EReal} (g : Fin 4) (h0 : t₁ = t₂) (h1 : ∀ n j, ov₁ n j = ov₂ n j) (h2 : ∀ n d, Kc₁ n d = Kc₂ n d) (h3 : ∀ g d, Q₁ g d = Q₂ g d)
    (h4 : ∀ n d, Ks₁ n d = Ks₂ n d) (h5 : ∀ n d, Kw₁ n d = Kw₂ n d) (h6 : ∀ n, c₁ n = c₂ n) (h7 : ∀ n, s₁ n = s₂ n) (h8 : ∀ n, w₁ n = w₂ n) (h9 : ∀ x, z₁ x = z₂ x) :
    out t₁ ov₁ Kc₁ Q₁ Ks₁ Kw₁ c₁ s₁ w₁ z₁ g = out t₂ ov₂ Kc₂ Q₂ Ks₂ Kw₂ c₂ s₂ w₂ z₂ g := by
  rw [h0, funext fun n => funext (h1 n), funext fun n => funext (h2 n), funext fun n => funext (h3 n), funext fun n => funext (h4 n), funext fun n => funext (h5 n), funext h6, funext h7, funext h8, funext h9]

/-- A key's lane or a value's, of the four packed arrays. -/
theorem kv_at (n : Fin 2048) (x : Fin 256) (j : Fin 4) (d : Fin 64) (hx : x.val = 64 * j.val + d.val) : (iblk m c 1 t : FVec Ideal S1x2048x256 .bf16) (ix3 0 n x)
    = ((![m ((c : Thread nD τ).loc main_arg3), m ((c : Thread nD τ).loc main_arg4), m ((c : Thread nD τ).loc main_arg5), m ((c : Thread nD τ).loc main_arg6)] j : FVec Ideal S16x2048x2x64 .f32) (ix4 (pb t) n (pk t) d) : EReal) :=
  (blk1_at m c t n x).trans (v19_at m c (pb t) n _ (pk t) j d (by show 256 * (pk t).val + x.val = _; omega))
/-- The body's element at a grid point. -/
theorem point_at (a u : Fin 256) (g : Fin 4) (d : Fin 64) (hu : u.val = 64 * g.val + d.val) :
    BODY (grid0.coords t) (iblk m c 0 t) (iblk m c 1 t) (iblk m c 2 t) (iblk m c 3 t) (iblk m c 4 t) (ix3 0 a u)
      = (out (pt' t a).val ov (fun n d => (m ((c : Thread nD τ).loc main_arg1) : FVec Ideal S16x127x2x64 .f32) (ix4 (pb t) n (pk t) d))
        (fun g d => (m ((c : Thread nD τ).loc main_arg0) : FVec Ideal S16x2048x8x64 .f32) (ix4 (pb t) (pt' t a) (⟨(pk t).val * 4 + g.val, by omega⟩ : Fin 8) d))
        (fun n d => (m ((c : Thread nD τ).loc main_arg3) : FVec Ideal S16x2048x2x64 .f32) (ix4 (pb t) n (pk t) d))
        (fun n d => (m ((c : Thread nD τ).loc main_arg5) : FVec Ideal S16x2048x2x64 .f32) (ix4 (pb t) n (pk t) d))
        (fun n => (m ((c : Thread nD τ).loc main_arg2) : FVec Ideal S16x127x2x64 .f32) (ix4 (pb t) n (pk t) d))
        (fun n => (m ((c : Thread nD τ).loc main_arg4) : FVec Ideal S16x2048x2x64 .f32) (ix4 (pb t) n (pk t) d))
        (fun n => (m ((c : Thread nD τ).loc main_arg6) : FVec Ideal S16x2048x2x64 .f32) (ix4 (pb t) n (pk t) d))
        (fun x => (m ((c : Thread nD τ).loc main_arg7) : FVec Ideal S16x2048x24 .f32) (ix3 (pb t) (pt' t a) (⟨((pk t).val * 4 + g.val) * 3 + x.val, by omega⟩ : Fin 24))) g : EReal) := by
  refine (body_at (grid0.coords t) (iblk m c 0 t) (iblk m c 1 t) (iblk m c 2 t) (iblk m c 3 t) (iblk m c 4 t)
    (fun j n => (blk4_at m c t j _).trans (v53_at m c j n)) a u g d hu).trans ?_
  refine out_congr g ?_ (fun _ _ => rfl) (fun n d => ?_) (fun g d => ?_) (fun n d => ?_) (fun n d => ?_) (fun n => ?_) (fun n => ?_) (fun n => ?_) (fun x => ?_)
  · show 256 * (grid0.coords t 2).val + a.val = 256 * (t.val % 8) + a.val
    rw [coord2]
  · refine (blk2_at m c t _ _).trans ((v22_at m c _ _ _ _ n.isLt).trans ?_)
    exact dif_pos d.isLt
  · have e1 : (Fin.ofNat 256 a.val : Fin 256) = a := Fin.ext (Nat.mod_eq_of_lt a.isLt)
    have e2 : (Fin.ofNat 256 (64 * g.val + d.val)).val = 64 * g.val + d.val := Nat.mod_eq_of_lt (by omega)
    unfold kQ
    rw [e1]
    refine (blk0_at m c t a _).trans ((v1_at m c _ _ _).trans ?_)
    refine congrArg₂ (fun (y : Fin 8) (z : Fin 64) => ((m ((c : Thread nD τ).loc main_arg0) : FVec Ideal S16x2048x8x64 .f32) (ix4 (pb t) (pt' t a) y z) : EReal)) (Fin.ext ?_) (Fin.ext ?_)
    · show (256 * (pk t).val + (Fin.ofNat 256 (64 * g.val + d.val)).val) / 64 = (pk t).val * 4 + g.val
      omega
    · show (256 * (pk t).val + (Fin.ofNat 256 (64 * g.val + d.val)).val) % 64 = d.val
      omega
  · exact kv_at m c t n _ 0 d (by show d.val = 64 * 0 + d.val; omega)
  · exact kv_at m c t n _ 2 d (by show (128 + d.val) % 256 = 64 * 2 + d.val; omega)
  · refine (blk2_at m c t _ _).trans ((v22_at m c _ _ _ _ n.isLt).trans ?_)
    refine (dif_neg (by show ¬ 64 + d.val < 64; omega)).trans ?_
    exact congrArg (fun z : Fin 64 => ((m ((c : Thread nD τ).loc main_arg2) : FVec Ideal S16x127x2x64 .f32) (ix4 (pb t) n (pk t) z) : EReal)) (Fin.ext (by show 64 + d.val - 64 = d.val; omega))
  · exact kv_at m c t n _ 1 d (by show (0 + (64 + d.val)) % 256 = 64 * 1 + d.val; omega)
  · exact kv_at m c t n _ 3 d (by show (128 + (64 + d.val)) % 256 = 64 * 3 + d.val; omega)
  · refine (blk3_at m c t a _).trans ((v27_at' m c _ _ _ (by show (128 * (pk t).val + (3 * g.val + x.val)) % 128 < 12; rw [Nat.mul_add_mod, Nat.mod_eq_of_lt (by omega)]; omega)).trans ?_)
    refine congrArg (fun z : Fin 24 => ((m ((c : Thread nD τ).loc main_arg7) : FVec Ideal S16x2048x24 .f32) (ix3 (pb t) (pt' t a) z) : EReal)) (Fin.ext ?_)
    show 12 * ((128 * (pk t).val + (3 * g.val + x.val)) / 128) + (128 * (pk t).val + (3 * g.val + x.val)) % 128 = ((pk t).val * 4 + g.val) * 3 + x.val
    omega
end Cert.KernelIdeal.Exact
end
-- ==== Proof.RefVals.lean ====
/- The reference's compressed branch and its blocks' importance, element by element. -/
module

public import proofs.«01_k».proof.Proof.Gen.ReferenceIdeal.Run
public import proofs.«01_k».proof.Proof.Spec
public import proofs.«01_k».proof.Proof.Words
public import Idealize.ShloMosaic.Lib.Pointwise
public import Idealize.ShloMosaic.Lib.Tactic.CleanTypes

@[expose] public section
noncomputable section
namespace Cert.ReferenceIdeal.Vals
open Cert.ReferenceIdeal Cert.ReferenceIdeal.Gen Cert.ReferenceIdeal.Value
open Idealize.ShloMosaic Idealize.ShloMosaic.TcCoe Idealize.ShloMosaic.StableHlo
open Cert.Spec Cert.Words Cert.Softmax

variable (V0 : Valuation τ sig (Elt Ideal))
set_option maxRecDepth 16384

/-- The query rows. -/
def Q (b : Fin 16) (t : Fin 2048) (h : Fin 8) (d : Fin 64) : EReal := V0 (Proc.tc.devRef main_arg0) (ix4 b t h d)
/-- The compressed keys. -/
def Kc (b : Fin 16) (k : Fin 2) (n : Fin 127) (d : Fin 64) : EReal := V0 (Proc.tc.devRef main_arg1) (ix4 b n k d)
/-- The head of group `g` at key head `k`. -/
abbrev hd (k : Fin 2) (g : Fin 4) : Fin 8 := ⟨k.val * 4 + g.val, by omega⟩
/-- The importance of the blocks to a query. -/
def Im (b : Fin 16) (k : Fin 2) (t : Fin 2048) : Fin 32 → EReal := imp t.val ov (Kc V0 b k) (fun g => Q V0 b t (hd k g))

theorem v39_at (b : Fin 16) (k : Fin 2) (g : Fin 4) (t : Fin 2048) (n : Fin 127) :
    (res_main_v39 V0 : FVec Ideal S16x2x4x2048x127 .f32) (ix5 b k g t n) = (Sc t.val (Kc V0 b k) (Q V0 b t (hd k g)) n : EReal) := by
  unfold res_main_v39 res_main_v2 res_main_v28 res_main_v27; clean_types; pointwise
  rw [ends_eq n.val t.val n.isLt t.isLt, select_ofBool]
  exact if_congr Iff.rfl rfl neg_inf
/-- The maximum subtracted, as the reference spells it. -/
theorem base_eq (M z : EReal) (hz : z = 0) : Scalar.select (IntOp.andi (BitVec.ofBool (decide (Ideal.ofBits .f32 4286578688#32 < M)))
    (BitVec.ofBool (decide (M < Ideal.ofBits .f32 2139095040#32)))) M z = base M := by
  rw [andi_dec, select_ofBool, neg_inf, pos_inf, hz]; rfl
/-- A row's maximum. -/
theorem v41_aux (x : FVec Ideal S16x2x4x2048x127 .f32) (b : Fin 16) (k : Fin 2) (g : Fin 4) (t : Fin 2048) :
    (broadcastInDim S16x2x4x2048x1 ![0, 1, 2, 3] bcast_S16x2x4x2048_S16x2x4x2048x1_0_1_2_3 (Host.reduce FloatOps.maximumf x (constant (F := Ideal) S_ .f32 0xFF800000#32) reducesTo_S16x2x4x2048x127_S16x2x4x2048_d4 h_S_) : FVec Ideal S16x2x4x2048x1 .f32) (ix5 b k g t 0)
      = (Finset.univ.sup (fun n => x (ix5 b k g t n)) : EReal) := by
  pointwise
  exact fold_max _ _
/-- A row's exponentials. -/
theorem v50_aux (x : FVec Ideal S16x2x4x2048x127 .f32) (m : FVec Ideal S16x2x4x2048x1 .f32) (b : Fin 16) (k : Fin 2) (g : Fin 4) (t : Fin 2048) (n : Fin 127) :
    (Host.exp (subf x (broadcastInDim S16x2x4x2048x127 ![0, 1, 2, 3, 4] bcast_S16x2x4x2048x1_S16x2x4x2048x127_0_1_2_3_4 (select (andi (cmpf .ogt m (broadcastInDim S16x2x4x2048x1 ![] bcast_S_S16x2x4x2048x1 (constant (F := Ideal) S_ .f32 0xFF800000#32))) (cmpf .olt m (broadcastInDim S16x2x4x2048x1 ![] bcast_S_S16x2x4x2048x1 (constant (F := Ideal) S_ .f32 0x7F800000#32)))) m (broadcastInDim S16x2x4x2048x1 ![] bcast_S_S16x2x4x2048x1 (id (constant (F := Ideal) S_ .f32 0x00000000#32)))))) : FVec Ideal S16x2x4x2048x127 .f32) (ix5 b k g t n)
      = (Ideal.exp (x (ix5 b k g t n) - base (m (ix5 b k g t 0))) : EReal) := by
  pointwise
  refine congrArg Ideal.exp (congrArg _ (base_eq _ _ ?_))
  simp [constant]
/-- A row's exponentials over their sum. -/
theorem v56_aux (y : FVec Ideal S16x2x4x2048x127 .f32) (b : Fin 16) (k : Fin 2) (g : Fin 4) (t : Fin 2048) (n : Fin 127) :
    (Host.divf y (broadcastInDim S16x2x4x2048x127 ![0, 1, 2, 3, 4] bcast_S16x2x4x2048x1_S16x2x4x2048x127_0_1_2_3_4 (maximumf (broadcastInDim S16x2x4x2048x1 ![0, 1, 2, 3] bcast_S16x2x4x2048_S16x2x4x2048x1_0_1_2_3 (Host.reduceAdd y (constant (F := Ideal) S_ .f32 0x00000000#32) reducesTo_S16x2x4x2048x127_S16x2x4x2048_d4 h_S_)) (broadcastInDim S16x2x4x2048x1 ![] bcast_S_S16x2x4x2048x1 (constant (F := Ideal) S_ .f32 0x0DA24260#32)))) : FVec Ideal S16x2x4x2048x127 .f32) (ix5 b k g t n)
      = (Ideal.div (y (ix5 b k g t n)) (max (∑ x, y (ix5 b k g t x)) EPS) : EReal) := by
  pointwise
/-- The maximum, the exponentials and their quotient make the softmax. -/
theorem soft_of {K : Type} [Fintype K] (S e : K → EReal) (M : EReal) (hM : M = Finset.univ.sup S) (he : ∀ n, e n = Ideal.exp (S n - base M)) (n : K) :
    Ideal.div (e n) (max (∑ x, e x) EPS) = soft EPS S n := by
  unfold soft
  subst hM
  obtain rfl : e = fun n => Ideal.exp (S n - base (Finset.univ.sup S)) := funext he
  rfl
theorem v56_soft (x : FVec Ideal S16x2x4x2048x127 .f32) (m : FVec Ideal S16x2x4x2048x1 .f32) (e : FVec Ideal S16x2x4x2048x127 .f32)
    (hm : m = broadcastInDim S16x2x4x2048x1 ![0, 1, 2, 3] bcast_S16x2x4x2048_S16x2x4x2048x1_0_1_2_3 (Host.reduce FloatOps.maximumf x (constant (F := Ideal) S_ .f32 0xFF800000#32) reducesTo_S16x2x4x2048x127_S16x2x4x2048_d4 h_S_)) (he : e = Host.exp (subf x (broadcastInDim S16x2x4x2048x127 ![0, 1, 2, 3, 4] bcast_S16x2x4x2048x1_S16x2x4x2048x127_0_1_2_3_4 (select (andi (cmpf .ogt m (broadcastInDim S16x2x4x2048x1 ![] bcast_S_S16x2x4x2048x1 (constant (F := Ideal) S_ .f32 0xFF800000#32))) (cmpf .olt m (broadcastInDim S16x2x4x2048x1 ![] bcast_S_S16x2x4x2048x1 (constant (F := Ideal) S_ .f32 0x7F800000#32)))) m (broadcastInDim S16x2x4x2048x1 ![] bcast_S_S16x2x4x2048x1 (id (constant (F := Ideal) S_ .f32 0x00000000#32)))))))
    (b : Fin 16) (k : Fin 2) (g : Fin 4) (t : Fin 2048) (S : Fin 127 → EReal) (hx : ∀ n, x (ix5 b k g t n) = S n) (n : Fin 127) :
    (Host.divf e (broadcastInDim S16x2x4x2048x127 ![0, 1, 2, 3, 4] bcast_S16x2x4x2048x1_S16x2x4x2048x127_0_1_2_3_4 (maximumf (broadcastInDim S16x2x4x2048x1 ![0, 1, 2, 3] bcast_S16x2x4x2048_S16x2x4x2048x1_0_1_2_3 (Host.reduceAdd e (constant (F := Ideal) S_ .f32 0x00000000#32) reducesTo_S16x2x4x2048x127_S16x2x4x2048_d4 h_S_)) (broadcastInDim S16x2x4x2048x1 ![] bcast_S_S16x2x4x2048x1 (constant (F := Ideal) S_ .f32 0x0DA24260#32)))) : FVec Ideal S16x2x4x2048x127 .f32) (ix5 b k g t n) = (soft EPS S n : EReal) := by
  obtain rfl : (fun n => x (ix5 b k g t n)) = S := funext hx
  refine Eq.trans (v56_aux e b k g t n) ?_
  refine soft_of _ (fun n => e (ix5 b k g t n)) (m (ix5 b k g t 0)) ?_ (fun n => ?_) n
  · rw [hm]; exact v41_aux x b k g t
  · rw [he]; exact v50_aux x m b k g t n
theorem v56_at (b : Fin 16) (k : Fin 2) (g : Fin 4) (t : Fin 2048) (n : Fin 127) :
    (res_main_v56 V0 : FVec Ideal S16x2x4x2048x127 .f32) (ix5 b k g t n) = (soft EPS (Sc t.val (Kc V0 b k) (Q V0 b t (hd k g))) n : EReal) :=
  v56_soft (res_main_v39 V0) (res_main_v41 V0) (res_main_v50 V0) rfl rfl b k g t _ (fun n => v39_at V0 b k g t n) n
theorem v61_at (t : Fin 2048) : (res_main_v61 V0 : IVec S2048 32) (ix1 t) = BitVec.ofNat 32 (t.val / 64) := by
  unfold res_main_v61 res_main_call3_v2 res_main_call3_v0 res_main_v28; clean_types; pointwise
  revert t
  decide +kernel
/-- The importance of the blocks, of the shares `y`. -/
theorem v88_aux (y : FVec Ideal S16x2x4x2048x127 .f32) (w : IVec S2048 32) (b : Fin 16) (k : Fin 2) (t : Fin 2048) (j : Fin 32)
    (hw : w (ix1 t) = BitVec.ofNat 32 (t.val / 64)) (P : Fin 4 → Fin 127 → EReal) (hy : ∀ g n, y (ix5 b k g t n) = P g n) :
    (select (broadcastInDim S16x2x2048x32 ![2, 3] bcast_S2048x32_S16x2x2048x32_2_3 (cmpi .sgt (broadcastInDim S2048x32 ![0, 1] bcast_S1x32_S2048x32_0_1 (muli (broadcastInDim S1x32 ![1] bcast_S32_S1x32_1 (iotaInDim S32 32 0)) (broadcastInDim S1x32 ![] bcast_S_S1x32 (constantI S_ 32 64#32)))) (broadcastInDim S2048x32 ![0, 1] bcast_S2048x1_S2048x32_0_1 (broadcastInDim S2048x1 ![0] bcast_S2048_S2048x1_0 (iotaInDim S2048 32 0))))) (broadcastInDim S16x2x2048x32 ![] bcast_S_S16x2x2048x32 (id (constant (F := Ideal) S_ .f32 0xFF800000#32))) (select (broadcastInDim S16x2x2048x32 ![2, 3] bcast_S2048x32_S16x2x2048x32_2_3 (ori (ori (broadcastInDim S2048x32 ![0, 1] bcast_S1x32_S2048x32_0_1 (cmpi .eq (broadcastInDim S1x32 ![1] bcast_S32_S1x32_1 (iotaInDim S32 32 0)) (broadcastInDim S1x32 ![] bcast_S_S1x32 (constantI S_ 32 0#32)))) (cmpi .eq (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (broadcastInDim S2048x1 ![0] bcast_S2048_S2048x1_0 w)))) (cmpi .eq (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (subi (broadcastInDim S2048x1 ![0] bcast_S2048_S2048x1_0 w) (broadcastInDim S2048x1 ![] bcast_S_S2048x1 (constantI S_ 32 1#32))))))) (broadcastInDim S16x2x2048x32 ![] bcast_S_S16x2x2048x32 (id (constant (F := Ideal) S_ .f32 0x7F800000#32))) (Host.dotGeneral dot_S16x2x2048x127_S127x32_S16x2x2048x32_3_0_012_1_n_n none (Host.reduceAdd y (constant (F := Ideal) S_ .f32 0x00000000#32) reducesTo_S16x2x4x2048x127_S16x2x2048x127_d2 h_S_) (Host.divf (sitofp .f32 (maxsi (broadcastInDim S127x32 ![] bcast_S_S127x32 (id (constantI S_ 32 0#32))) (subi (minsi (broadcastInDim S127x32 ![0, 1] bcast_S127x1_S127x32_0_1 (addi (broadcastInDim S127x1 ![0] bcast_S127_S127x1_0 (muli (broadcastInDim S127 ![] bcast_S_S127 (constantI S_ 32 16#32)) (iotaInDim S127 32 0))) (broadcastInDim S127x1 ![] bcast_S_S127x1 (constantI S_ 32 32#32)))) (broadcastInDim S127x32 ![0, 1] bcast_S1x32_S127x32_0_1 (addi (broadcastInDim S1x32 ![1] bcast_S32_S1x32_1 (muli (broadcastInDim S32 ![] bcast_S_S32 (constantI S_ 32 64#32)) (iotaInDim S32 32 0))) (broadcastInDim S1x32 ![] bcast_S_S1x32 (constantI S_ 32 64#32))))) (maxsi (broadcastInDim S127x32 ![0, 1] bcast_S127x1_S127x32_0_1 (broadcastInDim S127x1 ![0] bcast_S127_S127x1_0 (muli (broadcastInDim S127 ![] bcast_S_S127 (constantI S_ 32 16#32)) (iotaInDim S127 32 0)))) (broadcastInDim S127x32 ![0, 1] bcast_S1x32_S127x32_0_1 (broadcastInDim S1x32 ![1] bcast_S32_S1x32_1 (muli (broadcastInDim S32 ![] bcast_S_S32 (constantI S_ 32 64#32)) (iotaInDim S32 32 0)))))))) (broadcastInDim S127x32 ![] bcast_S_S127x32 (constant (F := Ideal) S_ .f32 0x42000000#32))))) : FVec Ideal S16x2x2048x32 .f32) (ix4 b k t j)
      = (if t.val < 64 * j.val then ⊥ else if j.val = 0 ∨ j.val = t.val / 64 ∨ j.val + 1 = t.val / 64 then ⊤
          else ∑ n, (∑ g : Fin 4, P g n) * ov n j : EReal) := by
  pointwise
  rw [future_eq j.val t.val j.isLt t.isLt, hw, select_ofBool]
  refine if_congr Iff.rfl neg_inf ?_
  have e := forced_eq ArithUnit.vector j.val t.val j.isLt t.isLt _ rfl
  have e' : ∀ a b c : BitVec 1, IntOp.ori (IntOp.ori a b) c = IntOp.ori a (IntOp.ori b c) := fun a b c => BitVec.or_assoc a b c
  rw [e', e, select_ofBool]
  refine if_congr Iff.rfl pos_inf ?_
  simp only [hy]
  rfl
theorem v88_at (b : Fin 16) (k : Fin 2) (t : Fin 2048) (j : Fin 32) :
    (res_main_v88 V0 : FVec Ideal S16x2x2048x32 .f32) (ix4 b k t j) = (Im V0 b k t j : EReal) := by
  exact v88_aux (res_main_v56 V0) (res_main_v61 V0) b k t j (v61_at V0 t) _ (fun g n => v56_at V0 b k g t n)
end Cert.ReferenceIdeal.Vals
end
-- ==== Proof.RefGather.lean ====
/- The reference's selected blocks, and the rows it gathers of them. -/
module

public import proofs.«01_k».proof.Proof.RefVals

@[expose] public section
noncomputable section
namespace Cert.ReferenceIdeal.Vals
open Cert.ReferenceIdeal Cert.ReferenceIdeal.Gen Cert.ReferenceIdeal.Value
open Idealize.ShloMosaic Idealize.ShloMosaic.TcCoe Idealize.ShloMosaic.StableHlo
open Cert.Spec Cert.Words Cert.Softmax Cert.Rank
set_option maxRecDepth 16384
variable (V0 : Valuation τ sig (Elt Ideal))

/-- The gathered entry lies in the table at the three indices. -/
theorem gather_at (T : FVec Ideal S16x2x32x64x64 .f32) (I : IVec S16x2x16384x3 32) (b : Fin 16) (k : Fin 2) (e : Fin 16384) (m : Fin 32) (r d : Fin 64)
    (h0 : I (ix4 b k e 0) = BitVec.ofNat 32 b.val) (h1 : I (ix4 b k e 1) = BitVec.ofNat 32 k.val) (h2 : I (ix4 b k e 2) = BitVec.ofNat 32 m.val) :
    Host.gather gather_S16x2x32x64x64_S16x2x16384x3_S16x2x16384x64x64_34_012_n_n_012_3_1116464 T I (ix5 b k e r d) = T (ix5 b k m r d) := by
  unfold Host.gather
  refine congrArg T (funext fun a => Fin.ext ?_)
  show GatherDims.start _ _ I a + GatherDims.batchCoord _ _ a + GatherDims.offCoord _ _ a = _
  rw [GatherDims.batchCoord_eq_zero _ _ _ (List.not_mem_nil)]
  match a with
  | ⟨0, _⟩ =>
    rw [GatherDims.offCoord_eq_zero _ _ _ (by decide +revert)]
    unfold GatherDims.start
    rw [dif_pos (by decide +revert)]
    have hs : GatherDims.siIdx gather_S16x2x32x64x64_S16x2x16384x3_S16x2x16384x64x64_34_012_n_n_012_3_1116464 (ix5 b k e r d) ⟨0, by decide⟩ = ix4 b k e 0 := by
      funext c; fin_cases c <;> rfl
    refine Eq.trans (congrArg (fun z => min (I z).toInt.toNat _ + 0 + 0) hs) ?_
    rw [h0, toInt_nat _ (by omega)]
    show min ((b.val : ℤ)).toNat 15 + 0 + 0 = b.val
    omega
  | ⟨1, _⟩ =>
    rw [GatherDims.offCoord_eq_zero _ _ _ (by decide +revert)]
    unfold GatherDims.start
    rw [dif_pos (by decide +revert)]
    have hs : GatherDims.siIdx gather_S16x2x32x64x64_S16x2x16384x3_S16x2x16384x64x64_34_012_n_n_012_3_1116464 (ix5 b k e r d) ⟨1, by decide⟩ = ix4 b k e 1 := by
      funext c; fin_cases c <;> rfl
    refine Eq.trans (congrArg (fun z => min (I z).toInt.toNat _ + 0 + 0) hs) ?_
    rw [h1, toInt_nat _ (by omega)]
    show min ((k.val : ℤ)).toNat 1 + 0 + 0 = k.val
    omega
  | ⟨2, _⟩ =>
    rw [GatherDims.offCoord_eq_zero _ _ _ (by decide +revert)]
    unfold GatherDims.start
    rw [dif_pos (by decide +revert)]
    have hs : GatherDims.siIdx gather_S16x2x32x64x64_S16x2x16384x3_S16x2x16384x64x64_34_012_n_n_012_3_1116464 (ix5 b k e r d) ⟨2, by decide⟩ = ix4 b k e 2 := by
      funext c; fin_cases c <;> rfl
    refine Eq.trans (congrArg (fun z => min (I z).toInt.toNat _ + 0 + 0) hs) ?_
    rw [h2, toInt_nat _ (by omega)]
    show min ((m.val : ℤ)).toNat 31 + 0 + 0 = m.val
    omega
  | ⟨3, _⟩ =>
    unfold GatherDims.start
    rw [dif_neg (by decide +revert)]
    unfold GatherDims.offCoord
    rw [dif_pos (by decide +revert)]
    show 0 + 0 + r.val = r.val
    omega
  | ⟨4, _⟩ =>
    unfold GatherDims.start
    rw [dif_neg (by decide +revert)]
    unfold GatherDims.offCoord
    rw [dif_pos (by decide +revert)]
    show 0 + 0 + d.val = d.val
    omega

/-- The selected blocks in order: the stable descending sort's first eight. -/
theorem topk_at (y : FVec Ideal S16x2x2048x32 .f32) (b : Fin 16) (k : Fin 2) (t : Fin 2048) (I : Fin 32 → EReal) (hy : ∀ j, y (ix4 b k t j) = I j) (i : Fin 8) :
    (Host.topK S16x2x2048x8 3 (FloatOps.cmpfTotal .gt) y sliceFits_S16x2x2048x32_S16x2x2048x8).2 (ix4 b k t i)
      = BitVec.ofNat 32 (sortedFrom (gtb I) ⟨i.val, by omega⟩).val := by
  obtain rfl : (fun j => y (ix4 b k t j)) = I := funext hy
  have hal : ∀ i' kk : Fin 32, ((ix4 b k t i').along 3 kk : S16x2x2048x32.Idx) = ix4 b k t kk := fun i' kk => by
    funext c; fin_cases c <;> rfl
  unfold Host.topK Host.sort2
  pointwise
  have hc : ∀ a c : Ideal .f32, (FloatOps.cmpfTotal CmpDirection.gt a c == 1#1) = decide ((c : EReal) < a) := fun a c => by
    show (BitVec.ofBool (decide ((c : EReal) < a)) == 1#1) = _
    by_cases h : (c : EReal) < a <;> simp [h]
  refine congrArg (fun z : Fin 32 => BitVec.ofNat 32 z.val) ?_
  refine Eq.trans (congrFun (hal _ _) 3) ?_
  refine congrArg (fun z => sortedFrom z (⟨i.val, by omega⟩ : Fin 32)) ?_
  funext a c
  refine Eq.trans (hc _ _) ?_
  show decide (y _ < y _) = decide (y _ < y _)
  rw [hal, hal]
theorem ix_at (v94 : IVec S16x1x1 32) (v96 : IVec S1x2x1 32) (v97 : IVec S16x2x16384 32) (b : Fin 16) (k : Fin 2) (e : Fin 16384) (m : Fin 32)
    (h0 : v94 (ix3 b 0 0) = BitVec.ofNat 32 b.val) (h1 : v96 (ix3 0 k 0) = BitVec.ofNat 32 k.val) (h2 : v97 (ix3 b k e) = BitVec.ofNat 32 m.val) (c : Fin 3) :
    (concatenate S16x2x16384x3 3 [⟨S16x2x16384x1, ((broadcastInDim S16x2x16384x1 ![0, 1, 2] bcast_S16x2x16384_S16x2x16384x1_0_1_2 (broadcastInDim S16x2x16384 ![0, 1, 2] bcast_S16x1x1_S16x2x16384_0_1_2 (select (cmpi .slt v94 (broadcastInDim S16x1x1 ![] bcast_S_S16x1x1 (constantI S_ 32 0#32))) (addi v94 (broadcastInDim S16x1x1 ![] bcast_S_S16x1x1 (constantI S_ 32 16#32))) v94))) : IVec S16x2x16384x1 32)⟩, ⟨S16x2x16384x1, ((broadcastInDim S16x2x16384x1 ![0, 1, 2] bcast_S16x2x16384_S16x2x16384x1_0_1_2 (broadcastInDim S16x2x16384 ![0, 1, 2] bcast_S1x2x1_S16x2x16384_0_1_2 (select (cmpi .slt v96 (broadcastInDim S1x2x1 ![] bcast_S_S1x2x1 (constantI S_ 32 0#32))) (addi v96 (broadcastInDim S1x2x1 ![] bcast_S_S1x2x1 (constantI S_ 32 2#32))) v96))) : IVec S16x2x16384x1 32)⟩, ⟨S16x2x16384x1, ((broadcastInDim S16x2x16384x1 ![0, 1, 2] bcast_S16x2x16384_S16x2x16384x1_0_1_2 (select (cmpi .slt v97 (broadcastInDim S16x2x16384 ![] bcast_S_S16x2x16384 (constantI S_ 32 0#32))) (addi v97 (broadcastInDim S16x2x16384 ![] bcast_S_S16x2x16384 (constantI S_ 32 32#32))) v97)) : IVec S16x2x16384x1 32)⟩] concatenates_S16x2x16384x1_S16x2x16384x1_S16x2x16384x1_S16x2x16384x3_d3 : IVec S16x2x16384x3 32) (ix4 b k e c)
      = BitVec.ofNat 32 (match c with | 0 => b.val | 1 => k.val | 2 => m.val) := by
  pointwise
  have hn : ∀ (n : ℕ) (w z : BitVec 32), n < 2 ^ 25 → w = BitVec.ofNat 32 n → Scalar.select (IntOp.cmpi .slt w 0#32) z w = BitVec.ofNat 32 n := by
    rintro n _ z hn rfl
    have h1 := toInt_nat n hn
    have h2 : (0#32).toInt = 0 := rfl
    rw [slt_eq, select_ofBool, if_neg (by omega)]
  match c with
  | 0 => exact hn b.val _ _ (by omega) h0
  | 1 => exact hn k.val _ _ (by omega) h1
  | 2 => exact hn m.val _ _ (by omega) h2
end Cert.ReferenceIdeal.Vals
end
-- ==== Proof.RefSel.lean ====
/- The reference's selected branch, element by element. -/
module

public import proofs.«01_k».proof.Proof.RefGather

@[expose] public section
noncomputable section
namespace Cert.ReferenceIdeal.Vals
open Cert.ReferenceIdeal Cert.ReferenceIdeal.Gen Cert.ReferenceIdeal.Value
open Idealize.ShloMosaic Idealize.ShloMosaic.TcCoe Idealize.ShloMosaic.StableHlo
open Cert.Spec Cert.Words Cert.Softmax Cert.Rank
set_option maxRecDepth 16384
/-- The selected block in place `i`. -/
def pick (I : Fin 32 → EReal) (i : ℕ) : Fin 32 := sortedFrom (gtb I) (Fin.ofNat 32 i)
/-- The key in place `n` of the selected keys. -/
def key (I : Fin 32 → EReal) (n : Fin 512) : Fin 2048 := ⟨64 * (pick I (n.val / 64)).val + n.val % 64, by have := (pick I (n.val / 64)).isLt; omega⟩
/-- A gathered row is the row of the key. -/
theorem rows_at (X : FVec Ideal S16x2048x2x64 .f32) (v94 : IVec S16x1x1 32) (v96 : IVec S1x2x1 32) (v97 : IVec S16x2x16384 32) (b : Fin 16) (k : Fin 2) (e : Fin 16384) (m : Fin 32)
    (h0 : v94 (ix3 b 0 0) = BitVec.ofNat 32 b.val) (h1 : v96 (ix3 0 k 0) = BitVec.ofNat 32 k.val) (h2 : v97 (ix3 b k e) = BitVec.ofNat 32 m.val) (r d : Fin 64) :
    ((Host.gather gather_S16x2x32x64x64_S16x2x16384x3_S16x2x16384x64x64_34_012_n_n_012_3_1116464 (transpose S16x2x32x64x64 [0, 3, 1, 2, 4] (shapeCast _ X shapeCasts_S16x2048x2x64_S16x32x64x2x64) transposes_S16x32x64x2x64_S16x2x32x64x64_0_3_1_2_4) ((concatenate S16x2x16384x3 3 [⟨S16x2x16384x1, ((broadcastInDim S16x2x16384x1 ![0, 1, 2] bcast_S16x2x16384_S16x2x16384x1_0_1_2 (broadcastInDim S16x2x16384 ![0, 1, 2] bcast_S16x1x1_S16x2x16384_0_1_2 (select (cmpi .slt v94 (broadcastInDim S16x1x1 ![] bcast_S_S16x1x1 (constantI S_ 32 0#32))) (addi v94 (broadcastInDim S16x1x1 ![] bcast_S_S16x1x1 (constantI S_ 32 16#32))) v94))) : (⟨S16x2x16384x1, .i32⟩ : BufTy).Contents (Elt Ideal))⟩, ⟨S16x2x16384x1, ((broadcastInDim S16x2x16384x1 ![0, 1, 2] bcast_S16x2x16384_S16x2x16384x1_0_1_2 (broadcastInDim S16x2x16384 ![0, 1, 2] bcast_S1x2x1_S16x2x16384_0_1_2 (select (cmpi .slt v96 (broadcastInDim S1x2x1 ![] bcast_S_S1x2x1 (constantI S_ 32 0#32))) (addi v96 (broadcastInDim S1x2x1 ![] bcast_S_S1x2x1 (constantI S_ 32 2#32))) v96))) : (⟨S16x2x16384x1, .i32⟩ : BufTy).Contents (Elt Ideal))⟩, ⟨S16x2x16384x1, ((broadcastInDim S16x2x16384x1 ![0, 1, 2] bcast_S16x2x16384_S16x2x16384x1_0_1_2 (select (cmpi .slt v97 (broadcastInDim S16x2x16384 ![] bcast_S_S16x2x16384 (constantI S_ 32 0#32))) (addi v97 (broadcastInDim S16x2x16384 ![] bcast_S_S16x2x16384 (constantI S_ 32 32#32))) v97)) : (⟨S16x2x16384x1, .i32⟩ : BufTy).Contents (Elt Ideal))⟩] concatenates_S16x2x16384x1_S16x2x16384x1_S16x2x16384x1_S16x2x16384x3_d3 : (⟨S16x2x16384x3, .i32⟩ : BufTy).Contents (Elt Ideal)))) : FVec Ideal S16x2x16384x64x64 .f32) (ix5 b k e r d) = X (ix4 b ⟨64 * m.val + r.val, by omega⟩ k d) := by
  refine (gather_at _ _ b k e m r d (ix_at v94 v96 v97 b k e m h0 h1 h2 0) (ix_at v94 v96 v97 b k e m h0 h1 h2 1) (ix_at v94 v96 v97 b k e m h0 h1 h2 2)).trans ?_
  pointwise
  congr 2
  apply Fin.ext; simp; omega
/-- The selected scores, of the indices, the keys and the queries. -/
theorem v161_aux (X : FVec Ideal S16x2048x2x64 .f32) (q : FVec Ideal S16x2048x2x4x64 .f32) (idx : IVec S16x2x2048x8 32) (v94 : IVec S16x1x1 32) (v96 : IVec S1x2x1 32) (v97 : IVec S16x2x16384 32)
    (b : Fin 16) (k : Fin 2) (g : Fin 4) (t : Fin 2048) (n : Fin 512) (I : Fin 32 → EReal) (Qr : Fin 64 → EReal)
    (h0 : v94 (ix3 b 0 0) = BitVec.ofNat 32 b.val) (h1 : v96 (ix3 0 k 0) = BitVec.ofNat 32 k.val)
    (h2 : v97 = shapeCast _ idx shapeCasts_S16x2x2048x8_S16x2x16384)
    (hi : ∀ i : Fin 8, idx (ix4 b k t i) = BitVec.ofNat 32 (pick I i.val).val) (hq : ∀ x, q (ix5 b t k g x) = Qr x) :
    (select (broadcastInDim S16x2x4x2048x512 ![0, 1, 2, 3, 4] bcast_S16x2x1x2048x512_S16x2x4x2048x512_0_1_2_3_4 (broadcastInDim S16x2x1x2048x512 ![0, 1, 3, 4] bcast_S16x2x2048x512_S16x2x1x2048x512_0_1_3_4 (cmpi .sle (shapeCast _ (addi (broadcastInDim S16x2x2048x8x64 ![0, 1, 2, 3, 4] bcast_S16x2x2048x8x1_S16x2x2048x8x64_0_1_2_3_4 (muli (broadcastInDim S16x2x2048x8x1 ![0, 1, 2, 3] bcast_S16x2x2048x8_S16x2x2048x8x1_0_1_2_3 idx) (broadcastInDim S16x2x2048x8x1 ![] bcast_S_S16x2x2048x8x1 (constantI S_ 32 64#32)))) (broadcastInDim S16x2x2048x8x64 ![0, 1, 2, 3, 4] bcast_S1x1x1x1x64_S16x2x2048x8x64_0_1_2_3_4 (broadcastInDim S1x1x1x1x64 ![4] bcast_S64_S1x1x1x1x64_4 (iotaInDim S64 32 0)))) shapeCasts_S16x2x2048x8x64_S16x2x2048x512) (broadcastInDim S16x2x2048x512 ![0, 1, 2, 3] bcast_S1x1x2048x1_S16x2x2048x512_0_1_2_3 (broadcastInDim S1x1x2048x1 ![2] bcast_S2048_S1x1x2048x1_2 (iotaInDim S2048 32 0)))))) (mulf (transpose S16x2x4x2048x512 [0, 1, 4, 2, 3] (Host.dotGeneral dot_S16x2x2048x512x64_S16x2048x2x4x64_S16x2x2048x512x4_4_4_3_3_012_021 none (shapeCast _ (Host.gather gather_S16x2x32x64x64_S16x2x16384x3_S16x2x16384x64x64_34_012_n_n_012_3_1116464 (transpose S16x2x32x64x64 [0, 3, 1, 2, 4] (shapeCast _ X shapeCasts_S16x2048x2x64_S16x32x64x2x64) transposes_S16x32x64x2x64_S16x2x32x64x64_0_3_1_2_4) ((concatenate S16x2x16384x3 3 [⟨S16x2x16384x1, ((broadcastInDim S16x2x16384x1 ![0, 1, 2] bcast_S16x2x16384_S16x2x16384x1_0_1_2 (broadcastInDim S16x2x16384 ![0, 1, 2] bcast_S16x1x1_S16x2x16384_0_1_2 (select (cmpi .slt v94 (broadcastInDim S16x1x1 ![] bcast_S_S16x1x1 (constantI S_ 32 0#32))) (addi v94 (broadcastInDim S16x1x1 ![] bcast_S_S16x1x1 (constantI S_ 32 16#32))) v94))) : (⟨S16x2x16384x1, .i32⟩ : BufTy).Contents (Elt Ideal))⟩, ⟨S16x2x16384x1, ((broadcastInDim S16x2x16384x1 ![0, 1, 2] bcast_S16x2x16384_S16x2x16384x1_0_1_2 (broadcastInDim S16x2x16384 ![0, 1, 2] bcast_S1x2x1_S16x2x16384_0_1_2 (select (cmpi .slt v96 (broadcastInDim S1x2x1 ![] bcast_S_S1x2x1 (constantI S_ 32 0#32))) (addi v96 (broadcastInDim S1x2x1 ![] bcast_S_S1x2x1 (constantI S_ 32 2#32))) v96))) : (⟨S16x2x16384x1, .i32⟩ : BufTy).Contents (Elt Ideal))⟩, ⟨S16x2x16384x1, ((broadcastInDim S16x2x16384x1 ![0, 1, 2] bcast_S16x2x16384_S16x2x16384x1_0_1_2 (select (cmpi .slt v97 (broadcastInDim S16x2x16384 ![] bcast_S_S16x2x16384 (constantI S_ 32 0#32))) (addi v97 (broadcastInDim S16x2x16384 ![] bcast_S_S16x2x16384 (constantI S_ 32 32#32))) v97)) : (⟨S16x2x16384x1, .i32⟩ : BufTy).Contents (Elt Ideal))⟩] concatenates_S16x2x16384x1_S16x2x16384x1_S16x2x16384x1_S16x2x16384x3_d3 : (⟨S16x2x16384x3, .i32⟩ : BufTy).Contents (Elt Ideal)))) shapeCasts_S16x2x16384x64x64_S16x2x2048x512x64) q) transposes_S16x2x2048x512x4_S16x2x4x2048x512_0_1_4_2_3) (broadcastInDim S16x2x4x2048x512 ![] bcast_S_S16x2x4x2048x512 (constant (F := Ideal) S_ .f32 0x3E000000#32))) (broadcastInDim S16x2x4x2048x512 ![] bcast_S_S16x2x4x2048x512 (id (constant (F := Ideal) S_ .f32 0xFF800000#32))) : FVec Ideal S16x2x4x2048x512 .f32) (ix5 b k g t n)
      = (if (key I n).val ≤ t.val then score (fun d => X (ix4 b (key I n) k d)) Qr else ⊥ : EReal) := by
  have hn := n.isLt
  have h2' : v97 (ix3 b k ⟨t.val * 8 + n.val / 64, by omega⟩) = BitVec.ofNat 32 (pick I (n.val / 64)).val := by
    rw [h2]
    pointwise
    refine Eq.trans (congrArg idx ?_) (hi ⟨n.val / 64, by omega⟩)
    congr 1 <;> apply Fin.ext <;> simp <;> omega
  pointwise
  rw [hi]
  have hw : IntOp.cmpi .sle (IntOp.addi (IntOp.muli (BitVec.ofNat 32 (pick I (n.val / 64)).val) 64#32) (BitVec.ofNat 32 (n.val % 64))) (BitVec.ofNat 32 t.val)
      = BitVec.ofBool (decide ((key I n).val ≤ t.val)) := by
    have e : IntOp.addi (IntOp.muli (BitVec.ofNat 32 (pick I (n.val / 64)).val) 64#32) (BitVec.ofNat 32 (n.val % 64)) = BitVec.ofNat 32 (key I n).val := by
      apply BitVec.eq_of_toNat_eq
      simp [IntOp.muli, IntOp.addi, key, Nat.mul_comm]
    have h1 := toInt_nat (key I n).val (by omega)
    have h2 := toInt_nat t.val (by omega)
    rw [sle_eq, e]
    exact ofBool_congr (by omega)
  refine Eq.trans (congrArg (fun z => Scalar.select z _ _) hw) ?_
  rw [select_ofBool]
  refine if_congr Iff.rfl ?_ neg_inf
  unfold score
  refine congrArg (fun z : EReal => z * E8) (Finset.sum_congr rfl fun x _ => ?_)
  refine congrArg₂ (fun y z : EReal => y * z) ?_ (hq x)
  exact rows_at X v94 v96 v97 b k _ _ h0 h1 h2' _ x
variable (V0 : Valuation τ sig (Elt Ideal))
/-- The keys of the selected branch. -/
def Ks (b : Fin 16) (k : Fin 2) (n : Fin 2048) (d : Fin 64) : EReal := V0 (Proc.tc.devRef main_arg3) (ix4 b n k d)
theorem v94_at (b : Fin 16) : (res_main_v94 V0 : IVec S16x1x1 32) (ix3 b 0 0) = BitVec.ofNat 32 b.val := by
  unfold res_main_v94; clean_types; pointwise
theorem v96_at (k : Fin 2) : (res_main_v96 V0 : IVec S1x2x1 32) (ix3 0 k 0) = BitVec.ofNat 32 k.val := by
  unfold res_main_v96; clean_types; pointwise
theorem v27_at (b : Fin 16) (t : Fin 2048) (k : Fin 2) (g : Fin 4) (x : Fin 64) : (res_main_v27 V0 : FVec Ideal S16x2048x2x4x64 .f32) (ix5 b t k g x) = Q V0 b t (hd k g) x := by
  unfold res_main_v27; clean_types; pointwise; rfl
theorem indices_at (b : Fin 16) (k : Fin 2) (t : Fin 2048) (i : Fin 8) : (res_main_indices V0 : IVec S16x2x2048x8 32) (ix4 b k t i) = BitVec.ofNat 32 (pick (Im V0 b k t) i.val).val := by
  refine Eq.trans (topk_at (res_main_v88 V0) b k t (Im V0 b k t) (v88_at V0 b k t) i) ?_
  unfold pick
  congr 3
  apply Fin.ext; simp [Fin.ofNat]; omega
theorem sel_key (I : Fin 32 → EReal) (n : Fin 512) : sel I (blk (key I n)) := by
  have hn := n.isLt
  have hb : blk (key I n) = pick I (n.val / 64) := by
    apply Fin.ext; show (64 * (pick I (n.val / 64)).val + n.val % 64) / 64 = _; omega
  rw [hb]
  exact (among_first I 8 _).1 ⟨Fin.ofNat 32 (n.val / 64), by simp [Fin.ofNat]; omega, rfl⟩
theorem key_inj (I : Fin 32 → EReal) : Function.Injective (key I) := by
  intro n n' h
  have hn := n.isLt
  have hn' := n'.isLt
  have h' : 64 * (pick I (n.val / 64)).val + n.val % 64 = 64 * (pick I (n'.val / 64)).val + n'.val % 64 := congrArg Fin.val h
  have hp : pick I (n.val / 64) = pick I (n'.val / 64) := Fin.ext (by omega)
  have hq := congrArg (fun m => (Finset.univ.filter fun a => bef I a m = true).card) hp
  unfold pick at hq
  have e1 := rank_sorted I (Fin.ofNat 32 (n.val / 64))
  have e2 := rank_sorted I (Fin.ofNat 32 (n'.val / 64))
  have : (Fin.ofNat 32 (n.val / 64)).val = (Fin.ofNat 32 (n'.val / 64)).val := e1.symm.trans (hq.trans e2)
  have : n.val / 64 % 32 = n'.val / 64 % 32 := this
  apply Fin.ext; omega
theorem key_off (t : ℕ) (I : Fin 32 → EReal) (K : Fin 2048 → Fin 64 → EReal) (q : Fin 64 → EReal) (k : Fin 2048) (hk : k ∉ Set.range (key I)) : Ss t I K q k = ⊥ := by
  unfold Ss
  rw [if_neg]
  rintro ⟨hs, -⟩
  obtain ⟨j, hj, e⟩ := (among_first I 8 (blk k)).2 hs
  have hlt : 64 * j.val + k.val % 64 < 512 := by omega
  refine hk ⟨⟨64 * j.val + k.val % 64, hlt⟩, Fin.ext ?_⟩
  have e0 : (64 * j.val + k.val % 64) / 64 = j.val := by omega
  have e' : pick I ((64 * j.val + k.val % 64) / 64) = blk k := by
    rw [← e, e0]; unfold pick
    refine congrArg (sortedFrom (gtb I)) (Fin.ext ?_)
    have := j.isLt
    show j.val % 32 = j.val
    omega
  have e2 : (pick I ((64 * j.val + k.val % 64) / 64)).val = k.val / 64 := congrArg Fin.val e'
  have e3 : (key I ⟨64 * j.val + k.val % 64, hlt⟩).val = 64 * (pick I ((64 * j.val + k.val % 64) / 64)).val + (64 * j.val + k.val % 64) % 64 := rfl
  rw [e3, e2]
  omega
theorem v161_at (b : Fin 16) (k : Fin 2) (g : Fin 4) (t : Fin 2048) (n : Fin 512) :
    (res_main_v161 V0 : FVec Ideal S16x2x4x2048x512 .f32) (ix5 b k g t n) = (Ss t.val (Im V0 b k t) (Ks V0 b k) (Q V0 b t (hd k g)) (key (Im V0 b k t) n) : EReal) := by
  refine Eq.trans (v161_aux (V0 (Proc.tc.devRef main_arg3)) (res_main_v27 V0) (res_main_indices V0) (res_main_v94 V0) (res_main_v96 V0) (res_main_v97 V0) b k g t n
    (Im V0 b k t) (Q V0 b t (hd k g)) (v94_at V0 b) (v96_at V0 k) rfl (indices_at V0 b k t) (v27_at V0 b t k g)) ?_
  unfold Ss
  by_cases h : (key (Im V0 b k t) n).val ≤ t.val
  · rw [if_pos h, if_pos ⟨sel_key _ n, h⟩]; rfl
  · rw [if_neg h, if_neg fun h' => h h'.2]
/-- A row's maximum. -/
theorem v163_aux (x : FVec Ideal S16x2x4x2048x512 .f32) (b : Fin 16) (k : Fin 2) (g : Fin 4) (t : Fin 2048) :
    (broadcastInDim S16x2x4x2048x1 ![0, 1, 2, 3] bcast_S16x2x4x2048_S16x2x4x2048x1_0_1_2_3 (Host.reduce FloatOps.maximumf x (constant (F := Ideal) S_ .f32 0xFF800000#32) reducesTo_S16x2x4x2048x512_S16x2x4x2048_d4 h_S_) : FVec Ideal S16x2x4x2048x1 .f32) (ix5 b k g t 0)
      = (Finset.univ.sup (fun n => x (ix5 b k g t n)) : EReal) := by
  pointwise
  exact fold_max _ _
/-- A row's exponentials. -/
theorem v172_aux (x : FVec Ideal S16x2x4x2048x512 .f32) (m : FVec Ideal S16x2x4x2048x1 .f32) (b : Fin 16) (k : Fin 2) (g : Fin 4) (t : Fin 2048) (n : Fin 512) :
    (Host.exp (subf x (broadcastInDim S16x2x4x2048x512 ![0, 1, 2, 3, 4] bcast_S16x2x4x2048x1_S16x2x4x2048x512_0_1_2_3_4 (select (andi (cmpf .ogt m (broadcastInDim S16x2x4x2048x1 ![] bcast_S_S16x2x4x2048x1 (constant (F := Ideal) S_ .f32 0xFF800000#32))) (cmpf .olt m (broadcastInDim S16x2x4x2048x1 ![] bcast_S_S16x2x4x2048x1 (constant (F := Ideal) S_ .f32 0x7F800000#32)))) m (broadcastInDim S16x2x4x2048x1 ![] bcast_S_S16x2x4x2048x1 (id (constant (F := Ideal) S_ .f32 0x00000000#32)))))) : FVec Ideal S16x2x4x2048x512 .f32) (ix5 b k g t n)
      = (Ideal.exp (x (ix5 b k g t n) - base (m (ix5 b k g t 0))) : EReal) := by
  pointwise
  refine congrArg Ideal.exp (congrArg _ (base_eq _ _ ?_))
  simp [constant]
end Cert.ReferenceIdeal.Vals
end
-- ==== Proof.RefFin.lean ====
/- The reference's window branch and its result, element by element. -/
module

public import proofs.«01_k».proof.Proof.RefSel

@[expose] public section
noncomputable section
namespace Cert.ReferenceIdeal.Vals
open Cert.ReferenceIdeal Cert.ReferenceIdeal.Gen Cert.ReferenceIdeal.Value
open Idealize.ShloMosaic Idealize.ShloMosaic.TcCoe Idealize.ShloMosaic.StableHlo
open Cert.Spec Cert.Words Cert.Softmax Cert.Rank
set_option maxRecDepth 16384
/-- The window's mask, as the reference spells it. -/
theorem win_eq (t n : ℕ) (ht : t < 2048) (hn : n < 2048) :
    IntOp.andi (IntOp.cmpi .sge (IntOp.subi (BitVec.ofNat 32 t) (BitVec.ofNat 32 n)) 0#32) (IntOp.cmpi .slt (IntOp.subi (BitVec.ofNat 32 t) (BitVec.ofNat 32 n)) 512#32)
      = BitVec.ofBool (decide (n ≤ t ∧ t < n + 512)) := by
  have h1 := toInt_nat t (by omega)
  have h2 := toInt_nat n (by omega)
  have h3 := toInt_sub (BitVec.ofNat 32 t) (BitVec.ofNat 32 n) (by omega) (by omega)
  have h4 : (0#32).toInt = 0 := rfl
  have h5 : (512#32).toInt = 512 := rfl
  rw [sge_eq, slt_eq, andi_dec]
  exact ofBool_congr (by omega)
/-- The window's scores, of the keys and the queries. -/
theorem v194_aux (X : FVec Ideal S16x2048x2x64 .f32) (q : FVec Ideal S16x2048x2x4x64 .f32)
    (b : Fin 16) (k : Fin 2) (g : Fin 4) (t : Fin 2048) (n : Fin 2048) (Qr : Fin 64 → EReal) (hq : ∀ x, q (ix5 b t k g x) = Qr x) :
    (select (broadcastInDim S16x2x4x2048x2048 ![3, 4] bcast_S2048x2048_S16x2x4x2048x2048_3_4 (andi (cmpi .sge (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (constantI S_ 32 0#32))) (cmpi .slt (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (constantI S_ 32 512#32))))) (mulf (transpose S16x2x4x2048x2048 [0, 1, 4, 3, 2] (Host.dotGeneral dot_S16x2048x2x64_S16x2048x2x4x64_S16x2x2048x2048x4_3_4_1_13_02_02 none X q) transposes_S16x2x2048x2048x4_S16x2x4x2048x2048_0_1_4_3_2) (broadcastInDim S16x2x4x2048x2048 ![] bcast_S_S16x2x4x2048x2048 (constant (F := Ideal) S_ .f32 0x3E000000#32))) (broadcastInDim S16x2x4x2048x2048 ![] bcast_S_S16x2x4x2048x2048 (id (constant (F := Ideal) S_ .f32 0xFF800000#32))) : FVec Ideal S16x2x4x2048x2048 .f32) (ix5 b k g t n)
      = (if n.val ≤ t.val ∧ t.val < n.val + 512 then score (fun d => X (ix4 b n k d)) Qr else ⊥ : EReal) := by
  pointwise
  rw [win_eq t.val n.val t.isLt n.isLt, select_ofBool]
  refine if_congr Iff.rfl ?_ neg_inf
  unfold score
  exact congrArg (fun z : EReal => z * E8) (Finset.sum_congr rfl fun x _ => congrArg (fun z : EReal => _ * z) (hq x))
/-- A row's maximum. -/
theorem v196_aux (x : FVec Ideal S16x2x4x2048x2048 .f32) (b : Fin 16) (k : Fin 2) (g : Fin 4) (t : Fin 2048) :
    (broadcastInDim S16x2x4x2048x1 ![0, 1, 2, 3] bcast_S16x2x4x2048_S16x2x4x2048x1_0_1_2_3 (Host.reduce FloatOps.maximumf x (constant (F := Ideal) S_ .f32 0xFF800000#32) reducesTo_S16x2x4x2048x2048_S16x2x4x2048_d4 h_S_) : FVec Ideal S16x2x4x2048x1 .f32) (ix5 b k g t 0)
      = (Finset.univ.sup (fun n => x (ix5 b k g t n)) : EReal) := by
  pointwise
  exact fold_max _ _
/-- A row's exponentials. -/
theorem v205_aux (x : FVec Ideal S16x2x4x2048x2048 .f32) (m : FVec Ideal S16x2x4x2048x1 .f32) (b : Fin 16) (k : Fin 2) (g : Fin 4) (t : Fin 2048) (n : Fin 2048) :
    (Host.exp (subf x (broadcastInDim S16x2x4x2048x2048 ![0, 1, 2, 3, 4] bcast_S16x2x4x2048x1_S16x2x4x2048x2048_0_1_2_3_4 (select (andi (cmpf .ogt m (broadcastInDim S16x2x4x2048x1 ![] bcast_S_S16x2x4x2048x1 (constant (F := Ideal) S_ .f32 0xFF800000#32))) (cmpf .olt m (broadcastInDim S16x2x4x2048x1 ![] bcast_S_S16x2x4x2048x1 (constant (F := Ideal) S_ .f32 0x7F800000#32)))) m (broadcastInDim S16x2x4x2048x1 ![] bcast_S_S16x2x4x2048x1 (id (constant (F := Ideal) S_ .f32 0x00000000#32)))))) : FVec Ideal S16x2x4x2048x2048 .f32) (ix5 b k g t n)
      = (Ideal.exp (x (ix5 b k g t n) - base (m (ix5 b k g t 0))) : EReal) := by
  pointwise
  refine congrArg Ideal.exp (congrArg _ (base_eq _ _ ?_))
  simp [constant]
/-- A row's exponentials over their sum. -/
theorem v161_div (y : FVec Ideal S16x2x4x2048x512 .f32) (b : Fin 16) (k : Fin 2) (g : Fin 4) (t : Fin 2048) (n : Fin 512) :
    (Host.divf y (broadcastInDim S16x2x4x2048x512 ![0, 1, 2, 3, 4] bcast_S16x2x4x2048x1_S16x2x4x2048x512_0_1_2_3_4 (maximumf (broadcastInDim S16x2x4x2048x1 ![0, 1, 2, 3] bcast_S16x2x4x2048_S16x2x4x2048x1_0_1_2_3 (Host.reduceAdd y (constant (F := Ideal) S_ .f32 0x00000000#32) reducesTo_S16x2x4x2048x512_S16x2x4x2048_d4 h_S_)) (broadcastInDim S16x2x4x2048x1 ![] bcast_S_S16x2x4x2048x1 (constant (F := Ideal) S_ .f32 0x0DA24260#32)))) : FVec Ideal S16x2x4x2048x512 .f32) (ix5 b k g t n)
      = (Ideal.div (y (ix5 b k g t n)) (max (∑ x, y (ix5 b k g t x)) EPS) : EReal) := by
  pointwise
theorem v161_soft (x : FVec Ideal S16x2x4x2048x512 .f32) (m : FVec Ideal S16x2x4x2048x1 .f32) (e : FVec Ideal S16x2x4x2048x512 .f32)
    (hm : m = broadcastInDim S16x2x4x2048x1 ![0, 1, 2, 3] bcast_S16x2x4x2048_S16x2x4x2048x1_0_1_2_3 (Host.reduce FloatOps.maximumf x (constant (F := Ideal) S_ .f32 0xFF800000#32) reducesTo_S16x2x4x2048x512_S16x2x4x2048_d4 h_S_)) (he : e = Host.exp (subf x (broadcastInDim S16x2x4x2048x512 ![0, 1, 2, 3, 4] bcast_S16x2x4x2048x1_S16x2x4x2048x512_0_1_2_3_4 (select (andi (cmpf .ogt m (broadcastInDim S16x2x4x2048x1 ![] bcast_S_S16x2x4x2048x1 (constant (F := Ideal) S_ .f32 0xFF800000#32))) (cmpf .olt m (broadcastInDim S16x2x4x2048x1 ![] bcast_S_S16x2x4x2048x1 (constant (F := Ideal) S_ .f32 0x7F800000#32)))) m (broadcastInDim S16x2x4x2048x1 ![] bcast_S_S16x2x4x2048x1 (id (constant (F := Ideal) S_ .f32 0x00000000#32)))))))
    (b : Fin 16) (k : Fin 2) (g : Fin 4) (t : Fin 2048) (S : Fin 512 → EReal) (hx : ∀ n, x (ix5 b k g t n) = S n) (n : Fin 512) :
    (Host.divf e (broadcastInDim S16x2x4x2048x512 ![0, 1, 2, 3, 4] bcast_S16x2x4x2048x1_S16x2x4x2048x512_0_1_2_3_4 (maximumf (broadcastInDim S16x2x4x2048x1 ![0, 1, 2, 3] bcast_S16x2x4x2048_S16x2x4x2048x1_0_1_2_3 (Host.reduceAdd e (constant (F := Ideal) S_ .f32 0x00000000#32) reducesTo_S16x2x4x2048x512_S16x2x4x2048_d4 h_S_)) (broadcastInDim S16x2x4x2048x1 ![] bcast_S_S16x2x4x2048x1 (constant (F := Ideal) S_ .f32 0x0DA24260#32)))) : FVec Ideal S16x2x4x2048x512 .f32) (ix5 b k g t n) = (soft EPS S n : EReal) := by
  obtain rfl : (fun n => x (ix5 b k g t n)) = S := funext hx
  refine Eq.trans (v161_div e b k g t n) ?_
  refine soft_of _ (fun n => e (ix5 b k g t n)) (m (ix5 b k g t 0)) ?_ (fun n => ?_) n
  · rw [hm]; exact v163_aux x b k g t
  · rw [he]; exact v172_aux x m b k g t n
/-- A row's exponentials over their sum. -/
theorem v194_div (y : FVec Ideal S16x2x4x2048x2048 .f32) (b : Fin 16) (k : Fin 2) (g : Fin 4) (t : Fin 2048) (n : Fin 2048) :
    (Host.divf y (broadcastInDim S16x2x4x2048x2048 ![0, 1, 2, 3, 4] bcast_S16x2x4x2048x1_S16x2x4x2048x2048_0_1_2_3_4 (maximumf (broadcastInDim S16x2x4x2048x1 ![0, 1, 2, 3] bcast_S16x2x4x2048_S16x2x4x2048x1_0_1_2_3 (Host.reduceAdd y (constant (F := Ideal) S_ .f32 0x00000000#32) reducesTo_S16x2x4x2048x2048_S16x2x4x2048_d4 h_S_)) (broadcastInDim S16x2x4x2048x1 ![] bcast_S_S16x2x4x2048x1 (constant (F := Ideal) S_ .f32 0x0DA24260#32)))) : FVec Ideal S16x2x4x2048x2048 .f32) (ix5 b k g t n)
      = (Ideal.div (y (ix5 b k g t n)) (max (∑ x, y (ix5 b k g t x)) EPS) : EReal) := by
  pointwise
theorem v194_soft (x : FVec Ideal S16x2x4x2048x2048 .f32) (m : FVec Ideal S16x2x4x2048x1 .f32) (e : FVec Ideal S16x2x4x2048x2048 .f32)
    (hm : m = broadcastInDim S16x2x4x2048x1 ![0, 1, 2, 3] bcast_S16x2x4x2048_S16x2x4x2048x1_0_1_2_3 (Host.reduce FloatOps.maximumf x (constant (F := Ideal) S_ .f32 0xFF800000#32) reducesTo_S16x2x4x2048x2048_S16x2x4x2048_d4 h_S_)) (he : e = Host.exp (subf x (broadcastInDim S16x2x4x2048x2048 ![0, 1, 2, 3, 4] bcast_S16x2x4x2048x1_S16x2x4x2048x2048_0_1_2_3_4 (select (andi (cmpf .ogt m (broadcastInDim S16x2x4x2048x1 ![] bcast_S_S16x2x4x2048x1 (constant (F := Ideal) S_ .f32 0xFF800000#32))) (cmpf .olt m (broadcastInDim S16x2x4x2048x1 ![] bcast_S_S16x2x4x2048x1 (constant (F := Ideal) S_ .f32 0x7F800000#32)))) m (broadcastInDim S16x2x4x2048x1 ![] bcast_S_S16x2x4x2048x1 (id (constant (F := Ideal) S_ .f32 0x00000000#32)))))))
    (b : Fin 16) (k : Fin 2) (g : Fin 4) (t : Fin 2048) (S : Fin 2048 → EReal) (hx : ∀ n, x (ix5 b k g t n) = S n) (n : Fin 2048) :
    (Host.divf e (broadcastInDim S16x2x4x2048x2048 ![0, 1, 2, 3, 4] bcast_S16x2x4x2048x1_S16x2x4x2048x2048_0_1_2_3_4 (maximumf (broadcastInDim S16x2x4x2048x1 ![0, 1, 2, 3] bcast_S16x2x4x2048_S16x2x4x2048x1_0_1_2_3 (Host.reduceAdd e (constant (F := Ideal) S_ .f32 0x00000000#32) reducesTo_S16x2x4x2048x2048_S16x2x4x2048_d4 h_S_)) (broadcastInDim S16x2x4x2048x1 ![] bcast_S_S16x2x4x2048x1 (constant (F := Ideal) S_ .f32 0x0DA24260#32)))) : FVec Ideal S16x2x4x2048x2048 .f32) (ix5 b k g t n) = (soft EPS S n : EReal) := by
  obtain rfl : (fun n => x (ix5 b k g t n)) = S := funext hx
  refine Eq.trans (v194_div e b k g t n) ?_
  refine soft_of _ (fun n => e (ix5 b k g t n)) (m (ix5 b k g t 0)) ?_ (fun n => ?_) n
  · rw [hm]; exact v196_aux x b k g t
  · rw [he]; exact v205_aux x m b k g t n
/-- The result's element is the three branches' sum. -/
theorem fin_out (w : FVec Ideal S16x2048x8x3x64 .f32) (b : Fin 16) (t : Fin 2048) (c : Fin 512) :
    (truncf .bf16 (shapeCast S16x2048x512 (Host.reduceAdd w (constant (F := Ideal) S_ .f32 0x00000000#32) reducesTo_S16x2048x8x3x64_S16x2048x8x64_d3 h_S_) shapeCasts_S16x2048x8x64_S16x2048x512) bitsLt_bf16_f32 : FVec Ideal S16x2048x512 .bf16) (ix3 b t c)
      = (∑ x : Fin 3, w (ix5 b t ⟨c.val / 64, by omega⟩ x ⟨c.val % 64, by omega⟩) : EReal) := by
  pointwise
/-- A branch times its gate. -/
theorem fin_gate (z : FVec Ideal S16x2048x24 .f32) (G : FVec Ideal S16x2048x8x3x64 .f32) (b : Fin 16) (t : Fin 2048) (h : Fin 8) (x : Fin 3) (d : Fin 64) :
    (mulf (broadcastInDim S16x2048x8x3x64 ![0, 1, 2, 3, 4] bcast_S16x2048x8x3x1_S16x2048x8x3x64_0_1_2_3_4 (broadcastInDim S16x2048x8x3x1 ![0, 1, 2, 3] bcast_S16x2048x8x3_S16x2048x8x3x1_0_1_2_3 (Host.divf (broadcastInDim S16x2048x8x3 ![] bcast_S_S16x2048x8x3 (constant (F := Ideal) S_ .f32 0x3F800000#32)) (addf (broadcastInDim S16x2048x8x3 ![] bcast_S_S16x2048x8x3 (constant (F := Ideal) S_ .f32 0x3F800000#32)) (Host.exp (Host.negf (shapeCast _ z shapeCasts_S16x2048x24_S16x2048x8x3))))))) G : FVec Ideal S16x2048x8x3x64 .f32) (ix5 b t h x d) = (Ideal.logistic (z (ix3 b t ⟨h.val * 3 + x.val, by omega⟩)) * G (ix5 b t h x d) : EReal) := by
  pointwise
  rfl
/-- The branches stacked. -/
theorem fin_stack (A B C : FVec Ideal S16x2048x2x4x64 .f32) (b : Fin 16) (t : Fin 2048) (h : Fin 8) (x : Fin 3) (d : Fin 64) :
    ((shapeCast _ ((concatenate S16x2048x2x4x3x64 4 [⟨S16x2048x2x4x1x64, ((broadcastInDim S16x2048x2x4x1x64 ![0, 1, 2, 3, 5] bcast_S16x2048x2x4x64_S16x2048x2x4x1x64_0_1_2_3_5 A) : (⟨S16x2048x2x4x1x64, .f32⟩ : BufTy).Contents (Elt Ideal))⟩, ⟨S16x2048x2x4x1x64, ((broadcastInDim S16x2048x2x4x1x64 ![0, 1, 2, 3, 5] bcast_S16x2048x2x4x64_S16x2048x2x4x1x64_0_1_2_3_5 B) : (⟨S16x2048x2x4x1x64, .f32⟩ : BufTy).Contents (Elt Ideal))⟩, ⟨S16x2048x2x4x1x64, ((broadcastInDim S16x2048x2x4x1x64 ![0, 1, 2, 3, 5] bcast_S16x2048x2x4x64_S16x2048x2x4x1x64_0_1_2_3_5 C) : (⟨S16x2048x2x4x1x64, .f32⟩ : BufTy).Contents (Elt Ideal))⟩] concatenates_S16x2048x2x4x1x64_S16x2048x2x4x1x64_S16x2048x2x4x1x64_S16x2048x2x4x3x64_d4 : (⟨S16x2048x2x4x3x64, .f32⟩ : BufTy).Contents (Elt Ideal))) shapeCasts_S16x2048x2x4x3x64_S16x2048x8x3x64) : FVec Ideal S16x2048x8x3x64 .f32) (ix5 b t h x d)
      = (![A (ix5 b t ⟨h.val / 4, by omega⟩ ⟨h.val % 4, by omega⟩ d), B (ix5 b t ⟨h.val / 4, by omega⟩ ⟨h.val % 4, by omega⟩ d), C (ix5 b t ⟨h.val / 4, by omega⟩ ⟨h.val % 4, by omega⟩ d)] x : EReal) := by
  pointwise
  fin_cases x <;> rfl
/-- The compressed branch. -/
theorem fin_A (pc : FVec Ideal S16x2x4x2048x127 .f32) (Vc : FVec Ideal S16x127x2x64 .f32) (b : Fin 16) (t : Fin 2048) (k : Fin 2) (g : Fin 4) (d : Fin 64) :
    ((transpose S16x2048x2x4x64 [0, 4, 1, 3, 2] (Host.dotGeneral dot_S16x127x2x64_S16x2x4x2048x127_S16x2x64x4x2048_1_4_3_23_02_01 none Vc pc) transposes_S16x2x64x4x2048_S16x2048x2x4x64_0_4_1_3_2) : FVec Ideal S16x2048x2x4x64 .f32) (ix5 b t k g d) = (∑ n, Vc (ix4 b n k d) * pc (ix5 b k g t n) : EReal) := by
  pointwise
/-- The selected branch. -/
theorem fin_B (ps : FVec Ideal S16x2x4x2048x512 .f32) (vg : FVec Ideal S16x2x2048x512x64 .f32) (b : Fin 16) (t : Fin 2048) (k : Fin 2) (g : Fin 4) (d : Fin 64) :
    ((Host.dotGeneral dot_S16x2x4x2048x512_S16x2x2048x512x64_S16x2048x2x4x64_4_3_2_4_031_021 none ps vg) : FVec Ideal S16x2048x2x4x64 .f32) (ix5 b t k g d) = (∑ n, ps (ix5 b k g t n) * vg (ix5 b k t n d) : EReal) := by
  pointwise
/-- The window branch. -/
theorem fin_C (pw : FVec Ideal S16x2x4x2048x2048 .f32) (Vw : FVec Ideal S16x2048x2x64 .f32) (b : Fin 16) (t : Fin 2048) (k : Fin 2) (g : Fin 4) (d : Fin 64) :
    ((transpose S16x2048x2x4x64 [0, 4, 1, 3, 2] (Host.dotGeneral dot_S16x2048x2x64_S16x2x4x2048x2048_S16x2x64x4x2048_1_4_3_23_02_01 none Vw pw) transposes_S16x2x64x4x2048_S16x2048x2x4x64_0_4_1_3_2) : FVec Ideal S16x2048x2x4x64 .f32) (ix5 b t k g d) = (∑ n, Vw (ix4 b n k d) * pw (ix5 b k g t n) : EReal) := by
  pointwise
/-- A gathered row of the values is the row of the key. -/
theorem vg_at (X : FVec Ideal S16x2048x2x64 .f32) (idx : IVec S16x2x2048x8 32) (v94 : IVec S16x1x1 32) (v96 : IVec S1x2x1 32) (v97 : IVec S16x2x16384 32)
    (b : Fin 16) (k : Fin 2) (t : Fin 2048) (n : Fin 512) (d : Fin 64) (I : Fin 32 → EReal)
    (h0 : v94 (ix3 b 0 0) = BitVec.ofNat 32 b.val) (h1 : v96 (ix3 0 k 0) = BitVec.ofNat 32 k.val)
    (h2 : v97 = shapeCast _ idx shapeCasts_S16x2x2048x8_S16x2x16384)
    (hi : ∀ i : Fin 8, idx (ix4 b k t i) = BitVec.ofNat 32 (pick I i.val).val) :
    ((shapeCast _ (Host.gather gather_S16x2x32x64x64_S16x2x16384x3_S16x2x16384x64x64_34_012_n_n_012_3_1116464 (transpose S16x2x32x64x64 [0, 3, 1, 2, 4] (shapeCast _ X shapeCasts_S16x2048x2x64_S16x32x64x2x64) transposes_S16x32x64x2x64_S16x2x32x64x64_0_3_1_2_4) ((concatenate S16x2x16384x3 3 [⟨S16x2x16384x1, ((broadcastInDim S16x2x16384x1 ![0, 1, 2] bcast_S16x2x16384_S16x2x16384x1_0_1_2 (broadcastInDim S16x2x16384 ![0, 1, 2] bcast_S16x1x1_S16x2x16384_0_1_2 (select (cmpi .slt v94 (broadcastInDim S16x1x1 ![] bcast_S_S16x1x1 (constantI S_ 32 0#32))) (addi v94 (broadcastInDim S16x1x1 ![] bcast_S_S16x1x1 (constantI S_ 32 16#32))) v94))) : (⟨S16x2x16384x1, .i32⟩ : BufTy).Contents (Elt Ideal))⟩, ⟨S16x2x16384x1, ((broadcastInDim S16x2x16384x1 ![0, 1, 2] bcast_S16x2x16384_S16x2x16384x1_0_1_2 (broadcastInDim S16x2x16384 ![0, 1, 2] bcast_S1x2x1_S16x2x16384_0_1_2 (select (cmpi .slt v96 (broadcastInDim S1x2x1 ![] bcast_S_S1x2x1 (constantI S_ 32 0#32))) (addi v96 (broadcastInDim S1x2x1 ![] bcast_S_S1x2x1 (constantI S_ 32 2#32))) v96))) : (⟨S16x2x16384x1, .i32⟩ : BufTy).Contents (Elt Ideal))⟩, ⟨S16x2x16384x1, ((broadcastInDim S16x2x16384x1 ![0, 1, 2] bcast_S16x2x16384_S16x2x16384x1_0_1_2 (select (cmpi .slt v97 (broadcastInDim S16x2x16384 ![] bcast_S_S16x2x16384 (constantI S_ 32 0#32))) (addi v97 (broadcastInDim S16x2x16384 ![] bcast_S_S16x2x16384 (constantI S_ 32 32#32))) v97)) : (⟨S16x2x16384x1, .i32⟩ : BufTy).Contents (Elt Ideal))⟩] concatenates_S16x2x16384x1_S16x2x16384x1_S16x2x16384x1_S16x2x16384x3_d3 : (⟨S16x2x16384x3, .i32⟩ : BufTy).Contents (Elt Ideal)))) shapeCasts_S16x2x16384x64x64_S16x2x2048x512x64) : FVec Ideal S16x2x2048x512x64 .f32) (ix5 b k t n d) = X (ix4 b (key I n) k d) := by
  have hn := n.isLt
  have h2' : v97 (ix3 b k ⟨t.val * 8 + n.val / 64, by omega⟩) = BitVec.ofNat 32 (pick I (n.val / 64)).val := by
    rw [h2]
    pointwise
    refine Eq.trans (congrArg idx ?_) (hi ⟨n.val / 64, by omega⟩)
    congr 1 <;> apply Fin.ext <;> simp <;> omega
  pointwise
  exact rows_at X v94 v96 v97 b k _ _ h0 h1 h2' _ d
variable (V0 : Valuation τ sig (Elt Ideal))
/-- The keys of the window branch. -/
def Kw (b : Fin 16) (k : Fin 2) (n : Fin 2048) (d : Fin 64) : EReal := V0 (Proc.tc.devRef main_arg5) (ix4 b n k d)
/-- The compressed values. -/
def Vc (b : Fin 16) (k : Fin 2) (d : Fin 64) (n : Fin 127) : EReal := V0 (Proc.tc.devRef main_arg2) (ix4 b n k d)
/-- The values of the selected branch. -/
def Vs (b : Fin 16) (k : Fin 2) (d : Fin 64) (n : Fin 2048) : EReal := V0 (Proc.tc.devRef main_arg4) (ix4 b n k d)
/-- The values of the window branch. -/
def Vw (b : Fin 16) (k : Fin 2) (d : Fin 64) (n : Fin 2048) : EReal := V0 (Proc.tc.devRef main_arg6) (ix4 b n k d)
/-- The gates' inputs. -/
def Zg (b : Fin 16) (t : Fin 2048) (h : Fin 8) (x : Fin 3) : EReal := V0 (Proc.tc.devRef main_arg7) (ix3 b t ⟨h.val * 3 + x.val, by omega⟩)
theorem v194_at (b : Fin 16) (k : Fin 2) (g : Fin 4) (t : Fin 2048) (n : Fin 2048) :
    (res_main_v194 V0 : FVec Ideal S16x2x4x2048x2048 .f32) (ix5 b k g t n) = (Sw t.val (Kw V0 b k) (Q V0 b t (hd k g)) n : EReal) :=
  v194_aux (V0 (Proc.tc.devRef main_arg5)) (res_main_v27 V0) b k g t n (Q V0 b t (hd k g)) (v27_at V0 b t k g)
/-- The compressed branch's output. -/
theorem oc_at (b : Fin 16) (t : Fin 2048) (k : Fin 2) (g : Fin 4) (d : Fin 64) (A : FVec Ideal S16x2048x2x4x64 .f32)
    (X : FVec Ideal S16x127x2x64 .f32) (pc : FVec Ideal S16x2x4x2048x127 .f32) (hX : ∀ n, X (ix4 b n k d) = Vc V0 b k d n)
    (hp : ∀ n, pc (ix5 b k g t n) = soft EPS (Sc t.val (Kc V0 b k) (Q V0 b t (hd k g))) n) (hA : A (ix5 b t k g d) = (∑ n, X (ix4 b n k d) * pc (ix5 b k g t n) : EReal)) :
    A (ix5 b t k g d) = (∑ n, soft EPS (Sc t.val (Kc V0 b k) (Q V0 b t (hd k g))) n * Vc V0 b k d n : EReal) := by
  rw [hA]
  exact Finset.sum_congr rfl fun n _ => (mul_comm _ _).trans (congrArg₂ (fun y z : EReal => y * z) (hp n) (hX n))
theorem os_at (b : Fin 16) (t : Fin 2048) (k : Fin 2) (g : Fin 4) (d : Fin 64) (B : FVec Ideal S16x2048x2x4x64 .f32)
    (ps : FVec Ideal S16x2x4x2048x512 .f32) (vg : FVec Ideal S16x2x2048x512x64 .f32)
    (hp : ∀ n, ps (ix5 b k g t n) = soft EPS (fun n => Ss t.val (Im V0 b k t) (Ks V0 b k) (Q V0 b t (hd k g)) (key (Im V0 b k t) n)) n)
    (hv : ∀ n, vg (ix5 b k t n d) = Vs V0 b k d (key (Im V0 b k t) n))
    (hB : B (ix5 b t k g d) = (∑ n, ps (ix5 b k g t n) * vg (ix5 b k t n d) : EReal)) :
    B (ix5 b t k g d) = (∑ n, soft EPS (Ss t.val (Im V0 b k t) (Ks V0 b k) (Q V0 b t (hd k g))) n * Vs V0 b k d n : EReal) := by
  rw [hB, ← soft_embed_sum eps_pos _ (Vs V0 b k d) (key (Im V0 b k t)) (key_inj _) (fun n hn => key_off _ _ _ _ n hn)]
  exact Finset.sum_congr rfl fun n _ => congrArg₂ (fun y z : EReal => y * z) (hp n) (hv n)
theorem ow_at (b : Fin 16) (t : Fin 2048) (k : Fin 2) (g : Fin 4) (d : Fin 64) (C : FVec Ideal S16x2048x2x4x64 .f32)
    (X : FVec Ideal S16x2048x2x64 .f32) (pw : FVec Ideal S16x2x4x2048x2048 .f32) (hX : ∀ n, X (ix4 b n k d) = Vw V0 b k d n) (hp : ∀ n, pw (ix5 b k g t n) = soft EPS (Sw t.val (Kw V0 b k) (Q V0 b t (hd k g))) n)
    (hC : C (ix5 b t k g d) = (∑ n, X (ix4 b n k d) * pw (ix5 b k g t n) : EReal)) :
    C (ix5 b t k g d) = (∑ n, soft EPS (Sw t.val (Kw V0 b k) (Q V0 b t (hd k g))) n * Vw V0 b k d n : EReal) := by
  rw [hC]
  exact Finset.sum_congr rfl fun n _ => (mul_comm _ _).trans (congrArg₂ (fun y z : EReal => y * z) (hp n) (hX n))
/-- The reference's result, element by element. -/
theorem ref_at (b : Fin 16) (t : Fin 2048) (k : Fin 2) (g : Fin 4) (d : Fin 64) (c : Fin 512) (hc : c.val = 64 * (4 * k.val + g.val) + d.val) :
    (truncf .bf16 (shapeCast S16x2048x512 (Host.reduceAdd (res_main_v228 V0) (constant (F := Ideal) S_ .f32 0x00000000#32) reducesTo_S16x2048x8x3x64_S16x2048x8x64_d3 h_S_) shapeCasts_S16x2048x8x64_S16x2048x512) bitsLt_bf16_f32 : FVec Ideal S16x2048x512 .bf16) (ix3 b t c)
      = (out t.val ov (Kc V0 b k) (fun g => Q V0 b t (hd k g)) (Ks V0 b k) (Kw V0 b k) (Vc V0 b k d) (Vs V0 b k d) (Vw V0 b k d) (Zg V0 b t (hd k g)) g : EReal) := by
  refine (fin_out (res_main_v228 V0) b t c).trans ?_
  have e1 : (⟨c.val / 64, by omega⟩ : Fin 8) = hd k g := Fin.ext (by show c.val / 64 = k.val * 4 + g.val; omega)
  have e2 : (⟨c.val % 64, by omega⟩ : Fin 64) = d := Fin.ext (by show c.val % 64 = d.val; omega)
  have e3 : (⟨(hd k g).val / 4, by omega⟩ : Fin 2) = k := Fin.ext (by show (k.val * 4 + g.val) / 4 = k.val; omega)
  have e4 : (⟨(hd k g).val % 4, by omega⟩ : Fin 4) = g := Fin.ext (by show (k.val * 4 + g.val) % 4 = g.val; omega)
  rw [e1, e2, Fin.sum_univ_three]
  unfold out
  refine congrArg₂ (fun y z : EReal => y + z) (congrArg₂ (fun y z : EReal => y + z) ?_ ?_) ?_
  · refine (fin_gate (V0 (Proc.tc.devRef main_arg7)) _ b t (hd k g) 0 d).trans (congrArg (fun y : EReal => Ideal.logistic (Zg V0 b t (hd k g) 0) * y) ?_)
    refine (fin_stack _ _ _ b t (hd k g) 0 d).trans ?_
    rw [e3, e4]
    exact oc_at V0 b t k g d _ (V0 (Proc.tc.devRef main_arg2)) _ (fun n => rfl) (fun n => v56_at V0 b k g t n) (fin_A _ _ b t k g d)
  · refine (fin_gate (V0 (Proc.tc.devRef main_arg7)) _ b t (hd k g) 1 d).trans (congrArg (fun y : EReal => Ideal.logistic (Zg V0 b t (hd k g) 1) * y) ?_)
    refine (fin_stack _ _ _ b t (hd k g) 1 d).trans ?_
    rw [e3, e4]
    exact os_at V0 b t k g d _ _ _
      (fun n => v161_soft (res_main_v161 V0) (res_main_v163 V0) (res_main_v172 V0) rfl rfl b k g t _ (fun n => v161_at V0 b k g t n) n)
      (fun n => vg_at (V0 (Proc.tc.devRef main_arg4)) (res_main_indices V0) (res_main_v94 V0) (res_main_v96 V0) (res_main_v97 V0) b k t n d
        (Im V0 b k t) (v94_at V0 b) (v96_at V0 k) rfl (indices_at V0 b k t))
      (fin_B _ _ b t k g d)
  · refine (fin_gate (V0 (Proc.tc.devRef main_arg7)) _ b t (hd k g) 2 d).trans (congrArg (fun y : EReal => Ideal.logistic (Zg V0 b t (hd k g) 2) * y) ?_)
    refine (fin_stack _ _ _ b t (hd k g) 2 d).trans ?_
    rw [e3, e4]
    exact ow_at V0 b t k g d _ (V0 (Proc.tc.devRef main_arg6)) _ (fun n => rfl)
      (fun n => v194_soft (res_main_v194 V0) (res_main_v196 V0) (res_main_v205 V0) rfl rfl b k g t _ (fun n => v194_at V0 b k g t n) n)
      (fin_C _ _ b t k g d)
end Cert.ReferenceIdeal.Vals
end
-- ==== Proof.Value.lean ====
/- The value claim: both programs end with the layer's mathematics in their results. -/
module

public import proofs.«01_k».proof.Proof.KPoint
public import proofs.«01_k».proof.Proof.RefFin
public import proofs.«01_k».proof.Proof.Claims

@[expose] public section
noncomputable section
namespace Cert.Proof
open Idealize.ShloMosaic Idealize.ShloMosaic.TcCoe Idealize.SL.Sem
open Cert.KernelIdeal Cert.KernelIdeal.Gen Cert.KernelIdeal.Exact
open Cert.Spec
set_option maxRecDepth 16384

/-- The reference's result. -/
abbrev RES (V0 : Valuation Cert.ReferenceIdeal.τ Cert.ReferenceIdeal.sig (Elt Ideal)) : FVec Ideal Cert.ReferenceIdeal.S16x2048x512 .bf16 :=
  truncf .bf16 (shapeCast Cert.ReferenceIdeal.S16x2048x512 (Host.reduceAdd (Cert.ReferenceIdeal.Value.res_main_v228 V0) (constant (F := Ideal) Cert.ReferenceIdeal.S_ .f32 0x00000000#32)
    Cert.ReferenceIdeal.Gen.facts.reducesTo_S16x2048x8x3x64_S16x2048x8x64_d3 Cert.ReferenceIdeal.Gen.facts.h_S_) Cert.ReferenceIdeal.Gen.facts.shapeCasts_S16x2048x8x64_S16x2048x512) Cert.ReferenceIdeal.Gen.facts.bitsLt_bf16_f32

variable (m : (ℓ : Loc nD τ sig) → Buf (Elt Ideal) ℓ) (c : Dev nD) (V0 : Valuation Cert.ReferenceIdeal.τ Cert.ReferenceIdeal.sig (Elt Ideal))
/-- The reference's arguments are the kernel's. -/
structure Agree : Prop where
  a0 : ∀ b t h d, Cert.ReferenceIdeal.Vals.Q V0 b t h d = (m ((c : Thread nD τ).loc main_arg0) : FVec Ideal S16x2048x8x64 .f32) (ix4 b t h d)
  a1 : ∀ b k n d, Cert.ReferenceIdeal.Vals.Kc V0 b k n d = (m ((c : Thread nD τ).loc main_arg1) : FVec Ideal S16x127x2x64 .f32) (ix4 b n k d)
  a2 : ∀ b k d n, Cert.ReferenceIdeal.Vals.Vc V0 b k d n = (m ((c : Thread nD τ).loc main_arg2) : FVec Ideal S16x127x2x64 .f32) (ix4 b n k d)
  a3 : ∀ b k n d, Cert.ReferenceIdeal.Vals.Ks V0 b k n d = (m ((c : Thread nD τ).loc main_arg3) : FVec Ideal S16x2048x2x64 .f32) (ix4 b n k d)
  a4 : ∀ b k d n, Cert.ReferenceIdeal.Vals.Vs V0 b k d n = (m ((c : Thread nD τ).loc main_arg4) : FVec Ideal S16x2048x2x64 .f32) (ix4 b n k d)
  a5 : ∀ b k n d, Cert.ReferenceIdeal.Vals.Kw V0 b k n d = (m ((c : Thread nD τ).loc main_arg5) : FVec Ideal S16x2048x2x64 .f32) (ix4 b n k d)
  a6 : ∀ b k d n, Cert.ReferenceIdeal.Vals.Vw V0 b k d n = (m ((c : Thread nD τ).loc main_arg6) : FVec Ideal S16x2048x2x64 .f32) (ix4 b n k d)
  a7 : ∀ b t (h : Fin 8) (x : Fin 3), Cert.ReferenceIdeal.Vals.Zg V0 b t h x = (m ((c : Thread nD τ).loc main_arg7) : FVec Ideal S16x2048x24 .f32) (ix3 b t (⟨h.val * 3 + x.val, by omega⟩ : Fin 24))

/-- The block each grid point writes is the reference's. -/
theorem block_eq (h : Agree m c V0) (t : Fin cfg0.N) (y : S1x256x256.Idx) :
    BODY (grid0.coords t) (iblk m c 0 t) (iblk m c 1 t) (iblk m c 2 t) (iblk m c 3 t) (iblk m c 4 t) y = RES V0 (((cfg0.win 5).blk t).view.emb y) := by
  obtain ⟨a, u, rfl⟩ : ∃ a u : Fin 256, y = ix3 0 a u := ⟨y 1, y 2, by
    funext x
    fin_cases x
    · exact Fin.ext (by have : (y 0).val < 1 := (y 0).isLt; show (y 0).val = 0; omega)
    · rfl
    · rfl⟩
  have hg : u.val = 64 * (u.val / 64) + u.val % 64 := by omega
  have ha := point_at m c t a u (⟨u.val / 64, by omega⟩ : Fin 4) (⟨u.val % 64, by omega⟩ : Fin 64) hg
  refine ha.trans ?_
  rw [emb5_at]
  refine Eq.trans ?_ (Cert.ReferenceIdeal.Vals.ref_at V0 (pb t) (pt' t a) (pk t) (⟨u.val / 64, by omega⟩ : Fin 4) (⟨u.val % 64, by omega⟩ : Fin 64) (⟨256 * (pk t).val + u.val, by omega⟩ : Fin 512)
    (by show 256 * (pk t).val + u.val = 64 * (4 * (pk t).val + u.val / 64) + u.val % 64; omega)).symm
  exact out_congr _ rfl (fun _ _ => rfl) (fun _ _ => (h.a1 _ _ _ _).symm) (fun _ _ => (h.a0 _ _ _ _).symm) (fun _ _ => (h.a3 _ _ _ _).symm) (fun _ _ => (h.a5 _ _ _ _).symm)
    (fun _ => (h.a2 _ _ _ _).symm) (fun _ => (h.a4 _ _ _ _).symm) (fun _ => (h.a6 _ _ _ _).symm) (fun x => (h.a7 (pb t) (pt' t a) (Cert.ReferenceIdeal.Vals.hd (pk t) (⟨u.val / 64, by omega⟩ : Fin 4)) x).symm)

/-- The value claim. -/
theorem algebraic : Cert.algebraic_KernelIdeal_ReferenceIdeal := by
  intro m g m' g' _ hagree
  refine ⟨fun c => RES (StableHlo.launchContents m' c), ?_, ?_⟩
  · refine (θ_run Cert.KernelIdeal.defs _ _).mono (fun r h c => ?_) (run_track m g)
    obtain ⟨h0, h1, h2, h3, h4, h5, h6, h7⟩ := hagree c
    have hA : Agree m c (StableHlo.launchContents m' c) :=
      ⟨fun b t x d => congrFun h0 (ix4 b t x d), fun b k n d => congrFun h1 (ix4 b n k d), fun b k d n => congrFun h2 (ix4 b n k d), fun b k n d => congrFun h3 (ix4 b n k d),
        fun b k d n => congrFun h4 (ix4 b n k d), fun b k n d => congrFun h5 (ix4 b n k d), fun b k d n => congrFun h6 (ix4 b n k d), fun b t x z => congrFun h7 (ix3 b t _)⟩
    refine ⟨((h c).1 5).trans (out_eq m c _ (block_eq m c _ hA)), ?_, ?_, ?_, ?_, ?_, ?_, ?_, ?_⟩
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact ((h c).2 main_arg4 (Pipeline.mem_restRefs_of main_arg4 (by decide) (by decide))).trans (V_main_arg4 m c)
    · exact ((h c).2 main_arg5 (Pipeline.mem_restRefs_of main_arg5 (by decide) (by decide))).trans (V_main_arg5 m c)
    · exact ((h c).2 main_arg6 (Pipeline.mem_restRefs_of main_arg6 (by decide) (by decide))).trans (V_main_arg6 m c)
    · exact ((h c).2 main_arg7 (Pipeline.mem_restRefs_of main_arg7 (by decide) (by decide))).trans (V_main_arg7 m c)
  · exact Cert.ReferenceIdeal.Value.run (F := Ideal) m' g'
end Cert.Proof
end
-- ==== Proof.MBody.lean ====
/- One chunk of the MLP kernel's body, and the body as a whole. -/
module

public import proofs.«01_k».proof.Proof.Gen.MlpIdeal.Frame
public import Idealize.ShloMosaic.Lib.VecWindow
public import Idealize.ShloMosaic.Lib.Writes
public import Idealize.ShloMosaic.Lib.Pointwise

@[expose] public section
noncomputable section
namespace Cert.MlpIdeal.Exact
open Cert.MlpIdeal Cert.MlpIdeal.Gen
open Idealize.ShloMosaic Idealize.ShloMosaic.TcCoe Idealize.ShloMosaic.Tactic
set_option maxRecDepth 16384

/-- A chunk's columns of the up projection. -/
def UP (h : Vec Ideal S1024x1024 .f32) (w : Vec Ideal S1024x256 .bf16) : FVec Ideal S1024x256 .f32 :=
  matmul dot_S1024x1024_S1024x256_S1024x256_1_0_0_1_n_n none (truncf .bf16 (shapeCast S1024x1024 h shapeCasts_S1024x1024_S1024x1024 : FVec Ideal S1024x1024 .f32) bitsLt_bf16_f32)
    (shapeCast S1024x256 w shapeCasts_S1024x256_S1024x256 : FVec Ideal S1024x256 .bf16) (constant S1024x256 .f32 0x00000000#32)
/-- The rows `d` above, the topmost from the tail of the tile before. -/
def DEL (d : BitVec 32) (u : FVec Ideal S1024x256 .f32) (tail : Vec Ideal S8x256 .f32) : FVec Ideal S1024x256 .f32 :=
  concatenate S1024x256 0 [⟨S8x256, select (cmpi .slt (iota .tc S8x256 32 [0] iota_S8x256_d0_w32) (broadcast S8x256 d)) (dynamicRotate 0 d none tail rotates_S8x256_d0)
      (extractStridedSlice S8x256 ![0, 0] (dynamicRotate 0 d none u rotates_S1024x256_d0) slices_S1024x256_o0_0_S8x256)⟩,
    ⟨S1016x256, extractStridedSlice S1016x256 ![8, 0] (dynamicRotate 0 d none u rotates_S1024x256_d0) slices_S1024x256_o8_0_S1016x256⟩] concatenates_S8x256_S1016x256_S1024x256_d0
/-- A chunk's convolution. -/
def HV (u : FVec Ideal S1024x256 .f32) (tail : Vec Ideal S8x256 .f32) (w2 w1 w0 b : Vec Ideal S1x256 .f32) : FVec Ideal S1024x256 .f32 :=
  addf (addf (addf (mulf (broadcastTo S1024x256 w2 broadcasts_S1x256_S1024x256) u) (mulf (broadcastTo S1024x256 w1 broadcasts_S1x256_S1024x256) (DEL 1#32 u tail)))
      (mulf (broadcastTo S1024x256 w0 broadcasts_S1x256_S1024x256) (DEL 2#32 u tail)))
    (broadcastTo S1024x256 (shapeCast S1x256 b shapeCasts_S1x256_S1x256 : FVec Ideal S1x256 .f32) broadcasts_S1x256_S1024x256)
/-- A chunk's gated activation. -/
def AC (y c : FVec Ideal S1024x256 .f32) : FVec Ideal S1024x256 .bf16 :=
  truncf .bf16 (mulf (addf (mulf (broadcast S1024x256 (Scalar.ofBits .f32 0x3F000000#32 : Ideal .f32)) y)
    (mulf (mulf (broadcast S1024x256 (Scalar.ofBits .f32 0x3F000000#32 : Ideal .f32)) y)
      (tanh (mulf y (addf (broadcast S1024x256 (Scalar.ofBits .f32 0x3F4C422A#32 : Ideal .f32)) (mulf (broadcast S1024x256 (Named.named κ "cubic" 0x3D122279#32 : Ideal .f32)) (mulf y y))))))) c) bitsLt_bf16_f32

/-- The chunks' activations side by side, the first group. -/
def G6 (a0 a1 a2 a3 a4 a5 : FVec Ideal S1024x256 .bf16) : FVec Ideal S1024x1536 .bf16 :=
  concatenate S1024x1536 1 [⟨S1024x256, a0⟩, ⟨S1024x256, a1⟩, ⟨S1024x256, a2⟩, ⟨S1024x256, a3⟩, ⟨S1024x256, a4⟩, ⟨S1024x256, a5⟩] concatenates_S1024x256_S1024x256_S1024x256_S1024x256_S1024x256_S1024x256_S1024x1536_d1
/-- The chunks' activations side by side, the second group. -/
def G5 (a0 a1 a2 a3 a4 : FVec Ideal S1024x256 .bf16) : FVec Ideal S1024x1280 .bf16 :=
  concatenate S1024x1280 1 [⟨S1024x256, a0⟩, ⟨S1024x256, a1⟩, ⟨S1024x256, a2⟩, ⟨S1024x256, a3⟩, ⟨S1024x256, a4⟩] concatenates_S1024x256_S1024x256_S1024x256_S1024x256_S1024x256_S1024x1280_d1
/-- The down projection's first group. -/
def D6 (a : FVec Ideal S1024x1536 .bf16) (w : Vec Ideal S1536x1024 .bf16) : FVec Ideal S1024x1024 .f32 :=
  addf (broadcast S1024x1024 (Scalar.ofBits .f32 0x00000000#32 : Ideal .f32)) (matmul dot_S1024x1536_S1536x1024_S1024x1024_1_0_0_1_n_n none a (shapeCast S1536x1024 w shapeCasts_S1536x1024_S1536x1024 : FVec Ideal S1536x1024 .bf16) (constant S1024x1024 .f32 0x00000000#32))
/-- What the body stores. -/
def LAST (h : Vec Ideal S1024x1024 .f32) (d : FVec Ideal S1024x1024 .f32) (a : FVec Ideal S1024x1280 .bf16) (w : Vec Ideal S1280x1024 .bf16) (g b : Vec Ideal S1x1024 .f32) : FVec Ideal S1024x1024 .f32 :=
  k0_pay1 (k0_pay123 g) (k0_pay124 b) (k0_pay125 (k0_pay3 h) d a w) (k0_pay126 (k0_pay3 h) d a w) k0_pay127

section
variable (arg1 : Memref sig .tc .vmem S1024x1024 .f32) (harg1 : arg1.IsWhole) (arg2 : Memref sig .tc .vmem S1024x5632 .bf16) (harg2 : arg2.IsWhole) (arg3 : Memref sig .tc .vmem S3x5632 .f32) (harg3 : arg3.IsWhole) (arg4 : Memref sig .tc .vmem S1x5632 .f32) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg9 : Memref sig .tc .vmem S8x5632 .f32) (harg9 : arg9.IsWhole)
    (x0 : Vec Ideal S1024x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S8x5632 .f32)
theorem inb_up (o : ℕ) (h : o + 256 ≤ 5632) : ∀ a, (![0, o] : Fin 2 → ℕ) a + S1024x256.size a ≤ S1024x5632.size a := Fin.forall_fin_two.mpr ⟨Nat.le_refl 1024, h⟩
theorem inb_cw (r o : ℕ) (hr : r < 3) (h : o + 256 ≤ 5632) : ∀ a, (![r, o] : Fin 2 → ℕ) a + S1x256.size a ≤ S3x5632.size a := Fin.forall_fin_two.mpr ⟨hr, h⟩
theorem inb_cb (o : ℕ) (h : o + 256 ≤ 5632) : ∀ a, (![0, o] : Fin 2 → ℕ) a + S1x256.size a ≤ S1x5632.size a := Fin.forall_fin_two.mpr ⟨Nat.le_refl 1, h⟩
theorem inb_ts (o : ℕ) (h : o + 256 ≤ 5632) : ∀ a, (![0, o] : Fin 2 → ℕ) a + S8x256.size a ≤ S8x5632.size a := Fin.forall_fin_two.mpr ⟨Nat.le_refl 8, h⟩
/-- A chunk's columns, projected up, with the loads as the body makes them. -/
def uv (o : ℕ) (h : o + 256 ≤ 5632) : FVec Ideal S1024x256 .f32 :=
  UP (View.readAt (Elt Ideal) arg1.view (Rect.unit (s := S1024x1024) ![0, 0] S1024x1024.size inb_S1024x1024_S1024x1024_0_0).toLoadRect (harg1.unread x0))
    (View.readAt (Elt Ideal) arg2.view (Rect.unit (s := S1024x5632) ![0, o] S1024x256.size (inb_up o h)).toLoadRect (harg2.unread x1))
/-- A chunk's convolution, with the loads as the body makes them. -/
def hv (o : ℕ) (h : o + 256 ≤ 5632) (tail : Vec Ideal S8x256 .f32) : FVec Ideal S1024x256 .f32 :=
  HV (uv arg1 harg1 arg2 harg2 x0 x1 o h) tail
    (View.readAt (Elt Ideal) arg3.view (Rect.unit (s := S3x5632) ![2, o] S1x256.size (inb_cw 2 o (by decide) h)).toLoadRect (harg3.unread x2))
    (View.readAt (Elt Ideal) arg3.view (Rect.unit (s := S3x5632) ![1, o] S1x256.size (inb_cw 1 o (by decide) h)).toLoadRect (harg3.unread x2))
    (View.readAt (Elt Ideal) arg3.view (Rect.unit (s := S3x5632) ![0, o] S1x256.size (inb_cw 0 o (by decide) h)).toLoadRect (harg3.unread x2))
    (View.readAt (Elt Ideal) arg4.view (Rect.unit (s := S1x5632) ![0, o] S1x256.size (inb_cb o h)).toLoadRect (harg4.unread x3))
/-- A chunk's activation, with the loads as the body makes them. -/
def av (o : ℕ) (h : o + 3072 ≤ 5632) (s t : Vec Ideal S8x256 .f32) : FVec Ideal S1024x256 .bf16 :=
  AC (hv arg1 harg1 arg2 harg2 arg3 harg3 arg4 harg4 x0 x1 x2 x3 o (by omega) s) (hv arg1 harg1 arg2 harg2 arg3 harg3 arg4 harg4 x0 x1 x2 x3 (2816 + o) (by omega) t)

/-- What the body stores, of the tails it loads. -/
def BODY (s0 t0 s1 t1 s2 t2 s3 t3 s4 t4 s5 t5 s6 t6 s7 t7 s8 t8 s9 t9 s10 t10 : Vec Ideal S8x256 .f32) : FVec Ideal S1024x1024 .f32 :=
  LAST (View.readAt (Elt Ideal) arg1.view (Rect.unit (s := S1024x1024) ![0, 0] S1024x1024.size inb_S1024x1024_S1024x1024_0_0).toLoadRect (harg1.unread x0))
    (D6 (G6 (av arg1 harg1 arg2 harg2 arg3 harg3 arg4 harg4 x0 x1 x2 x3 0 (by decide) s0 t0) (av arg1 harg1 arg2 harg2 arg3 harg3 arg4 harg4 x0 x1 x2 x3 256 (by decide) s1 t1) (av arg1 harg1 arg2 harg2 arg3 harg3 arg4 harg4 x0 x1 x2 x3 512 (by decide) s2 t2) (av arg1 harg1 arg2 harg2 arg3 harg3 arg4 harg4 x0 x1 x2 x3 768 (by decide) s3 t3) (av arg1 harg1 arg2 harg2 arg3 harg3 arg4 harg4 x0 x1 x2 x3 1024 (by decide) s4 t4) (av arg1 harg1 arg2 harg2 arg3 harg3 arg4 harg4 x0 x1 x2 x3 1280 (by decide) s5 t5))
      (View.readAt (Elt Ideal) arg5.view (Rect.unit (s := S2816x1024) ![0, 0] S1536x1024.size inb_S2816x1024_S1536x1024_0_0).toLoadRect (harg5.unread x4)))
    (G5 (av arg1 harg1 arg2 harg2 arg3 harg3 arg4 harg4 x0 x1 x2 x3 1536 (by decide) s6 t6) (av arg1 harg1 arg2 harg2 arg3 harg3 arg4 harg4 x0 x1 x2 x3 1792 (by decide) s7 t7) (av arg1 harg1 arg2 harg2 arg3 harg3 arg4 harg4 x0 x1 x2 x3 2048 (by decide) s8 t8) (av arg1 harg1 arg2 harg2 arg3 harg3 arg4 harg4 x0 x1 x2 x3 2304 (by decide) s9 t9) (av arg1 harg1 arg2 harg2 arg3 harg3 arg4 harg4 x0 x1 x2 x3 2560 (by decide) s10 t10))
    (View.readAt (Elt Ideal) arg5.view (Rect.unit (s := S2816x1024) ![1536, 0] S1280x1024.size inb_S2816x1024_S1280x1024_1536_0).toLoadRect (harg5.unread x4))
    (View.readAt (Elt Ideal) arg6.view (Rect.unit (s := S1x1024) ![0, 0] S1x1024.size inb_S1x1024_S1x1024_0_0).toLoadRect (harg6.unread x5))
    (View.readAt (Elt Ideal) arg7.view (Rect.unit (s := S1x1024) ![0, 0] S1x1024.size inb_S1x1024_S1x1024_0_0).toLoadRect (harg7.unread x6))

end
end Cert.MlpIdeal.Exact
end
-- ==== Proof.MRun.lean ====
/- What the MLP kernel's body stores at a grid point. -/
module

public import proofs.«01_k».proof.Proof.MBody

@[expose] public section
noncomputable section
namespace Cert.MlpIdeal.Exact
open Cert.MlpIdeal Cert.MlpIdeal.Gen
open Idealize.ShloMosaic Idealize.ShloMosaic.TcCoe Idealize.ShloMosaic.Tactic
set_option maxRecDepth 16384

section
variable (arg1 : Memref sig .tc .vmem S1024x1024 .f32) (harg1 : arg1.IsWhole) (arg2 : Memref sig .tc .vmem S1024x5632 .bf16) (harg2 : arg2.IsWhole) (arg3 : Memref sig .tc .vmem S3x5632 .f32) (harg3 : arg3.IsWhole) (arg4 : Memref sig .tc .vmem S1x5632 .f32) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg9 : Memref sig .tc .vmem S8x5632 .f32) (harg9 : arg9.IsWhole)
    (x0 : Vec Ideal S1024x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S8x5632 .f32)
variable (c : Dev nD) (i : grid0.Coords) (arg8 : Memref sig .tc .vmem S1024x1024 .f32) (harg8 : arg8.IsWhole)
set_option maxHeartbeats 4000000 in
/-- The second case's store. -/
theorem run_B (hc0 : ¬cond0_0 i) : (kernelRun0_B c i arg1 harg1 arg2 harg2 arg3 harg3 arg4 harg4 arg5 harg5 arg6 harg6 arg7 harg7 arg8 harg8 arg9 harg9 hc0 x0 x1 x2 x3 x4 x5 x6 xs0).1 = [⟨Rect.unit (s := S1024x1024) ![0, 0] S1024x1024.size inb_S1024x1024_S1024x1024_0_0,
    BODY arg1 harg1 arg2 harg2 arg3 harg3 arg4 harg4 arg5 harg5 arg6 harg6 arg7 harg7 x0 x1 x2 x3 x4 x5 x6 (View.readAt (Elt Ideal) arg9.view (Rect.unit (s := S8x5632) ![0, 0] S8x256.size (inb_ts 0 (by decide))).toLoadRect (harg9.unread xs0)) (View.readAt (Elt Ideal) arg9.view (Rect.unit (s := S8x5632) ![0, 2816] S8x256.size (inb_ts 2816 (by decide))).toLoadRect (harg9.unread xs0)) (View.readAt (Elt Ideal) arg9.view (Rect.unit (s := S8x5632) ![0, 256] S8x256.size (inb_ts 256 (by decide))).toLoadRect (harg9.unread xs0)) (View.readAt (Elt Ideal) arg9.view (Rect.unit (s := S8x5632) ![0, 3072] S8x256.size (inb_ts 3072 (by decide))).toLoadRect (harg9.unread xs0)) (View.readAt (Elt Ideal) arg9.view (Rect.unit (s := S8x5632) ![0, 512] S8x256.size (inb_ts 512 (by decide))).toLoadRect (harg9.unread xs0)) (View.readAt (Elt Ideal) arg9.view (Rect.unit (s := S8x5632) ![0, 3328] S8x256.size (inb_ts 3328 (by decide))).toLoadRect (harg9.unread xs0)) (View.readAt (Elt Ideal) arg9.view (Rect.unit (s := S8x5632) ![0, 768] S8x256.size (inb_ts 768 (by decide))).toLoadRect (harg9.unread xs0)) (View.readAt (Elt Ideal) arg9.view (Rect.unit (s := S8x5632) ![0, 3584] S8x256.size (inb_ts 3584 (by decide))).toLoadRect (harg9.unread xs0)) (View.readAt (Elt Ideal) arg9.view (Rect.unit (s := S8x5632) ![0, 1024] S8x256.size (inb_ts 1024 (by decide))).toLoadRect (harg9.unread xs0)) (View.readAt (Elt Ideal) arg9.view (Rect.unit (s := S8x5632) ![0, 3840] S8x256.size (inb_ts 3840 (by decide))).toLoadRect (harg9.unread xs0)) (View.readAt (Elt Ideal) arg9.view (Rect.unit (s := S8x5632) ![0, 1280] S8x256.size (inb_ts 1280 (by decide))).toLoadRect (harg9.unread xs0)) (View.readAt (Elt Ideal) arg9.view (Rect.unit (s := S8x5632) ![0, 4096] S8x256.size (inb_ts 4096 (by decide))).toLoadRect (harg9.unread xs0)) (View.readAt (Elt Ideal) arg9.view (Rect.unit (s := S8x5632) ![0, 1536] S8x256.size (inb_ts 1536 (by decide))).toLoadRect (harg9.unread xs0)) (View.readAt (Elt Ideal) arg9.view (Rect.unit (s := S8x5632) ![0, 4352] S8x256.size (inb_ts 4352 (by decide))).toLoadRect (harg9.unread xs0)) (View.readAt (Elt Ideal) arg9.view (Rect.unit (s := S8x5632) ![0, 1792] S8x256.size (inb_ts 1792 (by decide))).toLoadRect (harg9.unread xs0)) (View.readAt (Elt Ideal) arg9.view (Rect.unit (s := S8x5632) ![0, 4608] S8x256.size (inb_ts 4608 (by decide))).toLoadRect (harg9.unread xs0)) (View.readAt (Elt Ideal) arg9.view (Rect.unit (s := S8x5632) ![0, 2048] S8x256.size (inb_ts 2048 (by decide))).toLoadRect (harg9.unread xs0)) (View.readAt (Elt Ideal) arg9.view (Rect.unit (s := S8x5632) ![0, 4864] S8x256.size (inb_ts 4864 (by decide))).toLoadRect (harg9.unread xs0)) (View.readAt (Elt Ideal) arg9.view (Rect.unit (s := S8x5632) ![0, 2304] S8x256.size (inb_ts 2304 (by decide))).toLoadRect (harg9.unread xs0)) (View.readAt (Elt Ideal) arg9.view (Rect.unit (s := S8x5632) ![0, 5120] S8x256.size (inb_ts 5120 (by decide))).toLoadRect (harg9.unread xs0)) (View.readAt (Elt Ideal) arg9.view (Rect.unit (s := S8x5632) ![0, 2560] S8x256.size (inb_ts 2560 (by decide))).toLoadRect (harg9.unread xs0)) (View.readAt (Elt Ideal) arg9.view (Rect.unit (s := S8x5632) ![0, 5376] S8x256.size (inb_ts 5376 (by decide))).toLoadRect (harg9.unread xs0))⟩] := by
  sl_kernel_rfl

set_option maxHeartbeats 4000000 in
/-- The first case's store. -/
theorem run_A (hc0 : cond0_0 i) : (kernelRun0_A c i arg1 harg1 arg2 harg2 arg3 harg3 arg4 harg4 arg5 harg5 arg6 harg6 arg7 harg7 arg8 harg8 arg9 harg9 hc0 x0 x1 x2 x3 x4 x5 x6).1 = [⟨Rect.unit (s := S1024x1024) ![0, 0] S1024x1024.size inb_S1024x1024_S1024x1024_0_0,
    BODY arg1 harg1 arg2 harg2 arg3 harg3 arg4 harg4 arg5 harg5 arg6 harg6 arg7 harg7 x0 x1 x2 x3 x4 x5 x6 (arg9.view.readCov (kernelRun0_A.sl.HS0_1) (Rect.unit (s := S8x5632) ![0, 0] S8x256.size (inb_ts 0 (by decide))).toLoadRect) (arg9.view.readCov (kernelRun0_A.sl.HS0_2 c arg1 harg1 arg2 harg2 x0 x1) (Rect.unit (s := S8x5632) ![0, 2816] S8x256.size (inb_ts 2816 (by decide))).toLoadRect) (arg9.view.readCov (kernelRun0_A.sl.HS0_3 c arg1 harg1 arg2 harg2 x0 x1) (Rect.unit (s := S8x5632) ![0, 256] S8x256.size (inb_ts 256 (by decide))).toLoadRect) (arg9.view.readCov (kernelRun0_A.sl.HS0_4 c arg1 harg1 arg2 harg2 x0 x1) (Rect.unit (s := S8x5632) ![0, 3072] S8x256.size (inb_ts 3072 (by decide))).toLoadRect) (arg9.view.readCov (kernelRun0_A.sl.HS0_5 c arg1 harg1 arg2 harg2 x0 x1) (Rect.unit (s := S8x5632) ![0, 512] S8x256.size (inb_ts 512 (by decide))).toLoadRect) (arg9.view.readCov (kernelRun0_A.sl.HS0_6 c arg1 harg1 arg2 harg2 x0 x1) (Rect.unit (s := S8x5632) ![0, 3328] S8x256.size (inb_ts 3328 (by decide))).toLoadRect) (arg9.view.readCov (kernelRun0_A.sl.HS0_7 c arg1 harg1 arg2 harg2 x0 x1) (Rect.unit (s := S8x5632) ![0, 768] S8x256.size (inb_ts 768 (by decide))).toLoadRect) (arg9.view.readCov (kernelRun0_A.sl.HS0_8 c arg1 harg1 arg2 harg2 x0 x1) (Rect.unit (s := S8x5632) ![0, 3584] S8x256.size (inb_ts 3584 (by decide))).toLoadRect) (arg9.view.readCov (kernelRun0_A.sl.HS0_9 c arg1 harg1 arg2 harg2 x0 x1) (Rect.unit (s := S8x5632) ![0, 1024] S8x256.size (inb_ts 1024 (by decide))).toLoadRect) (arg9.view.readCov (kernelRun0_A.sl.HS0_10 c arg1 harg1 arg2 harg2 x0 x1) (Rect.unit (s := S8x5632) ![0, 3840] S8x256.size (inb_ts 3840 (by decide))).toLoadRect) (arg9.view.readCov (kernelRun0_A.sl.HS0_11 c arg1 harg1 arg2 harg2 x0 x1) (Rect.unit (s := S8x5632) ![0, 1280] S8x256.size (inb_ts 1280 (by decide))).toLoadRect) (arg9.view.readCov (kernelRun0_A.sl.HS0_12 c arg1 harg1 arg2 harg2 x0 x1) (Rect.unit (s := S8x5632) ![0, 4096] S8x256.size (inb_ts 4096 (by decide))).toLoadRect) (arg9.view.readCov (kernelRun0_A.sl.HS0_13 c arg1 harg1 arg2 harg2 x0 x1) (Rect.unit (s := S8x5632) ![0, 1536] S8x256.size (inb_ts 1536 (by decide))).toLoadRect) (arg9.view.readCov (kernelRun0_A.sl.HS0_14 c arg1 harg1 arg2 harg2 x0 x1) (Rect.unit (s := S8x5632) ![0, 4352] S8x256.size (inb_ts 4352 (by decide))).toLoadRect) (arg9.view.readCov (kernelRun0_A.sl.HS0_15 c arg1 harg1 arg2 harg2 x0 x1) (Rect.unit (s := S8x5632) ![0, 1792] S8x256.size (inb_ts 1792 (by decide))).toLoadRect) (arg9.view.readCov (kernelRun0_A.sl.HS0_16 c arg1 harg1 arg2 harg2 x0 x1) (Rect.unit (s := S8x5632) ![0, 4608] S8x256.size (inb_ts 4608 (by decide))).toLoadRect) (arg9.view.readCov (kernelRun0_A.sl.HS0_17 c arg1 harg1 arg2 harg2 x0 x1) (Rect.unit (s := S8x5632) ![0, 2048] S8x256.size (inb_ts 2048 (by decide))).toLoadRect) (arg9.view.readCov (kernelRun0_A.sl.HS0_18 c arg1 harg1 arg2 harg2 x0 x1) (Rect.unit (s := S8x5632) ![0, 4864] S8x256.size (inb_ts 4864 (by decide))).toLoadRect) (arg9.view.readCov (kernelRun0_A.sl.HS0_19 c arg1 harg1 arg2 harg2 x0 x1) (Rect.unit (s := S8x5632) ![0, 2304] S8x256.size (inb_ts 2304 (by decide))).toLoadRect) (arg9.view.readCov (kernelRun0_A.sl.HS0_20 c arg1 harg1 arg2 harg2 x0 x1) (Rect.unit (s := S8x5632) ![0, 5120] S8x256.size (inb_ts 5120 (by decide))).toLoadRect) (arg9.view.readCov (kernelRun0_A.sl.HS0_21 c arg1 harg1 arg2 harg2 x0 x1) (Rect.unit (s := S8x5632) ![0, 2560] S8x256.size (inb_ts 2560 (by decide))).toLoadRect) (arg9.view.readCov (kernelRun0_A.sl.HS0_22 c arg1 harg1 arg2 harg2 x0 x1) (Rect.unit (s := S8x5632) ![0, 5376] S8x256.size (inb_ts 5376 (by decide))).toLoadRect)⟩] := by
  sl_kernel_rfl
end
end Cert.MlpIdeal.Exact
end
-- ==== Proof.MSpec.lean ====
/- The convolutional MLP, element by element, in plain sums. -/
module

public import proofs.«01_k».proof.Proof.Spec
public import Idealize.ShloMosaic.PureOps
public import Idealize.ShloMosaic.Lib.ValueIdxCore
public import Mathlib.Tactic.Ring
public import Mathlib.Tactic.NormNum

@[expose] public section
noncomputable section
namespace Cert.MSpec
open Idealize.ShloMosaic
set_option maxRecDepth 16384

/-- A value that is neither infinity. -/
def Fin' (x : EReal) : Prop := ∃ r : ℝ, x = (r : EReal)
theorem fin_add {x y : EReal} (hx : Fin' x) (hy : Fin' y) : Fin' (x + y) := by
  obtain ⟨a, rfl⟩ := hx; obtain ⟨b, rfl⟩ := hy; exact ⟨a + b, (EReal.coe_add a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_zero : Fin' 0 := ⟨0, rfl⟩
theorem fin_sum {n : ℕ} (f : Fin n → EReal) (h : ∀ i, Fin' (f i)) : Fin' (∑ i, f i) := by
  choose g hg using h
  exact ⟨∑ i, g i, by rw [funext hg]; exact (map_sum (⟨⟨fun r : ℝ => (r : EReal), rfl⟩, EReal.coe_add⟩ : ℝ →+ EReal) g Finset.univ).symm⟩

/-- One half. -/
abbrev HF : EReal := Ideal.ofBits .f32 1056964608#32
/-- The scale inside the hyperbolic tangent. -/
abbrev C0 : EReal := Ideal.ofBits .f32 1061962282#32
/-- The weight of the cube. -/
abbrev C3 : EReal := Ideal.ofBits .f32 1027024659#32
/-- The product of the two, as the kernel's name holds it. -/
abbrev CK : EReal := ((80338380498831 / 2251799813685248 : ℝ) : EReal)
/-- The residual's scale. -/
abbrev AL : EReal := Ideal.ofBits .f32 1068827891#32
/-- The width. -/
abbrev CN : EReal := Ideal.ofBits .f32 1149239296#32
/-- The normalization's small constant. -/
abbrev EP : EReal := Ideal.ofBits .f32 925353388#32
theorem HF_eq : HF = ((1 / 2 : ℝ) : EReal) := by
  simp [HF, Ideal.ofBits, Ideal.ieee]; rw [← EReal.coe_mul]; norm_num
theorem C0_eq : C0 = ((13386282 / 2 ^ 24 : ℝ) : EReal) := by
  simp [C0, Ideal.ofBits, Ideal.ieee]; rw [← EReal.coe_mul]; norm_num
theorem C3_eq : C3 = ((12003091 / 2 ^ 28 : ℝ) : EReal) := by
  simp [C3, Ideal.ofBits, Ideal.ieee]; rw [← EReal.coe_mul]; norm_num

/-- The activation as the reference writes it. -/
def gelu (y : EReal) : EReal := y * (HF * (1 + Ideal.tanh (C0 * (y + C3 * (y * y * y)))))
/-- The activation as the kernel writes it. -/
def geluK (y : EReal) : EReal := HF * y + HF * y * Ideal.tanh (y * (C0 + CK * (y * y)))
/-- Of a finite value the two are one. -/
theorem gelu_eq {y : EReal} (h : Fin' y) : geluK y = gelu y := by
  obtain ⟨r, rfl⟩ := h
  have e1 : (r : EReal) * (C0 + CK * ((r : EReal) * r)) = ((r * (13386282 / 2 ^ 24 + 80338380498831 / 2251799813685248 * (r * r)) : ℝ) : EReal) := by
    rw [C0_eq]; simp only [EReal.coe_mul, EReal.coe_add]
  have e2 : C0 * ((r : EReal) + C3 * ((r : EReal) * r * r)) = ((13386282 / 2 ^ 24 * (r + 12003091 / 2 ^ 28 * (r * r * r)) : ℝ) : EReal) := by
    rw [C0_eq, C3_eq]; simp only [EReal.coe_mul, EReal.coe_add]
  have e3 : (13386282 / 2 ^ 24 * (r + 12003091 / 2 ^ 28 * (r * r * r)) : ℝ) = r * (13386282 / 2 ^ 24 + 80338380498831 / 2251799813685248 * (r * r)) := by ring
  unfold geluK gelu
  rw [e1, e2, e3, HF_eq]
  show ((1 / 2 : ℝ) : EReal) * r + ((1 / 2 : ℝ) : EReal) * r * (Real.tanh _ : EReal) = r * (((1 / 2 : ℝ) : EReal) * (((1 : ℝ) : EReal) + (Real.tanh _ : EReal)))
  simp only [← EReal.coe_mul, ← EReal.coe_add]
  exact congrArg _ (by ring)

/-- The row `d` above, zero above the first. -/
def back (U : Fin 2048 → EReal) (d : ℕ) (t : Fin 2048) : EReal := if _h : d ≤ t.val then U ⟨t.val - d, by omega⟩ else 0
/-- The causal convolution of three rows. -/
def conv (U : Fin 2048 → EReal) (w : Fin 3 → EReal) (b : EReal) (t : Fin 2048) : EReal :=
  w 0 * back U 2 t + w 1 * back U 1 t + w 2 * U t + b
/-- The mean of a row. -/
def mean (z : Fin 1024 → EReal) : EReal := Ideal.div (∑ x, z x) CN
/-- The layer normalization of a row. -/
def lnv (z g b : Fin 1024 → EReal) (n : Fin 1024) : EReal :=
  (z n - mean z) * Ideal.rsqrt (Ideal.div (∑ x, (z x - mean z) * (z x - mean z)) CN + EP) * g n + b n
section
variable (H : Fin 2048 → Fin 1024 → EReal) (W : Fin 1024 → Fin 5632 → EReal) (cw : Fin 3 → Fin 5632 → EReal) (cb : Fin 5632 → EReal)
  (D : Fin 2816 → Fin 1024 → EReal) (g b : Fin 1024 → EReal)
/-- The up projection of a batch, by column and row. -/
def up (j : Fin 5632) (t : Fin 2048) : EReal := ∑ k : Fin 1024, H t k * W k j
/-- A column's convolution. -/
def cv (j : Fin 5632) (t : Fin 2048) : EReal := conv (up H W j) (fun i => cw i j) (cb j) t
/-- A gated activation, of an activation function. -/
def act (G : EReal → EReal) (t : Fin 2048) (f : Fin 2816) : EReal :=
  G (cv H W cw cb ⟨f.val, by omega⟩ t) * cv H W cw cb ⟨2816 + f.val, by omega⟩ t
/-- The layer's output. -/
def out (G : EReal → EReal) (t : Fin 2048) (n : Fin 1024) : EReal :=
  lnv (fun x => AL * H t x + ∑ f, act H W cw cb G t f * D f x) g b n

theorem fin_cv (hH : ∀ t k, Fin' (H t k)) (hW : ∀ k j, Fin' (W k j)) (hw : ∀ i j, Fin' (cw i j)) (hb : ∀ j, Fin' (cb j)) (j : Fin 5632) (t : Fin 2048) : Fin' (cv H W cw cb j t) := by
  have hu : ∀ t, Fin' (up H W j t) := fun t => fin_sum _ fun k => fin_mul (hH t k) (hW k j)
  have hk : ∀ d, Fin' (back (up H W j) d t) := fun d => by
    unfold back; split
    · exact hu _
    · exact fin_zero
  exact fin_add (fin_add (fin_add (fin_mul (hw 0 j) (hk 2)) (fin_mul (hw 1 j) (hk 1))) (fin_mul (hw 2 j) (hu t))) (hb j)
/-- Of finite operands the output is the same with either activation. -/
theorem out_gelu (hH : ∀ t k, Fin' (H t k)) (hW : ∀ k j, Fin' (W k j)) (hw : ∀ i j, Fin' (cw i j)) (hb : ∀ j, Fin' (cb j)) (t : Fin 2048) (n : Fin 1024) :
    out H W cw cb D g b geluK t n = out H W cw cb D g b gelu t n := by
  unfold out act
  simp only [gelu_eq (fin_cv H W cw cb hH hW hw hb _ t)]
end
end Cert.MSpec
end
-- ==== Proof.MVal.lean ====
/- The value the MLP kernel's body stores, element by element. -/
module

public import proofs.«01_k».proof.Proof.MBody
public import proofs.«01_k».proof.Proof.MSpec
public import proofs.«01_k».proof.Proof.Words
public import Idealize.ShloMosaic.Lib.IdealHost
public import Idealize.ShloMosaic.Lib.WholeRead

@[expose] public section
noncomputable section
namespace Cert.MlpIdeal.Exact
open Cert.MlpIdeal Cert.MlpIdeal.Gen
open Idealize.ShloMosaic Idealize.ShloMosaic.TcCoe Idealize.ShloMosaic.Tactic
open Cert.MSpec Cert.Words
set_option maxRecDepth 16384

theorem UP_at (h : Vec Ideal S1024x1024 .f32) (w : Vec Ideal S1024x256 .bf16) (p : Fin 1024) (q : Fin 256) : UP h w (ix2 p q) = (∑ k : Fin 1024, h (ix2 p k) * w (ix2 k q) : EReal) := by
  pointwise [UP]
/-- The rows one above. -/
theorem DEL1_at (u : FVec Ideal S1024x256 .f32) (tail : Vec Ideal S8x256 .f32) (p : Fin 1024) (q : Fin 256) :
    DEL 1#32 u tail (ix2 p q) = (if h : 1 ≤ p.val then u (ix2 (⟨p.val - 1, by omega⟩ : Fin 1024) q) else tail (ix2 (⟨7, by omega⟩ : Fin 8) q) : EReal) := by
  pointwise [DEL]
  by_cases h8 : p.val < 8
  · rw [dif_pos h8]
    have e : IntOp.cmpi .slt (BitVec.ofNat 32 p.val) 1#32 = BitVec.ofBool (decide (p.val < 1)) := by word_omega
    refine (congrArg (fun z => Scalar.select z _ _) e).trans ((select_ofBool _ _ _).trans ?_)
    by_cases h1 : p.val < 1
    · rw [if_pos h1, dif_neg (by omega)]
      exact congrArg (fun z : Fin 8 => (tail (ix2 z q) : EReal)) (Fin.ext (by show (p.val + 8 - 1) % 8 = 7; omega))
    · rw [if_neg h1, dif_pos (by omega)]
      exact congrArg (fun z : Fin 1024 => (u (ix2 z q) : EReal)) (Fin.ext (by show (p.val + 1024 - 1) % 1024 = p.val - 1; omega))
  · rw [dif_neg h8, dif_pos (by omega)]
    exact congrArg (fun z : Fin 1024 => (u (ix2 z q) : EReal)) (Fin.ext (by show (8 + (p.val - 8) + 1024 - 1) % 1024 = p.val - 1; omega))
/-- The rows two above. -/
theorem DEL2_at (u : FVec Ideal S1024x256 .f32) (tail : Vec Ideal S8x256 .f32) (p : Fin 1024) (q : Fin 256) :
    DEL 2#32 u tail (ix2 p q) = (if h : 2 ≤ p.val then u (ix2 (⟨p.val - 2, by omega⟩ : Fin 1024) q) else tail (ix2 (⟨(6 + p.val) % 8, by omega⟩ : Fin 8) q) : EReal) := by
  pointwise [DEL]
  by_cases h8 : p.val < 8
  · rw [dif_pos h8]
    have e : IntOp.cmpi .slt (BitVec.ofNat 32 p.val) 2#32 = BitVec.ofBool (decide (p.val < 2)) := by word_omega
    refine (congrArg (fun z => Scalar.select z _ _) e).trans ((select_ofBool _ _ _).trans ?_)
    by_cases h1 : p.val < 2
    · rw [if_pos h1, dif_neg (by omega)]
      exact congrArg (fun z : Fin 8 => (tail (ix2 z q) : EReal)) (Fin.ext (by show (p.val + 8 - 2) % 8 = (6 + p.val) % 8; omega))
    · rw [if_neg h1, dif_pos (by omega)]
      exact congrArg (fun z : Fin 1024 => (u (ix2 z q) : EReal)) (Fin.ext (by show (p.val + 1024 - 2) % 1024 = p.val - 2; omega))
  · rw [dif_neg h8, dif_pos (by omega)]
    exact congrArg (fun z : Fin 1024 => (u (ix2 z q) : EReal)) (Fin.ext (by show (8 + (p.val - 8) + 1024 - 2) % 1024 = p.val - 2; omega))
theorem HV_at (u : FVec Ideal S1024x256 .f32) (tail : Vec Ideal S8x256 .f32) (w2 w1 w0 b : Vec Ideal S1x256 .f32) (D1 D2 : FVec Ideal S1024x256 .f32) (e1 : DEL 1#32 u tail = D1) (e2 : DEL 2#32 u tail = D2) (p : Fin 1024) (q : Fin 256) :
    HV u tail w2 w1 w0 b (ix2 p q) = (w2 (ix2 0 q) * u (ix2 p q) + w1 (ix2 0 q) * D1 (ix2 p q) + w0 (ix2 0 q) * D2 (ix2 p q) + b (ix2 0 q) : EReal) := by
  unfold HV
  rw [e1, e2]
  pointwise
theorem AC_at (y c : FVec Ideal S1024x256 .f32) (p : Fin 1024) (q : Fin 256) : AC y c (ix2 p q) = (geluK (y (ix2 p q)) * c (ix2 p q) : EReal) := by
  pointwise [AC]
  rw [show (Named.named κ "cubic" 1024598649#32 : Ideal .f32) = CK from IdealRules.named_const.ideal_named_scalar _ _ _ _ rfl]
  rfl
theorem D6_at (a : FVec Ideal S1024x1536 .bf16) (w : Vec Ideal S1536x1024 .bf16) (p n : Fin 1024) : D6 a w (ix2 p n) = (∑ f : Fin 1536, a (ix2 p f) * w (ix2 f n) : EReal) := by
  pointwise [D6]
/-- The six chunks of the first group, one array. -/
theorem G6_at (a : Fin 6 → FVec Ideal S1024x256 .bf16) (A : Fin 2816 → EReal) (p : Fin 1024) (ha : ∀ (i : Fin 6) (q : Fin 256), a i (ix2 p q) = A ⟨256 * i.val + q.val, by omega⟩) (f : Fin 1536) :
    G6 (a 0) (a 1) (a 2) (a 3) (a 4) (a 5) (ix2 p f) = A ⟨f.val, by omega⟩ := by
  pointwise [G6]
  have key : ∀ (i : Fin 6) (q : Fin 256), 256 * i.val + q.val = f.val → a i (ix2 p q) = A ⟨f.val, by omega⟩ := fun i q h =>
    (ha i q).trans (congrArg A (Fin.ext h))
  by_cases h0 : f.val < 256
  · rw [dif_pos h0]; exact key 0 _ (by show 256 * 0 + f.val = f.val; omega)
  rw [dif_neg h0]
  by_cases h1 : f.val - 256 < 256
  · rw [dif_pos h1]; exact key 1 _ (by show 256 * 1 + (f.val - 256) = f.val; omega)
  rw [dif_neg h1]
  by_cases h2 : f.val - 256 - 256 < 256
  · rw [dif_pos h2]; exact key 2 _ (by show 256 * 2 + (f.val - 256 - 256) = f.val; omega)
  rw [dif_neg h2]
  by_cases h3 : f.val - 256 - 256 - 256 < 256
  · rw [dif_pos h3]; exact key 3 _ (by show 256 * 3 + (f.val - 256 - 256 - 256) = f.val; omega)
  rw [dif_neg h3]
  by_cases h4 : f.val - 256 - 256 - 256 - 256 < 256
  · rw [dif_pos h4]; exact key 4 _ (by show 256 * 4 + (f.val - 256 - 256 - 256 - 256) = f.val; omega)
  rw [dif_neg h4]
  exact key 5 _ (by show 256 * 5 + (f.val - 256 - 256 - 256 - 256 - 256) = f.val; omega)
/-- The five chunks of the second group, one array. -/
theorem G5_at (a : Fin 5 → FVec Ideal S1024x256 .bf16) (A : Fin 2816 → EReal) (p : Fin 1024) (ha : ∀ (i : Fin 5) (q : Fin 256), a i (ix2 p q) = A ⟨1536 + (256 * i.val + q.val), by omega⟩) (f : Fin 1280) :
    G5 (a 0) (a 1) (a 2) (a 3) (a 4) (ix2 p f) = A ⟨1536 + f.val, by omega⟩ := by
  pointwise [G5]
  have key : ∀ (i : Fin 5) (q : Fin 256), 256 * i.val + q.val = f.val → a i (ix2 p q) = A ⟨1536 + f.val, by omega⟩ := fun i q h =>
    (ha i q).trans (congrArg A (Fin.ext (congrArg (1536 + ·) h)))
  by_cases h0 : f.val < 256
  · rw [dif_pos h0]; exact key 0 _ (by show 256 * 0 + f.val = f.val; omega)
  rw [dif_neg h0]
  by_cases h1 : f.val - 256 < 256
  · rw [dif_pos h1]; exact key 1 _ (by show 256 * 1 + (f.val - 256) = f.val; omega)
  rw [dif_neg h1]
  by_cases h2 : f.val - 256 - 256 < 256
  · rw [dif_pos h2]; exact key 2 _ (by show 256 * 2 + (f.val - 256 - 256) = f.val; omega)
  rw [dif_neg h2]
  by_cases h3 : f.val - 256 - 256 - 256 < 256
  · rw [dif_pos h3]; exact key 3 _ (by show 256 * 3 + (f.val - 256 - 256 - 256) = f.val; omega)
  rw [dif_neg h3]
  exact key 4 _ (by show 256 * 4 + (f.val - 256 - 256 - 256 - 256) = f.val; omega)
theorem p125_at (h : Vec Ideal S1024x1024 .f32) (d : FVec Ideal S1024x1024 .f32) (a : FVec Ideal S1024x1280 .bf16) (w : Vec Ideal S1280x1024 .bf16) (z : Fin 1024 → EReal) (p : Fin 1024)
    (hz : ∀ n : Fin 1024, (AL * h (ix2 p n) + (d (ix2 p n) + ∑ y : Fin 1280, a (ix2 p y) * w (ix2 y n)) : EReal) = z n) (n : Fin 1024) :
    k0_pay125 (k0_pay3 h) d a w (ix2 p n) = (z n - mean z : EReal) := by
  have e : k0_pay125 (k0_pay3 h) d a w (ix2 p n) = (AL * h (ix2 p n) + (d (ix2 p n) + ∑ y : Fin 1280, a (ix2 p y) * w (ix2 y n))
      - Ideal.div (∑ x : Fin 1024, (AL * h (ix2 p x) + (d (ix2 p x) + ∑ y : Fin 1280, a (ix2 p y) * w (ix2 y x)))) CN : EReal) := by
    pointwise [k0_pay125, k0_pay3]
  rw [e]
  simp only [hz]
  rfl
theorem p126_at (h : Vec Ideal S1024x1024 .f32) (d : FVec Ideal S1024x1024 .f32) (a : FVec Ideal S1024x1280 .bf16) (w : Vec Ideal S1280x1024 .bf16) (x : FVec Ideal S1024x1024 .f32) (hx : k0_pay125 (k0_pay3 h) d a w = x) (p : Fin 1024) :
    k0_pay126 (k0_pay3 h) d a w (ix2 p 0) = (Ideal.div (∑ y : Fin 1024, x (ix2 p y) * x (ix2 p y)) CN : EReal) := by
  unfold k0_pay126
  rw [hx]
  pointwise
theorem p1_at (g b : Vec Ideal S1x1024 .f32) (x : FVec Ideal S1024x1024 .f32) (v : FVec Ideal S1024x1 .f32) (p n : Fin 1024) :
    k0_pay1 (k0_pay123 g) (k0_pay124 b) x v k0_pay127 (ix2 p n) = (x (ix2 p n) * Ideal.rsqrt (v (ix2 p 0) + EP) * g (ix2 0 n) + b (ix2 0 n) : EReal) := by
  pointwise [k0_pay1, k0_pay123, k0_pay124, k0_pay127]
/-- What the body stores is the layer normalization of the residual sum. -/
theorem LAST_at (h : Vec Ideal S1024x1024 .f32) (d : FVec Ideal S1024x1024 .f32) (a : FVec Ideal S1024x1280 .bf16) (w : Vec Ideal S1280x1024 .bf16) (g b : Vec Ideal S1x1024 .f32) (z : Fin 1024 → EReal) (p : Fin 1024)
    (hz : ∀ n : Fin 1024, (AL * h (ix2 p n) + (d (ix2 p n) + ∑ y : Fin 1280, a (ix2 p y) * w (ix2 y n)) : EReal) = z n) (n : Fin 1024) :
    LAST h d a w g b (ix2 p n) = (lnv z (fun n => g (ix2 0 n)) (fun n => b (ix2 0 n)) n : EReal) := by
  unfold LAST
  refine (p1_at g b _ _ p n).trans ?_
  rw [p126_at h d a w _ rfl p]
  simp only [p125_at h d a w z p hz]
  rfl

/-- The eight rows before a tile, zero before the first. -/
def tl (U : Fin 2048 → EReal) (r : ℕ) (s : Fin 8) : EReal := if r = 1 then U ⟨1016 + s.val, by omega⟩ else 0
/-- A load of a rectangle reads the array at the rectangle's place. -/
theorem idx_at (M N P Q r o : ℕ) (inb : ∀ a, (![r, o] : Fin 2 → ℕ) a + (⟨2, ![P, Q]⟩ : Shape).size a ≤ (⟨2, ![M, N]⟩ : Shape).size a) (k : Fin P) (q : Fin Q) (hr : r + k.val < M) (ho : o + q.val < N) :
    ((Rect.unit (s := (⟨2, ![M, N]⟩ : Shape)) ![r, o] (⟨2, ![P, Q]⟩ : Shape).size inb).toLoadRect.idx (ix2 k q) : (⟨2, ![M, N]⟩ : Shape).Idx) = ix2 ⟨r + k.val, hr⟩ ⟨o + q.val, ho⟩ := by
  funext a
  fin_cases a
  · exact Fin.ext (by show r + 1 * k.val = r + k.val; omega)
  · exact Fin.ext (by show o + 1 * q.val = o + q.val; omega)
/-- The same of a memref held whole. -/
theorem rd (M N P Q r o : ℕ) {e : EltTy} (a : Memref sig .tc .vmem (⟨2, ![M, N]⟩ : Shape) e) (ha : a.IsWhole) (x : (⟨2, ![M, N]⟩ : Shape).Idx → Elt Ideal e)
    (inb : ∀ a, (![r, o] : Fin 2 → ℕ) a + (⟨2, ![P, Q]⟩ : Shape).size a ≤ (⟨2, ![M, N]⟩ : Shape).size a) (k : Fin P) (q : Fin Q) (hr : r + k.val < M) (ho : o + q.val < N) :
    View.readAt (Elt Ideal) a.view (Rect.unit (s := (⟨2, ![M, N]⟩ : Shape)) ![r, o] (⟨2, ![P, Q]⟩ : Shape).size inb).toLoadRect (ha.unread x) (ix2 k q) = x (ix2 ⟨r + k.val, hr⟩ ⟨o + q.val, ho⟩) :=
  (Memref.IsWhole.readAt_unread ha x _ _).trans (congrArg x (idx_at M N P Q r o inb k q hr ho))

/-- A tile's row lies within its batch. -/
theorem rlt {r : ℕ} (hr : r < 2) (p : Fin 1024) : 1024 * r + p.val < 2048 := by omega

section
variable (arg1 : Memref sig .tc .vmem S1024x1024 .f32) (harg1 : arg1.IsWhole) (arg2 : Memref sig .tc .vmem S1024x5632 .bf16) (harg2 : arg2.IsWhole) (arg3 : Memref sig .tc .vmem S3x5632 .f32) (harg3 : arg3.IsWhole) (arg4 : Memref sig .tc .vmem S1x5632 .f32) (harg4 : arg4.IsWhole)
    (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole)
    (x0 : Vec Ideal S1024x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32)
    (H : Fin 2048 → Fin 1024 → EReal) (W : Fin 1024 → Fin 5632 → EReal) (cw : Fin 3 → Fin 5632 → EReal) (cb : Fin 5632 → EReal)
    (D : Fin 2816 → Fin 1024 → EReal) (g b : Fin 1024 → EReal) (r : ℕ) (hr : r < 2)
    (h0 : ∀ (p k : Fin 1024), x0 (ix2 p k) = H ⟨1024 * r + p.val, rlt hr p⟩ k) (h1 : ∀ (k : Fin 1024) (j : Fin 5632), x1 (ix2 k j) = W k j) (h2 : ∀ (i : Fin 3) (j : Fin 5632), x2 (ix2 i j) = cw i j)
    (h3 : ∀ j : Fin 5632, x3 (ix2 0 j) = cb j) (h4 : ∀ (f : Fin 2816) (n : Fin 1024), x4 (ix2 f n) = D f n) (h5 : ∀ n : Fin 1024, x5 (ix2 0 n) = g n) (h6 : ∀ n : Fin 1024, x6 (ix2 0 n) = b n)
include h0 h1 in
theorem uv_at (o : ℕ) (h : o + 256 ≤ 5632) (p : Fin 1024) (q : Fin 256) :
    uv arg1 harg1 arg2 harg2 x0 x1 o h (ix2 p q) = (up H W ⟨o + q.val, by omega⟩ ⟨1024 * r + p.val, rlt hr p⟩ : EReal) := by
  unfold uv up
  refine (UP_at _ _ p q).trans (Finset.sum_congr rfl fun k _ => ?_)
  refine congrArg₂ (fun (y z : EReal) => y * z) ?_ ?_
  · refine (rd 1024 1024 1024 1024 0 0 arg1 harg1 x0 _ p k (by omega) (by omega)).trans ((h0 _ _).trans ?_)
    exact congrArg₂ H (Fin.ext (by show 1024 * r + (0 + p.val) = 1024 * r + p.val; omega)) (Fin.ext (by show 0 + k.val = k.val; omega))
  · refine (rd 1024 5632 1024 256 0 o arg2 harg2 x1 _ k q (by omega) (by omega)).trans ((h1 _ _).trans ?_)
    exact congrArg (W · _) (Fin.ext (by show 0 + k.val = k.val; omega))
include h0 h1 h2 h3 in
theorem hv_at (o : ℕ) (h : o + 256 ≤ 5632) (tail : Vec Ideal S8x256 .f32) (ht : ∀ (s : Fin 8) (q : Fin 256), tail (ix2 s q) = tl (up H W ⟨o + q.val, by omega⟩) r s) (p : Fin 1024) (q : Fin 256) :
    hv arg1 harg1 arg2 harg2 arg3 harg3 arg4 harg4 x0 x1 x2 x3 o h tail (ix2 p q) = (cv H W cw cb ⟨o + q.val, by omega⟩ ⟨1024 * r + p.val, rlt hr p⟩ : EReal) := by
  have hu := uv_at arg1 harg1 arg2 harg2 x0 x1 H W r hr h0 h1 o h
  have e1 : DEL 1#32 (uv arg1 harg1 arg2 harg2 x0 x1 o h) tail (ix2 p q) = back (up H W ⟨o + q.val, by omega⟩) 1 ⟨1024 * r + p.val, rlt hr p⟩ := by
    refine (DEL1_at _ _ p q).trans ?_
    unfold back
    by_cases hp : 1 ≤ p.val
    · rw [dif_pos hp, dif_pos (by show 1 ≤ 1024 * r + p.val; omega)]
      exact (hu _ q).trans (congrArg _ (Fin.ext (by show 1024 * r + (p.val - 1) = 1024 * r + p.val - 1; omega)))
    · rw [dif_neg hp, ht]
      unfold tl
      by_cases h1 : r = 1
      · rw [if_pos h1, dif_pos (by show 1 ≤ 1024 * r + p.val; omega)]
        exact congrArg _ (Fin.ext (by show 1016 + 7 = 1024 * r + p.val - 1; omega))
      · rw [if_neg h1, dif_neg (by show ¬ 1 ≤ 1024 * r + p.val; omega)]
  have e2 : DEL 2#32 (uv arg1 harg1 arg2 harg2 x0 x1 o h) tail (ix2 p q) = back (up H W ⟨o + q.val, by omega⟩) 2 ⟨1024 * r + p.val, rlt hr p⟩ := by
    refine (DEL2_at _ _ p q).trans ?_
    unfold back
    by_cases hp : 2 ≤ p.val
    · rw [dif_pos hp, dif_pos (by show 2 ≤ 1024 * r + p.val; omega)]
      exact (hu _ q).trans (congrArg _ (Fin.ext (by show 1024 * r + (p.val - 2) = 1024 * r + p.val - 2; omega)))
    · rw [dif_neg hp, ht]
      unfold tl
      by_cases h1 : r = 1
      · rw [if_pos h1, dif_pos (by show 2 ≤ 1024 * r + p.val; omega)]
        exact congrArg _ (Fin.ext (by show 1016 + (6 + p.val) % 8 = 1024 * r + p.val - 2; omega))
      · rw [if_neg h1, dif_neg (by show ¬ 2 ≤ 1024 * r + p.val; omega)]
  have hw : ∀ (i : Fin 3) (inb), View.readAt (Elt Ideal) arg3.view (Rect.unit (s := S3x5632) ![i.val, o] S1x256.size inb).toLoadRect (harg3.unread x2) (ix2 0 q) = cw i ⟨o + q.val, by omega⟩ := fun i inb => by
    refine (rd 3 5632 1 256 i.val o arg3 harg3 x2 _ 0 q i.isLt (by omega)).trans ((h2 _ _).trans ?_)
    exact congrArg (cw · _) (Fin.ext (by show i.val + 0 = i.val; omega))
  have hb : ∀ inb, View.readAt (Elt Ideal) arg4.view (Rect.unit (s := S1x5632) ![0, o] S1x256.size inb).toLoadRect (harg4.unread x3) (ix2 0 q) = cb ⟨o + q.val, by omega⟩ := fun inb =>
    (rd 1 5632 1 256 0 o arg4 harg4 x3 _ 0 q (by omega) (by omega)).trans (h3 _)
  unfold hv
  refine (HV_at _ _ _ _ _ _ _ _ rfl rfl p q).trans ?_
  rw [e1, e2, hu p q]
  refine (congrArg₂ (fun (y z : EReal) => y + z) (congrArg₂ (fun (y z : EReal) => y + z) (congrArg₂ (fun (y z : EReal) => y + z) (congrArg (fun y : EReal => y * _) (hw 2 _)) (congrArg (fun y : EReal => y * _) (hw 1 _))) (congrArg (fun y : EReal => y * _) (hw 0 _))) (hb _)).trans ?_
  unfold cv conv
  refine congrArg (fun y : EReal => y + _) ?_
  show (_ + _ + _ : EReal) = _ + _ + _
  rw [add_comm, ← add_assoc, add_right_comm]
include h0 h1 h2 h3 in
theorem av_at (o : ℕ) (h : o + 3072 ≤ 5632) (s t : Vec Ideal S8x256 .f32) (hs : ∀ (i : Fin 8) (q : Fin 256), s (ix2 i q) = tl (up H W ⟨o + q.val, by omega⟩) r i)
    (ht : ∀ (i : Fin 8) (q : Fin 256), t (ix2 i q) = tl (up H W ⟨2816 + o + q.val, by omega⟩) r i) (p : Fin 1024) (q : Fin 256) (f : Fin 2816) (hf : o + q.val = f.val) :
    av arg1 harg1 arg2 harg2 arg3 harg3 arg4 harg4 x0 x1 x2 x3 o h s t (ix2 p q) = (act H W cw cb geluK ⟨1024 * r + p.val, rlt hr p⟩ f : EReal) := by
  unfold av act
  refine (AC_at _ _ p q).trans (congrArg₂ (fun (y z : EReal) => geluK y * z) ?_ ?_)
  · exact (hv_at arg1 harg1 arg2 harg2 arg3 harg3 arg4 harg4 x0 x1 x2 x3 H W cw cb r hr h0 h1 h2 h3 o _ s hs p q).trans (congrArg (cv H W cw cb · _) (Fin.ext hf))
  · exact (hv_at arg1 harg1 arg2 harg2 arg3 harg3 arg4 harg4 x0 x1 x2 x3 H W cw cb r hr h0 h1 h2 h3 (2816 + o) _ t ht p q).trans (congrArg (cv H W cw cb · _) (Fin.ext (by show 2816 + o + q.val = 2816 + f.val; omega)))

include h0 h1 h2 h3 h4 h5 h6 in
/-- What the body stores at one row and column, of tails that hold the rows before the tile. -/
theorem body_at (S T : Fin 11 → Vec Ideal S8x256 .f32) (hS : ∀ (c : Fin 11) (i : Fin 8) (q : Fin 256), S c (ix2 i q) = tl (up H W ⟨256 * c.val + q.val, by omega⟩) r i)
    (hT : ∀ (c : Fin 11) (i : Fin 8) (q : Fin 256), T c (ix2 i q) = tl (up H W ⟨2816 + 256 * c.val + q.val, by omega⟩) r i) (p n : Fin 1024) :
    BODY arg1 harg1 arg2 harg2 arg3 harg3 arg4 harg4 arg5 harg5 arg6 harg6 arg7 harg7 x0 x1 x2 x3 x4 x5 x6 (S 0) (T 0) (S 1) (T 1) (S 2) (T 2) (S 3) (T 3) (S 4) (T 4) (S 5) (T 5) (S 6) (T 6) (S 7) (T 7) (S 8) (T 8) (S 9) (T 9) (S 10) (T 10) (ix2 p n)
      = (out H W cw cb D g b geluK ⟨1024 * r + p.val, rlt hr p⟩ n : EReal) := by
  have ha := fun (c : Fin 11) (h : 256 * c.val + 3072 ≤ 5632) => av_at arg1 harg1 arg2 harg2 arg3 harg3 arg4 harg4 x0 x1 x2 x3 H W cw cb r hr h0 h1 h2 h3 (256 * c.val) h (S c) (T c) (hS c) (hT c) p
  have g6 := G6_at ![av arg1 harg1 arg2 harg2 arg3 harg3 arg4 harg4 x0 x1 x2 x3 0 (by decide) (S 0) (T 0), av arg1 harg1 arg2 harg2 arg3 harg3 arg4 harg4 x0 x1 x2 x3 256 (by decide) (S 1) (T 1), av arg1 harg1 arg2 harg2 arg3 harg3 arg4 harg4 x0 x1 x2 x3 512 (by decide) (S 2) (T 2),
      av arg1 harg1 arg2 harg2 arg3 harg3 arg4 harg4 x0 x1 x2 x3 768 (by decide) (S 3) (T 3), av arg1 harg1 arg2 harg2 arg3 harg3 arg4 harg4 x0 x1 x2 x3 1024 (by decide) (S 4) (T 4), av arg1 harg1 arg2 harg2 arg3 harg3 arg4 harg4 x0 x1 x2 x3 1280 (by decide) (S 5) (T 5)]
    (act H W cw cb geluK ⟨1024 * r + p.val, rlt hr p⟩) p (fun i q => by
      fin_cases i
      · exact ha 0 (by decide) q _ rfl
      · exact ha 1 (by decide) q _ rfl
      · exact ha 2 (by decide) q _ rfl
      · exact ha 3 (by decide) q _ rfl
      · exact ha 4 (by decide) q _ rfl
      · exact ha 5 (by decide) q _ rfl)
  have g5 := G5_at ![av arg1 harg1 arg2 harg2 arg3 harg3 arg4 harg4 x0 x1 x2 x3 1536 (by decide) (S 6) (T 6), av arg1 harg1 arg2 harg2 arg3 harg3 arg4 harg4 x0 x1 x2 x3 1792 (by decide) (S 7) (T 7),
      av arg1 harg1 arg2 harg2 arg3 harg3 arg4 harg4 x0 x1 x2 x3 2048 (by decide) (S 8) (T 8), av arg1 harg1 arg2 harg2 arg3 harg3 arg4 harg4 x0 x1 x2 x3 2304 (by decide) (S 9) (T 9), av arg1 harg1 arg2 harg2 arg3 harg3 arg4 harg4 x0 x1 x2 x3 2560 (by decide) (S 10) (T 10)]
    (act H W cw cb geluK ⟨1024 * r + p.val, rlt hr p⟩) p (fun i q => by
      fin_cases i
      · exact ha 6 (by decide) q _ (by show 256 * 6 + q.val = 1536 + (256 * 0 + q.val); omega)
      · exact ha 7 (by decide) q _ (by show 256 * 7 + q.val = 1536 + (256 * 1 + q.val); omega)
      · exact ha 8 (by decide) q _ (by show 256 * 8 + q.val = 1536 + (256 * 2 + q.val); omega)
      · exact ha 9 (by decide) q _ (by show 256 * 9 + q.val = 1536 + (256 * 3 + q.val); omega)
      · exact ha 10 (by decide) q _ (by show 256 * 10 + q.val = 1536 + (256 * 4 + q.val); omega))
  have hd : ∀ (o P : ℕ) (inb) (f : Fin P) (n : Fin 1024) (ho : o + f.val < 2816), View.readAt (Elt Ideal) arg5.view (Rect.unit (s := S2816x1024) ![o, 0] (⟨2, ![P, 1024]⟩ : Shape).size inb).toLoadRect (harg5.unread x4) (ix2 f n) = D ⟨o + f.val, ho⟩ n := fun o P inb f n ho => by
    refine (rd 2816 1024 P 1024 o 0 arg5 harg5 x4 inb f n ho (by omega)).trans ((h4 _ _).trans ?_)
    exact congrArg (D _) (Fin.ext (by show 0 + n.val = n.val; omega))
  unfold BODY out
  refine (LAST_at _ _ _ _ _ _ (fun x => AL * H ⟨1024 * r + p.val, rlt hr p⟩ x + ∑ f, act H W cw cb geluK ⟨1024 * r + p.val, rlt hr p⟩ f * D f x) p (fun n => ?_) n).trans ?_
  · refine congrArg₂ (fun (y z : EReal) => AL * y + z) ?_ ?_
    · refine (rd 1024 1024 1024 1024 0 0 arg1 harg1 x0 _ p n (by omega) (by omega)).trans ((h0 _ _).trans ?_)
      exact congrArg₂ H (Fin.ext (by show 1024 * r + (0 + p.val) = 1024 * r + p.val; omega)) (Fin.ext (by show 0 + n.val = n.val; omega))
    · refine Eq.trans ?_ (Fin.sum_univ_add (a := 1536) (b := 1280) (fun f : Fin 2816 => act H W cw cb geluK ⟨1024 * r + p.val, rlt hr p⟩ f * D f n)).symm
      refine congrArg₂ (fun (y z : EReal) => y + z) ((D6_at _ _ p n).trans (Finset.sum_congr rfl fun f _ => ?_)) (Finset.sum_congr rfl fun f _ => ?_)
      · refine congrArg₂ (fun (y z : EReal) => y * z) (g6 f) ((hd 0 1536 _ f n (by omega)).trans ?_)
        exact congrArg (D · n) (Fin.ext (by show 0 + f.val = f.val; omega))
      · exact congrArg₂ (fun (y z : EReal) => y * z) (g5 f) (hd 1536 1280 _ f n (by omega))
  · have hg : ∀ (a : Memref sig .tc .vmem S1x1024 .f32) (ha : a.IsWhole) (x : Vec Ideal S1x1024 .f32) (v : Fin 1024 → EReal) (_ : ∀ n : Fin 1024, x (ix2 0 n) = v n) (inb), (fun n : Fin 1024 => View.readAt (Elt Ideal) a.view (Rect.unit (s := S1x1024) ![0, 0] S1x1024.size inb).toLoadRect (ha.unread x) (ix2 0 n)) = v := fun a ha x v hv inb => by
      funext n
      refine (rd 1 1024 1 1024 0 0 a ha x inb 0 n (by omega) (by omega)).trans ((hv _).trans ?_)
      exact congrArg v (Fin.ext (by show 0 + n.val = n.val; omega))
    exact congrArg₂ (fun y z => lnv _ y z n) (hg arg6 harg6 x5 g h5 _) (hg arg7 harg7 x6 b h6 _)
end
end Cert.MlpIdeal.Exact
end
-- ==== Proof.MTail.lean ====
/- The rows before a tile: what the scratch holds and what the body loads of it. -/
module

public import proofs.«01_k».proof.Proof.MVal
public import Idealize.ShloMosaic.Lib.WritesUnit
public import Idealize.ShloMosaic.Lib.Pipeline.ReadBack

@[expose] public section
noncomputable section
namespace Cert.MlpIdeal.Exact
open Cert.MlpIdeal Cert.MlpIdeal.Gen
open Idealize.ShloMosaic Idealize.ShloMosaic.TcCoe Idealize.ShloMosaic.Tactic
open Cert.MSpec
set_option maxRecDepth 16384

/-- The first column of the `n`-th store: the chunks in turn, each with its partner. -/
def oo (n : ℕ) : ℕ := 256 * (n % 22 / 2) + 2816 * (n % 2)
theorem oo_le (n : ℕ) : oo n + 256 ≤ 5632 := by unfold oo; omega
/-- The last eight rows of a chunk. -/
def lastRows (u : FVec Ideal S1024x256 .f32) : FVec Ideal S8x256 .f32 :=
  shapeCast S8x256 (extractStridedSlice S8x256 ![1016, 0] u slices_S1024x256_o1016_0_S8x256 : FVec Ideal S8x256 .f32) shapeCasts_S8x256_S8x256
theorem lastRows_at (u : FVec Ideal S1024x256 .f32) (s : Fin 8) (q : Fin 256) : lastRows u (ix2 s q) = (u (ix2 (⟨1016 + s.val, by omega⟩ : Fin 1024) q) : EReal) := by
  pointwise [lastRows]
/-- The scratch's first filling. -/
def zeros : FVec Ideal S8x5632 .f32 := shapeCast S8x5632 (broadcast S8x5632 (Scalar.ofBits .f32 0x00000000#32 : Ideal .f32) : FVec Ideal S8x5632 .f32) shapeCasts_S8x5632_S8x5632
theorem zeros_at (s : Fin 8) (j : Fin 5632) : zeros (ix2 s j) = (0 : EReal) := by
  pointwise [zeros]

section
variable (arg1 : Memref sig .tc .vmem S1024x1024 .f32) (harg1 : arg1.IsWhole) (arg2 : Memref sig .tc .vmem S1024x5632 .bf16) (harg2 : arg2.IsWhole) (arg3 : Memref sig .tc .vmem S3x5632 .f32) (harg3 : arg3.IsWhole) (arg4 : Memref sig .tc .vmem S1x5632 .f32) (harg4 : arg4.IsWhole)
    (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole)
    (arg9 : Memref sig .tc .vmem S8x5632 .f32) (harg9 : arg9.IsWhole)
    (x0 : Vec Ideal S1024x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S8x5632 .f32)
/-- The scratch's stores up to the `n`-th chunk, the last first. -/
def pl : ℕ → List (View.Piece (Elt Ideal) S8x5632 .f32)
  | 0 => [⟨Rect.unit (s := S8x5632) ![0, 0] S8x5632.size inb_S8x5632_S8x5632_0_0, zeros⟩]
  | n + 1 => ⟨Rect.unit (s := S8x5632) ![0, oo n] S8x256.size (inb_ts (oo n) (oo_le n)), lastRows (uv arg1 harg1 arg2 harg2 x0 x1 (oo n) (oo_le n))⟩ :: pl n
/-- A tail as the first tile loads it. -/
def tailA (k c : ℕ) : Vec Ideal S8x256 .f32 :=
  arg9.view.readCov (pl arg1 harg1 arg2 harg2 x0 x1 (2 * c + k)) (Rect.unit (s := S8x5632) ![0, oo (2 * c + k)] S8x256.size (inb_ts _ (oo_le _))).toLoadRect
/-- A tail as the second tile loads it. -/
def tailB (k c : ℕ) : Vec Ideal S8x256 .f32 :=
  View.readAt (Elt Ideal) arg9.view (Rect.unit (s := S8x5632) ![0, oo (2 * c + k)] S8x256.size (inb_ts _ (oo_le _))).toLoadRect (harg9.unread xs0)

theorem disj_oo : ∀ (n : Fin 22) (k : Fin 22), k.val < n.val → LoadRect.disj (Rect.unit (s := S8x5632) ![0, oo k.val] S8x256.size (inb_ts _ (oo_le _))) (Rect.unit (s := S8x5632) ![0, oo n.val] S8x256.size (inb_ts _ (oo_le _))).toLoadRect = true := by
  decide +kernel
/-- Until a chunk is stored its columns are zero. -/
theorem pl_zero (n : Fin 22) : ∀ k, k ≤ n.val → ∀ (s : Fin 8) (q : Fin 256),
    (arg9.view.readCov (pl arg1 harg1 arg2 harg2 x0 x1 k) (Rect.unit (s := S8x5632) ![0, oo n.val] S8x256.size (inb_ts _ (oo_le _))).toLoadRect : Vec Ideal S8x256 .f32) (ix2 s q) = (0 : EReal)
  | 0, _, s, q => by
    have e := View.readCov_fill (Val := Elt Ideal) arg9.view inb_S8x5632_S8x5632_0_0 zeros [] (Rect.unit (s := S8x5632) ![0, oo n.val] S8x256.size (inb_ts _ (oo_le _))) (by decide)
    refine (congrFun e (ix2 s q)).trans ?_
    have h := oo_le n.val
    exact (congrArg zeros (idx_at 8 5632 8 256 0 (oo n.val) (inb_ts _ (oo_le _)) s q (by omega) (by omega))).trans (zeros_at _ _)
  | k + 1, h, s, q => by
    have e := View.readCov_skip (Val := Elt Ideal) arg9.view _ (lastRows (uv arg1 harg1 arg2 harg2 x0 x1 (oo k) (oo_le k))) (pl arg1 harg1 arg2 harg2 x0 x1 k) _ (disj_oo n ⟨k, by omega⟩ (by show k < n.val; omega))
    exact (congrFun e (ix2 s q)).trans (pl_zero n k (by omega) s q)
theorem tailA_at (k c : ℕ) (hc : c < 11) (hk : k < 2) (s : Fin 8) (q : Fin 256) : tailA arg1 harg1 arg2 harg2 arg9 x0 x1 k c (ix2 s q) = (0 : EReal) :=
  pl_zero arg1 harg1 arg2 harg2 arg9 x0 x1 ⟨2 * c + k, by omega⟩ (2 * c + k) (Nat.le_refl _) s q
theorem tailB_at (k c : ℕ) (s : Fin 8) (q : Fin 256) : tailB arg9 harg9 xs0 k c (ix2 s q) = (xs0 (ix2 s (⟨oo (2 * c + k) + q.val, by have := oo_le (2 * c + k); omega⟩ : Fin 5632)) : EReal) := by
  have h := oo_le (2 * c + k)
  refine (rd 8 5632 8 256 0 (oo (2 * c + k)) arg9 harg9 xs0 (inb_ts _ (oo_le _)) s q (by omega) (by omega)).trans ?_
  exact congrArg (fun z : Fin 8 => (xs0 (ix2 z _) : EReal)) (Fin.ext (by show 0 + s.val = s.val; omega))

/-- After the first tile the scratch holds its last rows. -/
theorem pl_last (v : View sig .tc .vmem S8x5632 .f32) (f : v.ty.Contents (Elt Ideal)) (k : ℕ) (s : Fin 8) (q : Fin 256) : ∀ n, k < n → n ≤ 22 →
    v.read (Elt Ideal) (v.writes (Elt Ideal) f (pl arg1 harg1 arg2 harg2 x0 x1 n)) (ix2 s (⟨oo k + q.val, by have := oo_le k; omega⟩ : Fin 5632))
      = (uv arg1 harg1 arg2 harg2 x0 x1 (oo k) (oo_le k) (ix2 (⟨1016 + s.val, by omega⟩ : Fin 1024) q) : EReal)
  | 0, h, _ => absurd h (by omega)
  | n + 1, h, h2 => by
    by_cases e : k = n
    · subst e
      refine (View.read_writes_cons_unit_of_mem v f (inb_ts _ (oo_le k)) (lastRows (uv arg1 harg1 arg2 harg2 x0 x1 (oo k) (oo_le k))) (pl arg1 harg1 arg2 harg2 x0 x1 k) _ (ix2 s q) rfl ?_).trans (lastRows_at _ s q)
      exact Fin.forall_fin_two.mpr ⟨by show s.val = 0 + s.val; omega, rfl⟩
    · refine (View.read_writes_cons_unit_of_not_mem v f (inb_ts _ (oo_le n)) (lastRows (uv arg1 harg1 arg2 harg2 x0 x1 (oo n) (oo_le n))) (pl arg1 harg1 arg2 harg2 x0 x1 n) _ rfl (1 : Fin 2) ?_).trans (pl_last v f k s q n (by omega) (by omega))
      show oo k + q.val < oo n ∨ oo n + 256 ≤ oo k + q.val
      have hn : n % 22 = n := Nat.mod_eq_of_lt (by omega)
      have hk : k % 22 = k := Nat.mod_eq_of_lt (by omega)
      unfold oo
      rw [hn, hk]
      omega
end
end Cert.MlpIdeal.Exact
end
-- ==== Proof.MTailRun.lean ====
/- The MLP kernel's stores, of the tails by name. -/
module

public import proofs.«01_k».proof.Proof.MRun
public import proofs.«01_k».proof.Proof.MTail

@[expose] public section
noncomputable section
namespace Cert.MlpIdeal.Exact
open Cert.MlpIdeal Cert.MlpIdeal.Gen
open Idealize.ShloMosaic Idealize.ShloMosaic.TcCoe Idealize.ShloMosaic.Tactic
set_option maxRecDepth 16384

section
variable (arg1 : Memref sig .tc .vmem S1024x1024 .f32) (harg1 : arg1.IsWhole) (arg2 : Memref sig .tc .vmem S1024x5632 .bf16) (harg2 : arg2.IsWhole) (arg3 : Memref sig .tc .vmem S3x5632 .f32) (harg3 : arg3.IsWhole) (arg4 : Memref sig .tc .vmem S1x5632 .f32) (harg4 : arg4.IsWhole)
    (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole)
    (arg9 : Memref sig .tc .vmem S8x5632 .f32) (harg9 : arg9.IsWhole)
    (x0 : Vec Ideal S1024x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S8x5632 .f32)
variable (c : Dev nD) (i : grid0.Coords)
set_option maxHeartbeats 4000000 in
/-- The first case's store, of its tails. -/
theorem run_A' (hc0 : cond0_0 i) : (kernelRun0_A c i arg1 harg1 arg2 harg2 arg3 harg3 arg4 harg4 arg5 harg5 arg6 harg6 arg7 harg7 arg8 harg8 arg9 harg9 hc0 x0 x1 x2 x3 x4 x5 x6).1 = [⟨Rect.unit (s := S1024x1024) ![0, 0] S1024x1024.size inb_S1024x1024_S1024x1024_0_0,
    BODY arg1 harg1 arg2 harg2 arg3 harg3 arg4 harg4 arg5 harg5 arg6 harg6 arg7 harg7 x0 x1 x2 x3 x4 x5 x6 (tailA arg1 harg1 arg2 harg2 arg9 x0 x1 0 0) (tailA arg1 harg1 arg2 harg2 arg9 x0 x1 1 0) (tailA arg1 harg1 arg2 harg2 arg9 x0 x1 0 1) (tailA arg1 harg1 arg2 harg2 arg9 x0 x1 1 1) (tailA arg1 harg1 arg2 harg2 arg9 x0 x1 0 2) (tailA arg1 harg1 arg2 harg2 arg9 x0 x1 1 2) (tailA arg1 harg1 arg2 harg2 arg9 x0 x1 0 3) (tailA arg1 harg1 arg2 harg2 arg9 x0 x1 1 3) (tailA arg1 harg1 arg2 harg2 arg9 x0 x1 0 4) (tailA arg1 harg1 arg2 harg2 arg9 x0 x1 1 4) (tailA arg1 harg1 arg2 harg2 arg9 x0 x1 0 5) (tailA arg1 harg1 arg2 harg2 arg9 x0 x1 1 5) (tailA arg1 harg1 arg2 harg2 arg9 x0 x1 0 6) (tailA arg1 harg1 arg2 harg2 arg9 x0 x1 1 6) (tailA arg1 harg1 arg2 harg2 arg9 x0 x1 0 7) (tailA arg1 harg1 arg2 harg2 arg9 x0 x1 1 7) (tailA arg1 harg1 arg2 harg2 arg9 x0 x1 0 8) (tailA arg1 harg1 arg2 harg2 arg9 x0 x1 1 8) (tailA arg1 harg1 arg2 harg2 arg9 x0 x1 0 9) (tailA arg1 harg1 arg2 harg2 arg9 x0 x1 1 9) (tailA arg1 harg1 arg2 harg2 arg9 x0 x1 0 10) (tailA arg1 harg1 arg2 harg2 arg9 x0 x1 1 10)⟩] := by
  refine (run_A arg1 harg1 arg2 harg2 arg3 harg3 arg4 harg4 arg5 harg5 arg6 harg6 arg7 harg7 arg9 harg9 x0 x1 x2 x3 x4 x5 x6 c i arg8 harg8 hc0).trans ?_
  sl_kernel_rfl
set_option maxHeartbeats 4000000 in
/-- The second case's store, of its tails. -/
theorem run_B' (hc0 : ¬cond0_0 i) : (kernelRun0_B c i arg1 harg1 arg2 harg2 arg3 harg3 arg4 harg4 arg5 harg5 arg6 harg6 arg7 harg7 arg8 harg8 arg9 harg9 hc0 x0 x1 x2 x3 x4 x5 x6 xs0).1 = [⟨Rect.unit (s := S1024x1024) ![0, 0] S1024x1024.size inb_S1024x1024_S1024x1024_0_0,
    BODY arg1 harg1 arg2 harg2 arg3 harg3 arg4 harg4 arg5 harg5 arg6 harg6 arg7 harg7 x0 x1 x2 x3 x4 x5 x6 (tailB arg9 harg9 xs0 0 0) (tailB arg9 harg9 xs0 1 0) (tailB arg9 harg9 xs0 0 1) (tailB arg9 harg9 xs0 1 1) (tailB arg9 harg9 xs0 0 2) (tailB arg9 harg9 xs0 1 2) (tailB arg9 harg9 xs0 0 3) (tailB arg9 harg9 xs0 1 3) (tailB arg9 harg9 xs0 0 4) (tailB arg9 harg9 xs0 1 4) (tailB arg9 harg9 xs0 0 5) (tailB arg9 harg9 xs0 1 5) (tailB arg9 harg9 xs0 0 6) (tailB arg9 harg9 xs0 1 6) (tailB arg9 harg9 xs0 0 7) (tailB arg9 harg9 xs0 1 7) (tailB arg9 harg9 xs0 0 8) (tailB arg9 harg9 xs0 1 8) (tailB arg9 harg9 xs0 0 9) (tailB arg9 harg9 xs0 1 9) (tailB arg9 harg9 xs0 0 10) (tailB arg9 harg9 xs0 1 10)⟩] := by
  refine (run_B arg1 harg1 arg2 harg2 arg3 harg3 arg4 harg4 arg5 harg5 arg6 harg6 arg7 harg7 arg9 harg9 x0 x1 x2 x3 x4 x5 x6 xs0 c i arg8 harg8 hc0).trans ?_
  sl_kernel_rfl
set_option maxHeartbeats 4000000 in
/-- The first case's stores into the scratch. -/
theorem run_S (hc0 : cond0_0 i) : (kernelRun0_A c i arg1 harg1 arg2 harg2 arg3 harg3 arg4 harg4 arg5 harg5 arg6 harg6 arg7 harg7 arg8 harg8 arg9 harg9 hc0 x0 x1 x2 x3 x4 x5 x6).2.1 = pl arg1 harg1 arg2 harg2 x0 x1 22 := by
  sl_kernel_rfl

end
end Cert.MlpIdeal.Exact
end
-- ==== Proof.MHost.lean ====
/- What the MLP call's operands hold, element by element, in the arguments, and where each block lies. -/
module

public import proofs.«01_k».proof.Proof.Gen.MlpIdeal.Frame
public import Idealize.ShloMosaic.Lib.Pipeline.ValueKit
public import Idealize.ShloMosaic.Lib.Pointwise
public import Idealize.ShloMosaic.Lib.Claim
public import Idealize.ShloMosaic.Lib.Tactic.CleanTypes

@[expose] public section
noncomputable section
namespace Cert.MlpIdeal.Exact
open Cert.MlpIdeal Cert.MlpIdeal.Gen
open Idealize.ShloMosaic Idealize.ShloMosaic.TcCoe Idealize.ShloMosaic.Tactic
set_option maxRecDepth 16384

section
theorem rows_v (a : FVec Ideal S16x2048x1024 .f32) (x : Fin 32768) (k : Fin 1024) : (shapeCast S32768x1024 a shapeCasts_S16x2048x1024_S32768x1024 : FVec Ideal S32768x1024 .f32) (ix2 x k)
    = (a (ix3 (⟨x.val / 2048, by omega⟩ : Fin 16) (⟨x.val % 2048, by omega⟩ : Fin 2048) k) : EReal) := by
  pointwise
theorem wide_v (a : FVec Ideal S5632 .f32) (j : Fin 5632) : (broadcastInDim S1x5632 ![1] bcast_S5632_S1x5632_1 a : FVec Ideal S1x5632 .f32) (ix2 0 j) = (a (ix1 j) : EReal) := by
  pointwise
theorem row_v (a : FVec Ideal S1024 .f32) (n : Fin 1024) : (broadcastInDim S1x1024 ![1] bcast_S1024_S1x1024_1 a : FVec Ideal S1x1024 .f32) (ix2 0 n) = (a (ix1 n) : EReal) := by
  pointwise
theorem up_v (a : FVec Ideal S1024x5632 .f32) (k : Fin 1024) (j : Fin 5632) : (truncf .bf16 a bitsLt_bf16_f32 : FVec Ideal S1024x5632 .bf16) (ix2 k j) = (a (ix2 k j) : EReal) := by
  pointwise
theorem down_v (a : FVec Ideal S2816x1024 .f32) (f : Fin 2816) (n : Fin 1024) : (truncf .bf16 a bitsLt_bf16_f32 : FVec Ideal S2816x1024 .bf16) (ix2 f n) = (a (ix2 f n) : EReal) := by
  pointwise
end

/-- Where window 0's block lies. -/
theorem idx0 : ∀ t : Fin cfg0.N, win0_0.index t = ![t.val, 0] := by decide +kernel
/-- Where window 1's block lies. -/
theorem idx1 : ∀ t : Fin cfg0.N, win0_1.index t = ![0, 0] := by decide +kernel
/-- Where window 2's block lies. -/
theorem idx2 : ∀ t : Fin cfg0.N, win0_2.index t = ![0, 0] := by decide +kernel
/-- Where window 3's block lies. -/
theorem idx3 : ∀ t : Fin cfg0.N, win0_3.index t = ![0, 0] := by decide +kernel
/-- Where window 4's block lies. -/
theorem idx4 : ∀ t : Fin cfg0.N, win0_4.index t = ![0, 0] := by decide +kernel
/-- Where window 5's block lies. -/
theorem idx5 : ∀ t : Fin cfg0.N, win0_5.index t = ![0, 0] := by decide +kernel
/-- Where window 6's block lies. -/
theorem idx6 : ∀ t : Fin cfg0.N, win0_6.index t = ![0, 0] := by decide +kernel
/-- Where window 7's block lies. -/
theorem idx7 : ∀ t : Fin cfg0.N, win0_7.index t = ![t.val, 0] := by decide +kernel

variable (m : (ℓ : Loc nD τ sig) → Buf (Elt Ideal) ℓ) (c : Dev nD) (t : Fin cfg0.N)
theorem tlt : t.val < 32 := lt_of_lt_of_eq t.isLt N_0
theorem v0_at (x : Fin 32768) (k : Fin 1024) : (V m c main_v0 : FVec Ideal S32768x1024 .f32) (ix2 x k)
    = ((m ((c : Thread nD τ).loc main_arg0) : FVec Ideal S16x2048x1024 .f32) (ix3 (⟨x.val / 2048, by omega⟩ : Fin 16) (⟨x.val % 2048, by omega⟩ : Fin 2048) k) : EReal) := by
  unfold V
  entry_read
  exact rows_v _ x k
theorem v1_at (k : Fin 1024) (j : Fin 5632) : (V m c main_v1 : FVec Ideal S1024x5632 .bf16) (ix2 k j) = ((m ((c : Thread nD τ).loc main_arg1) : FVec Ideal S1024x5632 .f32) (ix2 k j) : EReal) := by
  unfold V
  entry_read
  exact up_v _ k j
theorem v2_at (j : Fin 5632) : (V m c main_v2 : FVec Ideal S1x5632 .f32) (ix2 0 j) = ((m ((c : Thread nD τ).loc main_arg3) : FVec Ideal S5632 .f32) (ix1 j) : EReal) := by
  unfold V
  entry_read
  exact wide_v _ j
theorem v3_at (f : Fin 2816) (n : Fin 1024) : (V m c main_v3 : FVec Ideal S2816x1024 .bf16) (ix2 f n) = ((m ((c : Thread nD τ).loc main_arg4) : FVec Ideal S2816x1024 .f32) (ix2 f n) : EReal) := by
  unfold V
  entry_read
  exact down_v _ f n
theorem v4_at (n : Fin 1024) : (V m c main_v4 : FVec Ideal S1x1024 .f32) (ix2 0 n) = ((m ((c : Thread nD τ).loc main_arg5) : FVec Ideal S1024 .f32) (ix1 n) : EReal) := by
  unfold V
  entry_read
  exact row_v _ n
theorem v5_at (n : Fin 1024) : (V m c main_v5 : FVec Ideal S1x1024 .f32) (ix2 0 n) = ((m ((c : Thread nD τ).loc main_arg6) : FVec Ideal S1024 .f32) (ix1 n) : EReal) := by
  unfold V
  entry_read
  exact row_v _ n

/-- A point's batch. -/
abbrev pb : Fin 16 := ⟨t.val / 2, by have := tlt t; omega⟩
/-- A row of a point's tile, in its batch. -/
abbrev pr (p : Fin 1024) : Fin 2048 := ⟨1024 * (t.val % 2) + p.val, by omega⟩
/-- A row of a point's tile, in all the rows. -/
abbrev px (p : Fin 1024) : Fin 32768 := ⟨1024 * t.val + p.val, by have := tlt t; omega⟩
theorem blk0_at (p k : Fin 1024) : (iblk m c 0 t : FVec Ideal S1024x1024 .f32) (ix2 p k) = ((m ((c : Thread nD τ).loc main_arg0) : FVec Ideal S16x2048x1024 .f32) (ix3 (pb t) (pr t p) k) : EReal) := by
  have hN := tlt t
  have e : (iblk m c 0 t : FVec Ideal S1024x1024 .f32) (ix2 p k) = (V m c main_v0 : FVec Ideal S32768x1024 .f32) (ix2 (px t p) k) := by blk_ext [iblk, idx0]
  refine e.trans ((v0_at m c _ _).trans ?_)
  refine congrArg₂ (fun (y : Fin 16) (z : Fin 2048) => ((m ((c : Thread nD τ).loc main_arg0) : FVec Ideal S16x2048x1024 .f32) (ix3 y z k) : EReal)) (Fin.ext ?_) (Fin.ext ?_)
  · show (1024 * t.val + p.val) / 2048 = t.val / 2
    omega
  · show (1024 * t.val + p.val) % 2048 = 1024 * (t.val % 2) + p.val
    omega
theorem blk1_at (k : Fin 1024) (j : Fin 5632) : (iblk m c 1 t : FVec Ideal S1024x5632 .bf16) (ix2 k j) = ((m ((c : Thread nD τ).loc main_arg1) : FVec Ideal S1024x5632 .f32) (ix2 k j) : EReal) := by
  have e : (iblk m c 1 t : FVec Ideal S1024x5632 .bf16) (ix2 k j) = (V m c main_v1 : FVec Ideal S1024x5632 .bf16) (ix2 k j) := by blk_ext [iblk, idx1]
  exact e.trans (v1_at m c k j)
theorem blk2_at (i : Fin 3) (j : Fin 5632) : (iblk m c 2 t : FVec Ideal S3x5632 .f32) (ix2 i j) = ((m ((c : Thread nD τ).loc main_arg2) : FVec Ideal S3x5632 .f32) (ix2 i j) : EReal) := by
  have e : (iblk m c 2 t : FVec Ideal S3x5632 .f32) (ix2 i j) = (V m c main_arg2 : FVec Ideal S3x5632 .f32) (ix2 i j) := by blk_ext [iblk, idx2]
  exact e.trans (congrFun (V_main_arg2 m c) _)
theorem blk3_at (j : Fin 5632) : (iblk m c 3 t : FVec Ideal S1x5632 .f32) (ix2 0 j) = ((m ((c : Thread nD τ).loc main_arg3) : FVec Ideal S5632 .f32) (ix1 j) : EReal) := by
  have e : (iblk m c 3 t : FVec Ideal S1x5632 .f32) (ix2 0 j) = (V m c main_v2 : FVec Ideal S1x5632 .f32) (ix2 0 j) := by blk_ext [iblk, idx3]
  exact e.trans (v2_at m c j)
theorem blk4_at (f : Fin 2816) (n : Fin 1024) : (iblk m c 4 t : FVec Ideal S2816x1024 .bf16) (ix2 f n) = ((m ((c : Thread nD τ).loc main_arg4) : FVec Ideal S2816x1024 .f32) (ix2 f n) : EReal) := by
  have e : (iblk m c 4 t : FVec Ideal S2816x1024 .bf16) (ix2 f n) = (V m c main_v3 : FVec Ideal S2816x1024 .bf16) (ix2 f n) := by blk_ext [iblk, idx4]
  exact e.trans (v3_at m c f n)
theorem blk5_at (n : Fin 1024) : (iblk m c 5 t : FVec Ideal S1x1024 .f32) (ix2 0 n) = ((m ((c : Thread nD τ).loc main_arg5) : FVec Ideal S1024 .f32) (ix1 n) : EReal) := by
  have e : (iblk m c 5 t : FVec Ideal S1x1024 .f32) (ix2 0 n) = (V m c main_v4 : FVec Ideal S1x1024 .f32) (ix2 0 n) := by blk_ext [iblk, idx5]
  exact e.trans (v4_at m c n)
theorem blk6_at (n : Fin 1024) : (iblk m c 6 t : FVec Ideal S1x1024 .f32) (ix2 0 n) = ((m ((c : Thread nD τ).loc main_arg6) : FVec Ideal S1024 .f32) (ix1 n) : EReal) := by
  have e : (iblk m c 6 t : FVec Ideal S1x1024 .f32) (ix2 0 n) = (V m c main_v5 : FVec Ideal S1x1024 .f32) (ix2 0 n) := by blk_ext [iblk, idx6]
  exact e.trans (v5_at m c n)
theorem emb7_at (p n : Fin 1024) : ((cfg0.win 7).blk t).view.emb (ix2 p n : S1024x1024.Idx) = (ix2 (px t p) n : S32768x1024.Idx) := by
  have hN := tlt t
  blk_ext [idx7]
/-- The output array is tiled by the blocks that the grid points write. -/
theorem out_eq (G : FVec Ideal S32768x1024 .f32)
    (h : ∀ (t : Fin cfg0.N) (y : S1024x1024.Idx), ((outsAt0 m c t.val t.isLt).1 : FVec Ideal S1024x1024 .f32) y = G (((cfg0.win 7).blk t).view.emb y)) :
    (dats m 0 c).arrAt 7 cfg0.N = G := by
  refine (dats m 0 c).arrAt_eq_of_covers 7 _ (by decide +kernel) fun t hf y => ?_
  exact (h t y)
end Cert.MlpIdeal.Exact
end
-- ==== Proof.MPoint.lean ====
/- What the MLP kernel's body writes at each grid point, in the call's arguments. -/
module

public import proofs.«01_k».proof.Proof.MTailRun
public import proofs.«01_k».proof.Proof.MHost

@[expose] public section
noncomputable section
namespace Cert.MlpIdeal.Exact
open Cert.MlpIdeal Cert.MlpIdeal.Gen
open Idealize.ShloMosaic Idealize.ShloMosaic.TcCoe Idealize.ShloMosaic.Tactic
open Cert.MSpec
set_option maxRecDepth 16384

/-- A pair's first component. -/
theorem fst_of {α β : Type} {p : α × β} {a : α} {b : β} (h : p = (a, b)) : p.1 = a := congrArg Prod.fst h
/-- A pair's second component. -/
theorem snd_of {α β : Type} {p : α × β} {a : α} {b : β} (h : p = (a, b)) : p.2 = b := congrArg Prod.snd h

section
variable (arg1 : Memref sig .tc .vmem S1024x1024 .f32) (harg1 : arg1.IsWhole) (arg2 : Memref sig .tc .vmem S1024x5632 .bf16) (harg2 : arg2.IsWhole) (arg3 : Memref sig .tc .vmem S3x5632 .f32) (harg3 : arg3.IsWhole) (arg4 : Memref sig .tc .vmem S1x5632 .f32) (harg4 : arg4.IsWhole)
    (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole)
    (arg9 : Memref sig .tc .vmem S8x5632 .f32) (harg9 : arg9.IsWhole)
    (x0 : Vec Ideal S1024x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S8x5632 .f32)
variable (c : Dev nD) (i : grid0.Coords)
/-- What the first case leaves in the output block. -/
theorem outA (hc0 : cond0_0 i) : out0_A_7 c i arg1 harg1 arg2 harg2 arg3 harg3 arg4 harg4 arg5 harg5 arg6 harg6 arg7 harg7 arg8 harg8 arg9 harg9 hc0 x0 x1 x2 x3 x4 x5 x6 =
    BODY arg1 harg1 arg2 harg2 arg3 harg3 arg4 harg4 arg5 harg5 arg6 harg6 arg7 harg7 x0 x1 x2 x3 x4 x5 x6 (tailA arg1 harg1 arg2 harg2 arg9 x0 x1 0 0) (tailA arg1 harg1 arg2 harg2 arg9 x0 x1 1 0) (tailA arg1 harg1 arg2 harg2 arg9 x0 x1 0 1) (tailA arg1 harg1 arg2 harg2 arg9 x0 x1 1 1) (tailA arg1 harg1 arg2 harg2 arg9 x0 x1 0 2) (tailA arg1 harg1 arg2 harg2 arg9 x0 x1 1 2) (tailA arg1 harg1 arg2 harg2 arg9 x0 x1 0 3) (tailA arg1 harg1 arg2 harg2 arg9 x0 x1 1 3) (tailA arg1 harg1 arg2 harg2 arg9 x0 x1 0 4) (tailA arg1 harg1 arg2 harg2 arg9 x0 x1 1 4) (tailA arg1 harg1 arg2 harg2 arg9 x0 x1 0 5) (tailA arg1 harg1 arg2 harg2 arg9 x0 x1 1 5) (tailA arg1 harg1 arg2 harg2 arg9 x0 x1 0 6) (tailA arg1 harg1 arg2 harg2 arg9 x0 x1 1 6) (tailA arg1 harg1 arg2 harg2 arg9 x0 x1 0 7) (tailA arg1 harg1 arg2 harg2 arg9 x0 x1 1 7) (tailA arg1 harg1 arg2 harg2 arg9 x0 x1 0 8) (tailA arg1 harg1 arg2 harg2 arg9 x0 x1 1 8) (tailA arg1 harg1 arg2 harg2 arg9 x0 x1 0 9) (tailA arg1 harg1 arg2 harg2 arg9 x0 x1 1 9) (tailA arg1 harg1 arg2 harg2 arg9 x0 x1 0 10) (tailA arg1 harg1 arg2 harg2 arg9 x0 x1 1 10) := by
  unfold out0_A_7
  exact (congrArg (fun L => VO0_7.read (Elt Ideal) (VO0_7.writes (Elt Ideal) VO0_7.junk L)) (run_A' arg1 harg1 arg2 harg2 arg3 harg3 arg4 harg4 arg5 harg5 arg6 harg6 arg7 harg7 arg8 harg8 arg9 harg9 x0 x1 x2 x3 x4 x5 x6 c i hc0)).trans (View.read_writes_full (Val := Elt Ideal) VO0_7 VO0_7.junk _ _ _)
/-- What the second case leaves in the output block. -/
theorem outB (hc0 : ¬cond0_0 i) : out0_B_7 c i arg1 harg1 arg2 harg2 arg3 harg3 arg4 harg4 arg5 harg5 arg6 harg6 arg7 harg7 arg8 harg8 arg9 harg9 hc0 x0 x1 x2 x3 x4 x5 x6 xs0 =
    BODY arg1 harg1 arg2 harg2 arg3 harg3 arg4 harg4 arg5 harg5 arg6 harg6 arg7 harg7 x0 x1 x2 x3 x4 x5 x6 (tailB arg9 harg9 xs0 0 0) (tailB arg9 harg9 xs0 1 0) (tailB arg9 harg9 xs0 0 1) (tailB arg9 harg9 xs0 1 1) (tailB arg9 harg9 xs0 0 2) (tailB arg9 harg9 xs0 1 2) (tailB arg9 harg9 xs0 0 3) (tailB arg9 harg9 xs0 1 3) (tailB arg9 harg9 xs0 0 4) (tailB arg9 harg9 xs0 1 4) (tailB arg9 harg9 xs0 0 5) (tailB arg9 harg9 xs0 1 5) (tailB arg9 harg9 xs0 0 6) (tailB arg9 harg9 xs0 1 6) (tailB arg9 harg9 xs0 0 7) (tailB arg9 harg9 xs0 1 7) (tailB arg9 harg9 xs0 0 8) (tailB arg9 harg9 xs0 1 8) (tailB arg9 harg9 xs0 0 9) (tailB arg9 harg9 xs0 1 9) (tailB arg9 harg9 xs0 0 10) (tailB arg9 harg9 xs0 1 10) := by
  unfold out0_B_7
  exact (congrArg (fun L => VO0_7.read (Elt Ideal) (VO0_7.writes (Elt Ideal) VO0_7.junk L)) (run_B' arg1 harg1 arg2 harg2 arg3 harg3 arg4 harg4 arg5 harg5 arg6 harg6 arg7 harg7 arg8 harg8 arg9 harg9 x0 x1 x2 x3 x4 x5 x6 xs0 c i hc0)).trans (View.read_writes_full (Val := Elt Ideal) VO0_7 VO0_7.junk _ _ _)
/-- What the first case leaves in the scratch. -/
theorem outS (hc0 : cond0_0 i) : sout0_A_0 c i arg1 harg1 arg2 harg2 arg3 harg3 arg4 harg4 arg5 harg5 arg6 harg6 arg7 harg7 arg8 harg8 arg9 harg9 hc0 x0 x1 x2 x3 x4 x5 x6 = VS0_0.read (Elt Ideal) (VS0_0.writes (Elt Ideal) VS0_0.junk (pl arg1 harg1 arg2 harg2 x0 x1 22)) := by
  unfold sout0_A_0
  exact congrArg (fun L => VS0_0.read (Elt Ideal) (VS0_0.writes (Elt Ideal) VS0_0.junk L)) (run_S arg1 harg1 arg2 harg2 arg3 harg3 arg4 harg4 arg5 harg5 arg6 harg6 arg7 harg7 arg8 harg8 arg9 harg9 x0 x1 x2 x3 x4 x5 x6 c i hc0)
end

section
variable (m : (ℓ : Loc nD τ sig) → Buf (Elt Ideal) ℓ) (c : Dev nD)
/-- A batch of the call's first argument. -/
abbrev mH (b : Fin 16) (t : Fin 2048) (k : Fin 1024) : EReal := (m ((c : Thread nD τ).loc main_arg0) : FVec Ideal S16x2048x1024 .f32) (ix3 b t k)
/-- The up projection's weights. -/
abbrev mW (k : Fin 1024) (j : Fin 5632) : EReal := (m ((c : Thread nD τ).loc main_arg1) : FVec Ideal S1024x5632 .f32) (ix2 k j)
/-- The convolution's weights. -/
abbrev mC (i : Fin 3) (j : Fin 5632) : EReal := (m ((c : Thread nD τ).loc main_arg2) : FVec Ideal S3x5632 .f32) (ix2 i j)
/-- The convolution's bias. -/
abbrev mB (j : Fin 5632) : EReal := (m ((c : Thread nD τ).loc main_arg3) : FVec Ideal S5632 .f32) (ix1 j)
/-- The down projection's weights. -/
abbrev mD (f : Fin 2816) (n : Fin 1024) : EReal := (m ((c : Thread nD τ).loc main_arg4) : FVec Ideal S2816x1024 .f32) (ix2 f n)
/-- The normalization's gain. -/
abbrev mG (n : Fin 1024) : EReal := (m ((c : Thread nD τ).loc main_arg5) : FVec Ideal S1024 .f32) (ix1 n)
/-- The normalization's shift. -/
abbrev mS (n : Fin 1024) : EReal := (m ((c : Thread nD τ).loc main_arg6) : FVec Ideal S1024 .f32) (ix1 n)

variable (t : Fin cfg0.N)
/-- After a batch's first tile the scratch holds the tile's last eight rows, projected up. -/
theorem scr_at (h0 : t.val % 2 = 0) (k : ℕ) (hk : k < 22) (s : Fin 8) (q : Fin 256) :
    ((outsAt0 m c t.val t.isLt).2 : FVec Ideal S8x5632 .f32) (ix2 s (⟨oo k + q.val, by have := oo_le k; omega⟩ : Fin 5632)) = (up (mH m c (pb t)) (mW m c) ⟨oo k + q.val, by have := oo_le k; omega⟩ ⟨1016 + s.val, by omega⟩ : EReal) := by
  refine (congrFun (snd_of (outsAt0_A m c t h0)) _).trans ?_
  refine (congrFun (outS (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) c (grid0.coords t) ((hcond0_0 t).mpr h0)) _).trans ?_
  refine (pl_last (ms0_0 t) (hs0_0 t) (ms0_1 t) (hs0_1 t) (iblk m c 0 t) (iblk m c 1 t) VS0_0 VS0_0.junk k s q 22 hk (Nat.le_refl _)).trans ?_
  refine (uv_at (ms0_0 t) (hs0_0 t) (ms0_1 t) (hs0_1 t) (iblk m c 0 t) (iblk m c 1 t) (mH m c (pb t)) (mW m c) 0 (by decide) (fun p k => ?_) (blk1_at m c t) (oo k) (oo_le k) _ q).trans ?_
  · refine (blk0_at m c t p k).trans ?_
    exact congrArg (fun z => mH m c (pb t) z k) (Fin.ext (by show 1024 * (t.val % 2) + p.val = 1024 * 0 + p.val; rw [h0]))
  · exact congrArg _ (Fin.ext (by show 1024 * 0 + (1016 + s.val) = 1016 + s.val; omega))

/-- The body's element at a grid point. -/
theorem point_at (p n : Fin 1024) :
    ((outsAt0 m c t.val t.isLt).1 : FVec Ideal S1024x1024 .f32) (ix2 p n) = (out (mH m c (pb t)) (mW m c) (mC m c) (mB m c) (mD m c) (mG m c) (mS m c) geluK (pr t p) n : EReal) := by
  have hb := body_at (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t) (mH m c (pb t)) (mW m c) (mC m c) (mB m c) (mD m c) (mG m c) (mS m c) (t.val % 2) (by omega)
    (blk0_at m c t) (blk1_at m c t) (blk2_at m c t) (blk3_at m c t) (blk4_at m c t) (blk5_at m c t) (blk6_at m c t)
  have ho0 : ∀ (x : Fin 11) (q : Fin 256), oo (2 * x.val + 0) + q.val = 256 * x.val + q.val := fun x q => by
    have : (2 * x.val + 0) % 22 = 2 * x.val := by omega
    unfold oo; rw [this]; omega
  have ho1 : ∀ (x : Fin 11) (q : Fin 256), oo (2 * x.val + 1) + q.val = 2816 + 256 * x.val + q.val := fun x q => by
    have : (2 * x.val + 1) % 22 = 2 * x.val + 1 := by omega
    unfold oo; rw [this]; omega
  by_cases h0 : t.val % 2 = 0
  · have e2 := outA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) c (grid0.coords t) ((hcond0_0 t).mpr h0)
    have e1 := fst_of (outsAt0_A m c t h0)
    have e := e1.trans e2
    refine (congrFun e (ix2 p n)).trans ?_
    exact hb (fun x => tailA (ms0_0 t) (hs0_0 t) (ms0_1 t) (hs0_1 t) scM0_0 (iblk m c 0 t) (iblk m c 1 t) 0 x.val) (fun x => tailA (ms0_0 t) (hs0_0 t) (ms0_1 t) (hs0_1 t) scM0_0 (iblk m c 0 t) (iblk m c 1 t) 1 x.val)
      (fun x i q => (tailA_at _ _ _ _ _ _ _ 0 x.val x.isLt (by decide) i q).trans (if_neg (by omega)).symm)
      (fun x i q => (tailA_at _ _ _ _ _ _ _ 1 x.val x.isLt (by decide) i q).trans (if_neg (by omega)).symm) p n
  · have hN := tlt t
    have hlt : t.val - 1 < cfg0.N := Nat.lt_of_le_of_lt (Nat.sub_le _ _) t.isLt
    have e2 := outB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) hlt).2 c (grid0.coords t) (fun h => h0 ((hcond0_0 t).mp h))
    have e1 := fst_of (outsAt0_B m c t h0)
    have e := e1.trans e2
    refine (congrFun e (ix2 p n)).trans ?_
    have hs : ∀ (k : ℕ) (_ : k < 22) (i : Fin 8) (q : Fin 256) (j : Fin 5632) (_ : oo k + q.val = j.val),
        ((outsAt0 m c (t.val - 1) hlt).2 : FVec Ideal S8x5632 .f32) (ix2 i (⟨oo k + q.val, by have := oo_le k; omega⟩ : Fin 5632)) = tl (up (mH m c (pb t)) (mW m c) j) (t.val % 2) i := fun k hk i q j hj => by
      refine (scr_at m c ⟨t.val - 1, hlt⟩ (by show (t.val - 1) % 2 = 0; omega) k hk i q).trans ?_
      unfold tl
      rw [if_pos (by omega)]
      refine congrArg₂ (fun (b : Fin 16) (j : Fin 5632) => up (mH m c b) (mW m c) j _) (Fin.ext ?_) (Fin.ext hj)
      show (t.val - 1) / 2 = t.val / 2
      omega
    exact hb (fun x => tailB scM0_0 (Memref.isWhole_whole _) (outsAt0 m c (t.val - 1) hlt).2 0 x.val) (fun x => tailB scM0_0 (Memref.isWhole_whole _) (outsAt0 m c (t.val - 1) hlt).2 1 x.val)
      (fun x i q => (tailB_at _ _ _ 0 x.val i q).trans (hs _ (by omega) i q _ (ho0 x q)))
      (fun x i q => (tailB_at _ _ _ 1 x.val i q).trans (hs _ (by omega) i q _ (ho1 x q))) p n
end
end Cert.MlpIdeal.Exact
end
-- ==== Proof.MPre.lean ====
/- What the MLP claim's precondition says of each element. -/
module

public import proofs.«01_k».proof.Defs
public import proofs.«01_k».proof.Proof.MSpec
public import proofs.«01_k».proof.Proof.Gen.Pre_finite
public import Idealize.ShloMosaic.Lib.ReduceAll
public import Idealize.ShloMosaic.Lib.ValueIdx

@[expose] public section
noncomputable section
namespace Cert.Pre_finite.Exact
open Idealize.ShloMosaic Idealize.ShloMosaic.TcCoe
open Cert.Pre_finite Cert.MSpec
set_option maxRecDepth 16384

theorem and_one : ∀ a b : BitVec 1, IntOp.andi a b = 1#1 → a = 1#1 ∧ b = 1#1 := by decide
theorem inf_top : Ideal.ofBits .f32 0x7F800000#32 = (⊤ : EReal) := by
  simp [Ideal.ofBits, Ideal.ieee]
/-- A value whose magnitude is below plus infinity is finite. -/
theorem fin_of (x : EReal) (h : (FloatOps.cmpf .olt (FloatOps.absf (x : Ideal .f32)) (Ideal.ofBits .f32 0x7F800000#32 : Ideal .f32) : BitVec 1) = 1#1) : Fin' x := by
  rw [inf_top] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩
variable [hF : Facts]
theorem fn_fin (a0 : FVec Ideal S16x2048x1024 .f32) (a1 : FVec Ideal S1024x5632 .f32) (a2 : FVec Ideal S3x5632 .f32) (a3 : FVec Ideal S5632 .f32) (a4 : FVec Ideal S2816x1024 .f32) (a5 a6 : FVec Ideal S1024 .f32)
    (h : fn (F := Ideal) a0 a1 a2 a3 a4 a5 a6 = fun _ => 1#1) : (∀ i, Fin' (a0 i)) ∧ (∀ i, Fin' (a1 i)) ∧ (∀ i, Fin' (a2 i)) ∧ ∀ i, Fin' (a3 i) := by
  have j : S_.Idx := fun a => a.elim0
  have hs : Subsingleton S_.Idx := ⟨fun x y => funext fun a => a.elim0⟩
  have e := congrFun h j
  obtain ⟨e, h3⟩ := and_one _ _ e
  obtain ⟨e, h2⟩ := and_one _ _ e
  obtain ⟨h0, h1⟩ := and_one _ _ e
  exact ⟨fun i => fin_of _ (Host.reduce_andi_all _ _ _ _ _ h0 i), fun i => fin_of _ (Host.reduce_andi_all _ _ _ _ _ h1 i),
    fun i => fin_of _ (Host.reduce_andi_all _ _ _ _ _ h2 i), fun i => fin_of _ (Host.reduce_andi_all _ _ _ _ _ h3 i)⟩
end Cert.Pre_finite.Exact
end
-- ==== Proof.MRef.lean ====
/- The MLP reference's result, element by element. -/
module

public import proofs.«01_k».proof.Proof.Gen.MlpReferenceIdeal
public import proofs.«01_k».proof.Proof.Gen.MlpReferenceIdeal.Run
public import proofs.«01_k».proof.Proof.MSpec
public import Idealize.ShloMosaic.Lib.Pointwise
public import Idealize.ShloMosaic.Lib.IdealHost
public import Idealize.ShloMosaic.Lib.Tactic

@[expose] public section
noncomputable section
namespace Cert.MlpReferenceIdeal.Exact
open Cert.MlpReferenceIdeal Cert.MlpReferenceIdeal.Gen Cert.MlpReferenceIdeal.Value
open Idealize.ShloMosaic Idealize.ShloMosaic.TcCoe Idealize.ShloMosaic.Tactic
open Cert.MSpec
set_option maxRecDepth 16384

/-- The projection up. -/
def uu (a0 : FVec Ideal S16x2048x1024 .f32) (a1 : FVec Ideal S1024x5632 .f32) : FVec Ideal S16x2048x5632 .f32 :=
  (Host.dotGeneral dot_S16x2048x1024_S1024x5632_S16x2048x5632_2_0_01_1_n_n none a0 a1)
/-- The convolution. -/
def yy (UU : FVec Ideal S16x2048x5632 .f32) (a2 : FVec Ideal S3x5632 .f32) (a3 : FVec Ideal S5632 .f32) : FVec Ideal S16x2048x5632 .f32 :=
  (addf (addf (addf (mulf (broadcastInDim S16x2048x5632 ![0, 1, 2] bcast_S1x1x5632_S16x2048x5632_0_1_2 (broadcastInDim S1x1x5632 ![2] bcast_S5632_S1x1x5632_2 (shapeCast _ (extractStridedSlice S1x5632 ![0, 0] a2 slices_S3x5632_S1x5632_0_0) shapeCasts_S1x5632_S5632))) (extractStridedSlice S16x2048x5632 ![0, 0, 0] (pad S16x2050x5632 ![0, 2, 0] ![0, 0, 0] ![0, 0, 0] UU (sitofp .f32 (constantI S_ 32 0#32)) pads_S16x2048x5632_S16x2050x5632_000_200_000 h_S_) slices_S16x2050x5632_S16x2048x5632_0_0_0)) (mulf (broadcastInDim S16x2048x5632 ![0, 1, 2] bcast_S1x1x5632_S16x2048x5632_0_1_2 (broadcastInDim S1x1x5632 ![2] bcast_S5632_S1x1x5632_2 (shapeCast _ (extractStridedSlice S1x5632 ![1, 0] a2 slices_S3x5632_S1x5632_1_0) shapeCasts_S1x5632_S5632))) (extractStridedSlice S16x2048x5632 ![0, 1, 0] (pad S16x2050x5632 ![0, 2, 0] ![0, 0, 0] ![0, 0, 0] UU (sitofp .f32 (constantI S_ 32 0#32)) pads_S16x2048x5632_S16x2050x5632_000_200_000 h_S_) slices_S16x2050x5632_S16x2048x5632_0_1_0))) (mulf (broadcastInDim S16x2048x5632 ![0, 1, 2] bcast_S1x1x5632_S16x2048x5632_0_1_2 (broadcastInDim S1x1x5632 ![2] bcast_S5632_S1x1x5632_2 (shapeCast _ (extractStridedSlice S1x5632 ![2, 0] a2 slices_S3x5632_S1x5632_2_0) shapeCasts_S1x5632_S5632))) UU)) (broadcastInDim S16x2048x5632 ![0, 1, 2] bcast_S1x1x5632_S16x2048x5632_0_1_2 (broadcastInDim S1x1x5632 ![2] bcast_S5632_S1x1x5632_2 a3)))
/-- The gated activation. -/
def gg (YY : FVec Ideal S16x2048x5632 .f32) : FVec Ideal S16x2048x2816 .f32 :=
  (mulf (mulf (extractStridedSlice S16x2048x2816 ![0, 0, 0] YY slices_S16x2048x5632_S16x2048x2816_0_0_0) (mulf (broadcastInDim S16x2048x2816 ![] bcast_S_S16x2048x2816 (constant S_ .f32 0x3F000000#32)) (addf (broadcastInDim S16x2048x2816 ![] bcast_S_S16x2048x2816 (constant S_ .f32 0x3F800000#32)) (Host.tanh (mulf (broadcastInDim S16x2048x2816 ![] bcast_S_S16x2048x2816 (constant S_ .f32 0x3F4C422A#32)) (addf (extractStridedSlice S16x2048x2816 ![0, 0, 0] YY slices_S16x2048x5632_S16x2048x2816_0_0_0) (mulf (broadcastInDim S16x2048x2816 ![] bcast_S_S16x2048x2816 (constant S_ .f32 0x3D372713#32)) (mulf (mulf (extractStridedSlice S16x2048x2816 ![0, 0, 0] YY slices_S16x2048x5632_S16x2048x2816_0_0_0) (extractStridedSlice S16x2048x2816 ![0, 0, 0] YY slices_S16x2048x5632_S16x2048x2816_0_0_0)) (extractStridedSlice S16x2048x2816 ![0, 0, 0] YY slices_S16x2048x5632_S16x2048x2816_0_0_0))))))))) (extractStridedSlice S16x2048x2816 ![0, 0, 2816] YY slices_S16x2048x5632_S16x2048x2816_0_0_2816))
/-- The residual sum. -/
def zz (GG : FVec Ideal S16x2048x2816 .f32) (a0 : FVec Ideal S16x2048x1024 .f32) (a4 : FVec Ideal S2816x1024 .f32) : FVec Ideal S16x2048x1024 .f32 :=
  (addf (mulf (broadcastInDim S16x2048x1024 ![] bcast_S_S16x2048x1024 (constant S_ .f32 0x3FB504F3#32)) a0) (Host.dotGeneral dot_S16x2048x2816_S2816x1024_S16x2048x1024_2_0_01_1_n_n none GG a4))
/-- The mean of each row. -/
def mu (ZZ : FVec Ideal S16x2048x1024 .f32) : FVec Ideal S16x2048x1 .f32 :=
  (Host.divf (broadcastInDim S16x2048x1 ![0, 1] bcast_S16x2048_S16x2048x1_0_1 (Host.reduceAdd ZZ (constant S_ .f32 0x00000000#32) reducesTo_S16x2048x1024_S16x2048_d2 h_S_)) (broadcastInDim S16x2048x1 ![] bcast_S_S16x2048x1 (constant S_ .f32 0x44800000#32)))
/-- The normalized rows. -/
def ln (ZZ : FVec Ideal S16x2048x1024 .f32) (MU : FVec Ideal S16x2048x1 .f32) (a5 a6 : FVec Ideal S1024 .f32) : FVec Ideal S32768x1024 .f32 :=
  shapeCast _ (addf (mulf (mulf (subf ZZ (broadcastInDim S16x2048x1024 ![0, 1, 2] bcast_S16x2048x1_S16x2048x1024_0_1_2 MU)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (subf ZZ (broadcastInDim S16x2048x1024 ![0, 1, 2] bcast_S16x2048x1_S16x2048x1024_0_1_2 MU)) (subf ZZ (broadcastInDim S16x2048x1024 ![0, 1, 2] bcast_S16x2048x1_S16x2048x1024_0_1_2 MU))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 a5))) (broadcastInDim S16x2048x1024 ![0, 1, 2] bcast_S1x1x1024_S16x2048x1024_0_1_2 (broadcastInDim S1x1x1024 ![2] bcast_S1024_S1x1x1024_2 a6))) shapeCasts_S16x2048x1024_S32768x1024

theorem res_eq (m : (ℓ : Loc nD τ sig) → Buf (Elt Ideal) ℓ) (c : Dev nD) : res_main_v68 m c =
    ln (zz (gg (yy (uu (m ((c.tc : Thread nD τ).loc main_arg0)) (m ((c.tc : Thread nD τ).loc main_arg1))) (m ((c.tc : Thread nD τ).loc main_arg2)) (m ((c.tc : Thread nD τ).loc main_arg3)))) (m ((c.tc : Thread nD τ).loc main_arg0)) (m ((c.tc : Thread nD τ).loc main_arg4)))
      (mu (zz (gg (yy (uu (m ((c.tc : Thread nD τ).loc main_arg0)) (m ((c.tc : Thread nD τ).loc main_arg1))) (m ((c.tc : Thread nD τ).loc main_arg2)) (m ((c.tc : Thread nD τ).loc main_arg3)))) (m ((c.tc : Thread nD τ).loc main_arg0)) (m ((c.tc : Thread nD τ).loc main_arg4))))
      (m ((c.tc : Thread nD τ).loc main_arg5)) (m ((c.tc : Thread nD τ).loc main_arg6)) := by
  sl_kernel_rfl

theorem sito : (FloatOps.sitofp .f32 0#32 : Ideal .f32) = (0 : EReal) := by
  show ((((0#32 : BitVec 32).toInt : ℤ) : ℝ) : EReal) = 0
  simp
theorem uu_at (a0 : FVec Ideal S16x2048x1024 .f32) (a1 : FVec Ideal S1024x5632 .f32) (b : Fin 16) (t : Fin 2048) (j : Fin 5632) :
    uu a0 a1 (ix3 b t j) = (up (fun t k => a0 (ix3 b t k)) (fun k j => a1 (ix2 k j)) j t : EReal) := by
  unfold up
  pointwise [uu]
theorem yy_at (u : FVec Ideal S16x2048x5632 .f32) (a2 : FVec Ideal S3x5632 .f32) (a3 : FVec Ideal S5632 .f32) (b : Fin 16) (t : Fin 2048) (j : Fin 5632) :
    yy u a2 a3 (ix3 b t j) = (conv (fun t => u (ix3 b t j)) (fun i => a2 (ix2 i j)) (a3 (ix1 j)) t : EReal) := by
  have e : yy u a2 a3 (ix3 b t j) = (((a2 (ix2 0 j) * (if h : 2 ≤ t.val ∧ t.val - 2 < 2048 then u (ix3 b (⟨t.val - 2, h.2⟩ : Fin 2048) j) else FloatOps.sitofp .f32 0#32 : Ideal .f32)
      + a2 (ix2 1 j) * (if h : 2 ≤ 1 + t.val ∧ 1 + t.val - 2 < 2048 then u (ix3 b (⟨1 + t.val - 2, h.2⟩ : Fin 2048) j) else FloatOps.sitofp .f32 0#32 : Ideal .f32)) + a2 (ix2 2 j) * u (ix3 b t j)) + a3 (ix1 j) : EReal) := by
    pointwise [yy]
  have e2 : (if h : 2 ≤ t.val ∧ t.val - 2 < 2048 then u (ix3 b (⟨t.val - 2, h.2⟩ : Fin 2048) j) else FloatOps.sitofp .f32 0#32 : Ideal .f32) = back (fun t => u (ix3 b t j)) 2 t := by
    unfold back
    by_cases h : 2 ≤ t.val
    · rw [dif_pos ⟨h, by omega⟩, dif_pos h]
    · rw [dif_neg (fun h' => h h'.1), dif_neg h]; exact sito
  have e1 : (if h : 2 ≤ 1 + t.val ∧ 1 + t.val - 2 < 2048 then u (ix3 b (⟨1 + t.val - 2, h.2⟩ : Fin 2048) j) else FloatOps.sitofp .f32 0#32 : Ideal .f32) = back (fun t => u (ix3 b t j)) 1 t := by
    unfold back
    by_cases h : 1 ≤ t.val
    · rw [dif_pos ⟨by omega, by omega⟩, dif_pos h]
      exact congrArg (fun z : Fin 2048 => (u (ix3 b z j) : EReal)) (Fin.ext (by show 1 + t.val - 2 = t.val - 1; omega))
    · rw [dif_neg (fun h' => h (by omega)), dif_neg h]; exact sito
  rw [e, e2, e1]
  rfl
theorem gg_at (y : FVec Ideal S16x2048x5632 .f32) (b : Fin 16) (t : Fin 2048) (f : Fin 2816) :
    gg y (ix3 b t f) = (gelu (y (ix3 b t (⟨f.val, by omega⟩ : Fin 5632))) * y (ix3 b t (⟨2816 + f.val, by omega⟩ : Fin 5632)) : EReal) := by
  unfold gelu
  pointwise [gg]
theorem zz_at (g : FVec Ideal S16x2048x2816 .f32) (a0 : FVec Ideal S16x2048x1024 .f32) (a4 : FVec Ideal S2816x1024 .f32) (b : Fin 16) (t : Fin 2048) (n : Fin 1024) :
    zz g a0 a4 (ix3 b t n) = (AL * a0 (ix3 b t n) + ∑ f : Fin 2816, g (ix3 b t f) * a4 (ix2 f n) : EReal) := by
  pointwise [zz]
theorem mu_at (z : FVec Ideal S16x2048x1024 .f32) (b : Fin 16) (t : Fin 2048) : mu z (ix3 b t 0) = (mean (fun n => z (ix3 b t n)) : EReal) := by
  unfold mean
  pointwise [mu]
theorem ln_at (z : FVec Ideal S16x2048x1024 .f32) (u : FVec Ideal S16x2048x1 .f32) (a5 a6 : FVec Ideal S1024 .f32) (r : Fin 32768) (n : Fin 1024) :
    ln z u a5 a6 (ix2 r n) = ((z (ix3 (⟨r.val / 2048, by omega⟩ : Fin 16) (⟨r.val % 2048, by omega⟩ : Fin 2048) n) - u (ix3 (⟨r.val / 2048, by omega⟩ : Fin 16) (⟨r.val % 2048, by omega⟩ : Fin 2048) 0))
      * Ideal.rsqrt (Ideal.div (∑ x : Fin 1024, (z (ix3 (⟨r.val / 2048, by omega⟩ : Fin 16) (⟨r.val % 2048, by omega⟩ : Fin 2048) x) - u (ix3 (⟨r.val / 2048, by omega⟩ : Fin 16) (⟨r.val % 2048, by omega⟩ : Fin 2048) 0))
        * (z (ix3 (⟨r.val / 2048, by omega⟩ : Fin 16) (⟨r.val % 2048, by omega⟩ : Fin 2048) x) - u (ix3 (⟨r.val / 2048, by omega⟩ : Fin 16) (⟨r.val % 2048, by omega⟩ : Fin 2048) 0))) CN + EP) * a5 (ix1 n) + a6 (ix1 n) : EReal) := by
  pointwise [ln]

/-- The reference's result at one row and column. -/
theorem ref_at (m : (ℓ : Loc nD τ sig) → Buf (Elt Ideal) ℓ) (c : Dev nD) (r : Fin 32768) (n : Fin 1024) : (res_main_v68 m c : FVec Ideal S32768x1024 .f32) (ix2 r n)
    = (out (fun t k => (m ((c.tc : Thread nD τ).loc main_arg0) : FVec Ideal S16x2048x1024 .f32) (ix3 (⟨r.val / 2048, by omega⟩ : Fin 16) t k))
      (fun k j => (m ((c.tc : Thread nD τ).loc main_arg1) : FVec Ideal S1024x5632 .f32) (ix2 k j)) (fun i j => (m ((c.tc : Thread nD τ).loc main_arg2) : FVec Ideal S3x5632 .f32) (ix2 i j))
      (fun j => (m ((c.tc : Thread nD τ).loc main_arg3) : FVec Ideal S5632 .f32) (ix1 j)) (fun f n => (m ((c.tc : Thread nD τ).loc main_arg4) : FVec Ideal S2816x1024 .f32) (ix2 f n))
      (fun n => (m ((c.tc : Thread nD τ).loc main_arg5) : FVec Ideal S1024 .f32) (ix1 n)) (fun n => (m ((c.tc : Thread nD τ).loc main_arg6) : FVec Ideal S1024 .f32) (ix1 n)) gelu (⟨r.val % 2048, by omega⟩ : Fin 2048) n : EReal) := by
  refine (congrFun (res_eq m c) _).trans ((ln_at _ _ _ _ r n).trans ?_)
  simp only [mu_at, zz_at, gg_at, yy_at, uu_at]
  rfl
end Cert.MlpReferenceIdeal.Exact
end
-- ==== Proof.MFinal.lean ====
/- The MLP program's claims: its frames, its named constant, and its value. -/
module

public import proofs.«01_k».proof.Proof.MPoint
public import proofs.«01_k».proof.Proof.MPre
public import proofs.«01_k».proof.Proof.MRef
public import proofs.«01_k».proof.Proof.Gen.Mlp.Frame
public import Idealize.ShloMosaic.Adequacy
public import Idealize.ShloMosaic.Init

@[expose] public section
noncomputable section
namespace Cert.MlpIdeal.Exact
open Cert.MlpIdeal Cert.MlpIdeal.Gen
open Idealize.ShloMosaic Idealize.ShloMosaic.TcCoe Idealize.ShloMosaic.Tactic
open Cert.MSpec
set_option maxRecDepth 16384

/-- The layer's value depends on its arguments' elements alone. -/
theorem out_congr {H H' : Fin 2048 → Fin 1024 → EReal} {W W' : Fin 1024 → Fin 5632 → EReal} {cw cw' : Fin 3 → Fin 5632 → EReal} {cb cb' : Fin 5632 → EReal} {D D' : Fin 2816 → Fin 1024 → EReal} {g g' b b' : Fin 1024 → EReal}
    {G : EReal → EReal} {t t' : Fin 2048} (n : Fin 1024) (hH : ∀ t k, H t k = H' t k) (hW : ∀ k j, W k j = W' k j) (hw : ∀ i j, cw i j = cw' i j) (hb : ∀ j, cb j = cb' j) (hD : ∀ f n, D f n = D' f n)
    (hg : ∀ n, g n = g' n) (hc : ∀ n, b n = b' n) (ht : t = t') : out H W cw cb D g b G t n = out H' W' cw' cb' D' g' b' G t' n := by
  obtain rfl : H = H' := funext fun a => funext (hH a)
  obtain rfl : W = W' := funext fun a => funext (hW a)
  obtain rfl : cw = cw' := funext fun a => funext (hw a)
  obtain rfl : cb = cb' := funext hb
  obtain rfl : D = D' := funext fun a => funext (hD a)
  obtain rfl : g = g' := funext hg
  obtain rfl : b = b' := funext hc
  rw [ht]

section
variable (m : (ℓ : Loc nD τ sig) → Buf (Elt Ideal) ℓ) (c : Dev nD) (m' : (ℓ : Loc Cert.MlpReferenceIdeal.nD Cert.MlpReferenceIdeal.τ Cert.MlpReferenceIdeal.sig) → Buf (Elt Ideal) ℓ)
/-- An element of the reference's first argument. -/
abbrev rH (b : Fin 16) (t : Fin 2048) (k : Fin 1024) : EReal := (m' ((c.tc : Thread Cert.MlpReferenceIdeal.nD Cert.MlpReferenceIdeal.τ).loc Cert.MlpReferenceIdeal.main_arg0) : FVec Ideal S16x2048x1024 .f32) (ix3 b t k)
/-- The reference's arguments are the kernel's. -/
structure Agree : Prop where
  a0 : ∀ b t k, rH c m' b t k = mH m c b t k
  a1 : ∀ k j, (m' ((c.tc : Thread Cert.MlpReferenceIdeal.nD Cert.MlpReferenceIdeal.τ).loc Cert.MlpReferenceIdeal.main_arg1) : FVec Ideal S1024x5632 .f32) (ix2 k j) = mW m c k j
  a2 : ∀ i j, (m' ((c.tc : Thread Cert.MlpReferenceIdeal.nD Cert.MlpReferenceIdeal.τ).loc Cert.MlpReferenceIdeal.main_arg2) : FVec Ideal S3x5632 .f32) (ix2 i j) = mC m c i j
  a3 : ∀ j, (m' ((c.tc : Thread Cert.MlpReferenceIdeal.nD Cert.MlpReferenceIdeal.τ).loc Cert.MlpReferenceIdeal.main_arg3) : FVec Ideal S5632 .f32) (ix1 j) = mB m c j
  a4 : ∀ f n, (m' ((c.tc : Thread Cert.MlpReferenceIdeal.nD Cert.MlpReferenceIdeal.τ).loc Cert.MlpReferenceIdeal.main_arg4) : FVec Ideal S2816x1024 .f32) (ix2 f n) = mD m c f n
  a5 : ∀ n, (m' ((c.tc : Thread Cert.MlpReferenceIdeal.nD Cert.MlpReferenceIdeal.τ).loc Cert.MlpReferenceIdeal.main_arg5) : FVec Ideal S1024 .f32) (ix1 n) = mG m c n
  a6 : ∀ n, (m' ((c.tc : Thread Cert.MlpReferenceIdeal.nD Cert.MlpReferenceIdeal.τ).loc Cert.MlpReferenceIdeal.main_arg6) : FVec Ideal S1024 .f32) (ix1 n) = mS m c n
/-- The arguments the activation reads are finite. -/
structure Finite : Prop where
  f0 : ∀ b t k, Fin' (mH m c b t k)
  f1 : ∀ k j, Fin' (mW m c k j)
  f2 : ∀ i j, Fin' (mC m c i j)
  f3 : ∀ j, Fin' (mB m c j)
/-- The block each grid point writes is the reference's. -/
theorem block_eq (hA : Agree m c m') (hf : Finite m c) (t : Fin cfg0.N) (y : S1024x1024.Idx) :
    ((outsAt0 m c t.val t.isLt).1 : FVec Ideal S1024x1024 .f32) y = (Cert.MlpReferenceIdeal.Value.res_main_v68 m' c : FVec Ideal S32768x1024 .f32) (((cfg0.win 7).blk t).view.emb y) := by
  obtain ⟨p, n, rfl⟩ : ∃ p n : Fin 1024, y = ix2 p n := ⟨y 0, y 1, by funext x; fin_cases x <;> rfl⟩
  have hN := tlt t
  refine (point_at m c t p n).trans ((out_gelu _ _ _ _ _ _ _ (hf.f0 (pb t)) hf.f1 hf.f2 hf.f3 (pr t p) n).trans ?_)
  refine Eq.trans ?_ (congrArg (Cert.MlpReferenceIdeal.Value.res_main_v68 m' c : FVec Ideal S32768x1024 .f32) (emb7_at t p n)).symm
  refine Eq.trans ?_ (Cert.MlpReferenceIdeal.Exact.ref_at m' c (px t p) n).symm
  have hb : pb t = (⟨(px t p).val / 2048, by omega⟩ : Fin 16) := Fin.ext (by show t.val / 2 = (1024 * t.val + p.val) / 2048; omega)
  refine out_congr n (fun s k => ?_) (fun _ _ => (hA.a1 _ _).symm) (fun _ _ => (hA.a2 _ _).symm) (fun _ => (hA.a3 _).symm) (fun _ _ => (hA.a4 _ _).symm) (fun _ => (hA.a5 _).symm) (fun _ => (hA.a6 _).symm)
    (Fin.ext (by show 1024 * (t.val % 2) + p.val = (1024 * t.val + p.val) % 2048; omega))
  exact (congrArg (fun b => mH m c b s k) hb).trans (hA.a0 _ _ _).symm
end
end Cert.MlpIdeal.Exact

namespace Cert.Proof
open Idealize.ShloMosaic Idealize.ShloMosaic.TcCoe Idealize.SL.Sem
open Cert.MlpIdeal.Exact

/-- The MLP kernel ends every run and leaves its arguments as they were. -/
theorem frame_mlp : Cert.quiescent_Mlp := fun m ρ _ => Cert.Mlp.Gen.frame m ρ
/-- So does its ideal form. -/
theorem frame_mlp_ideal : Cert.quiescent_MlpIdeal := fun m ρ _ => Cert.MlpIdeal.Gen.frame m ρ
/-- So it does of finite arguments. -/
theorem frame_mlp_ideal_finite : Cert.quiescent_MlpIdeal_pre_finite := fun m ρ _ => frame_mlp_ideal m ρ trivial
/-- So does the reference. -/
theorem frame_mlp_reference : Cert.quiescent_MlpReferenceIdeal := fun m ρ _ =>
  (θ_run Cert.MlpReferenceIdeal.defs _ _).mono (fun r h => ⟨fun c => (h c).2, Idealize.ShloMosaic.sem_eq_zero_of_no_sems (by decide) r.2⟩) (Cert.MlpReferenceIdeal.Value.run (F := Ideal) m ρ)
/-- So it does of finite arguments. -/
theorem frame_mlp_reference_finite : Cert.quiescent_MlpReferenceIdeal_pre_finite := fun m ρ _ => frame_mlp_reference m ρ trivial
/-- The named constant denotes the rational number that its bits spell. -/
theorem ledger_mlp : Cert.preserves_Mlp_MlpIdeal :=
  IdealRules.named_const.statement Cert.MlpIdeal.κ "cubic" .f32 0x3D122279#32 ((80338380498831 / 2251799813685248 : ℝ) : EReal) rfl

/-- The MLP's value claim. -/
theorem algebraic_mlp : Cert.algebraic_MlpIdeal_MlpReferenceIdeal_pre_finite := by
  intro m g m' g' hpre hagree
  refine ⟨fun c => Cert.MlpReferenceIdeal.Value.res_main_v68 m' c, ?_, ?_⟩
  · refine (θ_run Cert.MlpIdeal.defs _ _).mono (fun r h c => ?_) (θ_run_and (Cert.MlpIdeal.Gen.unchanged m g) (Cert.MlpIdeal.Gen.run_main m g))
    obtain ⟨h0, h1, h2, h3, h4, h5, h6⟩ := hagree c
    obtain ⟨f0, f1, f2, f3⟩ := Cert.Pre_finite.Exact.fn_fin _ _ _ _ _ _ _ (hpre c)
    have hA : Agree m c m' := ⟨fun b t k => congrFun h0 (ix3 b t k), fun k j => congrFun h1 (ix2 k j), fun i j => congrFun h2 (ix2 i j), fun j => congrFun h3 (ix1 j),
      fun f n => congrFun h4 (ix2 f n), fun n => congrFun h5 (ix1 n), fun n => congrFun h6 (ix1 n)⟩
    have hf : Finite m c := ⟨fun b t k => f0 (ix3 b t k), fun k j => f1 (ix2 k j), fun i j => f2 (ix2 i j), fun j => f3 (ix1 j)⟩
    exact ⟨((h.2 c).1 7).trans (out_eq m c _ (block_eq m c m' hA hf)), h.1 c⟩
  · exact Cert.MlpReferenceIdeal.Value.run (F := Ideal) m' g'
end Cert.Proof
end
-- ==== Proof.lean ====
module

public import proofs.«01_k».proof.Defs
public import proofs.«01_k».proof.Proof.Claims
public import proofs.«01_k».proof.Proof.Value
public import proofs.«01_k».proof.Proof.MFinal

@[expose] public section

noncomputable section

namespace Cert.Proof

theorem claim : Cert.Claim :=
  ⟨Cert.Kernel.Gen.facts, Cert.KernelIdeal.Gen.facts, Cert.ReferenceIdeal.Gen.facts, Cert.Mlp.Gen.facts, Cert.MlpIdeal.Gen.facts, Cert.MlpReferenceIdeal.Gen.facts, Cert.Pre_finite.Gen.facts,
    frame_kernel, frame_ideal, frame_reference, frame_mlp, frame_mlp_ideal, frame_mlp_ideal_finite, frame_mlp_reference, frame_mlp_reference_finite,
    ledger, algebraic, ledger_mlp, algebraic_mlp⟩

end Cert.Proof

end
